-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))).2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))).2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite2 [hPre_finite2 : Cert.Pre_finite2.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite2.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).1 = (fun _ => 1#1)
    ∧ (Cert.Pre_finite2.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.1 = (fun _ => 1#1)
    ∧ (Cert.Pre_finite2.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.1 = (fun _ => 1#1)
    ∧ (Cert.Pre_finite2.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4))).2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite2 [hPre_finite2 : Cert.Pre_finite2.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite2.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).1 = (fun _ => 1#1)
    ∧ (Cert.Pre_finite2.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.1 = (fun _ => 1#1)
    ∧ (Cert.Pre_finite2.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.1 = (fun _ => 1#1)
    ∧ (Cert.Pre_finite2.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4))).2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite4 [hPre_finite4 : Cert.Pre_finite4.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite4.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).1 = (fun _ => 1#1)
    ∧ (Cert.Pre_finite4.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.1 = (fun _ => 1#1)
    ∧ (Cert.Pre_finite4.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.1 = (fun _ => 1#1)
    ∧ (Cert.Pre_finite4.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.1 = (fun _ => 1#1)
    ∧ (Cert.Pre_finite4.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5)) (m ((c.tc : Thread Cert.Kernel18Ideal.nD Cert.Kernel18Ideal.τ).loc Cert.Kernel18Ideal.main_arg6))).2.2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite4 [hPre_finite4 : Cert.Pre_finite4.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite4.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).1 = (fun _ => 1#1)
    ∧ (Cert.Pre_finite4.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.1 = (fun _ => 1#1)
    ∧ (Cert.Pre_finite4.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.1 = (fun _ => 1#1)
    ∧ (Cert.Pre_finite4.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.1 = (fun _ => 1#1)
    ∧ (Cert.Pre_finite4.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5)) (m ((c.tc : Thread Cert.Reference18Ideal.nD Cert.Reference18Ideal.τ).loc Cert.Reference18Ideal.main_arg6))).2.2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Kernel17Ideal_pre_finite2 [hKernel17Ideal : Cert.Kernel17Ideal.Facts] [hPre_finite2 : Cert.Pre_finite2.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite2 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Reference17Ideal_pre_finite2 [hReference17Ideal : Cert.Reference17Ideal.Facts] [hPre_finite2 : Cert.Pre_finite2.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite2 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Kernel18Ideal_pre_finite4 [hKernel18Ideal : Cert.Kernel18Ideal.Facts] [hPre_finite4 : Cert.Pre_finite4.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite4 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Reference18Ideal_pre_finite4 [hReference18Ideal : Cert.Reference18Ideal.Facts] [hPre_finite4 : Cert.Pre_finite4.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite4 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v9)) (v5 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v9) = v4 c
          ∧ r.2.mem ((c.tc : Thread Cert.Kernel4Ideal.nD Cert.Kernel4Ideal.τ).loc Cert.Kernel4Ideal.main_v10) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v71) = v0 c
          ∧ r.2.mem ((c.tc : Thread Cert.Reference4Ideal.nD Cert.Reference4Ideal.τ).loc Cert.Reference4Ideal.main_v72) = v1 c
          ∧ r.2.mem ((c.tc : Thread Cert.Reference4Ideal.nD Cert.Reference4Ideal.τ).loc Cert.Reference4Ideal.main_v64) = v2 c
          ∧ r.2.mem ((c.tc : Thread Cert.Reference4Ideal.nD Cert.Reference4Ideal.τ).loc Cert.Reference4Ideal.main_v73) = v3 c
          ∧ r.2.mem ((c.tc : Thread Cert.Reference4Ideal.nD Cert.Reference4Ideal.τ).loc Cert.Reference4Ideal.main_v42) = v4 c
          ∧ r.2.mem ((c.tc : Thread Cert.Reference4Ideal.nD Cert.Reference4Ideal.τ).loc Cert.Reference4Ideal.main_v49) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_v35) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5)) (v1 : (c : Dev Cert.Kernel11Ideal.nD) → Buf (Elt Ideal) ((c.tc : Thread Cert.Kernel11Ideal.nD Cert.Kernel11Ideal.τ).loc Cert.Kernel11Ideal.main_v1_1)) (v2 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_v1_1) = v1 c
          ∧ r.2.mem ((c.tc : Thread Cert.Kernel11Ideal.nD Cert.Kernel11Ideal.τ).loc Cert.Kernel11Ideal.main_v6) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v50) = v1 c
          ∧ r.2.mem ((c.tc : Thread Cert.Reference11Ideal.nD Cert.Reference11Ideal.τ).loc Cert.Reference11Ideal.main_v36) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v62) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal_pre_finite2 [hKernel17Ideal : Cert.Kernel17Ideal.Facts] [hReference17Ideal : Cert.Reference17Ideal.Facts] [hPre_finite2 : Cert.Pre_finite2.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite2 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v2) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v67) = v0 c
          ∧ r.2.mem ((c.tc : Thread Cert.Reference17Ideal.nD Cert.Reference17Ideal.τ).loc Cert.Reference17Ideal.main_v52) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_finite4 [hKernel18Ideal : Cert.Kernel18Ideal.Facts] [hReference18Ideal : Cert.Reference18Ideal.Facts] [hPre_finite4 : Cert.Pre_finite4.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite4 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)) (v2 : (c : Dev Cert.Kernel18Ideal.nD) → Buf (Elt Ideal) ((c.tc : Thread Cert.Kernel18Ideal.nD Cert.Kernel18Ideal.τ).loc Cert.Kernel18Ideal.main_v8_2)) (v3 : (c : Dev Cert.Kernel18Ideal.nD) → Buf (Elt Ideal) ((c.tc : Thread Cert.Kernel18Ideal.nD Cert.Kernel18Ideal.τ).loc Cert.Kernel18Ideal.main_v8_3)) (v4 : (c : Dev Cert.Kernel18Ideal.nD) → Buf (Elt Ideal) ((c.tc : Thread Cert.Kernel18Ideal.nD Cert.Kernel18Ideal.τ).loc Cert.Kernel18Ideal.main_v9)) (v5 : (c : Dev Cert.Kernel18Ideal.nD) → Buf (Elt Ideal) ((c.tc : Thread Cert.Kernel18Ideal.nD Cert.Kernel18Ideal.τ).loc Cert.Kernel18Ideal.main_v10)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_v8_2) = v2 c
          ∧ r.2.mem ((c.tc : Thread Cert.Kernel18Ideal.nD Cert.Kernel18Ideal.τ).loc Cert.Kernel18Ideal.main_v8_3) = v3 c
          ∧ r.2.mem ((c.tc : Thread Cert.Kernel18Ideal.nD Cert.Kernel18Ideal.τ).loc Cert.Kernel18Ideal.main_v9) = v4 c
          ∧ r.2.mem ((c.tc : Thread Cert.Kernel18Ideal.nD Cert.Kernel18Ideal.τ).loc Cert.Kernel18Ideal.main_v10) = v5 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v71) = v0 c
          ∧ r.2.mem ((c.tc : Thread Cert.Reference18Ideal.nD Cert.Reference18Ideal.τ).loc Cert.Reference18Ideal.main_v72) = v1 c
          ∧ r.2.mem ((c.tc : Thread Cert.Reference18Ideal.nD Cert.Reference18Ideal.τ).loc Cert.Reference18Ideal.main_v64) = v2 c
          ∧ r.2.mem ((c.tc : Thread Cert.Reference18Ideal.nD Cert.Reference18Ideal.τ).loc Cert.Reference18Ideal.main_v73) = v3 c
          ∧ r.2.mem ((c.tc : Thread Cert.Reference18Ideal.nD Cert.Reference18Ideal.τ).loc Cert.Reference18Ideal.main_v42) = v4 c
          ∧ r.2.mem ((c.tc : Thread Cert.Reference18Ideal.nD Cert.Reference18Ideal.τ).loc Cert.Reference18Ideal.main_v49) = v5 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_v35) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v19) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v21) = v0 c
          ∧ r.2.mem ((c.tc : Thread Cert.Reference22Ideal.nD Cert.Reference22Ideal.τ).loc Cert.Reference22Ideal.main_v22) = v1 c
          ∧ r.2.mem ((c.tc : Thread Cert.Reference22Ideal.nD Cert.Reference22Ideal.τ).loc Cert.Reference22Ideal.main_v23) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite2 : Cert.Pre_finite2.Facts) (hPre_finite4 : Cert.Pre_finite4.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite2 (hKernel17Ideal := hKernel17Ideal) (hPre_finite2 := hPre_finite2)
    ∧ quiescent_Reference17Ideal (hReference17Ideal := hReference17Ideal)
    ∧ quiescent_Reference17Ideal_pre_finite2 (hReference17Ideal := hReference17Ideal) (hPre_finite2 := hPre_finite2)
    ∧ quiescent_Kernel18 (hKernel18 := hKernel18)
    ∧ quiescent_Kernel18Ideal (hKernel18Ideal := hKernel18Ideal)
    ∧ quiescent_Kernel18Ideal_pre_finite4 (hKernel18Ideal := hKernel18Ideal) (hPre_finite4 := hPre_finite4)
    ∧ quiescent_Reference18Ideal (hReference18Ideal := hReference18Ideal)
    ∧ quiescent_Reference18Ideal_pre_finite4 (hReference18Ideal := hReference18Ideal) (hPre_finite4 := hPre_finite4)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite2 (hKernel17Ideal := hKernel17Ideal) (hReference17Ideal := hReference17Ideal) (hPre_finite2 := hPre_finite2)
    ∧ preserves_Kernel18_Kernel18Ideal
    ∧ algebraic_Kernel18Ideal_Reference18Ideal_pre_finite4 (hKernel18Ideal := hKernel18Ideal) (hReference18Ideal := hReference18Ideal) (hPre_finite4 := hPre_finite4)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite.lean ====
abbrev S4096x1024 : Shape := ⟨2, ![4096, 1024]⟩
abbrev S8x4096x512 : Shape := ⟨3, ![8, 4096, 512]⟩
abbrev S3x512 : Shape := ⟨2, ![3, 512]⟩
abbrev S512 : Shape := ⟨1, ![512]⟩
abbrev S1024 : Shape := ⟨1, ![1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S8x4096x512 : S_.BroadcastsInDim S8x4096x512 (![] : Fin 0 → Fin S8x4096x512.rank)
  bcast_S_S3x512 : S_.BroadcastsInDim S3x512 (![] : Fin 0 → Fin S3x512.rank)
  bcast_S_S512 : S_.BroadcastsInDim S512 (![] : Fin 0 → Fin S512.rank)
  bcast_S_S1024 : S_.BroadcastsInDim S1024 (![] : Fin 0 → Fin S1024.rank)

variable [Facts]

def fn {F : FTy → Type} [FloatOps F] (main_arg0 : FVec F S4096x1024 .bf16) (main_arg1 : FVec F S8x4096x512 .bf16) (main_arg2 : FVec F S3x512 .f32) (main_arg3 : FVec F S512 .f32) (main_arg4 : FVec F S1024 .f32) : IVec S4096x1024 1 × IVec S8x4096x512 1 × IVec S3x512 1 × IVec S512 1 × IVec S1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S8x4096x512 .f32 := (extf .f32 · bitsLt_bf16_f32) main_arg1
  let main_v5 : FVec F S8x4096x512 .f32 := Host.absf main_v4
  let main_cst_0 : FVec F S_ .f32 := constant S_ .f32 0x7F800000#32
  let main_v6 : FVec F S8x4096x512 .f32 := broadcastInDim S8x4096x512 ![] bcast_S_S8x4096x512 main_cst_0
  let main_v7 : IVec S8x4096x512 1 := cmpf .olt main_v5 main_v6
  let main_v8 : FVec F S3x512 .f32 := Host.absf main_arg2
  let main_cst_1 : FVec F S_ .f32 := constant S_ .f32 0x7F800000#32
  let main_v9 : FVec F S3x512 .f32 := broadcastInDim S3x512 ![] bcast_S_S3x512 main_cst_1
  let main_v10 : IVec S3x512 1 := cmpf .olt main_v8 main_v9
  let main_v11 : FVec F S512 .f32 := Host.absf main_arg3
  let main_cst_2 : FVec F S_ .f32 := constant S_ .f32 0x7F800000#32
  let main_v12 : FVec F S512 .f32 := broadcastInDim S512 ![] bcast_S_S512 main_cst_2
  let main_v13 : IVec S512 1 := cmpf .olt main_v11 main_v12
  let main_v14 : FVec F S1024 .f32 := Host.absf main_arg4
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v3, main_v7, main_v10, main_v13, main_v16)
-- ==== Pre_finite11.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite2.lean ====
abbrev S8x4096x512 : Shape := ⟨3, ![8, 4096, 512]⟩
abbrev S2x1024x4096 : Shape := ⟨3, ![2, 1024, 4096]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  bcast_S_S2x1024x4096 : S_.BroadcastsInDim S2x1024x4096 (![] : Fin 0 → Fin S2x1024x4096.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S8x4096x512 .bf16) (main_arg1 : FVec F S2x1024x4096 .bf16) (main_arg2 : FVec F S4096x1024 .f32) (main_arg3 : FVec F S1024 .f32) (main_arg4 : FVec F S4096x1024 .f32) : IVec S8x4096x512 1 × IVec S2x1024x4096 1 × IVec S4096x1024 1 × IVec S1024 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S2x1024x4096 .f32 := (extf .f32 · bitsLt_bf16_f32) main_arg1
  let main_v5 : FVec F S2x1024x4096 .f32 := Host.absf main_v4
  let main_cst_0 : FVec F S_ .f32 := constant S_ .f32 0x7F800000#32
  let main_v6 : FVec F S2x1024x4096 .f32 := broadcastInDim S2x1024x4096 ![] bcast_S_S2x1024x4096 main_cst_0
  let main_v7 : IVec S2x1024x4096 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  (main_v3, main_v7, main_v10, main_v13)
-- ==== Pre_finite4.lean ====
abbrev S4096x1024 : Shape := ⟨2, ![4096, 1024]⟩
abbrev S2x1024x1024 : Shape := ⟨3, ![2, 1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2x1024x1024 : S_.BroadcastsInDim S2x1024x1024 (![] : Fin 0 → Fin S2x1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S4096x1024 .bf16) (main_arg3 : FVec F S4096x1024 .f32) (main_arg4 : FVec F S2x1024x1024 .bf16) (main_arg5 : FVec F S1024 .f32) (main_arg6 : FVec F S2x1024x1024 .bf16) : IVec S4096x1024 1 × IVec S4096x1024 1 × IVec S4096x1024 1 × IVec S2x1024x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg2
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x1024 .f32 := Host.absf main_arg3
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S2x1024x1024 .f32 := (extf .f32 · bitsLt_bf16_f32) main_arg4
  let main_v11 : FVec F S2x1024x1024 .f32 := Host.absf main_v10
  let main_cst_2 : FVec F S_ .f32 := constant S_ .f32 0x7F800000#32
  let main_v12 : FVec F S2x1024x1024 .f32 := broadcastInDim S2x1024x1024 ![] bcast_S_S2x1024x1024 main_cst_2
  let main_v13 : IVec S2x1024x1024 1 := cmpf .olt main_v11 main_v12
  let main_v14 : FVec F S1024 .f32 := Host.absf main_arg5
  let main_cst_3 : FVec F S_ .f32 := constant S_ .f32 0x7F800000#32
  let main_v15 : FVec F S1024 .f32 := broadcastInDim S1024 ![] bcast_S_S1024 main_cst_3
  let main_v16 : IVec S1024 1 := cmpf .olt main_v14 main_v15
  (main_v2, main_v6, main_v9, main_v13, main_v16)
-- ==== Kernel.lean ====
abbrev S4096x1024 : Shape := ⟨2, ![4096, 1024]⟩
abbrev S8x4096x512 : Shape := ⟨3, ![8, 4096, 512]⟩
abbrev S3x512 : Shape := ⟨2, ![3, 512]⟩
abbrev S512 : Shape := ⟨1, ![512]⟩
abbrev S1024 : Shape := ⟨1, ![1024]⟩
abbrev S1x512 : Shape := ⟨2, ![1, 512]⟩
abbrev S1x1024 : Shape := ⟨2, ![1, 1024]⟩
abbrev S3x8x512 : Shape := ⟨3, ![3, 8, 512]⟩
abbrev S8x512 : Shape := ⟨2, ![8, 512]⟩
abbrev S4096x128 : Shape := ⟨2, ![4096, 128]⟩
abbrev S1x4096x128 : Shape := ⟨3, ![1, 4096, 128]⟩
abbrev S3x128 : Shape := ⟨2, ![3, 128]⟩
abbrev S1x128 : Shape := ⟨2, ![1, 128]⟩
abbrev S4x4096x128 : Shape := ⟨3, ![4, 4096, 128]⟩
abbrev S3x8x128 : Shape := ⟨3, ![3, 8, 128]⟩
abbrev S8x128 : Shape := ⟨2, ![8, 128]⟩
abbrev S4104x128 : Shape := ⟨2, ![4104, 128]⟩
abbrev S128x128 : Shape := ⟨2, ![128, 128]⟩
abbrev S1x256x128 : Shape := ⟨3, ![1, 256, 128]⟩
abbrev S256x128 : Shape := ⟨2, ![256, 128]⟩
abbrev S1x16x128 : Shape := ⟨3, ![1, 16, 128]⟩
abbrev S16x128 : Shape := ⟨2, ![16, 128]⟩
abbrev S32x8x128 : Shape := ⟨3, ![32, 8, 128]⟩
abbrev S1x8x128 : Shape := ⟨3, ![1, 8, 128]⟩
abbrev S4x4096x512 : Shape := ⟨3, ![4, 4096, 512]⟩
abbrev S_ : Shape := ⟨0, ![]⟩

abbrev nBuf : Space → Nat
  | .hbm => 18
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S8x4096x512, .bf16⟩
  | .hbm, ⟨2, _⟩ => ⟨S3x512, .f32⟩
  | .hbm, ⟨3, _⟩ => ⟨S512, .f32⟩
  | .hbm, ⟨4, _⟩ => ⟨S1024, .f32⟩
  | .hbm, ⟨5, _⟩ => ⟨S1x512, .f32⟩
  | .hbm, ⟨6, _⟩ => ⟨S1x1024, .f32⟩
  | .hbm, ⟨7, _⟩ => ⟨S8x4096x512, .bf16⟩
  | .hbm, ⟨8, _⟩ => ⟨S3x8x512, .f32⟩
  | .hbm, ⟨9, _⟩ => ⟨S8x512, .f32⟩
  | .hbm, ⟨10, _⟩ => ⟨S8x512, .f32⟩
  | .hbm, ⟨11, _⟩ => ⟨S4x4096x512, .bf16⟩
  | .hbm, ⟨12, _⟩ => ⟨S_, .f32⟩
  | .hbm, ⟨13, _⟩ => ⟨S3x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .local _ .vmem, ⟨0, _⟩ => ⟨S4096x128, .bf16⟩
  | .local _ .vmem, ⟨1, _⟩ => ⟨S4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S3x128, .f32⟩
  | .local _ .vmem, ⟨11, _⟩ => ⟨S3x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S4x4096x128, .bf16⟩
  | .local _ .vmem, ⟨17, _⟩ => ⟨S4x4096x128, .bf16⟩
  | .local _ .vmem, ⟨18, _⟩ => ⟨S3x8x128, .f32⟩
  | .local _ .vmem, ⟨19, _⟩ => ⟨S3x8x128, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | .local _ .vmem, ⟨23, _⟩ => ⟨S8x128, .f32⟩
  | .local _ .vmem, ⟨24, _⟩ => ⟨S4104x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_14 : BitVec 32 := 0#32
  let c16_i32 : BitVec 32 := 16#32
  let v60 : BitVec 32 := Scalar.addi c0_i32_14 c16_i32
  let c1_i32_15 : BitVec 32 := 1#32
  ⟨c0_i32_14, v60, c1_i32_15⟩
def k0_mult1 (k0_t1 : Fin k0_t1_loop.trips) : BitVec 32 :=
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  v74
def k0_off1 (k0_t1 : Fin k0_t1_loop.trips) : Fin 3 → Nat :=
  let c0_32 : Index := 0#32
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  let v75 : BitVec 32 := v74
  let v76 : Index := Scalar.indexCast v75
  let c0_33 : Index := 0#32
  ![0, v76.toNat, 0]
def k0_mult2 (k0_t1 : Fin k0_t1_loop.trips) : BitVec 32 :=
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  let v75 : BitVec 32 := v74
  let c16_i32_36 : BitVec 32 := 16#32
  let v85 : BitVec 32 := Scalar.subi v75 c16_i32_36
  let c0_i32_37 : BitVec 32 := 0#32
  let v86 : BitVec 32 := Scalar.maxsi v85 c0_i32_37
  v86
def k0_off2 (k0_t1 : Fin k0_t1_loop.trips) : Fin 3 → Nat :=
  let c0_38 : Index := 0#32
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  let v75 : BitVec 32 := v74
  let c16_i32_36 : BitVec 32 := 16#32
  let v85 : BitVec 32 := Scalar.subi v75 c16_i32_36
  let c0_i32_37 : BitVec 32 := 0#32
  let v86 : BitVec 32 := Scalar.maxsi v85 c0_i32_37
  let v87 : BitVec 32 := v86
  let v88 : Index := Scalar.indexCast v87
  let c0_39 : Index := 0#32
  ![0, v88.toNat, 0]
def k0_off3 (k0_t1 : Fin k0_t1_loop.trips) : Fin 2 → Nat :=
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  let v75 : BitVec 32 := v74
  let v141 : Index := Scalar.indexCast v75
  let c0_57 : Index := 0#32
  ![v141.toNat, 0]
def k0_off4 (k0_t1 : Fin k0_t1_loop.trips) : Fin 3 → Nat :=
  let c0_70 : Index := 0#32
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  let v75 : BitVec 32 := v74
  let v189 : Index := Scalar.indexCast v75
  let c0_71 : Index := 0#32
  ![0, v189.toNat, 0]
def k0_off5 (k0_t1 : Fin k0_t1_loop.trips) : Fin 3 → Nat :=
  let c3 : Index := 3#32
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  let v75 : BitVec 32 := v74
  let v194 : Index := Scalar.indexCast v75
  let c0_72 : Index := 0#32
  ![3, v194.toNat, 0]
def k0_off6 (k0_t1 : Fin k0_t1_loop.trips) : Fin 2 → Nat :=
  let c0_i32_14 : BitVec 32 := 0#32
  let c1_i32_15 : BitVec 32 := 1#32
  let arg14 : BitVec 32 := Scf.iv c0_i32_14 c1_i32_15 k0_t1
  let c256_i32 : BitVec 32 := 256#32
  let v74 : BitVec 32 := Scalar.muli arg14 c256_i32
  let v75 : BitVec 32 := v74
  let v199 : Index := Scalar.indexCast v75
  let c0_73 : Index := 0#32
  ![v199.toNat, 0]
@[reducible] def k0_t2_loop : Scf.Loop 32 :=
  let c0_i32_28 : BitVec 32 := 0#32
  let c16_i32_29 : BitVec 32 := 16#32
  let v73 : BitVec 32 := Scalar.addi c0_i32_28 c16_i32_29
  let c1_i32_30 : BitVec 32 := 1#32
  ⟨c0_i32_28, v73, c1_i32_30⟩
def k0_mult3 (k0_t2 : Fin k0_t2_loop.trips) : BitVec 32 :=
  let c0_i32_28 : BitVec 32 := 0#32
  let c1_i32_30 : BitVec 32 := 1#32
  let arg14 : BitVec 32 := Scf.iv c0_i32_28 c1_i32_30 k0_t2
  let c256_i32 : BitVec 32 := 256#32
  let v74 : BitVec 32 := Scalar.muli arg14 c256_i32
  v74
def k0_off7 (k0_t2 : Fin k0_t2_loop.trips) : Fin 2 → Nat :=
  let c0_i32_28 : BitVec 32 := 0#32
  let c1_i32_30 : BitVec 32 := 1#32
  let arg14 : BitVec 32 := Scf.iv c0_i32_28 c1_i32_30 k0_t2
  let c256_i32 : BitVec 32 := 256#32
  let v74 : BitVec 32 := Scalar.muli arg14 c256_i32
  let v75 : BitVec 32 := v74
  let v76 : Index := Scalar.indexCast v75
  let c0_32 : Index := 0#32
  ![v76.toNat, 0]
def k0_mult4 (k0_t2 : Fin k0_t2_loop.trips) : BitVec 32 :=
  let c0_i32_28 : BitVec 32 := 0#32
  let c1_i32_30 : BitVec 32 := 1#32
  let arg14 : BitVec 32 := Scf.iv c0_i32_28 c1_i32_30 k0_t2
  let c256_i32 : BitVec 32 := 256#32
  let v74 : BitVec 32 := Scalar.muli arg14 c256_i32
  let v75 : BitVec 32 := v74
  let c256_i32_33 : BitVec 32 := 256#32
  let v78 : BitVec 32 := Scalar.addi v75 c256_i32_33
  v78
def k0_off8 (k0_t2 : Fin k0_t2_loop.trips) : Fin 2 → Nat :=
  let c0_i32_28 : BitVec 32 := 0#32
  let c1_i32_30 : BitVec 32 := 1#32
  let arg14 : BitVec 32 := Scf.iv c0_i32_28 c1_i32_30 k0_t2
  let c256_i32 : BitVec 32 := 256#32
  let v74 : BitVec 32 := Scalar.muli arg14 c256_i32
  let v75 : BitVec 32 := v74
  let c256_i32_33 : BitVec 32 := 256#32
  let v78 : BitVec 32 := Scalar.addi v75 c256_i32_33
  let v79 : BitVec 32 := v78
  let v80 : Index := Scalar.indexCast v79
  let c0_34 : Index := 0#32
  ![v80.toNat, 0]
def k0_off9 (k0_t2 : Fin k0_t2_loop.trips) : Fin 3 → Nat :=
  let c0_44 : Index := 0#32
  let c0_i32_28 : BitVec 32 := 0#32
  let c1_i32_30 : BitVec 32 := 1#32
  let arg14 : BitVec 32 := Scf.iv c0_i32_28 c1_i32_30 k0_t2
  let c256_i32 : BitVec 32 := 256#32
  let v74 : BitVec 32 := Scalar.muli arg14 c256_i32
  let v75 : BitVec 32 := v74
  let v114 : Index := Scalar.indexCast v75
  let c0_45 : Index := 0#32
  ![0, v114.toNat, 0]
def k0_off10 (k0_t2 : Fin k0_t2_loop.trips) : Fin 3 → Nat :=
  let c1_46 : Index := 1#32
  let c0_i32_28 : BitVec 32 := 0#32
  let c1_i32_30 : BitVec 32 := 1#32
  let arg14 : BitVec 32 := Scf.iv c0_i32_28 c1_i32_30 k0_t2
  let c256_i32 : BitVec 32 := 256#32
  let v74 : BitVec 32 := Scalar.muli arg14 c256_i32
  let v75 : BitVec 32 := v74
  let v120 : Index := Scalar.indexCast v75
  let c0_47 : Index := 0#32
  ![1, v120.toNat, 0]
def k0_off11 (k0_t2 : Fin k0_t2_loop.trips) : Fin 3 → Nat :=
  let c2_50 : Index := 2#32
  let c0_i32_28 : BitVec 32 := 0#32
  let c1_i32_30 : BitVec 32 := 1#32
  let arg14 : BitVec 32 := Scf.iv c0_i32_28 c1_i32_30 k0_t2
  let c256_i32 : BitVec 32 := 256#32
  let v74 : BitVec 32 := Scalar.muli arg14 c256_i32
  let v75 : BitVec 32 := v74
  let v130 : Index := Scalar.indexCast v75
  let c0_51 : Index := 0#32
  ![2, v130.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x1024 : Shape := ⟨2, ![4096, 1024]⟩
abbrev S8x4096x512 : Shape := ⟨3, ![8, 4096, 512]⟩
abbrev S3x512 : Shape := ⟨2, ![3, 512]⟩
abbrev S512 : Shape := ⟨1, ![512]⟩
abbrev S1024 : Shape := ⟨1, ![1024]⟩
abbrev S4x4096x512 : Shape := ⟨3, ![4, 4096, 512]⟩
abbrev S1x4096x512 : Shape := ⟨3, ![1, 4096, 512]⟩
abbrev S4096x512 : Shape := ⟨2, ![4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S4096x8x64 : Shape := ⟨3, ![4096, 8, 64]⟩
abbrev S4096x8 : Shape := ⟨2, ![4096, 8]⟩
abbrev S4096x8x1 : Shape := ⟨3, ![4096, 8, 1]⟩

abbrev nBuf : Space → Nat
  | .hbm => 187
  | .vmem => 0
  | .smem => 0
  | _ => 0

abbrev hbmTy0_0 (i : Nat) : BufTy := match i % 128 with
  | 0 => ⟨S4096x1024, .bf16⟩
  | 1 => ⟨S8x4096x512, .bf16⟩
  | 2 => ⟨S3x512, .f32⟩
  | 3 => ⟨S512, .f32⟩
  | 4 => ⟨S1024, .f32⟩
  | 5 => ⟨S4x4096x512, .bf16⟩
  | 6 => ⟨S4x4096x512, .f32⟩
  | 7 => ⟨S512, .f32⟩
  | 8 => ⟨S1x4096x512, .f32⟩
  | 9 => ⟨S4096x512, .f32⟩
  | 10 => ⟨S1x4096x512, .f32⟩
  | 11 => ⟨S4096x512, .f32⟩
  | 12 => ⟨S1x4096x512, .f32⟩
  | 13 => ⟨S4096x512, .f32⟩
  | 14 => ⟨S1x4096x512, .f32⟩
  | 15 => ⟨S4096x512, .f32⟩
  | 16 => ⟨S4096x512, .f32⟩
  | 17 => ⟨S_, .f32⟩
  | 18 => ⟨S2x512, .f32⟩
  | 19 => ⟨S4098x512, .f32⟩
  | 20 => ⟨S_, .f32⟩
  | 21 => ⟨S2x512, .f32⟩
  | 22 => ⟨S4096x512, .f32⟩
  | 23 => ⟨S1x512, .f32⟩
  | 24 => ⟨S512, .f32⟩
  | 25 => ⟨S1x512, .f32⟩
  | 26 => ⟨S4096x512, .f32⟩
  | 27 => ⟨S4096x512, .f32⟩
  | 28 => ⟨S1x512, .f32⟩
  | 29 => ⟨S4096x512, .f32⟩
  | 30 => ⟨S4096x512, .f32⟩
  | 31 => ⟨S4096x512, .f32⟩
  | 32 => ⟨S1x512, .f32⟩
  | 33 => ⟨S512, .f32⟩
  | 34 => ⟨S1x512, .f32⟩
  | 35 => ⟨S4096x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S1x512, .f32⟩
  | 42 => ⟨S4096x512, .f32⟩
  | 43 => ⟨S4096x512, .f32⟩
  | 44 => ⟨S4096x512, .f32⟩
  | 45 => ⟨S4096x512, .f32⟩
  | 46 => ⟨S4096x8x64, .f32⟩
  | 47 => ⟨S4096x8x64, .f32⟩
  | 48 => ⟨S_, .f32⟩
  | 49 => ⟨S4096x8, .f32⟩
  | 50 => ⟨S4096x8x1, .f32⟩
  | 51 => ⟨S_, .f32⟩
  | 52 => ⟨S4096x8x1, .f32⟩
  | 53 => ⟨S4096x8x1, .f32⟩
  | 54 => ⟨S_, .f32⟩
  | 55 => ⟨S4096x8x1, .f32⟩
  | 56 => ⟨S4096x8x1, .f32⟩
  | 57 => ⟨S4096x8x1, .f32⟩
  | 58 => ⟨S4096x8x1, .f32⟩
  | 59 => ⟨S_, .f32⟩
  | 60 => ⟨S4096x8x1, .f32⟩
  | 61 => ⟨S4096x8x1, .f32⟩
  | 62 => ⟨S4096x8x64, .f32⟩
  | 63 => ⟨S4096x8x64, .f32⟩
  | 64 => ⟨S4096x512, .f32⟩
  | 65 => ⟨S1x512, .f32⟩
  | 66 => ⟨S4096x512, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S_, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .bf16⟩
  | 83 => ⟨S4096x512, .f32⟩
  | 84 => ⟨S4096x512, .f32⟩
  | 85 => ⟨S4096x512, .f32⟩
  | 86 => ⟨S4096x512, .f32⟩
  | 87 => ⟨S4096x512, .f32⟩
  | 88 => ⟨S4096x512, .f32⟩
  | 89 => ⟨S4096x512, .f32⟩
  | 90 => ⟨S4096x512, .f32⟩
  | 91 => ⟨S_, .f32⟩
  | 92 => ⟨S512, .f32⟩
  | 93 => ⟨S1x512, .f32⟩
  | 94 => ⟨S4096x512, .f32⟩
  | 95 => ⟨S4096x512, .f32⟩
  | 96 => ⟨S_, .f32⟩
  | 97 => ⟨S512, .f32⟩
  | 98 => ⟨S4096x8x64, .f32⟩
  | 99 => ⟨S4096x8x64, .f32⟩
  | 100 => ⟨S_, .f32⟩
  | 101 => ⟨S4096x8, .f32⟩
  | 102 => ⟨S4096x8x1, .f32⟩
  | 103 => ⟨S4096x8x64, .f32⟩
  | 104 => ⟨S4096x8x64, .f32⟩
  | 105 => ⟨S4096x8x1, .f32⟩
  | 106 => ⟨S_, .f32⟩
  | 107 => ⟨S4096x8x1, .f32⟩
  | 108 => ⟨S4096x8x1, .f32⟩
  | 109 => ⟨S_, .f32⟩
  | 110 => ⟨S4096x8, .f32⟩
  | 111 => ⟨S4096x8x64, .f32⟩
  | 112 => ⟨S4096x8x64, .f32⟩
  | 113 => ⟨S4096x8x64, .f32⟩
  | 114 => ⟨S4096x8x64, .f32⟩
  | 115 => ⟨S4096x8x64, .f32⟩
  | 116 => ⟨S4096x512, .f32⟩
  | 117 => ⟨S4096x512, .f32⟩
  | 118 => ⟨S4096x512, .f32⟩
  | 119 => ⟨S4096x512, .f32⟩
  | 120 => ⟨S_, .f32⟩
  | 121 => ⟨S512, .f32⟩
  | 122 => ⟨S1x512, .f32⟩
  | 123 => ⟨S4096x512, .f32⟩
  | 124 => ⟨S4096x512, .f32⟩
  | 125 => ⟨S_, .f32⟩
  | 126 => ⟨S512, .f32⟩
  | 127 => ⟨S1x512, .f32⟩
  | _ => ⟨S4096x1024, .bf16⟩

abbrev hbmTy0_1 (i : Nat) : BufTy := match i % 128 with
  | 0 => ⟨S_, .f32⟩
  | 1 => ⟨S3x512, .f32⟩
  | 2 => ⟨S_, .f32⟩
  | 3 => ⟨S4098x512, .f32⟩
  | 4 => ⟨S4096x512, .f32⟩
  | 5 => ⟨S_, .f32⟩
  | 6 => ⟨S512, .f32⟩
  | 7 => ⟨S1x512, .f32⟩
  | 8 => ⟨S4096x512, .f32⟩
  | 9 => ⟨S4096x512, .f32⟩
  | 10 => ⟨S_, .f32⟩
  | 11 => ⟨S512, .f32⟩
  | 12 => ⟨S1x512, .f32⟩
  | 13 => ⟨S_, .f32⟩
  | 14 => ⟨S3x512, .f32⟩
  | 15 => ⟨S3x512, .f32⟩
  | 16 => ⟨S_, .f32⟩
  | 17 => ⟨S4098x512, .f32⟩
  | 18 => ⟨S4098x512, .f32⟩
  | 19 => ⟨S_, .f32⟩
  | 20 => ⟨S512, .f32⟩
  | 21 => ⟨S1x512, .f32⟩
  | 22 => ⟨S_, .f32⟩
  | 23 => ⟨S512, .f32⟩
  | 24 => ⟨S4096x512, .f32⟩
  | 25 => ⟨S_, .f32⟩
  | 26 => ⟨S512, .f32⟩
  | 27 => ⟨S1x512, .f32⟩
  | 28 => ⟨S4096x512, .f32⟩
  | 29 => ⟨S4096x512, .f32⟩
  | 30 => ⟨S_, .f32⟩
  | 31 => ⟨S512, .f32⟩
  | 32 => ⟨S1x512, .f32⟩
  | 33 => ⟨S_, .f32⟩
  | 34 => ⟨S3x512, .f32⟩
  | 35 => ⟨S3x512, .f32⟩
  | 36 => ⟨S_, .f32⟩
  | 37 => ⟨S4098x512, .f32⟩
  | 38 => ⟨S4098x512, .f32⟩
  | 39 => ⟨S2x512, .f32⟩
  | 40 => ⟨S4096x512, .f32⟩
  | 41 => ⟨S4096x512, .f32⟩
  | 42 => ⟨S4096x512, .f32⟩
  | 43 => ⟨S1x4096x512, .f32⟩
  | 44 => ⟨S_, .f32⟩
  | 45 => ⟨S4x4096x512, .f32⟩
  | 46 => ⟨S1x4096x512, .f32⟩
  | 47 => ⟨S_, .f32⟩
  | 48 => ⟨S4x4096x512, .f32⟩
  | 49 => ⟨S4x4096x512, .f32⟩
  | 50 => ⟨S1x4096x512, .f32⟩
  | 51 => ⟨S_, .f32⟩
  | 52 => ⟨S4x4096x512, .f32⟩
  | 53 => ⟨S4x4096x512, .f32⟩
  | 54 => ⟨S1x4096x512, .f32⟩
  | 55 => ⟨S_, .f32⟩
  | 56 => ⟨S4x4096x512, .f32⟩
  | 57 => ⟨S4x4096x512, .f32⟩
  | 58 => ⟨S4x4096x512, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_4 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_v57_2 : Ref sig .tc := ⟨.hbm, 75, rfl⟩
abbrev main_call0_cst_1 : Ref sig .tc := ⟨.hbm, 76, rfl⟩
abbrev main_call0_v6 : Ref sig .tc := ⟨.hbm, 77, rfl⟩
abbrev main_call0_v7 : Ref sig .tc := ⟨.hbm, 78, rfl⟩
abbrev main_v57_1 : Ref sig .tc := ⟨.hbm, 79, rfl⟩
abbrev main_v57_0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v63 : Ref sig .tc := ⟨.hbm, 89, rfl⟩
abbrev main_v64 : Ref sig .tc := ⟨.hbm, 90, rfl⟩
abbrev main_cst_5 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_6 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_7 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_8 : Ref sig .tc := ⟨.hbm, 106, rfl⟩
abbrev main_v77 : Ref sig .tc := ⟨.hbm, 107, rfl⟩
abbrev main_v78 : Ref sig .tc := ⟨.hbm, 108, rfl⟩
abbrev main_cst_9 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_10 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_v95 : Ref sig .tc := ⟨.hbm, 129, rfl⟩
abbrev main_cst_13 : Ref sig .tc := ⟨.hbm, 130, rfl⟩
abbrev main_v96 : Ref sig .tc := ⟨.hbm, 131, rfl⟩
abbrev main_v97 : Ref sig .tc := ⟨.hbm, 132, rfl⟩
abbrev main_cst_14 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_15 : Ref sig .tc := ⟨.hbm, 138, rfl⟩
abbrev main_v102 : Ref sig .tc := ⟨.hbm, 139, rfl⟩
abbrev main_v103 : Ref sig .tc := ⟨.hbm, 140, rfl⟩
abbrev main_cst_16 : Ref sig .tc := ⟨.hbm, 141, rfl⟩
abbrev main_v104 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_v108 : Ref sig .tc := ⟨.hbm, 148, rfl⟩
abbrev main_v109 : Ref sig .tc := ⟨.hbm, 149, rfl⟩
abbrev main_cst_19 : Ref sig .tc := ⟨.hbm, 150, rfl⟩
abbrev main_v110 : Ref sig .tc := ⟨.hbm, 151, rfl⟩
abbrev main_v111 : Ref sig .tc := ⟨.hbm, 152, rfl⟩
abbrev main_cst_20 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_21 : Ref sig .tc := ⟨.hbm, 158, rfl⟩
abbrev main_v116 : Ref sig .tc := ⟨.hbm, 159, rfl⟩
abbrev main_v117 : Ref sig .tc := ⟨.hbm, 160, rfl⟩
abbrev main_cst_22 : Ref sig .tc := ⟨.hbm, 161, rfl⟩
abbrev main_v118 : Ref sig .tc := ⟨.hbm, 162, rfl⟩
abbrev main_v119 : Ref sig .tc := ⟨.hbm, 163, rfl⟩
abbrev main_cst_23 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_cst_24 : Ref sig .tc := ⟨.hbm, 172, rfl⟩
abbrev main_v127 : Ref sig .tc := ⟨.hbm, 173, rfl⟩
abbrev main_v128 : Ref sig .tc := ⟨.hbm, 174, rfl⟩
abbrev main_cst_25 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_26 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_27 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩

abbrev nD : Nat := 1
abbrev τ : Topo := Topo.v7x

variable {F : FTy → Type} [FloatOps F]
-- ==== Kernel2.lean ====
abbrev S8x4096x512 : Shape := ⟨3, ![8, 4096, 512]⟩
abbrev S2x1024x4096 : Shape := ⟨3, ![2, 1024, 4096]⟩
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S8x512x512 : Shape := ⟨3, ![8, 512, 512]⟩
abbrev S1x1024x4096 : Shape := ⟨3, ![1, 1024, 4096]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8x4096x512, .bf16⟩
  | .hbm, ⟨1, _⟩ => ⟨S2x1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S8x1024, .f32⟩
  | .hbm, ⟨8, _⟩ => ⟨S_, .f32⟩
  | .hbm, ⟨9, _⟩ => ⟨S1024, .f32⟩
  | .local _ .vmem, ⟨0, _⟩ => ⟨S8x512x512, .bf16⟩
  | .local _ .vmem, ⟨1, _⟩ => ⟨S8x512x512, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8x4096x512 : Shape := ⟨3, ![8, 4096, 512]⟩
abbrev S2x1024x4096 : Shape := ⟨3, ![2, 1024, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x4096 : Shape := ⟨3, ![1, 1024, 4096]⟩
abbrev S1024x4096 : Shape := ⟨2, ![1024, 4096]⟩
abbrev S4096x4096 : Shape := ⟨2, ![4096, 4096]⟩
abbrev S4096x512 : Shape := ⟨2, ![4096, 512]⟩
abbrev S1x4096x512 : Shape := ⟨3, ![1, 4096, 512]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S2x1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024x4096, .bf16⟩
  | .hbm, ⟨26, _⟩ => ⟨S1024x4096, .bf16⟩
  | .hbm, ⟨27, _⟩ => ⟨S1024x4096, .f32⟩
  | .hbm, ⟨28, _⟩ => ⟨S4096x4096, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S8x4096x512, .f32⟩
  | .hbm, ⟨38, _⟩ => ⟨S1x4096x512, .f32⟩
  | .hbm, ⟨39, _⟩ => ⟨S4096x512, .f32⟩
  | .hbm, ⟨40, _⟩ => ⟨S1x4096x512, .f32⟩
  | .hbm, ⟨41, _⟩ => ⟨S4096x512, .f32⟩
  | .hbm, ⟨42, _⟩ => ⟨S1x4096x512, .f32⟩
  | .hbm, ⟨43, _⟩ => ⟨S4096x512, .f32⟩
  | .hbm, ⟨44, _⟩ => ⟨S1x4096x512, .f32⟩
  | .hbm, ⟨45, _⟩ => ⟨S4096x512, .f32⟩
  | .hbm, ⟨46, _⟩ => ⟨S1x4096x512, .f32⟩
  | .hbm, ⟨47, _⟩ => ⟨S4096x512, .f32⟩
  | .hbm, ⟨48, _⟩ => ⟨S1x4096x512, .f32⟩
  | .hbm, ⟨49, _⟩ => ⟨S4096x512, .f32⟩
  | .hbm, ⟨50, _⟩ => ⟨S1x4096x512, .f32⟩
  | .hbm, ⟨51, _⟩ => ⟨S4096x512, .f32⟩
  | .hbm, ⟨52, _⟩ => ⟨S1x4096x512, .f32⟩
  | .hbm, ⟨53, _⟩ => ⟨S4096x512, .f32⟩
  | .hbm, ⟨54, _⟩ => ⟨S4096x4096, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Kernel3.lean ====
abbrev S4096x1024 : Shape := ⟨2, ![4096, 1024]⟩
abbrev S8x4096x512 : Shape := ⟨3, ![8, 4096, 512]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S8x4096x512, .bf16⟩
  | .hbm, ⟨2, _⟩ => ⟨S1024x4096, .f32⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1024x512, .f32⟩
  | .local _ .vmem, ⟨4, _⟩ => ⟨S1024x512, .f32⟩
  | .local _ .vmem, ⟨5, _⟩ => ⟨S1024x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4096x1024 : Shape := ⟨2, ![4096, 1024]⟩
abbrev S8x4096x512 : Shape := ⟨3, ![8, 4096, 512]⟩
abbrev S_ : Shape := ⟨0, ![]⟩
abbrev S1024x4096 : Shape := ⟨2, ![1024, 4096]⟩
abbrev S4096x4096 : Shape := ⟨2, ![4096, 4096]⟩
abbrev S4096x512 : Shape := ⟨2, ![4096, 512]⟩
abbrev S1x4096x512 : Shape := ⟨3, ![1, 4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x512, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S8x4096x512, .f32⟩
  | .hbm, ⟨15, _⟩ => ⟨S1x4096x512, .f32⟩
  | .hbm, ⟨16, _⟩ => ⟨S4096x512, .f32⟩
  | .hbm, ⟨17, _⟩ => ⟨S1x4096x512, .f32⟩
  | .hbm, ⟨18, _⟩ => ⟨S4096x512, .f32⟩
  | .hbm, ⟨19, _⟩ => ⟨S1x4096x512, .f32⟩
  | .hbm, ⟨20, _⟩ => ⟨S4096x512, .f32⟩
  | .hbm, ⟨21, _⟩ => ⟨S1x4096x512, .f32⟩
  | .hbm, ⟨22, _⟩ => ⟨S4096x512, .f32⟩
  | .hbm, ⟨23, _⟩ => ⟨S1x4096x512, .f32⟩
  | .hbm, ⟨24, _⟩ => ⟨S4096x512, .f32⟩
  | .hbm, ⟨25, _⟩ => ⟨S1x4096x512, .f32⟩
  | .hbm, ⟨26, _⟩ => ⟨S4096x512, .f32⟩
  | .hbm, ⟨27, _⟩ => ⟨S1x4096x512, .f32⟩
  | .hbm, ⟨28, _⟩ => ⟨S4096x512, .f32⟩
  | .hbm, ⟨29, _⟩ => ⟨S1x4096x512, .f32⟩
  | .hbm, ⟨30, _⟩ => ⟨S4096x512, .f32⟩
  | .hbm, ⟨31, _⟩ => ⟨S4096x4096, .f32⟩
  | .hbm, ⟨32, _⟩ => ⟨S4096x1024, .f32⟩
  | .hbm, ⟨33, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩

abbrev nD : Nat := 1
abbrev τ : Topo := Topo.v7x

variable {F : FTy → Type} [FloatOps F]
-- ==== Kernel4.lean ====
abbrev S4096x1024 : Shape := ⟨2, ![4096, 1024]⟩
abbrev S2x1024x1024 : Shape := ⟨3, ![2, 1024, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S512x1024 : Shape := ⟨2, ![512, 1024]⟩
abbrev S1x1024x1024 : Shape := ⟨3, ![1, 1024, 1024]⟩
abbrev S64x8x1024 : Shape := ⟨3, ![64, 8, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 27
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S2x1024x1024, .bf16⟩
  | .hbm, ⟨5, _⟩ => ⟨S1024, .f32⟩
  | .hbm, ⟨6, _⟩ => ⟨S2x1024x1024, .bf16⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024, .f32⟩
  | .local _ .vmem, ⟨10, _⟩ => ⟨S1x1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S8x1024, .f32⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_cst_1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S4096x1024 : Shape := ⟨2, ![4096, 1024]⟩
abbrev S2x1024x1024 : Shape := ⟨3, ![2, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S2x1024x1024, .bf16⟩
  | .hbm, ⟨5, _⟩ => ⟨S1024, .f32⟩
  | .hbm, ⟨6, _⟩ => ⟨S2x1024x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024x1024, .bf16⟩
  | .hbm, ⟨49, _⟩ => ⟨S1024x1024, .bf16⟩
  | .hbm, ⟨50, _⟩ => ⟨S1024x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S1x1024x1024, .bf16⟩
  | .hbm, ⟨90, _⟩ => ⟨S1024x1024, .bf16⟩
  | .hbm, ⟨91, _⟩ => ⟨S1024x1024, .f32⟩
  | .hbm, ⟨92, _⟩ => ⟨S4096x1024, .f32⟩
  | .hbm, ⟨93, _⟩ => ⟨S4096x1024, .f32⟩
  | .hbm, ⟨94, _⟩ => ⟨S4096x1024, .bf16⟩
  | .hbm, ⟨95, _⟩ => ⟨S4096x1024, .bf16⟩
  | .hbm, ⟨96, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S2x4096x256 : Shape := ⟨3, ![2, 4096, 256]⟩
abbrev S4096x1024 : Shape := ⟨2, ![4096, 1024]⟩
abbrev S256x1024 : Shape := ⟨2, ![256, 1024]⟩
abbrev S1x1024x256 : Shape := ⟨3, ![1, 1024, 256]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x256, .f32⟩
  | .hbm, ⟨1, _⟩ => ⟨S4096x1024, .bf16⟩
  | .hbm, ⟨2, _⟩ => ⟨S256x1024, .f32⟩
  | .local _ .vmem, ⟨0, _⟩ => ⟨S1x1024x256, .f32⟩
  | .local _ .vmem, ⟨1, _⟩ => ⟨S1x1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S2x4096x256 : Shape := ⟨3, ![2, 4096, 256]⟩
abbrev S4096x1024 : Shape := ⟨2, ![4096, 1024]⟩
abbrev S_ : Shape := ⟨0, ![]⟩
abbrev S256x1024 : Shape := ⟨2, ![256, 1024]⟩
abbrev S1x4096x256 : Shape := ⟨3, ![1, 4096, 256]⟩
abbrev S4096x256 : Shape := ⟨2, ![4096, 256]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S1x4096x256, .f32⟩
  | .hbm, ⟨5, _⟩ => ⟨S4096x256, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | _, _ => ⟨S2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S2x1024x4096 : Shape := ⟨3, ![2, 1024, 4096]⟩
abbrev S1x1024 : Shape := ⟨2, ![1, 1024]⟩
abbrev S8x4096x512 : Shape := ⟨3, ![8, 4096, 512]⟩
abbrev S512x1024 : Shape := ⟨2, ![512, 1024]⟩
abbrev S1x1024x4096 : Shape := ⟨3, ![1, 1024, 4096]⟩
abbrev S8x512x512 : Shape := ⟨3, ![8, 512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x4096, .bf16⟩
  | .hbm, ⟨3, _⟩ => ⟨S1x1024, .f32⟩
  | .hbm, ⟨4, _⟩ => ⟨S4096x1024, .bf16⟩
  | .hbm, ⟨5, _⟩ => ⟨S8x4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S512x1024, .bf16⟩
  | .local _ .vmem, ⟨5, _⟩ => ⟨S512x1024, .bf16⟩
  | .local _ .vmem, ⟨6, _⟩ => ⟨S8x512x512, .bf16⟩
  | .local _ .vmem, ⟨7, _⟩ => ⟨S8x512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4096x1024 : Shape := ⟨2, ![4096, 1024]⟩
abbrev S1024 : Shape := ⟨1, ![1024]⟩
abbrev S2x1024x4096 : Shape := ⟨3, ![2, 1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x4096 : Shape := ⟨3, ![1, 1024, 4096]⟩
abbrev S1024x4096 : Shape := ⟨2, ![1024, 4096]⟩
abbrev S4096x4096 : Shape := ⟨2, ![4096, 4096]⟩
abbrev S4096x512 : Shape := ⟨2, ![4096, 512]⟩
abbrev S1x4096x512 : Shape := ⟨3, ![1, 4096, 512]⟩
abbrev S8x4096x512 : Shape := ⟨3, ![8, 4096, 512]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x1024x4096, .bf16⟩
  | .hbm, ⟨21, _⟩ => ⟨S1024x4096, .bf16⟩
  | .hbm, ⟨22, _⟩ => ⟨S1024x4096, .f32⟩
  | .hbm, ⟨23, _⟩ => ⟨S4096x4096, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x4096x512, .f32⟩
  | .hbm, ⟨39, _⟩ => ⟨S1x4096x512, .f32⟩
  | .hbm, ⟨40, _⟩ => ⟨S8x4096x512, .f32⟩
  | .hbm, ⟨41, _⟩ => ⟨S8x4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel9.lean ====
abbrev S4096x1024 : Shape := ⟨2, ![4096, 1024]⟩
abbrev S2x1024x1024 : Shape := ⟨3, ![2, 1024, 1024]⟩
abbrev S1024 : Shape := ⟨1, ![1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x1024 : Shape := ⟨2, ![4096, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel10.lean ====
abbrev S4096x1024 : Shape := ⟨2, ![4096, 1024]⟩
abbrev S2x1024x1024 : Shape := ⟨3, ![2, 1024, 1024]⟩
abbrev S1024 : Shape := ⟨1, ![1024]⟩
abbrev S2x4096x256 : Shape := ⟨3, ![2, 4096, 256]⟩
abbrev S2x256x1024 : Shape := ⟨3, ![2, 256, 1024]⟩
abbrev S1x1024 : Shape := ⟨2, ![1, 1024]⟩
abbrev S512x1024 : Shape := ⟨2, ![512, 1024]⟩
abbrev S1x1024x1024 : Shape := ⟨3, ![1, 1024, 1024]⟩
abbrev S1x512x256 : Shape := ⟨3, ![1, 512, 256]⟩
abbrev S1x256x1024 : Shape := ⟨3, ![1, 256, 1024]⟩
abbrev S1024x1024 : Shape := ⟨2, ![1024, 1024]⟩
abbrev S512x256 : Shape := ⟨2, ![512, 256]⟩
abbrev S256x1024 : Shape := ⟨2, ![256, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S1024, .f32⟩
  | .hbm, ⟨3, _⟩ => ⟨S2x4096x256, .f32⟩
  | .hbm, ⟨4, _⟩ => ⟨S2x256x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S1x512x256, .f32⟩
  | .local _ .vmem, ⟨5, _⟩ => ⟨S1x512x256, .f32⟩
  | .local _ .vmem, ⟨6, _⟩ => ⟨S1x256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x1024 : Shape := ⟨2, ![4096, 1024]⟩
abbrev S2x1024x1024 : Shape := ⟨3, ![2, 1024, 1024]⟩
abbrev S1024 : Shape := ⟨1, ![1024]⟩
abbrev S2x4096x256 : Shape := ⟨3, ![2, 4096, 256]⟩
abbrev S2x256x1024 : Shape := ⟨3, ![2, 256, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S1x4096x256 : Shape := ⟨3, ![1, 4096, 256]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S1024, .f32⟩
  | .hbm, ⟨3, _⟩ => ⟨S2x4096x256, .f32⟩
  | .hbm, ⟨4, _⟩ => ⟨S2x256x1024, .bf16⟩
  | .hbm, ⟨5, _⟩ => ⟨S4096x1024, .f32⟩
  | .hbm, ⟨6, _⟩ => ⟨S4096x1024, .f32⟩
  | .hbm, ⟨7, _⟩ => ⟨S1x1024x1024, .bf16⟩
  | .hbm, ⟨8, _⟩ => ⟨S1024x1024, .bf16⟩
  | .hbm, ⟨9, _⟩ => ⟨S1024x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S1x4096x256, .f32⟩
  | .hbm, ⟨23, _⟩ => ⟨S4096x256, .f32⟩
  | .hbm, ⟨24, _⟩ => ⟨S1x256x1024, .bf16⟩
  | .hbm, ⟨25, _⟩ => ⟨S256x1024, .bf16⟩
  | .hbm, ⟨26, _⟩ => ⟨S256x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1x1024 : Shape := ⟨2, ![1, 1024]⟩
abbrev S8x128 : Shape := ⟨2, ![8, 128]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S64x8x1024 : Shape := ⟨3, ![64, 8, 1024]⟩
abbrev S1x1 : Shape := ⟨2, ![1, 1]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S8x1024, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference11Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel12.lean ====
abbrev S2048x1024 : Shape := ⟨2, ![2048, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S16x1024 : Shape := ⟨2, ![16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S16x1024 : Shape := ⟨2, ![16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S16x1024, .f32⟩
  | .hbm, ⟨19, _⟩ => ⟨S_, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S16x1024, .f32⟩
  | .hbm, ⟨26, _⟩ => ⟨S_, .f32⟩
  | .hbm, ⟨27, _⟩ => ⟨S16x1024, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S_, .f32⟩
  | .hbm, ⟨35, _⟩ => ⟨S16x1024, .f32⟩
  | .hbm, ⟨36, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S8x4096x512 : Shape := ⟨3, ![8, 4096, 512]⟩
abbrev S4096x512 : Shape := ⟨2, ![4096, 512]⟩
abbrev S3x512 : Shape := ⟨2, ![3, 512]⟩
abbrev S512 : Shape := ⟨1, ![512]⟩
abbrev S1024 : Shape := ⟨1, ![1024]⟩
abbrev S1x512 : Shape := ⟨2, ![1, 512]⟩
abbrev S1x1024 : Shape := ⟨2, ![1, 1024]⟩
abbrev S4096x1024 : Shape := ⟨2, ![4096, 1024]⟩
abbrev S1x4096x128 : Shape := ⟨3, ![1, 4096, 128]⟩
abbrev S4096x128 : Shape := ⟨2, ![4096, 128]⟩
abbrev S3x128 : Shape := ⟨2, ![3, 128]⟩
abbrev S1x128 : Shape := ⟨2, ![1, 128]⟩
abbrev S128x128 : Shape := ⟨2, ![128, 128]⟩
abbrev S1x256x128 : Shape := ⟨3, ![1, 256, 128]⟩
abbrev S256x128 : Shape := ⟨2, ![256, 128]⟩
abbrev S1x16x128 : Shape := ⟨3, ![1, 16, 128]⟩
abbrev S16x128 : Shape := ⟨2, ![16, 128]⟩

abbrev nBuf : Space → Nat
  | .hbm => 8
  | .vmem => 20
  | .smem => 0
  | _ => 0

abbrev bufTy : (tb : Table) → Fin (tcTables nBuf tb) → BufTy
  | .hbm, ⟨0, _⟩ => ⟨S8x4096x512, .bf16⟩
  | .hbm, ⟨1, _⟩ => ⟨S4096x512, .bf16⟩
  | .hbm, ⟨2, _⟩ => ⟨S3x512, .f32⟩
  | .hbm, ⟨3, _⟩ => ⟨S512, .f32⟩
  | .hbm, ⟨4, _⟩ => ⟨S1024, .f32⟩
  | .hbm, ⟨5, _⟩ => ⟨S1x512, .f32⟩
  | .hbm, ⟨6, _⟩ => ⟨S1x1024, .f32⟩
  | .hbm, ⟨7, _⟩ => ⟨S4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S3x128, .f32⟩
  | .local _ .vmem, ⟨13, _⟩ => ⟨S3x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4096x128, .bf16⟩
  | .local _ .vmem, ⟨19, _⟩ => ⟨S4096x128, .bf16⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let v55 : BitVec 1 := Scalar.cmpi .slt arg0 c4_i32
  let v56 : BitVec 32 := Scalar.extui v55
  let c0_i32_12 : BitVec 32 := 0#32
  let v57 : BitVec 1 := Scalar.cmpi .ne v56 c0_i32_12
  v57

@[reducible] def k0_t1_loop : Scf.Loop 32 :=
  let c0_i32_15 : BitVec 32 := 0#32
  let c16_i32 : BitVec 32 := 16#32
  let v61 : BitVec 32 := Scalar.addi c0_i32_15 c16_i32
  let c1_i32_16 : BitVec 32 := 1#32
  ⟨c0_i32_15, v61, c1_i32_16⟩
def k0_mult1 (k0_t1 : Fin k0_t1_loop.trips) : BitVec 32 :=
  let c0_i32_15 : BitVec 32 := 0#32
  let c1_i32_16 : BitVec 32 := 1#32
  let arg11 : BitVec 32 := Scf.iv c0_i32_15 c1_i32_16 k0_t1
  let c256_i32 : BitVec 32 := 256#32
  let v62 : BitVec 32 := Scalar.muli arg11 c256_i32
  v62
def k0_off1 (k0_t1 : Fin k0_t1_loop.trips) : Fin 3 → Nat :=
  let c0 : Index := 0#32
  let c0_i32_15 : BitVec 32 := 0#32
  let c1_i32_16 : BitVec 32 := 1#32
  let arg11 : BitVec 32 := Scf.iv c0_i32_15 c1_i32_16 k0_t1
  let c256_i32 : BitVec 32 := 256#32
  let v62 : BitVec 32 := Scalar.muli arg11 c256_i32
  let v63 : BitVec 32 := v62
  let v64 : Index := Scalar.indexCast v63
  let c0_18 : Index := 0#32
  ![0, v64.toNat, 0]
def k0_mult2 (k0_t1 : Fin k0_t1_loop.trips) : BitVec 32 :=
  let c0_i32_15 : BitVec 32 := 0#32
  let c1_i32_16 : BitVec 32 := 1#32
  let arg11 : BitVec 32 := Scf.iv c0_i32_15 c1_i32_16 k0_t1
  let c256_i32 : BitVec 32 := 256#32
  let v62 : BitVec 32 := Scalar.muli arg11 c256_i32
  let v63 : BitVec 32 := v62
  let c16_i32_21 : BitVec 32 := 16#32
  let v73 : BitVec 32 := Scalar.subi v63 c16_i32_21
  let c0_i32_22 : BitVec 32 := 0#32
  let v74 : BitVec 32 := Scalar.maxsi v73 c0_i32_22
  v74
def k0_off2 (k0_t1 : Fin k0_t1_loop.trips) : Fin 3 → Nat :=
  let c0_23 : Index := 0#32
  let c0_i32_15 : BitVec 32 := 0#32
  let c1_i32_16 : BitVec 32 := 1#32
  let arg11 : BitVec 32 := Scf.iv c0_i32_15 c1_i32_16 k0_t1
  let c256_i32 : BitVec 32 := 256#32
  let v62 : BitVec 32 := Scalar.muli arg11 c256_i32
  let v63 : BitVec 32 := v62
  let c16_i32_21 : BitVec 32 := 16#32
  let v73 : BitVec 32 := Scalar.subi v63 c16_i32_21
  let c0_i32_22 : BitVec 32 := 0#32
  let v74 : BitVec 32 := Scalar.maxsi v73 c0_i32_22
  let v75 : BitVec 32 := v74
  let v76 : Index := Scalar.indexCast v75
  let c0_24 : Index := 0#32
  ![0, v76.toNat, 0]
def k0_off3 (k0_t1 : Fin k0_t1_loop.trips) : Fin 2 → Nat :=
  let c0_i32_15 : BitVec 32 := 0#32
  let c1_i32_16 : BitVec 32 := 1#32
  let arg11 : BitVec 32 := Scf.iv c0_i32_15 c1_i32_16 k0_t1
  let c256_i32 : BitVec 32 := 256#32
  let v62 : BitVec 32 := Scalar.muli arg11 c256_i32
  let v63 : BitVec 32 := v62
  let v155 : Index := Scalar.indexCast v63
  let c0_49 : Index := 0#32
  ![v155.toNat, 0]
def k0_cond2 (i : grid0.Coords) : BitVec 1 :=
  let arg0 : BitVec 32 := BitVec.ofNat 32 (i 0).val
  let c4_i32_13 : BitVec 32 := 4#32
  let v58 : BitVec 1 := Scalar.cmpi .sge arg0 c4_i32_13
  let v59 : BitVec 32 := Scalar.extui v58
  let c0_i32_14 : BitVec 32 := 0#32
  let v60 : BitVec 1 := Scalar.cmpi .ne v59 c0_i32_14
  v60

@[reducible] def k0_t2_loop : Scf.Loop 32 :=
  let c0_i32_15 : BitVec 32 := 0#32
  let c16_i32 : BitVec 32 := 16#32
  let v61 : BitVec 32 := Scalar.addi c0_i32_15 c16_i32
  let c1_i32_16 : BitVec 32 := 1#32
  ⟨c0_i32_15, v61, c1_i32_16⟩
def k0_mult3 (k0_t2 : Fin k0_t2_loop.trips) : BitVec 32 :=
  let c0_i32_15 : BitVec 32 := 0#32
  let c1_i32_16 : BitVec 32 := 1#32
  let arg11 : BitVec 32 := Scf.iv c0_i32_15 c1_i32_16 k0_t2
  let c256_i32 : BitVec 32 := 256#32
  let v62 : BitVec 32 := Scalar.muli arg11 c256_i32
  v62
def k0_off4 (k0_t2 : Fin k0_t2_loop.trips) : Fin 2 → Nat :=
  let c0_i32_15 : BitVec 32 := 0#32
  let c1_i32_16 : BitVec 32 := 1#32
  let arg11 : BitVec 32 := Scf.iv c0_i32_15 c1_i32_16 k0_t2
  let c256_i32 : BitVec 32 := 256#32
  let v62 : BitVec 32 := Scalar.muli arg11 c256_i32
  let v63 : BitVec 32 := v62
  let v64 : Index := Scalar.indexCast v63
  let c0 : Index := 0#32
  ![v64.toNat, 0]
def k0_off5 (k0_t2 : Fin k0_t2_loop.trips) : Fin 3 → Nat :=
  let c0_18 : Index := 0#32
  let c0_i32_15 : BitVec 32 := 0#32
  let c1_i32_16 : BitVec 32 := 1#32
  let arg11 : BitVec 32 := Scf.iv c0_i32_15 c1_i32_16 k0_t2
  let c256_i32 : BitVec 32 := 256#32
  let v62 : BitVec 32 := Scalar.muli arg11 c256_i32
  let v63 : BitVec 32 := v62
  let v67 : Index := Scalar.indexCast v63
  let c0_19 : Index := 0#32
  ![0, v67.toNat, 0]
def cc0_transform_0 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c3_i32 : BitVec 32 := 3#32
  let v0 : BitVec 32 := Scalar.minsi arg0 c3_i32
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let c3_i32 : BitVec 32 := 3#32
  let v0 : BitVec 32 := Scalar.minsi arg0 c3_i32
  let c2_i32 : BitVec 32 := 2#32
  let c0_i32 : BitVec 32 := 0#32
  let c0_i32_0 : BitVec 32 := 0#32
  ![c2_i32.toNat, c0_i32.toNat, v0.toNat]

def cc0_transform_3 (i : grid0.Coords) : Fin 3 → Nat :=
  let arg0 : BitVec 32 := BitVec.ofNat 32 (i 0).val
  let c3_i32 : BitVec 32 := 3#32
  let v0 : BitVec 32 := Scalar.minsi arg0 c3_i32
  let c3_i32_0 : BitVec 32 := 3#32
  let c0_i32 : BitVec 32 := 0#32
  let c0_i32_1 : BitVec 32 := 0#32
  ![c3_i32_0.toNat, c0_i32.toNat, v0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c7_i32 : BitVec 32 := 7#32
  let c0_i32_0 : BitVec 32 := 0#32
  let c0_i32_1 : BitVec 32 := 0#32
  ![c7_i32.toNat, c0_i32_0.toNat, v1.toNat]

def cc0_transform_6 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference16Ideal.lean ====
abbrev S8x4096x512 : Shape := ⟨3, ![8, 4096, 512]⟩
abbrev S4096x512 : Shape := ⟨2, ![4096, 512]⟩
abbrev S3x512 : Shape := ⟨2, ![3, 512]⟩
abbrev S512 : Shape := ⟨1, ![512]⟩
abbrev S1024 : Shape := ⟨1, ![1024]⟩
abbrev S1x4096x512 : Shape := ⟨3, ![1, 4096, 512]⟩
abbrev S_ : Shape := ⟨0, ![]⟩
abbrev S2x512 : Shape := ⟨2, ![2, 512]⟩
abbrev S4098x512 : Shape := ⟨2, ![4098, 512]⟩
abbrev S1x512 : Shape := ⟨2, ![1, 512]⟩
abbrev S4096x1024 : Shape := ⟨2, ![4096, 1024]⟩
abbrev S4096x16x64 : Shape := ⟨3, ![4096, 16, 64]⟩
abbrev S4096x16 : Shape := ⟨2, ![4096, 16]⟩
abbrev S4096x16x1 : Shape := ⟨3, ![4096, 16, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S4096x512, .bf16⟩
  | .hbm, ⟨2, _⟩ => ⟨S3x512, .f32⟩
  | .hbm, ⟨3, _⟩ => ⟨S512, .f32⟩
  | .hbm, ⟨4, _⟩ => ⟨S1024, .f32⟩
  | .hbm, ⟨5, _⟩ => ⟨S1x4096x512, .bf16⟩
  | .hbm, ⟨6, _⟩ => ⟨S4096x512, .bf16⟩
  | .hbm, ⟨7, _⟩ => ⟨S4096x512, .f32⟩
  | .hbm, ⟨8, _⟩ => ⟨S1x4096x512, .bf16⟩
  | .hbm, ⟨9, _⟩ => ⟨S4096x512, .bf16⟩
  | .hbm, ⟨10, _⟩ => ⟨S4096x512, .f32⟩
  | .hbm, ⟨11, _⟩ => ⟨S1x4096x512, .bf16⟩
  | .hbm, ⟨12, _⟩ => ⟨S4096x512, .bf16⟩
  | .hbm, ⟨13, _⟩ => ⟨S4096x512, .f32⟩
  | .hbm, ⟨14, _⟩ => ⟨S1x4096x512, .bf16⟩
  | .hbm, ⟨15, _⟩ => ⟨S4096x512, .bf16⟩
  | .hbm, ⟨16, _⟩ => ⟨S4096x512, .f32⟩
  | .hbm, ⟨17, _⟩ => ⟨S1x4096x512, .bf16⟩
  | .hbm, ⟨18, _⟩ => ⟨S4096x512, .bf16⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S2x512, .f32⟩
  | .hbm, ⟨23, _⟩ => ⟨S4098x512, .f32⟩
  | .hbm, ⟨24, _⟩ => ⟨S4096x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S1x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S1x512, .f32⟩
  | .hbm, ⟨35, _⟩ => ⟨S512, .f32⟩
  | .hbm, ⟨36, _⟩ => ⟨S1x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S1x512, .f32⟩
  | .hbm, ⟨42, _⟩ => ⟨S512, .f32⟩
  | .hbm, ⟨43, _⟩ => ⟨S1x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x1024, .f32⟩
  | .hbm, ⟨50, _⟩ => ⟨S4096x16x64, .f32⟩
  | .hbm, ⟨51, _⟩ => ⟨S4096x16x64, .f32⟩
  | .hbm, ⟨52, _⟩ => ⟨S_, .f32⟩
  | .hbm, ⟨53, _⟩ => ⟨S4096x16, .f32⟩
  | .hbm, ⟨54, _⟩ => ⟨S4096x16x1, .f32⟩
  | .hbm, ⟨55, _⟩ => ⟨S_, .f32⟩
  | .hbm, ⟨56, _⟩ => ⟨S4096x16x1, .f32⟩
  | .hbm, ⟨57, _⟩ => ⟨S4096x16x1, .f32⟩
  | .hbm, ⟨58, _⟩ => ⟨S_, .f32⟩
  | .hbm, ⟨59, _⟩ => ⟨S4096x16x1, .f32⟩
  | .hbm, ⟨60, _⟩ => ⟨S4096x16x1, .f32⟩
  | .hbm, ⟨61, _⟩ => ⟨S4096x16x1, .f32⟩
  | .hbm, ⟨62, _⟩ => ⟨S4096x16x64, .f32⟩
  | .hbm, ⟨63, _⟩ => ⟨S4096x16x64, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_0 : Ref sig .tc := ⟨.hbm, 52, rfl⟩
abbrev main_v46 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_cst_2 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Kernel17.lean ====
abbrev S8x4096x512 : Shape := ⟨3, ![8, 4096, 512]⟩
abbrev S2x1024x4096 : Shape := ⟨3, ![2, 1024, 4096]⟩
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S8x512x512 : Shape := ⟨3, ![8, 512, 512]⟩
abbrev S1x1024x4096 : Shape := ⟨3, ![1, 1024, 4096]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S64x8x1024 : Shape := ⟨3, ![64, 8, 1024]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8x4096x512, .bf16⟩
  | .hbm, ⟨1, _⟩ => ⟨S2x1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S8x1024, .f32⟩
  | .hbm, ⟨8, _⟩ => ⟨S_, .f32⟩
  | .hbm, ⟨9, _⟩ => ⟨S1024, .f32⟩
  | .local _ .vmem, ⟨0, _⟩ => ⟨S8x512x512, .bf16⟩
  | .local _ .vmem, ⟨1, _⟩ => ⟨S8x512x512, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S8x4096x512 : Shape := ⟨3, ![8, 4096, 512]⟩
abbrev S2x1024x4096 : Shape := ⟨3, ![2, 1024, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x4096 : Shape := ⟨3, ![1, 1024, 4096]⟩
abbrev S1024x4096 : Shape := ⟨2, ![1024, 4096]⟩
abbrev S4096x4096 : Shape := ⟨2, ![4096, 4096]⟩
abbrev S4096x512 : Shape := ⟨2, ![4096, 512]⟩
abbrev S1x4096x512 : Shape := ⟨3, ![1, 4096, 512]⟩

abbrev nBuf : Space → Nat
  | .hbm => 82
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S2x1024x4096, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1x1024x4096, .bf16⟩
  | .hbm, ⟨26, _⟩ => ⟨S1024x4096, .bf16⟩
  | .hbm, ⟨27, _⟩ => ⟨S1024x4096, .f32⟩
  | .hbm, ⟨28, _⟩ => ⟨S4096x4096, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S8x4096x512, .f32⟩
  | .hbm, ⟨38, _⟩ => ⟨S1x4096x512, .f32⟩
  | .hbm, ⟨39, _⟩ => ⟨S4096x512, .f32⟩
  | .hbm, ⟨40, _⟩ => ⟨S1x4096x512, .f32⟩
  | .hbm, ⟨41, _⟩ => ⟨S4096x512, .f32⟩
  | .hbm, ⟨42, _⟩ => ⟨S1x4096x512, .f32⟩
  | .hbm, ⟨43, _⟩ => ⟨S4096x512, .f32⟩
  | .hbm, ⟨44, _⟩ => ⟨S1x4096x512, .f32⟩
  | .hbm, ⟨45, _⟩ => ⟨S4096x512, .f32⟩
  | .hbm, ⟨46, _⟩ => ⟨S1x4096x512, .f32⟩
  | .hbm, ⟨47, _⟩ => ⟨S4096x512, .f32⟩
  | .hbm, ⟨48, _⟩ => ⟨S1x4096x512, .f32⟩
  | .hbm, ⟨49, _⟩ => ⟨S4096x512, .f32⟩
  | .hbm, ⟨50, _⟩ => ⟨S1x4096x512, .f32⟩
  | .hbm, ⟨51, _⟩ => ⟨S4096x512, .f32⟩
  | .hbm, ⟨52, _⟩ => ⟨S1x4096x512, .f32⟩
  | .hbm, ⟨53, _⟩ => ⟨S4096x512, .f32⟩
  | .hbm, ⟨54, _⟩ => ⟨S4096x4096, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_3 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Kernel18.lean ====
abbrev S4096x1024 : Shape := ⟨2, ![4096, 1024]⟩
abbrev S2x1024x1024 : Shape := ⟨3, ![2, 1024, 1024]⟩
abbrev S1024 : Shape := ⟨1, ![1024]⟩
abbrev S_ : Shape := ⟨0, ![]⟩
abbrev S1x1024 : Shape := ⟨2, ![1, 1024]⟩
abbrev S8x1024 : Shape := ⟨2, ![8, 1024]⟩
abbrev S512x1024 : Shape := ⟨2, ![512, 1024]⟩
abbrev S1x1024x1024 : Shape := ⟨3, ![1, 1024, 1024]⟩
abbrev S64x8x1024 : Shape := ⟨3, ![64, 8, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 27
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S2x1024x1024, .bf16⟩
  | .hbm, ⟨5, _⟩ => ⟨S1024, .f32⟩
  | .hbm, ⟨6, _⟩ => ⟨S2x1024x1024, .bf16⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1024, .bf16⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024x1024, .bf16⟩
  | .local _ .vmem, ⟨9, _⟩ => ⟨S1x1024, .f32⟩
  | .local _ .vmem, ⟨10, _⟩ => ⟨S1x1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S8x1024, .f32⟩
  | .local _ .vmem, ⟨20, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_cst_1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference18Ideal.lean ====
abbrev S4096x1024 : Shape := ⟨2, ![4096, 1024]⟩
abbrev S2x1024x1024 : Shape := ⟨3, ![2, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x1024 : Shape := ⟨3, ![1, 1024, 1024]⟩
abbrev S1024x1024 : Shape := ⟨2, ![1024, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .f32⟩
  | .hbm, ⟨4, _⟩ => ⟨S2x1024x1024, .bf16⟩
  | .hbm, ⟨5, _⟩ => ⟨S1024, .f32⟩
  | .hbm, ⟨6, _⟩ => ⟨S2x1024x1024, .bf16⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024x1024, .bf16⟩
  | .hbm, ⟨49, _⟩ => ⟨S1024x1024, .bf16⟩
  | .hbm, ⟨50, _⟩ => ⟨S1024x1024, .f32⟩
  | .hbm, ⟨51, _⟩ => ⟨S4096x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096x1024, .f32⟩
  | .hbm, ⟨89, _⟩ => ⟨S1x1024x1024, .bf16⟩
  | .hbm, ⟨90, _⟩ => ⟨S1024x1024, .bf16⟩
  | .hbm, ⟨91, _⟩ => ⟨S1024x1024, .f32⟩
  | .hbm, ⟨92, _⟩ => ⟨S4096x1024, .f32⟩
  | .hbm, ⟨93, _⟩ => ⟨S4096x1024, .f32⟩
  | .hbm, ⟨94, _⟩ => ⟨S4096x1024, .bf16⟩
  | .hbm, ⟨95, _⟩ => ⟨S4096x1024, .bf16⟩
  | .hbm, ⟨96, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel19.lean ====
abbrev S2x4096x256 : Shape := ⟨3, ![2, 4096, 256]⟩
abbrev S4096x1024 : Shape := ⟨2, ![4096, 1024]⟩
abbrev S256x1024 : Shape := ⟨2, ![256, 1024]⟩
abbrev S1x1024x256 : Shape := ⟨3, ![1, 1024, 256]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x256, .f32⟩
  | .hbm, ⟨1, _⟩ => ⟨S4096x1024, .bf16⟩
  | .hbm, ⟨2, _⟩ => ⟨S256x1024, .f32⟩
  | .local _ .vmem, ⟨0, _⟩ => ⟨S1x1024x256, .f32⟩
  | .local _ .vmem, ⟨1, _⟩ => ⟨S1x1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference19Ideal.lean ====
abbrev S2x4096x256 : Shape := ⟨3, ![2, 4096, 256]⟩
abbrev S4096x1024 : Shape := ⟨2, ![4096, 1024]⟩
abbrev S_ : Shape := ⟨0, ![]⟩
abbrev S256x1024 : Shape := ⟨2, ![256, 1024]⟩
abbrev S1x4096x256 : Shape := ⟨3, ![1, 4096, 256]⟩
abbrev S4096x256 : Shape := ⟨2, ![4096, 256]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S1x4096x256, .f32⟩
  | .hbm, ⟨5, _⟩ => ⟨S4096x256, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | _, _ => ⟨S2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x1024 : Shape := ⟨2, ![4096, 1024]⟩
abbrev S1024 : Shape := ⟨1, ![1024]⟩
abbrev S2x1024x4096 : Shape := ⟨3, ![2, 1024, 4096]⟩
abbrev S1x1024 : Shape := ⟨2, ![1, 1024]⟩
abbrev S8x4096x512 : Shape := ⟨3, ![8, 4096, 512]⟩
abbrev S512x1024 : Shape := ⟨2, ![512, 1024]⟩
abbrev S1x1024x4096 : Shape := ⟨3, ![1, 1024, 4096]⟩
abbrev S8x512x512 : Shape := ⟨3, ![8, 512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x4096, .bf16⟩
  | .hbm, ⟨3, _⟩ => ⟨S1x1024, .f32⟩
  | .hbm, ⟨4, _⟩ => ⟨S4096x1024, .bf16⟩
  | .hbm, ⟨5, _⟩ => ⟨S8x4096x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S512x1024, .bf16⟩
  | .local _ .vmem, ⟨5, _⟩ => ⟨S512x1024, .bf16⟩
  | .local _ .vmem, ⟨6, _⟩ => ⟨S8x512x512, .bf16⟩
  | .local _ .vmem, ⟨7, _⟩ => ⟨S8x512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S4096x1024 : Shape := ⟨2, ![4096, 1024]⟩
abbrev S1024 : Shape := ⟨1, ![1024]⟩
abbrev S2x1024x4096 : Shape := ⟨3, ![2, 1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1024x4096 : Shape := ⟨3, ![1, 1024, 4096]⟩
abbrev S1024x4096 : Shape := ⟨2, ![1024, 4096]⟩
abbrev S4096x4096 : Shape := ⟨2, ![4096, 4096]⟩
abbrev S4096x512 : Shape := ⟨2, ![4096, 512]⟩
abbrev S1x4096x512 : Shape := ⟨3, ![1, 4096, 512]⟩
abbrev S8x4096x512 : Shape := ⟨3, ![8, 4096, 512]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x1024x4096, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x1024x4096, .bf16⟩
  | .hbm, ⟨21, _⟩ => ⟨S1024x4096, .bf16⟩
  | .hbm, ⟨22, _⟩ => ⟨S1024x4096, .f32⟩
  | .hbm, ⟨23, _⟩ => ⟨S4096x4096, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S1x4096x512, .f32⟩
  | .hbm, ⟨33, _⟩ => ⟨S1x4096x512, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x4096x512, .f32⟩
  | .hbm, ⟨39, _⟩ => ⟨S1x4096x512, .f32⟩
  | .hbm, ⟨40, _⟩ => ⟨S8x4096x512, .f32⟩
  | .hbm, ⟨41, _⟩ => ⟨S8x4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel21.lean ====
abbrev S4096x1024 : Shape := ⟨2, ![4096, 1024]⟩
abbrev S2x1024x1024 : Shape := ⟨3, ![2, 1024, 1024]⟩
abbrev S1024 : Shape := ⟨1, ![1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1024, .f32⟩
  | .hbm, ⟨4, _⟩ => ⟨S1x1024, .f32⟩
  | .hbm, ⟨5, _⟩ => ⟨S4096x1024, .f32⟩
  | .hbm, ⟨6, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S4096x1024 : Shape := ⟨2, ![4096, 1024]⟩
abbrev S2x1024x1024 : Shape := ⟨3, ![2, 1024, 1024]⟩
abbrev S1024 : Shape := ⟨1, ![1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024x1024, .bf16⟩
  | .hbm, ⟨6, _⟩ => ⟨S1024x1024, .bf16⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel22.lean ====
abbrev S4096x1024 : Shape := ⟨2, ![4096, 1024]⟩
abbrev S2x1024x1024 : Shape := ⟨3, ![2, 1024, 1024]⟩
abbrev S1024 : Shape := ⟨1, ![1024]⟩
abbrev S2x4096x256 : Shape := ⟨3, ![2, 4096, 256]⟩
abbrev S2x256x1024 : Shape := ⟨3, ![2, 256, 1024]⟩
abbrev S1x1024 : Shape := ⟨2, ![1, 1024]⟩
abbrev S512x1024 : Shape := ⟨2, ![512, 1024]⟩
abbrev S1x1024x1024 : Shape := ⟨3, ![1, 1024, 1024]⟩
abbrev S1x512x256 : Shape := ⟨3, ![1, 512, 256]⟩
abbrev S1x256x1024 : Shape := ⟨3, ![1, 256, 1024]⟩
abbrev S1024x1024 : Shape := ⟨2, ![1024, 1024]⟩
abbrev S512x256 : Shape := ⟨2, ![512, 256]⟩
abbrev S256x1024 : Shape := ⟨2, ![256, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S1024, .f32⟩
  | .hbm, ⟨3, _⟩ => ⟨S2x4096x256, .f32⟩
  | .hbm, ⟨4, _⟩ => ⟨S2x256x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024, .f32⟩
  | .local _ .vmem, ⟨4, _⟩ => ⟨S1x512x256, .f32⟩
  | .local _ .vmem, ⟨5, _⟩ => ⟨S1x512x256, .f32⟩
  | .local _ .vmem, ⟨6, _⟩ => ⟨S1x256x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S4096x1024 : Shape := ⟨2, ![4096, 1024]⟩
abbrev S2x1024x1024 : Shape := ⟨3, ![2, 1024, 1024]⟩
abbrev S1024 : Shape := ⟨1, ![1024]⟩
abbrev S2x4096x256 : Shape := ⟨3, ![2, 4096, 256]⟩
abbrev S2x256x1024 : Shape := ⟨3, ![2, 256, 1024]⟩
abbrev S1x1024x1024 : Shape := ⟨3, ![1, 1024, 1024]⟩
abbrev S1024x1024 : Shape := ⟨2, ![1024, 1024]⟩
abbrev S1x1024 : Shape := ⟨2, ![1, 1024]⟩
abbrev S_ : Shape := ⟨0, ![]⟩
abbrev S1x4096x256 : Shape := ⟨3, ![1, 4096, 256]⟩
abbrev S4096x256 : Shape := ⟨2, ![4096, 256]⟩
abbrev S1x256x1024 : Shape := ⟨3, ![1, 256, 1024]⟩
abbrev S256x1024 : Shape := ⟨2, ![256, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x1024x1024, .bf16⟩
  | .hbm, ⟨2, _⟩ => ⟨S1024, .f32⟩
  | .hbm, ⟨3, _⟩ => ⟨S2x4096x256, .f32⟩
  | .hbm, ⟨4, _⟩ => ⟨S2x256x1024, .bf16⟩
  | .hbm, ⟨5, _⟩ => ⟨S4096x1024, .f32⟩
  | .hbm, ⟨6, _⟩ => ⟨S4096x1024, .f32⟩
  | .hbm, ⟨7, _⟩ => ⟨S1x1024x1024, .bf16⟩
  | .hbm, ⟨8, _⟩ => ⟨S1024x1024, .bf16⟩
  | .hbm, ⟨9, _⟩ => ⟨S1024x1024, .f32⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S1x4096x256, .f32⟩
  | .hbm, ⟨23, _⟩ => ⟨S4096x256, .f32⟩
  | .hbm, ⟨24, _⟩ => ⟨S1x256x1024, .bf16⟩
  | .hbm, ⟨25, _⟩ => ⟨S256x1024, .bf16⟩
  | .hbm, ⟨26, _⟩ => ⟨S256x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Conv.Tile.lean ====
module

public import proofs.«01_k».proof.Proof.Gen.KernelIdeal.Frame
public import proofs.«01_k».proof.Proof.Gen.KernelIdeal.Loops
public import Idealize.ShloMosaic.Lib.WholeRead
public import Idealize.ShloMosaic.Lib.Pointwise

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The offsets of the two loops in closed form -/

theorem off1 : ∀ k : Fin k0_t1_loop.trips, k0_off1 k = ![0, 256 * k.val, 0] := by decide +kernel
theorem off2 : ∀ k : Fin k0_t1_loop.trips, k0_off2 k = ![0, 256 * k.val - 16, 0] := by decide +kernel
theorem off3 : ∀ k : Fin k0_t1_loop.trips, k0_off3 k = ![256 * k.val, 0] := by decide +kernel
theorem off4 : ∀ k : Fin k0_t1_loop.trips, k0_off4 k = ![0, 256 * k.val, 0] := by decide +kernel
theorem off5 : ∀ k : Fin k0_t1_loop.trips, k0_off5 k = ![3, 256 * k.val, 0] := by decide +kernel
theorem off6 : ∀ k : Fin k0_t1_loop.trips, k0_off6 k = ![256 * k.val, 0] := by decide +kernel
theorem off7 : ∀ k : Fin k0_t2_loop.trips, k0_off7 k = ![256 * k.val, 0] := by decide +kernel
theorem off8 : ∀ k : Fin k0_t2_loop.trips, k0_off8 k = ![256 * k.val + 256, 0] := by decide +kernel
theorem off9 : ∀ k : Fin k0_t2_loop.trips, k0_off9 k = ![0, 256 * k.val, 0] := by decide +kernel
theorem off10 : ∀ k : Fin k0_t2_loop.trips, k0_off10 k = ![1, 256 * k.val, 0] := by decide +kernel
theorem off11 : ∀ k : Fin k0_t2_loop.trips, k0_off11 k = ![2, 256 * k.val, 0] := by decide +kernel
theorem trips1 : k0_t1_loop.trips = 16 := by decide +kernel
theorem trips2 : k0_t2_loop.trips = 16 := by decide +kernel

/-! ## What one trip computes, over the blocks the body is given -/

/-- The blocks of one grid point: the cotangent, the four gates, the filter, its bias and the norm's gain. -/
structure Blocks (F : FTy → Type) [FloatOps F] where
  dy : Vec F S4096x128 .bf16
  p0 : Vec F S1x4096x128 .bf16
  p1 : Vec F S1x4096x128 .bf16
  p2 : Vec F S1x4096x128 .bf16
  p3 : Vec F S1x4096x128 .bf16
  w : Vec F S3x128 .f32
  b : Vec F S1x128 .f32
  g : Vec F S1x128 .f32

/-- Rows `256 k` to `256 k + 255` of a gate. -/
def rows (X : Vec F S1x4096x128 .bf16) (k : Fin k0_t1_loop.trips) : Vec F S1x256x128 .bf16 :=
  View.ld X (Rect.unit (s := S1x4096x128) (k0_off1 k) S1x256x128.size (k0_off1_inb k))
/-- The sixteen rows before them. -/
def prev (X : Vec F S1x4096x128 .bf16) (k : Fin k0_t1_loop.trips) : Vec F S1x16x128 .bf16 :=
  View.ld X (Rect.unit (s := S1x4096x128) (k0_off2 k) S1x16x128.size (k0_off2_inb k))
/-- The filter's tap `j`. -/
def tap0 (W : Vec F S3x128 .f32) : Vec F S1x128 .f32 := View.ld W (Rect.unit (s := S3x128) ![0, 0] S1x128.size inb_S3x128_S1x128_0_0)
def tap1 (W : Vec F S3x128 .f32) : Vec F S1x128 .f32 := View.ld W (Rect.unit (s := S3x128) ![1, 0] S1x128.size inb_S3x128_S1x128_1_0)
def tap2 (W : Vec F S3x128 .f32) : Vec F S1x128 .f32 := View.ld W (Rect.unit (s := S3x128) ![2, 0] S1x128.size inb_S3x128_S1x128_2_0)
def row1 (W : Vec F S1x128 .f32) : Vec F S1x128 .f32 := View.ld W (Rect.unit (s := S1x128) ![0, 0] S1x128.size inb_S1x128_S1x128_0_0)

namespace Blocks
variable (x : Blocks F) (k : Fin k0_t1_loop.trips)

/-- The matrix that averages over groups of 64 lanes. -/
def avg : FVec F S128x128 .bf16 := k0_pay34 (F := F) k0_pay30 k0_pay31 k0_pay32 k0_pay33
def zero : F .f32 := Scalar.ofBits .f32 0x00000000#32
/-- The gated input, and the same one and two rows earlier. -/
def u : FVec F S256x128 .f32 := k0_pay3 (rows x.p1 k) (rows x.p2 k)
def pa : FVec F S1x128 .f32 := k0_pay5 0#32 1#32 k (prev x.p1 k) (prev x.p2 k)
def pb : FVec F S1x128 .f32 := k0_pay6 0#32 1#32 k (prev x.p1 k) (prev x.p2 k)
def u1 : FVec F S256x128 .f32 := k0_pay7 0#32 1#32 k (rows x.p1 k) (rows x.p2 k) (prev x.p1 k) (prev x.p2 k)
def rot : FVec F S256x128 .f32 := k0_pay10 (rows x.p1 k) (rows x.p2 k)
def u2 : FVec F S256x128 .f32 := k0_pay11 (x.pa k) (x.pb k) k0_pay8 k0_pay9 (x.rot k)
/-- The convolution's result. -/
def cv : FVec F S256x128 .f32 :=
  k0_pay12 (x.u k) (x.pa k) (x.pb k) (x.u1 k) k0_pay8 k0_pay9 (x.rot k) (row1 x.b) (tap0 x.w) (tap1 x.w) (tap2 x.w)
def cb : FVec F S256x128 .f32 := k0_pay13 (rows x.p0 k)
def ct : FVec F S256x128 .f32 := k0_pay14 (View.ld x.dy (Rect.unit (s := S4096x128) (k0_off3 k) S256x128.size (k0_off3_inb k)))
def zg : FVec F S256x128 .f32 := k0_pay16 (rows x.p3 k)
def gain : FVec F S1x128 .f32 := k0_pay17 (row1 x.g)
/-- The reciprocal root of the group's mean square, and the normalised product. -/
def rs : FVec F S256x128 .f32 :=
  k0_pay18 avg (x.u k) (x.pa k) (x.pb k) (x.u1 k) k0_pay8 k0_pay9 (x.rot k) (row1 x.b) (tap0 x.w) (tap1 x.w) (tap2 x.w) (rows x.p0 k)
def nv : FVec F S256x128 .f32 :=
  k0_pay19 avg (x.u k) (x.pa k) (x.pb k) (x.u1 k) k0_pay8 k0_pay9 (x.rot k) (row1 x.b) (tap0 x.w) (tap1 x.w) (tap2 x.w) (rows x.p0 k)
/-- The gradients of gate 0 and of gate 3, of the convolution's result, and the gain's. -/
def d0 : FVec F S1x256x128 .bf16 := k0_pay24 avg (x.cv k) (x.ct k) (x.zg k) x.gain (x.rs k) (x.nv k) zero
def d3 : FVec F S1x256x128 .bf16 := k0_pay25 (x.ct k) (x.zg k) x.gain (x.nv k) zero
def dc : FVec F S256x128 .f32 := k0_pay26 avg (x.cb k) (x.ct k) (x.zg k) x.gain (x.rs k) (x.nv k) zero
def dcs : FVec F S256x128 .f32 := k0_pay27 avg (x.cb k) (x.ct k) (x.zg k) x.gain (x.rs k) (x.nv k) zero
def dg : FVec F S256x128 .f32 := k0_pay23 (x.ct k) (x.zg k) (x.nv k) zero
def m2 : FVec F S32x8x128 .f32 := k0_pay28 avg (x.u2 k) (x.cb k) (x.ct k) (x.zg k) x.gain (x.rs k) (x.nv k) zero

/-- The five sums a trip carries on. -/
def step (a : FVec F S8x128 .f32 × FVec F S8x128 .f32 × FVec F S8x128 .f32 × FVec F S8x128 .f32 × FVec F S8x128 .f32) :
    FVec F S8x128 .f32 × FVec F S8x128 .f32 × FVec F S8x128 .f32 × FVec F S8x128 .f32 × FVec F S8x128 .f32 :=
  (k0_pay37 a.1 (x.m2 k), k0_pay38 a.2.1 (x.u1 k) (x.dc k), k0_pay39 a.2.2.1 (x.u k) (x.dc k),
    k0_pay40 a.2.2.2.1 (x.dc k), k0_pay41 a.2.2.2.2 (x.dg k))
/-- The sums before trip `n`. -/
def sums (x : Blocks F) : ℕ → FVec F S8x128 .f32 × FVec F S8x128 .f32 × FVec F S8x128 .f32 × FVec F S8x128 .f32 × FVec F S8x128 .f32
  | 0 => (k0_pay36, k0_pay36, k0_pay36, k0_pay36, k0_pay36)
  | n + 1 => if h : n < k0_t1_loop.trips then x.step ⟨n, h⟩ (sums x n) else sums x n

/-- The trip that handles row `r`. -/
def tileOf (r : ℕ) : Fin k0_t1_loop.trips := ⟨r / 256 % 16, by rw [trips1]; omega⟩
/-- The row of the trip's tile that row `r` is. -/
def inTile (r : ℕ) : Fin 256 := ⟨r % 256, by omega⟩

/-- The scratch after the first loop: the gradient of the convolution's result, and eight rows of zeros below it. -/
def scr : Vec F S4104x128 .f32 := fun i =>
  if (i 0 : ℕ) < 4096 then x.dcs (tileOf (i 0)) (ix2 (inTile (i 0)) (i 1)) else k0_pay35 (ix2 ⟨(i 0 : ℕ) % 8, by omega⟩ (i 1))
/-- The gradient of the gated input, by the shifts the other way. -/
def du (k : Fin k0_t2_loop.trips) : FVec F S256x128 .f32 :=
  k0_pay29 (View.ld x.scr (Rect.unit (s := S4104x128) (k0_off7 k) S256x128.size (k0_off7_inb k)))
    (View.ld x.scr (Rect.unit (s := S4104x128) (k0_off8 k) S8x128.size (k0_off8_inb k))) (tap2 x.w) (tap1 x.w) (tap0 x.w)
def d1 (k : Fin k0_t2_loop.trips) : FVec F S1x256x128 .bf16 :=
  k0_pay1 (x.du k) (View.ld x.p2 (Rect.unit (s := S1x4096x128) (k0_off9 k) S1x256x128.size (k0_off9_inb k)))
def d2 (k : Fin k0_t2_loop.trips) : FVec F S1x256x128 .bf16 :=
  k0_pay2 (x.du k) (View.ld x.p1 (Rect.unit (s := S1x4096x128) (k0_off9 k) S1x256x128.size (k0_off9_inb k)))

def tileOf2 (r : ℕ) : Fin k0_t2_loop.trips := ⟨r / 256 % 16, by rw [trips2]; omega⟩
/-- What the body leaves in its four results. -/
def out9 : Vec F S4x4096x128 .bf16 := fun i =>
  if (i 0 : ℕ) = 0 then x.d0 (tileOf (i 1)) (ix3 0 (inTile (i 1)) (i 2))
  else if (i 0 : ℕ) = 1 then x.d1 (tileOf2 (i 1)) (ix3 0 (inTile (i 1)) (i 2))
  else if (i 0 : ℕ) = 2 then x.d2 (tileOf2 (i 1)) (ix3 0 (inTile (i 1)) (i 2))
  else x.d3 (tileOf (i 1)) (ix3 0 (inTile (i 1)) (i 2))
def out10 : Vec F S3x8x128 .f32 := fun i =>
  if (i 0 : ℕ) = 0 then k0_pay42 (x.sums 16).1 (ix3 0 (i 1) (i 2))
  else if (i 0 : ℕ) = 1 then k0_pay43 (x.sums 16).2.1 (ix3 0 (i 1) (i 2))
  else k0_pay44 (x.sums 16).2.2.1 (ix3 0 (i 1) (i 2))
def out11 : Vec F S8x128 .f32 := (x.sums 16).2.2.2.1
def out12 : Vec F S8x128 .f32 := (x.sums 16).2.2.2.2

/-! ### Each stored tile is its rows of the whole -/

theorem ext2 {n m : ℕ} {i j : (⟨2, ![n, m]⟩ : Shape).Idx} (h0 : (i 0 : ℕ) = j 0) (h1 : (i 1 : ℕ) = j 1) : i = j := by
  funext a; match a with
  | ⟨0, _⟩ => exact Fin.ext h0
  | ⟨1, _⟩ => exact Fin.ext h1
theorem ext3 {n m l : ℕ} {i j : (⟨3, ![n, m, l]⟩ : Shape).Idx} (h0 : (i 0 : ℕ) = j 0) (h1 : (i 1 : ℕ) = j 1) (h2 : (i 2 : ℕ) = j 2) : i = j := by
  funext a; match a with
  | ⟨0, _⟩ => exact Fin.ext h0
  | ⟨1, _⟩ => exact Fin.ext h1
  | ⟨2, _⟩ => exact Fin.ext h2

theorem tileOf_eq {r : ℕ} {j : Fin 256} (h : r = 256 * k.val + j.val) : tileOf r = k := by
  have := k.isLt.trans_eq trips1
  have := j.isLt
  exact Fin.ext (show r / 256 % 16 = k.val by omega)
theorem tileOf2_eq (k : Fin k0_t2_loop.trips) {r : ℕ} {j : Fin 256} (h : r = 256 * k.val + j.val) : tileOf2 r = k := by
  have := k.isLt.trans_eq trips2
  have := j.isLt
  exact Fin.ext (show r / 256 % 16 = k.val by omega)

theorem scr_tile (j : S256x128.Idx) :
    x.scr ((Rect.unit (s := S4104x128) (k0_off6 k) S256x128.size (k0_off6_inb k)).emb j) = x.dcs k j := by
  have hk := k.isLt.trans_eq trips1
  have h0 : (((Rect.unit (s := S4104x128) (k0_off6 k) S256x128.size (k0_off6_inb k)).emb j) 0 : ℕ) = 256 * k.val + (j 0 : ℕ) := by
    show k0_off6 k 0 + 1 * (j 0 : ℕ) = _
    rw [off6]; simp
  have h1 : (((Rect.unit (s := S4104x128) (k0_off6 k) S256x128.size (k0_off6_inb k)).emb j) 1 : ℕ) = (j 1 : ℕ) := by
    show k0_off6 k 1 + 1 * (j 1 : ℕ) = _
    rw [off6]; simp
  have hj := (j 0).isLt
  change (j 0 : ℕ) < 256 at hj
  unfold scr
  rw [if_pos (by rw [h0]; omega), tileOf_eq k (j := j 0) h0]
  congr 1
  refine ext2 ?_ ?_
  · show (_ % 256 : ℕ) = _
    rw [h0]; omega
  · exact h1
end Blocks

end Cert.KernelIdeal.Conv
-- ==== Proof.Conv.Trips.lean ====
module

public import proofs.«01_k».proof.Proof.Gen.KernelIdeal.Frame
public import proofs.«01_k».proof.Proof.Gen.KernelIdeal.Loops
public import proofs.«01_k».proof.Proof.Conv.Tile
public import Idealize.ShloMosaic.Lib.Tactic.Stretches

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem trip1_pieces (c : Dev nD) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) (x : Blocks F) (k : Fin k0_t1_loop.trips) (acc) :
    tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) k acc =
      ([⟨Rect.unit (s := S4x4096x128) (k0_off5 k) S1x256x128.size (k0_off5_inb k), x.d3 k⟩,
        ⟨Rect.unit (s := S4x4096x128) (k0_off4 k) S1x256x128.size (k0_off4_inb k), x.d0 k⟩],
       [⟨Rect.unit (s := S4104x128) (k0_off6 k) S256x128.size (k0_off6_inb k), x.dcs k⟩]) := by
  unfold tripL_k0_t1 trip_k0_t1
  dsimp only
  sl_open_run
  simp only [View.readAt_eq_ld, Memref.IsWhole.read_unread]
  rfl
theorem trip1_sums (c : Dev nD) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) (x : Blocks F) (k : Fin k0_t1_loop.trips) (acc) :
    tripR_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) k acc = x.step k acc := by
  unfold tripR_k0_t1 trip_k0_t1
  dsimp only
  sl_open_run
  simp only [View.readAt_eq_ld, Memref.IsWhole.read_unread]
  rfl
theorem trip2_pieces (c : Dev nD) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) (x : Blocks F) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 0#32 (harg3.unread x.p1) (harg4.unread x.p2) (harg6.unread x.w) (harg13.unread x.scr) k =
      [⟨Rect.unit (s := S4x4096x128) (k0_off11 k) S1x256x128.size (k0_off11_inb k), x.d2 k⟩,
        ⟨Rect.unit (s := S4x4096x128) (k0_off10 k) S1x256x128.size (k0_off10_inb k), x.d1 k⟩] := by
  unfold tripL_k0_t2 trip_k0_t2
  dsimp only
  sl_open_run
  simp only [View.readAt_eq_ld, Memref.IsWhole.read_unread]
  rfl

end Cert.KernelIdeal.Conv
-- ==== Proof.Conv.Pieces.lean ====
module

public import proofs.«01_k».proof.Proof.Gen.KernelIdeal.Frame
public import proofs.«01_k».proof.Proof.Gen.KernelIdeal.Loops
public import proofs.«01_k».proof.Proof.Conv.Trips

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Every piece of the list is its own part of `G`. -/
def Agree {s : Shape} {e : EltTy} (G : s.Idx → Elt F e) (L : List (View.Piece (Elt F) s e)) : Prop :=
  ∀ p ∈ L, ∀ y, p.2 y = G (p.1.emb y)
/-- Every index with the property lies in a piece of the list. -/
def Cover {s : Shape} {e : EltTy} (S : s.Idx → Prop) (L : List (View.Piece (Elt F) s e)) : Prop :=
  ∀ y, S y → ∃ p ∈ L, y ∈ p.1.set

theorem Agree.nil {s : Shape} {e : EltTy} (G : s.Idx → Elt F e) : Agree G [] := fun _ h => absurd h List.not_mem_nil
theorem Agree.app {s : Shape} {e : EltTy} {G : s.Idx → Elt F e} {L M} (h : Agree G L) (h' : Agree G M) : Agree G (L ++ M) := fun p hp => by
  rcases List.mem_append.1 hp with hp | hp
  · exact h p hp
  · exact h' p hp
theorem Agree.cons {s : Shape} {e : EltTy} {G : s.Idx → Elt F e} {r : Rect s} {w : r.shape.Idx → Elt F e} {M} (h : ∀ y, w y = G (r.emb y)) (h' : Agree G M) : Agree G (⟨r, w⟩ :: M) := fun p hp => by
  rcases List.mem_cons.1 hp with rfl | hp
  · exact h
  · exact h' p hp
theorem Agree.read {sig : RefSig} {κ : Kind} {sp : Space} {s : Shape} {e : EltTy} {v : View sig κ sp s e} {f} {G : s.Idx → Elt F e} {L} (h : Agree G L) (hc : Cover (fun _ => True) L) :
    v.read (Elt F) (v.writes (Elt F) f L) = G :=
  funext fun y => View.read_writes_apply_of_pieces v f G L h y (hc y trivial)

namespace Blocks
variable (x : Blocks F)

theorem out9_0 (k : Fin k0_t1_loop.trips) (j : S1x256x128.Idx) :
    x.out9 ((Rect.unit (s := S4x4096x128) (k0_off4 k) S1x256x128.size (k0_off4_inb k)).emb j) = x.d0 k j := by
  have h0 : (((Rect.unit (s := S4x4096x128) (k0_off4 k) S1x256x128.size (k0_off4_inb k)).emb j) 0 : ℕ) = 0 := by
    show k0_off4 k 0 + 1 * (j 0 : ℕ) = _
    have hj := (j 0).isLt
    change (j 0 : ℕ) < 1 at hj
    rw [off4]; simp; omega
  have h1 : (((Rect.unit (s := S4x4096x128) (k0_off4 k) S1x256x128.size (k0_off4_inb k)).emb j) 1 : ℕ) = 256 * k.val + (j 1 : ℕ) := by
    show k0_off4 k 1 + 1 * (j 1 : ℕ) = _
    rw [off4]; simp
  have h2 : (((Rect.unit (s := S4x4096x128) (k0_off4 k) S1x256x128.size (k0_off4_inb k)).emb j) 2 : ℕ) = (j 2 : ℕ) := by
    show k0_off4 k 2 + 1 * (j 2 : ℕ) = _
    rw [off4]; simp
  have hj := (j 1).isLt
  change (j 1 : ℕ) < 256 at hj
  unfold out9
  simp only [h0, tileOf_eq k (j := j 1) h1]
  refine (congrArg (x.d0 k) ?_ :)
  refine ext3 ?_ ?_ h2
  · have hj := (j 0).isLt
    change (j 0 : ℕ) < 1 at hj
    show 0 = (j 0 : ℕ)
    omega
  · show (_ % 256 : ℕ) = _
    rw [h1]; omega

theorem out9_3 (k : Fin k0_t1_loop.trips) (j : S1x256x128.Idx) :
    x.out9 ((Rect.unit (s := S4x4096x128) (k0_off5 k) S1x256x128.size (k0_off5_inb k)).emb j) = x.d3 k j := by
  have h0 : (((Rect.unit (s := S4x4096x128) (k0_off5 k) S1x256x128.size (k0_off5_inb k)).emb j) 0 : ℕ) = 3 := by
    show k0_off5 k 0 + 1 * (j 0 : ℕ) = _
    have hj := (j 0).isLt
    change (j 0 : ℕ) < 1 at hj
    rw [off5]; simp; omega
  have h1 : (((Rect.unit (s := S4x4096x128) (k0_off5 k) S1x256x128.size (k0_off5_inb k)).emb j) 1 : ℕ) = 256 * k.val + (j 1 : ℕ) := by
    show k0_off5 k 1 + 1 * (j 1 : ℕ) = _
    rw [off5]; simp
  have h2 : (((Rect.unit (s := S4x4096x128) (k0_off5 k) S1x256x128.size (k0_off5_inb k)).emb j) 2 : ℕ) = (j 2 : ℕ) := by
    show k0_off5 k 2 + 1 * (j 2 : ℕ) = _
    rw [off5]; simp
  have hj := (j 1).isLt
  change (j 1 : ℕ) < 256 at hj
  unfold out9
  simp only [h0, tileOf_eq k (j := j 1) h1]
  refine (congrArg (x.d3 k) ?_ :)
  refine ext3 ?_ ?_ h2
  · have hj := (j 0).isLt
    change (j 0 : ℕ) < 1 at hj
    show 0 = (j 0 : ℕ)
    omega
  · show (_ % 256 : ℕ) = _
    rw [h1]; omega

theorem out9_1 (k : Fin k0_t2_loop.trips) (j : S1x256x128.Idx) :
    x.out9 ((Rect.unit (s := S4x4096x128) (k0_off10 k) S1x256x128.size (k0_off10_inb k)).emb j) = x.d1 k j := by
  have h0 : (((Rect.unit (s := S4x4096x128) (k0_off10 k) S1x256x128.size (k0_off10_inb k)).emb j) 0 : ℕ) = 1 := by
    show k0_off10 k 0 + 1 * (j 0 : ℕ) = _
    have hj := (j 0).isLt
    change (j 0 : ℕ) < 1 at hj
    rw [off10]; simp; omega
  have h1 : (((Rect.unit (s := S4x4096x128) (k0_off10 k) S1x256x128.size (k0_off10_inb k)).emb j) 1 : ℕ) = 256 * k.val + (j 1 : ℕ) := by
    show k0_off10 k 1 + 1 * (j 1 : ℕ) = _
    rw [off10]; simp
  have h2 : (((Rect.unit (s := S4x4096x128) (k0_off10 k) S1x256x128.size (k0_off10_inb k)).emb j) 2 : ℕ) = (j 2 : ℕ) := by
    show k0_off10 k 2 + 1 * (j 2 : ℕ) = _
    rw [off10]; simp
  have hj := (j 1).isLt
  change (j 1 : ℕ) < 256 at hj
  unfold out9
  simp only [h0, tileOf2_eq k (j := j 1) h1]
  refine (congrArg (x.d1 k) ?_ :)
  refine ext3 ?_ ?_ h2
  · have hj := (j 0).isLt
    change (j 0 : ℕ) < 1 at hj
    show 0 = (j 0 : ℕ)
    omega
  · show (_ % 256 : ℕ) = _
    rw [h1]; omega

theorem out9_2 (k : Fin k0_t2_loop.trips) (j : S1x256x128.Idx) :
    x.out9 ((Rect.unit (s := S4x4096x128) (k0_off11 k) S1x256x128.size (k0_off11_inb k)).emb j) = x.d2 k j := by
  have h0 : (((Rect.unit (s := S4x4096x128) (k0_off11 k) S1x256x128.size (k0_off11_inb k)).emb j) 0 : ℕ) = 2 := by
    show k0_off11 k 0 + 1 * (j 0 : ℕ) = _
    have hj := (j 0).isLt
    change (j 0 : ℕ) < 1 at hj
    rw [off11]; simp; omega
  have h1 : (((Rect.unit (s := S4x4096x128) (k0_off11 k) S1x256x128.size (k0_off11_inb k)).emb j) 1 : ℕ) = 256 * k.val + (j 1 : ℕ) := by
    show k0_off11 k 1 + 1 * (j 1 : ℕ) = _
    rw [off11]; simp
  have h2 : (((Rect.unit (s := S4x4096x128) (k0_off11 k) S1x256x128.size (k0_off11_inb k)).emb j) 2 : ℕ) = (j 2 : ℕ) := by
    show k0_off11 k 2 + 1 * (j 2 : ℕ) = _
    rw [off11]; simp
  have hj := (j 1).isLt
  change (j 1 : ℕ) < 256 at hj
  unfold out9
  simp only [h0, tileOf2_eq k (j := j 1) h1]
  refine (congrArg (x.d2 k) ?_ :)
  refine ext3 ?_ ?_ h2
  · have hj := (j 0).isLt
    change (j 0 : ℕ) < 1 at hj
    show 0 = (j 0 : ℕ)
    omega
  · show (_ % 256 : ℕ) = _
    rw [h1]; omega

theorem mem3 {off size : Fin 3 → ℕ} {inb} {y : S4x4096x128.Idx} (h0 : off 0 ≤ (y 0 : ℕ) ∧ (y 0 : ℕ) < off 0 + size 0)
    (h1 : off 1 ≤ (y 1 : ℕ) ∧ (y 1 : ℕ) < off 1 + size 1) (h2 : off 2 ≤ (y 2 : ℕ) ∧ (y 2 : ℕ) < off 2 + size 2) :
    y ∈ (Rect.unit (s := S4x4096x128) off size inb).set :=
  Rect.mem_set_unit.2 fun a => match a with
    | ⟨0, _⟩ => h0
    | ⟨1, _⟩ => h1
    | ⟨2, _⟩ => h2

/-- What the first loop has left before trip `n`. -/
theorem loop1 (c : Dev nD) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) : ∀ n ≤ 16,
    (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) n).1 = x.sums n ∧
    Agree x.out9 (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) n).2.1 ∧
    Cover (fun y => ((y 0 : ℕ) = 0 ∨ (y 0 : ℕ) = 3) ∧ (y 1 : ℕ) < 256 * n) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) n).2.1 ∧
    Agree x.scr (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) n).2.2 ∧
    Cover (fun y => (y 0 : ℕ) < 256 * n) (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) n).2.2 := by
  intro n
  induction n with
  | zero =>
    intro _
    rw [st_k0_t1_zero]
    exact ⟨rfl, Agree.nil _, fun y h => absurd h.2 (by omega), Agree.nil _, fun y h => absurd h (by omega)⟩
  | succ n ih =>
    intro hn
    obtain ⟨i1, i2, i3, i4, i5⟩ := ih (by omega)
    have hk : n < k0_t1_loop.trips := by rw [trips1]; omega
    have e := st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) ⟨n, hk⟩
    rw [show st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) (n + 1) = _ from e, trip1_pieces, trip1_sums]
    refine ⟨?_, ?_, ?_, ?_, ?_⟩
    · rw [i1]; show _ = x.sums (n + 1); rw [sums, dif_pos hk]
    · exact (Agree.cons (fun y => (x.out9_3 _ y).symm) (Agree.cons (fun y => (x.out9_0 _ y).symm) (Agree.nil _))).app i2
    · rintro y ⟨h, h'⟩
      have h2 : (y 2 : ℕ) < 128 := (y 2).isLt
      by_cases hy : (y 1 : ℕ) < 256 * n
      · obtain ⟨p, hp, hm⟩ := i3 y ⟨h, hy⟩
        exact ⟨p, List.mem_append_right _ hp, hm⟩
      · rcases h with h | h
        · refine ⟨_, List.mem_append_left _ (List.mem_cons_of_mem _ List.mem_cons_self), ?_⟩
          exact mem3 (inb := k0_off4_inb ⟨n, hk⟩) (by rw [off4]; simp; try omega) (by rw [off4]; simp; try omega) (by rw [off4]; simp; try omega)
        · refine ⟨_, List.mem_append_left _ List.mem_cons_self, ?_⟩
          exact mem3 (inb := k0_off5_inb ⟨n, hk⟩) (by rw [off5]; simp; try omega) (by rw [off5]; simp; try omega) (by rw [off5]; simp; try omega)
    · exact (Agree.cons (fun y => (x.scr_tile _ y).symm) (Agree.nil _)).app i4
    · intro y h'
      have h2 : (y 1 : ℕ) < 128 := (y 1).isLt
      by_cases hy : (y 0 : ℕ) < 256 * n
      · obtain ⟨p, hp, hm⟩ := i5 y hy
        exact ⟨p, List.mem_append_right _ hp, hm⟩
      · refine ⟨_, List.mem_append_left _ List.mem_cons_self, ?_⟩
        refine (Rect.mem_set_unit (inb := k0_off6_inb ⟨n, hk⟩)).2 fun a => ?_
        match a with
        | ⟨0, _⟩ => rw [off6]; simp; omega
        | ⟨1, _⟩ => rw [off6]; simp; omega

/-- The pieces of the second loop before trip `n`. -/
theorem loop2 (c : Dev nD) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) : ∀ n ≤ 16,
    Agree x.out9 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 0#32 (harg3.unread x.p1) (harg4.unread x.p2) (harg6.unread x.w) (harg13.unread x.scr) n) ∧
    Cover (fun y => ((y 0 : ℕ) = 1 ∨ (y 0 : ℕ) = 2) ∧ (y 1 : ℕ) < 256 * n) (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 0#32 (harg3.unread x.p1) (harg4.unread x.p2) (harg6.unread x.w) (harg13.unread x.scr) n) := by
  intro n
  induction n with
  | zero =>
    intro _
    exact ⟨Agree.nil _, fun y h => absurd h.2 (by omega)⟩
  | succ n ih =>
    intro hn
    obtain ⟨i2, i3⟩ := ih (by omega)
    have hk : n < k0_t2_loop.trips := by rw [trips2]; omega
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 0#32 (harg3.unread x.p1) (harg4.unread x.p2) (harg6.unread x.w) (harg13.unread x.scr) ⟨n, hk⟩
    rw [show pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 0#32 (harg3.unread x.p1) (harg4.unread x.p2) (harg6.unread x.w) (harg13.unread x.scr) (n + 1) = _ from e, trip2_pieces]
    refine ⟨?_, ?_⟩
    · exact (Agree.cons (fun y => (x.out9_2 _ y).symm) (Agree.cons (fun y => (x.out9_1 _ y).symm) (Agree.nil _))).app i2
    · rintro y ⟨h, h'⟩
      have h2 : (y 2 : ℕ) < 128 := (y 2).isLt
      by_cases hy : (y 1 : ℕ) < 256 * n
      · obtain ⟨p, hp, hm⟩ := i3 y ⟨h, hy⟩
        exact ⟨p, List.mem_append_right _ hp, hm⟩
      · rcases h with h | h
        · refine ⟨_, List.mem_append_left _ (List.mem_cons_of_mem _ List.mem_cons_self), ?_⟩
          exact mem3 (inb := k0_off10_inb ⟨n, hk⟩) (by rw [off10]; simp; try omega) (by rw [off10]; simp; try omega) (by rw [off10]; simp; try omega)
        · refine ⟨_, List.mem_append_left _ List.mem_cons_self, ?_⟩
          exact mem3 (inb := k0_off11_inb ⟨n, hk⟩) (by rw [off11]; simp; try omega) (by rw [off11]; simp; try omega) (by rw [off11]; simp; try omega)

/-- The scratch reads the same whatever it held before. -/
theorem scr_read (c : Dev nD) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) (f) :
    arg13.view.writes (Elt F) f ((st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) 16).2.2 ++ [⟨Rect.unit (s := S4104x128) ![4096, 0] S8x128.size inb_S4104x128_S8x128_4096_0, k0_pay35⟩]) =
      harg13.unread x.scr := by
  obtain ⟨-, -, -, i4, i5⟩ := x.loop1 c i arg1 harg1 arg2 harg2 arg3 harg3 arg4 harg4 arg5 harg5 arg6 harg6 arg7 harg7 arg8 harg8 arg9 harg9 arg10 harg10 arg11 harg11 arg12 harg12 arg13 harg13 16 le_rfl
  refine harg13.eq_unread (Agree.read (i4.app (Agree.cons (fun y => ?_) (Agree.nil _))) fun y _ => ?_)
  · have hj := (y 0).isLt
    change (y 0 : ℕ) < 8 at hj
    have h0 : (((Rect.unit (s := S4104x128) ![4096, 0] S8x128.size inb_S4104x128_S8x128_4096_0).emb y) 0 : ℕ) = 4096 + (y 0 : ℕ) := by
      show 4096 + 1 * (y 0 : ℕ) = _
      omega
    unfold scr
    rw [if_neg (by rw [h0]; omega)]
    refine congrArg k0_pay35 (ext2 ?_ ?_)
    · show (y 0 : ℕ) = _ % 8
      rw [h0]; omega
    · show (y 1 : ℕ) = 0 + 1 * (y 1 : ℕ)
      omega
  · by_cases hy : (y 0 : ℕ) < 4096
    · obtain ⟨p, hp, hm⟩ := i5 y (by omega)
      exact ⟨p, List.mem_append_left _ hp, hm⟩
    · refine ⟨⟨Rect.unit (s := S4104x128) ![4096, 0] S8x128.size inb_S4104x128_S8x128_4096_0, k0_pay35⟩, List.mem_append_right _ List.mem_cons_self, ?_⟩
      refine (Rect.mem_set_unit (inb := inb_S4104x128_S8x128_4096_0)).2 fun a => ?_
      have h0 : (y 0 : ℕ) < 4104 := (y 0).isLt
      have h1 : (y 1 : ℕ) < 128 := (y 1).isLt
      match a with
      | ⟨0, _⟩ => simp; omega
      | ⟨1, _⟩ => simp; omega

theorem out9_read (c : Dev nD) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) (f) :
    arg9.view.read (Elt F) (arg9.view.writes (Elt F) f ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 0#32 (harg3.unread x.p1) (harg4.unread x.p2) (harg6.unread x.w) (harg13.unread x.scr) 16) ++ (st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 k0_pay30 k0_pay31 k0_pay32 k0_pay33 (harg1.unread x.dy) (harg2.unread x.p0) (harg3.unread x.p1) (harg4.unread x.p2) (harg5.unread x.p3) (harg6.unread x.w) (harg7.unread x.b) (harg8.unread x.g) (k0_pay36, k0_pay36, k0_pay36, k0_pay36, k0_pay36) 16).2.1)) = x.out9 := by
  obtain ⟨-, i2, i3, -, -⟩ := x.loop1 c i arg1 harg1 arg2 harg2 arg3 harg3 arg4 harg4 arg5 harg5 arg6 harg6 arg7 harg7 arg8 harg8 arg9 harg9 arg10 harg10 arg11 harg11 arg12 harg12 arg13 harg13 16 le_rfl
  obtain ⟨j2, j3⟩ := x.loop2 c i arg1 harg1 arg2 harg2 arg3 harg3 arg4 harg4 arg5 harg5 arg6 harg6 arg7 harg7 arg8 harg8 arg9 harg9 arg10 harg10 arg11 harg11 arg12 harg12 arg13 harg13 16 le_rfl
  refine Agree.read (j2.app i2) fun y _ => ?_
  have h0 : (y 0 : ℕ) < 4 := (y 0).isLt
  have h1 : (y 1 : ℕ) < 4096 := (y 1).isLt
  by_cases h : (y 0 : ℕ) = 1 ∨ (y 0 : ℕ) = 2
  · obtain ⟨p, hp, hm⟩ := j3 y ⟨h, by omega⟩
    exact ⟨p, List.mem_append_left _ hp, hm⟩
  · obtain ⟨p, hp, hm⟩ := i3 y ⟨by omega, by omega⟩
    exact ⟨p, List.mem_append_right _ hp, hm⟩
end Blocks
end Cert.KernelIdeal.Conv
-- ==== Proof.Conv.Run.lean ====
module

public import proofs.«01_k».proof.Proof.Gen.KernelIdeal.Frame
public import proofs.«01_k».proof.Proof.Gen.KernelIdeal.Loops
public import proofs.«01_k».proof.Proof.Conv.Pieces

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem read_whole {sig : RefSig} {κ : Kind} {sp : Space} (v : View sig κ sp S8x128 .f32) (f) (G : Vec F S8x128 .f32) :
    v.read (Elt F) (v.writes (Elt F) f [⟨Rect.unit (s := S8x128) ![0, 0] S8x128.size inb_S8x128_S8x128_0_0, G⟩]) = G := by
  refine Agree.read (Agree.cons (fun y => congrArg G ?_) (Agree.nil _)) fun y _ => ⟨_, List.mem_cons_self, ?_⟩
  · refine Blocks.ext2 ?_ ?_
    · show (y 0 : ℕ) = 0 + 1 * (y 0 : ℕ)
      omega
    · show (y 1 : ℕ) = 0 + 1 * (y 1 : ℕ)
      omega
  · refine (Rect.mem_set_unit (inb := inb_S8x128_S8x128_0_0)).2 fun a => ?_
    have h0 : (y 0 : ℕ) < 8 := (y 0).isLt
    have h1 : (y 1 : ℕ) < 128 := (y 1).isLt
    match a with
    | ⟨0, _⟩ => simp; omega
    | ⟨1, _⟩ => simp; omega

theorem out10_read (x : Blocks F) {sig : RefSig} {κ : Kind} {sp : Space} {a} (ha : a = x.sums 16) (v : View sig κ sp S3x8x128 .f32) (f) :
    v.read (Elt F) (v.writes (Elt F) f [⟨Rect.unit (s := S3x8x128) ![2, 0, 0] S1x8x128.size inb_S3x8x128_S1x8x128_2_0_0, k0_pay44 a.2.2.1⟩,
      ⟨Rect.unit (s := S3x8x128) ![1, 0, 0] S1x8x128.size inb_S3x8x128_S1x8x128_1_0_0, k0_pay43 a.2.1⟩,
      ⟨Rect.unit (s := S3x8x128) ![0, 0, 0] S1x8x128.size inb_S3x8x128_S1x8x128_0_0_0, k0_pay42 a.1⟩]) = x.out10 := by
  subst ha
  have key : ∀ (n : ℕ) (inb) (j : S1x8x128.Idx),
      ((Rect.unit (s := S3x8x128) ![n, 0, 0] S1x8x128.size inb).emb j 0 : ℕ) = n ∧
      (ix3 0 ((Rect.unit (s := S3x8x128) ![n, 0, 0] S1x8x128.size inb).emb j 1) ((Rect.unit (s := S3x8x128) ![n, 0, 0] S1x8x128.size inb).emb j 2) : S1x8x128.Idx) = j := by
    intro n inb j
    have h0 : (j 0 : ℕ) < 1 := (j 0).isLt
    refine ⟨?_, Blocks.ext3 ?_ ?_ ?_⟩
    · show n + 1 * (j 0 : ℕ) = n
      omega
    · show 0 = (j 0 : ℕ)
      omega
    · show 0 + 1 * (j 1 : ℕ) = (j 1 : ℕ)
      omega
    · show 0 + 1 * (j 2 : ℕ) = (j 2 : ℕ)
      omega
  refine Agree.read (Agree.cons (fun y => ?_) (Agree.cons (fun y => ?_) (Agree.cons (fun y => ?_) (Agree.nil _)))) fun y _ => ?_
  · obtain ⟨h0, h1⟩ := key 2 inb_S3x8x128_S1x8x128_2_0_0 y
    unfold Blocks.out10
    simp only [h0]
    exact congrArg (k0_pay44 _) h1.symm
  · obtain ⟨h0, h1⟩ := key 1 inb_S3x8x128_S1x8x128_1_0_0 y
    unfold Blocks.out10
    simp only [h0]
    exact congrArg (k0_pay43 _) h1.symm
  · obtain ⟨h0, h1⟩ := key 0 inb_S3x8x128_S1x8x128_0_0_0 y
    unfold Blocks.out10
    simp only [h0]
    exact congrArg (k0_pay42 _) h1.symm
  · have h0 : (y 0 : ℕ) < 3 := (y 0).isLt
    have h1 : (y 1 : ℕ) < 8 := (y 1).isLt
    have h2 : (y 2 : ℕ) < 128 := (y 2).isLt
    have hm : ∀ (n : ℕ) (inb), (y 0 : ℕ) = n → y ∈ (Rect.unit (s := S3x8x128) ![n, 0, 0] S1x8x128.size inb).set := by
      intro n inb hn
      refine (Rect.mem_set_unit (inb := inb)).2 fun a => ?_
      match a with
      | ⟨0, _⟩ => simp; omega
      | ⟨1, _⟩ => simp; omega
      | ⟨2, _⟩ => simp; omega
    by_cases e2 : (y 0 : ℕ) = 2
    · exact ⟨_, List.mem_cons_self, hm 2 inb_S3x8x128_S1x8x128_2_0_0 e2⟩
    by_cases e1 : (y 0 : ℕ) = 1
    · exact ⟨_, List.mem_cons_of_mem _ List.mem_cons_self, hm 1 inb_S3x8x128_S1x8x128_1_0_0 e1⟩
    · exact ⟨_, List.mem_cons_of_mem _ (List.mem_cons_of_mem _ List.mem_cons_self), hm 0 inb_S3x8x128_S1x8x128_0_0_0 (by omega)⟩

set_option maxHeartbeats 4000000 in
theorem body_run (c : Dev nD) (E) (i : grid0.Coords) (arg1 : Memref sig .tc .vmem S4096x128 .bf16) (harg1 : arg1.IsWhole) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S3x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S4x4096x128 .bf16) (harg9 : arg9.IsWhole) (arg10 : Memref sig .tc .vmem S3x8x128 .f32) (harg10 : arg10.IsWhole) (arg11 : Memref sig .tc .vmem S8x128 .f32) (harg11 : arg11.IsWhole) (arg12 : Memref sig .tc .vmem S8x128 .f32) (harg12 : arg12.IsWhole) (arg13 : Memref sig .tc .vmem S4104x128 .f32) (harg13 : arg13.IsWhole) (x : Blocks F) (K : PUnit → sProp 𝕄) :
    iprop(owns (c : Thread nD τ) arg1 fullShare x.dy ∗ owns (c : Thread nD τ) arg2 fullShare x.p0 ∗ owns (c : Thread nD τ) arg3 fullShare x.p1 ∗ owns (c : Thread nD τ) arg4 fullShare x.p2 ∗ owns (c : Thread nD τ) arg5 fullShare x.p3 ∗ owns (c : Thread nD τ) arg6 fullShare x.w ∗ owns (c : Thread nD τ) arg7 fullShare x.b ∗ owns (c : Thread nD τ) arg8 fullShare x.g ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗
      (owns (c : Thread nD τ) arg1 fullShare x.dy ∗ owns (c : Thread nD τ) arg2 fullShare x.p0 ∗ owns (c : Thread nD τ) arg3 fullShare x.p1 ∗ owns (c : Thread nD τ) arg4 fullShare x.p2 ∗ owns (c : Thread nD τ) arg5 fullShare x.p3 ∗ owns (c : Thread nD τ) arg6 fullShare x.w ∗ owns (c : Thread nD τ) arg7 fullShare x.b ∗ owns (c : Thread nD τ) arg8 fullShare x.g ∗ owns (c : Thread nD τ) arg9 fullShare x.out9 ∗ owns (c : Thread nD τ) arg10 fullShare x.out10 ∗ owns (c : Thread nD τ) arg11 fullShare x.out11 ∗ owns (c : Thread nD τ) arg12 fullShare x.out12 ∗ (∃ d, owns (c : Thread nD τ) arg13 fullShare d) -∗ K ⟨⟩))
    ⊢ wp frame (wpE (defs₀ (F := F)) Variants.none c none) E (cc0_convmix_bwd_0 i arg1 harg1 arg2 harg2 arg3 harg3 arg4 harg4 arg5 harg5 arg6 harg6 arg7 harg7 arg8 harg8 arg9 harg9 arg10 harg10 arg11 harg11 arg12 harg12 arg13 harg13) K := by
  simp only [cc0_convmix_bwd_0_eq_skeleton]
  unfold cc0_convmix_bwd_0_skel
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%ds0, %fs0, -, HS0⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact (congrArg (fun X => arg9.view.read (Elt F) (arg9.view.writes (Elt F) f8 (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 0#32 (harg3.unread x.p1) (harg4.unread x.p2) (harg6.unread x.w) X 16 ++ _))) (x.scr_read c i arg1 harg1 arg2 harg2 arg3 harg3 arg4 harg4 arg5 harg5 arg6 harg6 arg7 harg7 arg8 harg8 arg9 harg9 arg10 harg10 arg11 harg11 arg12 harg12 arg13 harg13 fs0)).trans (x.out9_read c i arg1 harg1 arg2 harg2 arg3 harg3 arg4 harg4 arg5 harg5 arg6 harg6 arg7 harg7 arg8 harg8 arg9 harg9 arg10 harg10 arg11 harg11 arg12 harg12 arg13 harg13 _)
  isplitl [H9]
  · iexists _; isplitr; swap; · iexact H9
    ipureintro; sl_open_run; dsimp only; exact out10_read x (x.loop1 c i arg1 harg1 arg2 harg2 arg3 harg3 arg4 harg4 arg5 harg5 arg6 harg6 arg7 harg7 arg8 harg8 arg9 harg9 arg10 harg10 arg11 harg11 arg12 harg12 arg13 harg13 16 le_rfl).1 _ _
  isplitl [H10]
  · iexists _; isplitr; swap; · iexact H10
    ipureintro; sl_open_run; dsimp only; exact (read_whole _ _ _).trans (congrArg (fun a => a.2.2.2.1) (x.loop1 c i arg1 harg1 arg2 harg2 arg3 harg3 arg4 harg4 arg5 harg5 arg6 harg6 arg7 harg7 arg8 harg8 arg9 harg9 arg10 harg10 arg11 harg11 arg12 harg12 arg13 harg13 16 le_rfl).1)
  isplitl [H11]
  · iexists _; isplitr; swap; · iexact H11
    ipureintro; sl_open_run; dsimp only; exact (read_whole _ _ _).trans (congrArg (fun a => a.2.2.2.2) (x.loop1 c i arg1 harg1 arg2 harg2 arg3 harg3 arg4 harg4 arg5 harg5 arg6 harg6 arg7 harg7 arg8 harg8 arg9 harg9 arg10 harg10 arg11 harg11 arg12 harg12 arg13 harg13 16 le_rfl).1)
  · iexists _, _; isplitr; swap; · iexact HS0
    ipureintro; rfl

end Cert.KernelIdeal.Conv
-- ==== Proof.Conv.Frame.lean ====
module

public import proofs.«01_k».proof.Proof.Gen.KernelIdeal.Frame
public import proofs.«01_k».proof.Proof.Gen.KernelIdeal.Loops
public import proofs.«01_k».proof.Proof.Conv.Run
public import Idealize.ShloMosaic.Lib.Claim

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of grid point `t`. -/
def blocks (c : Dev nD) (t : Fin cfg0.N) : Blocks F where
  dy := iblk m c 0 t
  p0 := iblk m c 1 t
  p1 := iblk m c 2 t
  p2 := iblk m c 3 t
  p3 := iblk m c 4 t
  w := iblk m c 5 t
  b := iblk m c 6 t
  g := iblk m c 7 t

/-- What each window's buffer holds after the body, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blocks m c t).out9
    | ⟨9, _⟩ => (blocks m c t).out10
    | ⟨10, _⟩ => (blocks m c t).out11
    | ⟨11, _⟩ => (blocks m c t).out12
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (blocks m c t).out9 := by dsimp only [dats]
theorem after_9 (c : Dev nD) (t : Fin cfg0.N) : (dats m 0 c).after 9 t = (blocks m c t).out10 := by dsimp only [dats]
theorem after_10 (c : Dev nD) (t : Fin cfg0.N) : (dats m 0 c).after 10 t = (blocks m c t).out11 := by dsimp only [dats]
theorem after_11 (c : Dev nD) (t : Fin cfg0.N) : (dats m 0 c).after 11 t = (blocks m c t).out12 := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

abbrev st0 (t : Fin cfg0.N) : Memref sig .tc .vmem S4096x128 .bf16 := win0_0.stage (cfg0.slots t 0)
abbrev st1 (t : Fin cfg0.N) : Memref sig .tc .vmem S1x4096x128 .bf16 := win0_1.stage (cfg0.slots t 1)
abbrev st2 (t : Fin cfg0.N) : Memref sig .tc .vmem S1x4096x128 .bf16 := win0_2.stage (cfg0.slots t 2)
abbrev st3 (t : Fin cfg0.N) : Memref sig .tc .vmem S1x4096x128 .bf16 := win0_3.stage (cfg0.slots t 3)
abbrev st4 (t : Fin cfg0.N) : Memref sig .tc .vmem S1x4096x128 .bf16 := win0_4.stage (cfg0.slots t 4)
abbrev st5 (t : Fin cfg0.N) : Memref sig .tc .vmem S3x128 .f32 := win0_5.stage (cfg0.slots t 5)
abbrev st6 (t : Fin cfg0.N) : Memref sig .tc .vmem S1x128 .f32 := win0_6.stage (cfg0.slots t 6)
abbrev st7 (t : Fin cfg0.N) : Memref sig .tc .vmem S1x128 .f32 := win0_7.stage (cfg0.slots t 7)
abbrev st8 (t : Fin cfg0.N) : Memref sig .tc .vmem S4x4096x128 .bf16 := win0_8.stage (cfg0.slots t 8)
abbrev st9 (t : Fin cfg0.N) : Memref sig .tc .vmem S3x8x128 .f32 := win0_9.stage (cfg0.slots t 9)
abbrev st10 (t : Fin cfg0.N) : Memref sig .tc .vmem S8x128 .f32 := win0_10.stage (cfg0.slots t 10)
abbrev st11 (t : Fin cfg0.N) : Memref sig .tc .vmem S8x128 .f32 := win0_11.stage (cfg0.slots t 11)

theorem inv_eq (c : Dev nD) : (Pipeline.ΦA spec0 c : sProp 𝕄)
    = iprop(iprop((∃ d, owns (c : Thread nD τ) (Memref.whole cc0_scratch0 : Memref sig .tc .vmem S4104x128 .f32) fullShare d)) ∗ (∃ r, prngReg c r)) := by
  unfold Pipeline.ΦA; rw [scopedRest0_eq]; simp only [owns_whole]; try rfl

/-- What the body is called with, and what it returns. -/
def given (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d)))
def returned (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t))

set_option maxHeartbeats 1200000 in
theorem body_sound (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  rw [show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c Set.univ (grid0.coords t) _ _ _ _ _ _ _ _ _ _ _ _ _ _ _ _ _ _ _ _ _ _ _ _ _ _ (blocks m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [HS]; · iexact HS
  iintro ⟨H0, H1, H2, H3, H4, H5, H6, H7, H8, H9, H10, H11, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-! ## The run, and the frame -/

set_option backward.isDefEq.respectTransparency.types false in
set_option maxHeartbeats 800000 in
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- Every execution ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_quiescent m ρ))

end Cert.KernelIdeal.Conv
-- ==== Proof.Conv.KFrame.lean ====
module

public import proofs.«01_k».proof.Defs
public import proofs.«01_k».proof.Proof.Gen.Kernel
public import proofs.«01_k».proof.Proof.Conv.Frame
public import proofs.«01_k».proof.Proof.Gen.ReferenceIdeal.Run
public import proofs.«01_k».proof.Proof.Gen.Pre_finite
public import Idealize.ShloMosaic.Adequacy
public import Idealize.ShloMosaic.Init

@[expose] public section

set_option maxRecDepth 16384

noncomputable section

namespace Cert.Proof.Conv

open Idealize.ShloMosaic Idealize.SL.Sem

attribute [local instance] Cert.Kernel.Gen.facts Cert.KernelIdeal.Gen.facts Cert.ReferenceIdeal.Gen.facts Cert.Pre_finite.Gen.facts

/-- The reference ends, its arguments as they were. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
theorem frame_ref_pre : Cert.quiescent_ReferenceIdeal_pre_finite := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)
/-- The kernel over the reals ends, its arguments as they were and its semaphores at zero. -/
theorem frame_ideal : Cert.quiescent_KernelIdeal := fun m ρ _ => Cert.KernelIdeal.Conv.frame m ρ
theorem frame_ideal_pre : Cert.quiescent_KernelIdeal_pre_finite := fun m ρ _ => Cert.KernelIdeal.Conv.frame m ρ
/-! The kernel over machine floats has the same text: its body table and its launch are the ideal one's. -/

theorem part_eq : @Cert.Kernel.cc0_convmix_bwd_0 Bits _ Cert.Kernel.Gen.facts = @Cert.KernelIdeal.cc0_convmix_bwd_0 Bits _ Cert.KernelIdeal.Gen.facts := rfl
theorem defs0_eq : (Cert.Kernel.defs₀ (F := Bits)) = Cert.KernelIdeal.defs₀ (F := Bits) := by
  unfold Cert.Kernel.defs₀ Cert.KernelIdeal.defs₀
  refine congrArg Defs.onTc ?_
  funext l x
  match l, x with
  | ⟨0, _⟩, (t, s) => rfl
  | ⟨_ + 1, h⟩, _ => exact absurd h (Nat.not_lt.2 (Nat.le_add_left _ _))
theorem cfgs_eq : (Cert.Kernel.pcfgs (F := Bits)) = Cert.KernelIdeal.pcfgs (F := Bits) := rfl
theorem defs_eq : (Cert.Kernel.defs (F := Bits)) = Cert.KernelIdeal.defs (F := Bits) := by
  show Pipeline.defs (Cert.KernelIdeal.pcfgs (F := Bits)) (Cert.Kernel.defs₀ (F := Bits)) = _
  rw [defs0_eq]; rfl

/-- The kernel over machine floats ends, its arguments as they were and its semaphores at zero. -/
theorem frame_kernel : Cert.quiescent_Kernel := fun m ρ _ => by
  rw [defs_eq]
  exact (θ_run Cert.KernelIdeal.defs _ _).mono (fun _ h => h) (Cert.KernelIdeal.Conv.frame (F := Bits) m ρ)

end Cert.Proof.Conv
-- ==== Proof.Conv.Model.lean ====
module

public import Idealize.ShloMosaic.Lib.Pointwise

@[expose] public section

noncomputable section

namespace Cert.Conv

open Idealize.ShloMosaic

/-! # The block's gradients over the real numbers

A row is a token, a lane a channel. Everything is a function of two natural numbers, so that a block of lanes and the
whole array are the same functions with the lanes counted from another start. -/

/-- The entries, as real numbers: the cotangent, the four gates, the filter, its bias and the norm's gain. -/
structure Model where
  dy : ℕ → ℕ → ℝ
  p0 : ℕ → ℕ → ℝ
  p1 : ℕ → ℕ → ℝ
  p2 : ℕ → ℕ → ℝ
  p3 : ℕ → ℕ → ℝ
  w : ℕ → ℕ → ℝ
  b : ℕ → ℝ
  g : ℕ → ℝ

/-- The small number added to the mean square. -/
def eps : ℝ := (Ideal.ofBits .f32 0x358637BD#32).toReal

theorem eps_val : Ideal.ofBits .f32 0x358637BD#32 = ((8796093 * 2 ^ (-43 : ℤ) : ℝ) : EReal) := by
  simp [Ideal.ofBits, Ideal.ieee, -EReal.coe_mul]
theorem eps_coe : Ideal.ofBits .f32 0x358637BD#32 = (eps : EReal) := by
  rw [eps, eps_val, EReal.toReal_coe]
theorem eps_pos : 0 < eps := by
  rw [eps, eps_val, EReal.toReal_coe]; positivity

/-- The mean over the group of 64 lanes that lane `l` is in. -/
def mean (f : ℕ → ℝ) (l : ℕ) : ℝ := (∑ k : Fin 64, f (64 * (l / 64) + k)) / 64

namespace Model
variable (M : Model) (r l : ℕ)

/-- The gated input, and the same `j` rows earlier. -/
def u : ℝ := M.p1 r l * M.p2 r l
def sh (j : ℕ) : ℝ := if j ≤ r then M.u (r - j) l else 0
/-- The convolution's result. -/
def cv : ℝ := ((M.b l + M.sh r l 2 * M.w 0 l) + M.sh r l 1 * M.w 1 l) + M.u r l * M.w 2 l
def yv : ℝ := M.p0 r l * M.cv r l
/-- The reciprocal root of the group's mean square, and the normalised product. -/
def rs : ℝ := (√(mean (fun l => M.yv r l * M.yv r l) l + eps))⁻¹
def nv : ℝ := M.yv r l * M.rs r l
/-- The last gate's logistic function, and the gate times it. -/
def sg : ℝ := 1 / (1 + Real.exp (-M.p3 r l))
def sil : ℝ := M.p3 r l * M.sg r l
/-- The gradients: of the normalised product, of the product, of the convolution's result, of the gates. -/
def dn : ℝ := M.dy r l * M.g l * M.sil r l
def dyv : ℝ := M.rs r l * (M.dn r l - M.nv r l * mean (fun l => M.dn r l * M.nv r l) l)
def dc : ℝ := M.dyv r l * M.p0 r l
def d0 : ℝ := M.dyv r l * M.cv r l
def d3 : ℝ := M.dy r l * M.nv r l * M.g l * (M.sg r l * (1 + M.p3 r l * (1 - M.sg r l)))
/-- The gradient of the convolution's result `j` rows later. -/
def nx (j : ℕ) : ℝ := if r + j < 4096 then M.dc (r + j) l else 0
def du : ℝ := (M.dc r l * M.w 2 l + M.nx r l 1 * M.w 1 l) + M.nx r l 2 * M.w 0 l
def d1 : ℝ := M.du r l * M.p2 r l
def d2 : ℝ := M.du r l * M.p1 r l
/-- What the filter's, the bias's and the gain's gradients sum over the rows. -/
def e0 : ℝ := M.dc r l * M.sh r l 2
def e1 : ℝ := M.dc r l * M.sh r l 1
def e2 : ℝ := M.dc r l * M.u r l
def eg : ℝ := M.dy r l * M.nv r l * M.sil r l

/-- The gradient of gate `s`. -/
def dp (s r l : ℕ) : ℝ :=
  if s = 0 then M.d0 r l else if s = 1 then M.d1 r l else if s = 2 then M.d2 r l else M.d3 r l
/-- What tap `j`'s gradient sums. -/
def ew (j r l : ℕ) : ℝ := if j = 0 then M.e0 r l else if j = 1 then M.e1 r l else M.e2 r l

/-- The same with the lanes counted from `o`. -/
def shift (o : ℕ) : Model where
  dy r l := M.dy r (o + l)
  p0 r l := M.p0 r (o + l)
  p1 r l := M.p1 r (o + l)
  p2 r l := M.p2 r (o + l)
  p3 r l := M.p3 r (o + l)
  w j l := M.w j (o + l)
  b l := M.b (o + l)
  g l := M.g (o + l)

theorem mean_shift (f : ℕ → ℝ) (t : ℕ) : mean (fun l => f (128 * t + l)) l = mean f (128 * t + l) := by
  unfold mean
  congr 1
  refine Finset.sum_congr rfl fun k _ => congrArg f ?_
  show 128 * t + (64 * (l / 64) + (k : ℕ)) = 64 * ((128 * t + l) / 64) + k
  omega

variable (t : ℕ)
theorem cv_shift : (M.shift (128 * t)).cv r l = M.cv r (128 * t + l) := rfl
theorem yv_shift : (M.shift (128 * t)).yv r l = M.yv r (128 * t + l) := rfl
theorem rs_shift : (M.shift (128 * t)).rs r l = M.rs r (128 * t + l) := by
  unfold rs
  rw [← mean_shift]
  rfl
theorem nv_shift : (M.shift (128 * t)).nv r l = M.nv r (128 * t + l) := by
  unfold nv
  rw [rs_shift, yv_shift]
theorem sil_shift : (M.shift (128 * t)).sil r l = M.sil r (128 * t + l) := rfl
theorem dn_shift : (M.shift (128 * t)).dn r l = M.dn r (128 * t + l) := rfl
theorem dyv_shift : (M.shift (128 * t)).dyv r l = M.dyv r (128 * t + l) := by
  unfold dyv
  rw [← mean_shift, rs_shift, nv_shift]
  simp only [nv_shift, dn_shift]
theorem dc_shift : (M.shift (128 * t)).dc r l = M.dc r (128 * t + l) := by
  unfold dc
  rw [dyv_shift]; rfl
theorem d0_shift : (M.shift (128 * t)).d0 r l = M.d0 r (128 * t + l) := by
  unfold d0
  rw [dyv_shift]; rfl
theorem d3_shift : (M.shift (128 * t)).d3 r l = M.d3 r (128 * t + l) := by
  unfold d3
  rw [nv_shift]; rfl
theorem du_shift : (M.shift (128 * t)).du r l = M.du r (128 * t + l) := by
  unfold du nx
  simp only [dc_shift]; rfl
theorem d1_shift : (M.shift (128 * t)).d1 r l = M.d1 r (128 * t + l) := by
  unfold d1
  rw [du_shift]; rfl
theorem d2_shift : (M.shift (128 * t)).d2 r l = M.d2 r (128 * t + l) := by
  unfold d2
  rw [du_shift]; rfl
theorem e0_shift : (M.shift (128 * t)).e0 r l = M.e0 r (128 * t + l) := by
  unfold e0
  rw [dc_shift]; rfl
theorem e1_shift : (M.shift (128 * t)).e1 r l = M.e1 r (128 * t + l) := by
  unfold e1
  rw [dc_shift]; rfl
theorem e2_shift : (M.shift (128 * t)).e2 r l = M.e2 r (128 * t + l) := by
  unfold e2
  rw [dc_shift]; rfl
theorem eg_shift : (M.shift (128 * t)).eg r l = M.eg r (128 * t + l) := by
  unfold eg
  rw [nv_shift]; rfl

theorem ms_pos : 0 < mean (fun l => M.yv r l * M.yv r l) l + eps := by
  have : 0 ≤ mean (fun l => M.yv r l * M.yv r l) l :=
    div_nonneg (Finset.sum_nonneg fun k _ => mul_self_nonneg _) (by norm_num)
  linarith [eps_pos]
end Model

/-- A sum of real numbers, taken among the extended ones. -/
theorem coe_sum {n : ℕ} (f : Fin n → ℝ) : (∑ k, (f k : EReal)) = ((∑ k, f k : ℝ) : EReal) := by
  induction n with
  | zero => simp
  | succ n ih => rw [Fin.sum_univ_castSucc, Fin.sum_univ_castSucc, ih, EReal.coe_add]

theorem rsqrt_pos {a : ℝ} (h : 0 < a) : Ideal.rsqrt (a : EReal) = (((√a)⁻¹ : ℝ) : EReal) := by
  rw [Ideal.rsqrt_coe, if_neg (not_lt.2 h.le), if_neg h.ne']

end Cert.Conv
-- ==== Proof.Conv.TileValue.lean ====
module

public import proofs.«01_k».proof.Proof.Gen.KernelIdeal.Frame
public import proofs.«01_k».proof.Proof.Gen.KernelIdeal.Loops
public import proofs.«01_k».proof.Proof.Conv.Tile
public import proofs.«01_k».proof.Proof.Conv.Model

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Conv

/-! # What the body computes, over the real numbers

The blocks of one grid point hold real numbers; then every tile that a trip computes is the model's. -/

/-- The blocks hold the model's entries. -/
structure Reads (x : Blocks Ideal) (M : Model) : Prop where
  dy : ∀ (r : Fin 4096) (l : Fin 128), x.dy (ix2 r l) = (M.dy r l : EReal)
  p0 : ∀ (r : Fin 4096) (l : Fin 128), x.p0 (ix3 0 r l) = (M.p0 r l : EReal)
  p1 : ∀ (r : Fin 4096) (l : Fin 128), x.p1 (ix3 0 r l) = (M.p1 r l : EReal)
  p2 : ∀ (r : Fin 4096) (l : Fin 128), x.p2 (ix3 0 r l) = (M.p2 r l : EReal)
  p3 : ∀ (r : Fin 4096) (l : Fin 128), x.p3 (ix3 0 r l) = (M.p3 r l : EReal)
  w : ∀ (j : Fin 3) (l : Fin 128), x.w (ix2 j l) = (M.w j l : EReal)
  b : ∀ l : Fin 128, x.b (ix2 0 l) = (M.b l : EReal)
  g : ∀ l : Fin 128, x.g (ix2 0 l) = (M.g l : EReal)

/-! ## The loads -/

section loads
variable (k : Fin k0_t1_loop.trips)

theorem row_lt (i : Fin 256) : 256 * k.val + i.val < 4096 := by
  have := k.isLt.trans_eq trips1
  omega
theorem rows_at {X : Vec Ideal S1x4096x128 .bf16} {f : ℕ → ℕ → ℝ} (h : ∀ (r : Fin 4096) (l : Fin 128), X (ix3 0 r l) = (f r l : EReal))
    (i : Fin 256) (l : Fin 128) : rows X k (ix3 0 i l) = (f (256 * k.val + i) l : EReal) := by
  refine Eq.trans (congrArg X (Blocks.ext3 ?_ ?_ ?_)) (h ⟨256 * k.val + i, row_lt k i⟩ l)
  · show k0_off1 k 0 + 1 * 0 = 0
    rw [off1]; rfl
  · show k0_off1 k 1 + 1 * (i : ℕ) = 256 * k.val + i
    rw [off1]; simp
  · show k0_off1 k 2 + 1 * (l : ℕ) = l
    rw [off1]; simp
theorem prev_at {X : Vec Ideal S1x4096x128 .bf16} {f : ℕ → ℕ → ℝ} (h : ∀ (r : Fin 4096) (l : Fin 128), X (ix3 0 r l) = (f r l : EReal))
    (i : Fin 16) (l : Fin 128) : prev X k (ix3 0 i l) = (f (256 * k.val - 16 + i) l : EReal) := by
  have hk := k.isLt.trans_eq trips1
  refine Eq.trans (congrArg X (Blocks.ext3 ?_ ?_ ?_)) (h ⟨256 * k.val - 16 + i, by omega⟩ l)
  · show k0_off2 k 0 + 1 * 0 = 0
    rw [off2]; rfl
  · show k0_off2 k 1 + 1 * (i : ℕ) = 256 * k.val - 16 + i
    rw [off2]; simp
  · show k0_off2 k 2 + 1 * (l : ℕ) = l
    rw [off2]; simp
end loads

/-- A choice by the number of a row. -/
theorem sel_eq {α : Type} {n c : ℕ} (hn : n < 256) (hc : c < 256) (a b : α) :
    Scalar.select (IntOp.cmpi .eq (BitVec.ofNat 32 n) (BitVec.ofNat 32 c)) a b = if n = c then a else b := by
  have e : BitVec.ofNat 32 n = BitVec.ofNat 32 c ↔ n = c := by
    constructor
    · intro e
      have := congrArg BitVec.toNat e
      simp only [BitVec.toNat_ofNat] at this
      omega
    · rintro rfl; rfl
  by_cases h : n = c
  · subst h
    simp [Scalar.select, IntOp.cmpi]
  · have h' : (BitVec.ofNat 32 n == BitVec.ofNat 32 c) = false := by simpa using mt e.1 h
    simp [Scalar.select, IntOp.cmpi, h, h']

/-- The group of 64 lanes that a lane is in, as the body counts it. -/
theorem group_of : ∀ a : Fin 128,
    (Scalar.select
          (IntOp.andi
            (IntOp.cmpi CmpIPredicate.ne
              (IntOp.subi (BitVec.setWidth 32 (IntOp.cmpi CmpIPredicate.sgt (BitVec.ofNat 32 ↑a) 0#32))
                (BitVec.setWidth 32 (IntOp.cmpi CmpIPredicate.slt (BitVec.ofNat 32 ↑a) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 ↑a) 64#32) 0#32))
          (IntOp.subi (IntOp.divsi ArithUnit.vector (BitVec.ofNat 32 ↑a) 64#32) 1#32)
          (IntOp.divsi ArithUnit.vector (BitVec.ofNat 32 ↑a) 64#32)) = BitVec.ofNat 32 ((a : ℕ) / 64) := by decide +kernel

/-- The product with the averaging matrix is the group's mean. -/
theorem avg_sum (f : ℕ → ℝ) (l : Fin 128) :
    (∑ a : Fin 128, f a * (if (a : ℕ) / 64 = l / 64 then 1 / 64 else 0)) = mean f l := by
  have e := Fin.sum_univ_tiles 2 64 rfl (fun a : Fin 128 => f a * (if (a : ℕ) / 64 = l / 64 then (1 / 64 : ℝ) else 0))
  rw [e, Fin.sum_univ_two]
  have t0 : ∀ t : Fin 64, (((0 : Fin 2) : ℕ) * 64 + (t : ℕ)) / 64 = 0 := fun t => by simp
  have t1 : ∀ t : Fin 64, (((1 : Fin 2) : ℕ) * 64 + (t : ℕ)) / 64 = 1 := fun t => by simp
  simp only [t0, t1]
  unfold mean
  have hl : (l : ℕ) / 64 = 0 ∨ (l : ℕ) / 64 = 1 := by omega
  rcases hl with hl | hl
  · rw [hl]
    simp [Finset.sum_mul, div_eq_mul_inv]
  · rw [hl]
    simp [Finset.sum_mul, div_eq_mul_inv]

/-- The flag that is zero in the first trip and one in every other. -/
theorem later : ∀ k : Fin k0_t1_loop.trips,
    (Scalar.extui (Scalar.cmpi .sgt (Scf.iv 0#32 1#32 k) 0#32) : BitVec 32).toInt = if k.val = 0 then 0 else 1 := by decide +kernel

variable {x : Blocks Ideal} {M : Model} (h : Reads x M) (k : Fin k0_t1_loop.trips)
include h

theorem tap0_at (l : Fin 128) : tap0 x.w (ix2 0 l) = (M.w 0 l : EReal) :=
  Eq.trans (congrArg x.w (Blocks.ext2 (j := ix2 0 l) rfl (show 0 + 1 * (l : ℕ) = l by omega))) (h.w 0 l)
theorem tap1_at (l : Fin 128) : tap1 x.w (ix2 0 l) = (M.w 1 l : EReal) :=
  Eq.trans (congrArg x.w (Blocks.ext2 (j := ix2 1 l) rfl (show 0 + 1 * (l : ℕ) = l by omega))) (h.w 1 l)
theorem tap2_at (l : Fin 128) : tap2 x.w (ix2 0 l) = (M.w 2 l : EReal) :=
  Eq.trans (congrArg x.w (Blocks.ext2 (j := ix2 2 l) rfl (show 0 + 1 * (l : ℕ) = l by omega))) (h.w 2 l)
theorem bias_at (l : Fin 128) : row1 x.b (ix2 0 l) = (M.b l : EReal) :=
  Eq.trans (congrArg x.b (Blocks.ext2 (j := ix2 0 l) rfl (show 0 + 1 * (l : ℕ) = l by omega))) (h.b l)
theorem gain_at (l : Fin 128) : x.gain (ix2 0 l) = (M.g l : EReal) := by
  refine Eq.trans ?_ (Eq.trans (congrArg x.g (Blocks.ext2 (i := ix2 0 l) rfl rfl)) (h.g l))
  unfold Blocks.gain
  pointwise [k0_pay17]
  exact congrArg x.g (Blocks.ext2 rfl (show 0 + 1 * (l : ℕ) = l by omega))

/-! ## The convolution -/

theorem u_at (i : Fin 256) (l : Fin 128) : x.u k (ix2 i l) = (M.u (256 * k.val + i) l : EReal) := by
  unfold Blocks.u
  pointwise [k0_pay3]
  rw [rows_at k h.p1, rows_at k h.p2, Model.u, EReal.coe_mul]

theorem prev_u (i : Fin 16) (l : Fin 128) :
    k0_pay4 (F := Ideal) 0#32 1#32 k (prev x.p1 k) (prev x.p2 k) (ix2 i l)
      = ((if k.val = 0 then 0 else M.u (256 * k.val - 16 + i) l : ℝ) : EReal) := by
  pointwise [k0_pay4]
  rw [prev_at k h.p1, prev_at k h.p2, later, Model.u]
  split <;> simp

theorem pa_at (l : Fin 128) : x.pa k (ix2 0 l) = ((if k.val = 0 then 0 else M.u (256 * k.val - 1) l : ℝ) : EReal) := by
  unfold Blocks.pa k0_pay5
  pointwise
  refine (prev_u h k 15 l).trans ?_
  split
  · rfl
  · rw [show 256 * k.val - 16 + ((15 : Fin 16) : ℕ) = 256 * k.val - 1 by simp; omega]
theorem pb_at (l : Fin 128) : x.pb k (ix2 0 l) = ((if k.val = 0 then 0 else M.u (256 * k.val - 2) l : ℝ) : EReal) := by
  unfold Blocks.pb k0_pay6
  pointwise
  refine (prev_u h k 14 l).trans ?_
  split
  · rfl
  · rw [show 256 * k.val - 16 + ((14 : Fin 16) : ℕ) = 256 * k.val - 2 by simp; omega]

theorem u1_at (i : Fin 256) (l : Fin 128) : x.u1 k (ix2 i l) = (M.sh (256 * k.val + i) l 1 : EReal) := by
  unfold Blocks.u1 k0_pay7
  pointwise
  rw [sel_eq i.isLt (by norm_num : 0 < 256)]
  unfold Model.sh
  by_cases hi : (i : ℕ) = 0
  · rw [if_pos hi]
    refine (pa_at h k l).trans ?_
    by_cases hk : k.val = 0
    · rw [if_pos hk, if_neg (by omega)]
    · rw [if_neg hk, if_pos (by omega), hi]; rfl
  · rw [if_neg hi, if_pos (by omega)]
    refine (u_at h k ⟨(i + 256 - 1) % 256, by omega⟩ l).trans ?_
    rw [show 256 * k.val + (i + 256 - 1) % 256 = 256 * k.val + i - 1 by omega]

theorem u2_at (i : Fin 256) (l : Fin 128) : x.u2 k (ix2 i l) = (M.sh (256 * k.val + i) l 2 : EReal) := by
  unfold Blocks.u2 k0_pay11 k0_pay8 k0_pay9 Blocks.rot k0_pay10
  pointwise
  rw [sel_eq i.isLt (by norm_num : 0 < 256), sel_eq i.isLt (by norm_num : 1 < 256), pa_at h k l, pb_at h k l]
  unfold Model.sh
  by_cases hk : k.val = 0
  · by_cases hi : (i : ℕ) = 0
    · rw [if_pos hi, if_pos hk, if_neg (by omega)]
    by_cases hj : (i : ℕ) = 1
    · rw [if_neg hi, if_pos hj, if_pos hk, if_neg (by omega)]
    rw [if_neg hi, if_neg hj, if_pos (by omega)]
    refine (u_at h k ⟨(i + 256 - 2) % 256, by omega⟩ l).trans ?_
    rw [show 256 * k.val + (i + 256 - 2) % 256 = 256 * k.val + i - 2 by omega]
  · rw [if_pos (show 2 ≤ 256 * k.val + i by omega)]
    by_cases hi : (i : ℕ) = 0
    · rw [if_pos hi, if_neg hk, hi]; rfl
    by_cases hj : (i : ℕ) = 1
    · rw [if_neg hi, if_pos hj, if_neg hk, show 256 * k.val + (i : ℕ) - 2 = 256 * k.val - 1 by omega]
    rw [if_neg hi, if_neg hj]
    refine (u_at h k ⟨(i + 256 - 2) % 256, by omega⟩ l).trans ?_
    rw [show 256 * k.val + (i + 256 - 2) % 256 = 256 * k.val + i - 2 by omega]

theorem cv_at (i : Fin 256) (l : Fin 128) : x.cv k (ix2 i l) = (M.cv (256 * k.val + i) l : EReal) := by
  unfold Blocks.cv k0_pay12
  pointwise
  have e := u2_at h k i l
  unfold Blocks.u2 at e
  rw [e, u1_at h, u_at h, bias_at h, tap0_at h, tap1_at h, tap2_at h]
  unfold Model.cv
  norm_cast

theorem cb_at (i : Fin 256) (l : Fin 128) : x.cb k (ix2 i l) = (M.p0 (256 * k.val + i) l : EReal) := by
  unfold Blocks.cb k0_pay13
  pointwise
  exact rows_at k h.p0 i l
theorem zg_at (i : Fin 256) (l : Fin 128) : x.zg k (ix2 i l) = (M.p3 (256 * k.val + i) l : EReal) := by
  unfold Blocks.zg k0_pay16
  pointwise
  exact rows_at k h.p3 i l
theorem ct_at (i : Fin 256) (l : Fin 128) : x.ct k (ix2 i l) = (M.dy (256 * k.val + i) l : EReal) := by
  unfold Blocks.ct k0_pay14
  refine Eq.trans ?_ (h.dy ⟨256 * k.val + i, row_lt k i⟩ l)
  refine congrArg x.dy (Blocks.ext2 (j := ix2 ⟨256 * k.val + i, row_lt k i⟩ l) ?_ ?_)
  · show k0_off3 k 0 + 1 * (i : ℕ) = 256 * k.val + i
    rw [off3]; simp
  · show k0_off3 k 1 + 1 * (l : ℕ) = l
    rw [off3]; simp

/-! ## The averaging matrix -/

omit h in
theorem avg_at (a b : Fin 128) : Blocks.avg (F := Ideal) (ix2 a b) = ((if (a : ℕ) / 64 = b / 64 then 1 / 64 else 0 : ℝ) : EReal) := by
  unfold Blocks.avg k0_pay34 k0_pay30 k0_pay31 k0_pay32 k0_pay33
  pointwise
  rw [group_of, group_of, sel_eq (by omega) (by omega)]
  split
  · simp [Ideal.ofBits, Ideal.ieee, -EReal.coe_mul]
    norm_num
  · simp

/-! ## The norm's gradient -/

theorem rs_at (i : Fin 256) (l : Fin 128) : x.rs k (ix2 i l) = (M.rs (256 * k.val + i) l : EReal) := by
  unfold Blocks.rs k0_pay18 k0_pay15
  pointwise
  have e : ∀ a : Fin 128, k0_pay13 (rows x.p0 k) (ix2 i a)
      * k0_pay12 (x.u k) (x.pa k) (x.pb k) (x.u1 k) k0_pay8 k0_pay9 (x.rot k) (row1 x.b) (tap0 x.w) (tap1 x.w) (tap2 x.w) (ix2 i a)
        = (M.yv (256 * k.val + i) a : EReal) := fun a => by
    refine Eq.trans (congrArg₂ (fun a b : EReal => a * b) (cb_at h k i a) (cv_at h k i a)) ?_
    rw [Model.yv, EReal.coe_mul]
  simp only [e, avg_at]
  rw [eps_coe]
  have hs : (∑ a : Fin 128, (M.yv (256 * k.val + i) a : EReal) * (M.yv (256 * k.val + i) a : EReal)
      * ((if (a : ℕ) / 64 = l / 64 then 1 / 64 else 0 : ℝ) : EReal))
      = (mean (fun l => M.yv (256 * k.val + i) l * M.yv (256 * k.val + i) l) l : EReal) := by
    rw [← avg_sum, ← coe_sum]
    refine Finset.sum_congr rfl fun a _ => ?_
    rw [EReal.coe_mul, EReal.coe_mul]
  refine Eq.trans (congrArg (fun s : EReal => Ideal.rsqrt (s + (eps : EReal))) hs) ?_
  show Ideal.rsqrt _ = _
  rw [← EReal.coe_add, rsqrt_pos (M.ms_pos _ _)]
  rfl

theorem nv_at (i : Fin 256) (l : Fin 128) : x.nv k (ix2 i l) = (M.nv (256 * k.val + i) l : EReal) := by
  unfold Blocks.nv k0_pay19 k0_pay15
  pointwise
  refine Eq.trans (congrArg₂ (fun a b : EReal => a * b)
    (congrArg₂ (fun a b : EReal => a * b) (cb_at h k i l) (cv_at h k i l)) (rs_at h k i l)) ?_
  rw [Model.nv, Model.yv, EReal.coe_mul, EReal.coe_mul]

/-- The logistic function of the last gate, as the body computes it. -/
theorem sg_at (i : Fin 256) (l : Fin 128) : k0_pay20 (x.zg k) Blocks.zero (ix2 i l) = (M.sg (256 * k.val + i) l : EReal) := by
  unfold k0_pay20 Blocks.zero
  pointwise
  rw [zg_at h]
  have hp : (0 : ℝ) < 1 + Real.exp (-M.p3 (256 * k.val + i) l) := by positivity
  rw [zero_sub, ← EReal.coe_neg, Ideal.exp_coe, ← EReal.coe_one, ← EReal.coe_add, Ideal.div_coe hp.ne', ← EReal.coe_mul, one_mul]
  rfl

theorem sil_at (i : Fin 256) (l : Fin 128) : k0_pay21 (x.zg k) Blocks.zero (ix2 i l) = (M.sil (256 * k.val + i) l : EReal) := by
  unfold k0_pay21
  pointwise
  rw [zg_at h, sg_at h, Model.sil, EReal.coe_mul]

theorem dyv_at (i : Fin 256) (l : Fin 128) :
    k0_pay22 Blocks.avg (x.ct k) (x.zg k) x.gain (x.rs k) (x.nv k) Blocks.zero (ix2 i l) = (M.dyv (256 * k.val + i) l : EReal) := by
  unfold k0_pay22
  pointwise
  simp only [ct_at h, gain_at h, sil_at h, nv_at h, rs_at h, avg_at]
  have hs : (∑ a : Fin 128, (M.dy (256 * k.val + i) a : EReal) * (M.g a : EReal) * (M.sil (256 * k.val + i) a : EReal)
      * (M.nv (256 * k.val + i) a : EReal) * ((if (a : ℕ) / 64 = l / 64 then 1 / 64 else 0 : ℝ) : EReal))
      = (mean (fun l => M.dn (256 * k.val + i) l * M.nv (256 * k.val + i) l) l : EReal) := by
    rw [← avg_sum, ← coe_sum]
    refine Finset.sum_congr rfl fun a _ => ?_
    rw [Model.dn]
    norm_cast
  refine Eq.trans (congrArg (fun s : EReal => (M.rs (256 * k.val + i) l : EReal)
    * ((M.dy (256 * k.val + i) l : EReal) * (M.g l : EReal) * (M.sil (256 * k.val + i) l : EReal) - (M.nv (256 * k.val + i) l : EReal) * s)) hs) ?_
  rw [Model.dyv, Model.dn]
  norm_cast

theorem d0_at (i : Fin 256) (l : Fin 128) : x.d0 k (ix3 0 i l) = (M.d0 (256 * k.val + i) l : EReal) := by
  unfold Blocks.d0 k0_pay24
  pointwise
  rw [dyv_at h, cv_at h, Model.d0, EReal.coe_mul]
theorem d3_at (i : Fin 256) (l : Fin 128) : x.d3 k (ix3 0 i l) = (M.d3 (256 * k.val + i) l : EReal) := by
  unfold Blocks.d3 k0_pay25
  pointwise
  rw [ct_at h, nv_at h, gain_at h, sg_at h, zg_at h, Model.d3]
  norm_cast
theorem dc_at (i : Fin 256) (l : Fin 128) : x.dc k (ix2 i l) = (M.dc (256 * k.val + i) l : EReal) := by
  unfold Blocks.dc k0_pay26
  pointwise
  rw [dyv_at h, cb_at h, Model.dc, EReal.coe_mul]
theorem dcs_at (i : Fin 256) (l : Fin 128) : x.dcs k (ix2 i l) = (M.dc (256 * k.val + i) l : EReal) := by
  unfold Blocks.dcs k0_pay27
  pointwise
  exact dc_at h k i l
theorem dg_at (i : Fin 256) (l : Fin 128) : x.dg k (ix2 i l) = (M.eg (256 * k.val + i) l : EReal) := by
  unfold Blocks.dg k0_pay23
  pointwise
  rw [ct_at h, nv_at h, sil_at h, Model.eg]
  norm_cast

/-! ## The gradient of the gated input -/

omit k in
theorem scr_at (r : Fin 4104) (l : Fin 128) : x.scr (ix2 r l) = ((if (r : ℕ) < 4096 then M.dc r l else 0 : ℝ) : EReal) := by
  unfold Blocks.scr
  by_cases hr : (r : ℕ) < 4096
  · refine (if_pos hr).trans ?_
    rw [if_pos hr]
    refine (dcs_at h (Blocks.tileOf r) (Blocks.inTile r) l).trans ?_
    rw [show 256 * (Blocks.tileOf r).val + ((Blocks.inTile r : Fin 256) : ℕ) = r from show 256 * ((r : ℕ) / 256 % 16) + (r : ℕ) % 256 = r by omega]
  · refine (if_neg hr).trans ?_
    rw [if_neg hr]
    unfold k0_pay35
    pointwise
    simp

omit h k in
theorem row_lt2 (k : Fin k0_t2_loop.trips) (i : Fin 256) : 256 * k.val + i.val < 4096 := by
  have := k.isLt.trans_eq trips2
  omega

omit k in
theorem du_at (k : Fin k0_t2_loop.trips) (i : Fin 256) (l : Fin 128) : x.du k (ix2 i l) = (M.du (256 * k.val + i) l : EReal) := by
  have hk := k.isLt.trans_eq trips2
  have hc : ∀ (i : Fin 256) (l : Fin 128),
      (View.ld x.scr (Rect.unit (s := S4104x128) (k0_off7 k) S256x128.size (k0_off7_inb k)) : Vec Ideal S256x128 .f32) (ix2 i l)
        = (M.dc (256 * k.val + i) l : EReal) := fun i l => by
    have := row_lt2 k i
    refine Eq.trans (congrArg x.scr (Blocks.ext2 (j := ix2 ⟨256 * k.val + i, by omega⟩ l) ?_ ?_)) ((scr_at h _ l).trans ?_)
    · show k0_off7 k 0 + 1 * (i : ℕ) = 256 * k.val + i
      rw [off7]; simp
    · show k0_off7 k 1 + 1 * (l : ℕ) = l
      rw [off7]; simp
    · rw [if_pos this]
  have hn : ∀ (i : Fin 8) (l : Fin 128),
      (View.ld x.scr (Rect.unit (s := S4104x128) (k0_off8 k) S8x128.size (k0_off8_inb k)) : Vec Ideal S8x128 .f32) (ix2 i l)
        = (M.nx (256 * k.val + 256) l i : EReal) := fun i l => by
    refine Eq.trans (congrArg x.scr (Blocks.ext2 (j := ix2 ⟨256 * k.val + 256 + i, by omega⟩ l) ?_ ?_)) ((scr_at h _ l).trans ?_)
    · show k0_off8 k 0 + 1 * (i : ℕ) = 256 * k.val + 256 + i
      rw [off8]; simp
    · show k0_off8 k 1 + 1 * (l : ℕ) = l
      rw [off8]; simp
    · rfl
  unfold Blocks.du
  generalize (View.ld x.scr (Rect.unit (s := S4104x128) (k0_off7 k) S256x128.size (k0_off7_inb k)) : Vec Ideal S256x128 .f32) = A at hc ⊢
  generalize (View.ld x.scr (Rect.unit (s := S4104x128) (k0_off8 k) S8x128.size (k0_off8_inb k)) : Vec Ideal S8x128 .f32) = B at hn ⊢
  unfold k0_pay29
  pointwise
  rw [tap0_at h, tap1_at h, tap2_at h]
  have n1 : Scalar.select (IntOp.cmpi CmpIPredicate.eq (BitVec.ofNat 32 ↑i) 255#32) (B (ix2 0 l)) (A (ix2 ⟨((i : ℕ) + 256 - 255) % 256, by omega⟩ l))
      = (M.nx (256 * k.val + i) l 1 : EReal) := by
    rw [sel_eq i.isLt (by norm_num : 255 < 256)]
    by_cases hi : (i : ℕ) = 255
    · rw [if_pos hi, hn, hi]; rfl
    · rw [if_neg hi, hc, Model.nx, if_pos (by omega)]
      show (M.dc (256 * k.val + (i + 256 - 255) % 256) l : EReal) = _
      rw [show 256 * k.val + (i + 256 - 255) % 256 = 256 * k.val + i + 1 by omega]
  have n2 : Scalar.select (IntOp.cmpi CmpIPredicate.eq (BitVec.ofNat 32 ↑i) 255#32) (B (ix2 1 l))
      (Scalar.select (IntOp.cmpi CmpIPredicate.eq (BitVec.ofNat 32 ↑i) 254#32) (B (ix2 0 l)) (A (ix2 ⟨((i : ℕ) + 256 - 254) % 256, by omega⟩ l)))
      = (M.nx (256 * k.val + i) l 2 : EReal) := by
    rw [sel_eq i.isLt (by norm_num : 255 < 256), sel_eq i.isLt (by norm_num : 254 < 256)]
    by_cases hi : (i : ℕ) = 255
    · rw [if_pos hi, hn, hi]; rfl
    by_cases hj : (i : ℕ) = 254
    · rw [if_neg hi, if_pos hj, hn, hj]; rfl
    · rw [if_neg hi, if_neg hj, hc, Model.nx, if_pos (by omega)]
      show (M.dc (256 * k.val + (i + 256 - 254) % 256) l : EReal) = _
      rw [show 256 * k.val + (i + 256 - 254) % 256 = 256 * k.val + i + 2 by omega]
  refine Eq.trans (congrArg₂ (fun a b : EReal => a + b) (congrArg₂ (fun a b : EReal => a + b)
    (congrArg (fun a : EReal => a * (M.w 2 l : EReal)) (hc i l)) (congrArg (fun a : EReal => a * (M.w 1 l : EReal)) n1))
    (congrArg (fun a : EReal => a * (M.w 0 l : EReal)) n2)) ?_
  rw [Model.du]
  norm_cast

/-! ## The sums -/

theorem m2_at (a : Fin 32) (b : Fin 8) (l : Fin 128) : x.m2 k (ix3 a b l) = (M.e0 (256 * k.val + (8 * a + b)) l : EReal) := by
  unfold Blocks.m2 k0_pay28
  pointwise
  have e := dc_at h k ⟨a * 8 + b, by omega⟩ l
  unfold Blocks.dc at e
  rw [e, u2_at h]
  show _ = ((M.e0 (256 * k.val + (8 * a + b)) l : ℝ) : EReal)
  rw [Model.e0, mul_comm 8 (a : ℕ)]
  norm_cast

/-- Row `b` of a sum's eight, before trip `n`. -/
def part (f : ℕ → ℕ → ℝ) (n : ℕ) (b : Fin 8) (l : ℕ) : ℝ :=
  ∑ j : Fin n, ∑ a : Fin 32, f (256 * j + (8 * a + b)) l

omit h k in
theorem part_succ (f : ℕ → ℕ → ℝ) (n : ℕ) (b : Fin 8) (l : ℕ) :
    part f (n + 1) b l = part f n b l + ∑ a : Fin 32, f (256 * n + (8 * a + b)) l := by
  unfold part
  rw [Fin.sum_univ_castSucc]; rfl

omit h k in
/-- One sum's step: eight rows at a time. -/
theorem red_at {A : FVec Ideal S8x128 .f32} {T : FVec Ideal S32x8x128 .f32} {f : ℕ → ℕ → ℝ} {n : ℕ}
    (hA : ∀ (b : Fin 8) (l : Fin 128), A (ix2 b l) = (part f n b l : EReal))
    (hT : ∀ (a : Fin 32) (b : Fin 8) (l : Fin 128), T (ix3 a b l) = (f (256 * n + (8 * a + b)) l : EReal))
    (b : Fin 8) (l : Fin 128) : k0_pay37 A T (ix2 b l) = (part f (n + 1) b l : EReal) := by
  unfold k0_pay37
  pointwise
  rw [hA]
  simp only [hT]
  rw [part_succ, EReal.coe_add, ← coe_sum]

omit h in
theorem cast_at {X : FVec Ideal S256x128 .f32} {f : ℕ → ℕ → ℝ} (hX : ∀ (i : Fin 256) (l : Fin 128), X (ix2 i l) = (f (256 * k.val + i) l : EReal))
    (a : Fin 32) (b : Fin 8) (l : Fin 128) :
    shapeCast S32x8x128 X shapeCasts_S256x128_S32x8x128 (ix3 a b l) = (f (256 * k.val + (8 * a + b)) l : EReal) := by
  pointwise
  refine (hX _ l).trans ?_
  rw [mul_comm 8 (a : ℕ)]

/-- The five sums before trip `n`. -/
theorem sums_at (n : ℕ) (hn : n ≤ 16) (b : Fin 8) (l : Fin 128) :
    (x.sums n).1 (ix2 b l) = (part M.e0 n b l : EReal) ∧ (x.sums n).2.1 (ix2 b l) = (part M.e1 n b l : EReal)
    ∧ (x.sums n).2.2.1 (ix2 b l) = (part M.e2 n b l : EReal) ∧ (x.sums n).2.2.2.1 (ix2 b l) = (part M.dc n b l : EReal)
    ∧ (x.sums n).2.2.2.2 (ix2 b l) = (part M.eg n b l : EReal) := by
  induction n generalizing b l with
  | zero =>
    have z : ∀ f : ℕ → ℕ → ℝ, k0_pay36 (F := Ideal) (ix2 b l) = (part f 0 b l : EReal) := fun f => by
      unfold k0_pay36
      pointwise
      simp [part]
    exact ⟨z _, z _, z _, z _, z _⟩
  | succ n ih =>
    have hk : n < k0_t1_loop.trips := trips1 ▸ (by omega : n < 16)
    have hs : x.sums (n + 1) = x.step ⟨n, hk⟩ (x.sums n) := by
      rw [Blocks.sums, dif_pos hk]
    rw [hs]
    have ih := ih (by omega)
    have p1 : ∀ (i : Fin 256) (l : Fin 128), mulf (x.dc ⟨n, hk⟩) (x.u1 ⟨n, hk⟩) (ix2 i l) = (M.e1 (256 * n + i) l : EReal) := fun i l => by
      pointwise
      rw [dc_at h, u1_at h, Model.e1, EReal.coe_mul]
    have p2 : ∀ (i : Fin 256) (l : Fin 128), mulf (x.dc ⟨n, hk⟩) (x.u ⟨n, hk⟩) (ix2 i l) = (M.e2 (256 * n + i) l : EReal) := fun i l => by
      pointwise
      rw [dc_at h, u_at h, Model.e2, EReal.coe_mul]
    exact ⟨red_at (fun b l => (ih b l).1) (m2_at h ⟨n, hk⟩) b l,
      red_at (fun b l => (ih b l).2.1) (cast_at ⟨n, hk⟩ p1) b l,
      red_at (fun b l => (ih b l).2.2.1) (cast_at ⟨n, hk⟩ p2) b l,
      red_at (fun b l => (ih b l).2.2.2.1) (cast_at ⟨n, hk⟩ (dc_at h ⟨n, hk⟩)) b l,
      red_at (fun b l => (ih b l).2.2.2.2) (cast_at ⟨n, hk⟩ (dg_at h ⟨n, hk⟩)) b l⟩

/-! ## The body's four results -/

omit h in
theorem ld9_at {X : Vec Ideal S1x4096x128 .bf16} {f : ℕ → ℕ → ℝ} (hX : ∀ (r : Fin 4096) (l : Fin 128), X (ix3 0 r l) = (f r l : EReal))
    (k : Fin k0_t2_loop.trips) (i : Fin 256) (l : Fin 128) :
    (View.ld X (Rect.unit (s := S1x4096x128) (k0_off9 k) S1x256x128.size (k0_off9_inb k)) : Vec Ideal S1x256x128 .bf16) (ix3 0 i l)
      = (f (256 * k.val + i) l : EReal) := by
  refine Eq.trans (congrArg X (Blocks.ext3 ?_ ?_ ?_)) (hX ⟨256 * k.val + i, row_lt2 k i⟩ l)
  · show k0_off9 k 0 + 1 * 0 = 0
    rw [off9]; rfl
  · show k0_off9 k 1 + 1 * (i : ℕ) = 256 * k.val + i
    rw [off9]; simp
  · show k0_off9 k 2 + 1 * (l : ℕ) = l
    rw [off9]; simp
theorem d1_at (k : Fin k0_t2_loop.trips) (i : Fin 256) (l : Fin 128) : x.d1 k (ix3 0 i l) = (M.d1 (256 * k.val + i) l : EReal) := by
  have e := ld9_at h.p2 k i l
  unfold Blocks.d1
  generalize (View.ld x.p2 (Rect.unit (s := S1x4096x128) (k0_off9 k) S1x256x128.size (k0_off9_inb k)) : Vec Ideal S1x256x128 .bf16) = A at e ⊢
  unfold k0_pay1
  pointwise
  refine Eq.trans (congrArg₂ (fun a b : EReal => a * b) (du_at h k i l) e) ?_
  rw [Model.d1, EReal.coe_mul]
theorem d2_at (k : Fin k0_t2_loop.trips) (i : Fin 256) (l : Fin 128) : x.d2 k (ix3 0 i l) = (M.d2 (256 * k.val + i) l : EReal) := by
  have e := ld9_at h.p1 k i l
  unfold Blocks.d2
  generalize (View.ld x.p1 (Rect.unit (s := S1x4096x128) (k0_off9 k) S1x256x128.size (k0_off9_inb k)) : Vec Ideal S1x256x128 .bf16) = A at e ⊢
  unfold k0_pay2
  pointwise
  refine Eq.trans (congrArg₂ (fun a b : EReal => a * b) (du_at h k i l) e) ?_
  rw [Model.d2, EReal.coe_mul]

theorem out9_at (s : Fin 4) (r : Fin 4096) (l : Fin 128) : x.out9 (ix3 s r l) = (M.dp s r l : EReal) := by
  have hr : 256 * ((r : ℕ) / 256 % 16) + (r : ℕ) % 256 = r := by omega
  unfold Blocks.out9 Model.dp
  by_cases h0 : (s : ℕ) = 0
  · refine (if_pos h0).trans ((d0_at h (Blocks.tileOf r) (Blocks.inTile r) l).trans ?_)
    rw [if_pos h0]
    exact congrArg (fun r => ((M.d0 r l : ℝ) : EReal)) hr
  refine (if_neg h0).trans ?_
  rw [if_neg h0]
  by_cases h1 : (s : ℕ) = 1
  · refine (if_pos h1).trans ((d1_at h (Blocks.tileOf2 r) (Blocks.inTile r) l).trans ?_)
    rw [if_pos h1]
    exact congrArg (fun r => ((M.d1 r l : ℝ) : EReal)) hr
  refine (if_neg h1).trans ?_
  rw [if_neg h1]
  by_cases h2 : (s : ℕ) = 2
  · refine (if_pos h2).trans ((d2_at h (Blocks.tileOf2 r) (Blocks.inTile r) l).trans ?_)
    rw [if_pos h2]
    exact congrArg (fun r => ((M.d2 r l : ℝ) : EReal)) hr
  refine (if_neg h2).trans ?_
  rw [if_neg h2]
  refine (d3_at h (Blocks.tileOf r) (Blocks.inTile r) l).trans ?_
  exact congrArg (fun r => ((M.d3 r l : ℝ) : EReal)) hr

theorem out10_at (j : Fin 3) (b : Fin 8) (l : Fin 128) : x.out10 (ix3 j b l) = (part (M.ew j) 16 b l : EReal) := by
  obtain ⟨s0, s1, s2, -, -⟩ := sums_at h 16 le_rfl b l
  unfold Blocks.out10
  by_cases h0 : (j : ℕ) = 0
  · refine (if_pos h0).trans ?_
    rw [show M.ew j = M.e0 from funext fun r => funext fun l => if_pos h0]
    unfold k0_pay42
    pointwise
    exact s0
  refine (if_neg h0).trans ?_
  by_cases h1 : (j : ℕ) = 1
  · refine (if_pos h1).trans ?_
    rw [show M.ew j = M.e1 from funext fun r => funext fun l => (if_neg h0).trans (if_pos h1)]
    unfold k0_pay43
    pointwise
    exact s1
  refine (if_neg h1).trans ?_
  rw [show M.ew j = M.e2 from funext fun r => funext fun l => (if_neg h0).trans (if_neg h1)]
  unfold k0_pay44
  pointwise
  exact s2

theorem out11_at (b : Fin 8) (l : Fin 128) : x.out11 (ix2 b l) = (part M.dc 16 b l : EReal) := (sums_at h 16 le_rfl b l).2.2.2.1
theorem out12_at (b : Fin 8) (l : Fin 128) : x.out12 (ix2 b l) = (part M.eg 16 b l : EReal) := (sums_at h 16 le_rfl b l).2.2.2.2

omit h in
/-- The eight rows' sums together are the sum over all rows. -/
theorem sum_part (f : ℕ → ℕ → ℝ) (l : ℕ) : ∑ b : Fin 8, part f 16 b l = ∑ r : Fin 4096, f r l := by
  unfold part
  rw [Fin.sum_univ_tiles 16 256 rfl (fun r : Fin 4096 => f r l), Finset.sum_comm]
  refine Finset.sum_congr rfl fun j _ => ?_
  rw [Fin.sum_univ_tiles 32 8 rfl (fun t : Fin 256 => f (⟨j * 256 + t, by omega⟩ : Fin 4096) l), Finset.sum_comm]
  refine Finset.sum_congr rfl fun a _ => Finset.sum_congr rfl fun b _ => ?_
  congr 1
  show 256 * (j : ℕ) + (8 * a + b) = j * 256 + (a * 8 + b)
  omega

end Cert.KernelIdeal.Conv
-- ==== Proof.Conv.Entries.lean ====
module

public import proofs.«01_k».proof.Proof.Conv.Model
public import proofs.«01_k».proof.Pre_finite
public import Idealize.ShloMosaic.Lib.Pointwise

@[expose] public section

noncomputable section

namespace Cert.Conv

open Idealize.ShloMosaic

/-! # The arguments as real numbers -/

/-- An array's entries as real numbers, and zero outside it. -/
def of1 {n : ℕ} (X : Fin n → EReal) (l : ℕ) : ℝ := if h : l < n then (X ⟨l, h⟩).toReal else 0
def of2 {n k : ℕ} (X : Fin n → Fin k → EReal) (r l : ℕ) : ℝ := if h : r < n ∧ l < k then (X ⟨r, h.1⟩ ⟨l, h.2⟩).toReal else 0

theorem of1_at {n : ℕ} {X : Fin n → EReal} (hX : ∀ l, X l = ((X l).toReal : EReal)) (l : Fin n) : X l = (of1 X l : EReal) := by
  rw [of1, dif_pos l.isLt]; exact hX l
theorem of2_at {n k : ℕ} {X : Fin n → Fin k → EReal} (hX : ∀ r l, X r l = ((X r l).toReal : EReal)) (r : Fin n) (l : Fin k) :
    X r l = (of2 X r l : EReal) := by
  rw [of2, dif_pos ⟨r.isLt, l.isLt⟩]; exact hX r l

variable (Y : FVec Ideal Cert.Pre_finite.S4096x1024 .bf16) (P : FVec Ideal Cert.Pre_finite.S8x4096x512 .bf16)
  (W : FVec Ideal Cert.Pre_finite.S3x512 .f32) (B : FVec Ideal Cert.Pre_finite.S512 .f32) (G : FVec Ideal Cert.Pre_finite.S1024 .f32)

/-- The model the five argument arrays give. -/
def model : Model where
  dy := of2 fun (r : Fin 4096) (l : Fin 1024) => Y (ix2 r l)
  p0 := of2 fun (r : Fin 4096) (l : Fin 512) => P (ix3 0 r l)
  p1 := of2 fun (r : Fin 4096) (l : Fin 512) => P (ix3 1 r l)
  p2 := of2 fun (r : Fin 4096) (l : Fin 512) => P (ix3 2 r l)
  p3 := of2 fun (r : Fin 4096) (l : Fin 512) => P (ix3 3 r l)
  w := of2 fun (j : Fin 3) (l : Fin 512) => W (ix2 j l)
  b := of1 fun (l : Fin 512) => B (ix1 l)
  g := of1 fun (l : Fin 1024) => G (ix1 l)

/-- Every entry of the five arrays is a real number. -/
structure Entries : Prop where
  dy : ∀ (r : Fin 4096) (l : Fin 1024), Y (ix2 r l) = ((Y (ix2 r l)).toReal : EReal)
  p : ∀ (s : Fin 8) (r : Fin 4096) (l : Fin 512), P (ix3 s r l) = ((P (ix3 s r l)).toReal : EReal)
  w : ∀ (j : Fin 3) (l : Fin 512), W (ix2 j l) = ((W (ix2 j l)).toReal : EReal)
  b : ∀ l : Fin 512, B (ix1 l) = ((B (ix1 l)).toReal : EReal)
  g : ∀ l : Fin 1024, G (ix1 l) = ((G (ix1 l)).toReal : EReal)

variable {Y P W B G} (h : Entries Y P W B G)
include h
theorem Entries.dy_at (r : Fin 4096) (l : Fin 1024) : Y (ix2 r l) = ((model Y P W B G).dy r l : EReal) := of2_at h.dy r l
theorem Entries.p0_at (r : Fin 4096) (l : Fin 512) : P (ix3 0 r l) = ((model Y P W B G).p0 r l : EReal) := of2_at (h.p 0) r l
theorem Entries.p1_at (r : Fin 4096) (l : Fin 512) : P (ix3 1 r l) = ((model Y P W B G).p1 r l : EReal) := of2_at (h.p 1) r l
theorem Entries.p2_at (r : Fin 4096) (l : Fin 512) : P (ix3 2 r l) = ((model Y P W B G).p2 r l : EReal) := of2_at (h.p 2) r l
theorem Entries.p3_at (r : Fin 4096) (l : Fin 512) : P (ix3 3 r l) = ((model Y P W B G).p3 r l : EReal) := of2_at (h.p 3) r l
theorem Entries.w_at (j : Fin 3) (l : Fin 512) : W (ix2 j l) = ((model Y P W B G).w j l : EReal) := of2_at h.w j l
theorem Entries.b_at (l : Fin 512) : B (ix1 l) = ((model Y P W B G).b l : EReal) := of1_at h.b l
theorem Entries.g_at (l : Fin 1024) : G (ix1 l) = ((model Y P W B G).g l : EReal) := of1_at h.g l
omit h

/-- A magnitude below infinity is a real number's. -/
theorem real_of_lt (a : Ideal .f32) (h : BitVec.ofBool (decide (FloatOps.absf (F := Ideal) a < Ideal.ofBits FTy.f32 0x7F800000#32)) = 1#1) :
    a = (EReal.toReal a : EReal) := by
  have e : Ideal.ofBits FTy.f32 0x7F800000#32 = (⊤ : EReal) := by simp [Ideal.ofBits, Ideal.ieee]
  rw [e] at h
  have h' : FloatOps.absf (F := Ideal) a < (⊤ : EReal) := by
    by_contra hn
    rw [decide_eq_false hn] at h
    exact absurd h (by decide)
  refine (EReal.coe_toReal ?_ ?_).symm
  · rintro rfl
    exact absurd h' (not_lt.2 (le_max_left (⊤ : EReal) (-⊤)))
  · rintro rfl
    exact absurd h' (not_lt.2 ((EReal.neg_bot).symm.le.trans (le_max_right (⊥ : EReal) (-⊥))))

theorem entries_of [Cert.Pre_finite.Facts]
    (h : (Cert.Pre_finite.fn (F := Ideal) Y P W B G).1 = (fun _ => 1#1) ∧ (Cert.Pre_finite.fn (F := Ideal) Y P W B G).2.1 = (fun _ => 1#1)
      ∧ (Cert.Pre_finite.fn (F := Ideal) Y P W B G).2.2.1 = (fun _ => 1#1) ∧ (Cert.Pre_finite.fn (F := Ideal) Y P W B G).2.2.2.1 = (fun _ => 1#1)
      ∧ (Cert.Pre_finite.fn (F := Ideal) Y P W B G).2.2.2.2 = (fun _ => 1#1)) : Entries Y P W B G := by
  unfold Cert.Pre_finite.fn at h
  obtain ⟨h0, h1, h2, h3, h4⟩ := h
  constructor
  · intro r l
    have e := congrFun h0 (ix2 r l)
    pointwise at e
    exact real_of_lt _ e
  · intro s r l
    have e := congrFun h1 (ix3 s r l)
    pointwise at e
    exact real_of_lt _ e
  · intro j l
    have e := congrFun h2 (ix2 j l)
    pointwise at e
    exact real_of_lt _ e
  · intro l
    have e := congrFun h3 (ix1 l)
    pointwise at e
    exact real_of_lt _ e
  · intro l
    have e := congrFun h4 (ix1 l)
    pointwise at e
    exact real_of_lt _ e

end Cert.Conv
-- ==== Proof.Conv.Value.lean ====
module

public import proofs.«01_k».proof.Proof.Gen.KernelIdeal.Frame
public import proofs.«01_k».proof.Proof.Gen.KernelIdeal.Loops
public import proofs.«01_k».proof.Proof.Conv.Frame
public import proofs.«01_k».proof.Proof.Conv.TileValue
public import proofs.«01_k».proof.Proof.Conv.Entries
public import Idealize.ShloMosaic.Lib.Pipeline.ValueKit
public import Idealize.ShloMosaic.Lib.Claim
public import Idealize.ShloMosaic.Lib.Pointwise

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Conv

/-! # The result arrays -/

variable (m : (ℓ : Loc nD τ sig) → Buf (Elt Ideal) ℓ)

theorem idx : ∀ t : Fin cfg0.N,
    win0_0.index t = ![0, t.val] ∧ win0_1.index t = ![0, 0, t.val] ∧ win0_2.index t = ![1, 0, t.val]
    ∧ win0_3.index t = ![2, 0, t.val] ∧ win0_4.index t = ![3, 0, t.val] ∧ win0_5.index t = ![0, t.val]
    ∧ win0_6.index t = ![0, t.val] ∧ win0_7.index t = ![0, t.val] ∧ win0_8.index t = ![0, 0, t.val]
    ∧ win0_9.index t = ![0, 0, t.val] ∧ win0_10.index t = ![0, t.val] ∧ win0_11.index t = ![0, t.val] :=
  (by decide +kernel : ∀ t : Fin grid0.N, _)

theorem points (t : Fin cfg0.N) : t.val < 4 := t.isLt

theorem V_bias (c : Dev nD) : V m c main_v0 = shapeCast S1x512 (m ((c : Thread nD τ).loc main_arg3)) shapeCasts_S512_S1x512 := by
  simp only [V, V0, hostOps0, List.flatten_cons, List.flatten_nil, List.append_nil, List.cons_append, List.nil_append]
  after_results
  rfl
theorem V_gain (c : Dev nD) : V m c main_v1 = shapeCast S1x1024 (m ((c : Thread nD τ).loc main_arg4)) shapeCasts_S1024_S1x1024 := by
  simp only [V, V0, hostOps0, List.flatten_cons, List.flatten_nil, List.append_nil, List.cons_append, List.nil_append]
  after_results
  rfl

/-- The model the device's arguments give. -/
abbrev modelOf (c : Dev nD) : Model :=
  model (m ((c : Thread nD τ).loc main_arg0)) (m ((c : Thread nD τ).loc main_arg1)) (m ((c : Thread nD τ).loc main_arg2))
    (m ((c : Thread nD τ).loc main_arg3)) (m ((c : Thread nD τ).loc main_arg4))
abbrev EntriesOf (c : Dev nD) : Prop :=
  Entries (m ((c : Thread nD τ).loc main_arg0)) (m ((c : Thread nD τ).loc main_arg1)) (m ((c : Thread nD τ).loc main_arg2))
    (m ((c : Thread nD τ).loc main_arg3)) (m ((c : Thread nD τ).loc main_arg4))

/-! ## The host's own operations, read off what the region leaves -/

theorem left (c : Dev nD) (w : Fin cfg0.W) :
    Pipeline.withArrays cfg0.spec c (V0 m c) (fun w => (dats m 0 c).arrAt w cfg0.N) (Proc.devRef .tc (Pipeline.arrRef cfg0.spec w))
      = (dats m 0 c).arrAt w cfg0.N :=
  (dats m 0 c).withArrays_arrAt sharedIn0 (V0 m c) (fun w => by fin_cases w <;> rfl) w
theorem tail8 (c : Dev nD) : Pipeline.afterTail₀ cfgs (dats m) 0 (V0 m) [hostOps1] c main_v3
    = extractStridedSlice S4x4096x512 ![0, 0, 0] ((dats m 0 c).arrAt 8 (cfgs 0).N) slices_S8x4096x512_S4x4096x512_0_0_0 := by
  unfold Pipeline.afterTail₀
  simp only [hostOps1, List.flatten_cons, List.flatten_nil, List.append_nil, List.cons_append, List.nil_append]
  after_results
  exact congrArg (fun A => extractStridedSlice S4x4096x512 ![0, 0, 0] A slices_S8x4096x512_S4x4096x512_0_0_0) (left m c 8)
theorem tail9 (c : Dev nD) : Pipeline.afterTail₀ cfgs (dats m) 0 (V0 m) [hostOps1] c main_v4
    = Host.reduceAdd ((dats m 0 c).arrAt 9 (cfgs 0).N) (constant (F := Ideal) S_ .f32 0x00000000#32) reducesTo_S3x8x512_S3x512_d1 h_S_ := by
  unfold Pipeline.afterTail₀
  simp only [hostOps1, List.flatten_cons, List.flatten_nil, List.append_nil, List.cons_append, List.nil_append]
  after_results
  exact congrArg (fun A => Host.reduceAdd A (constant (F := Ideal) S_ .f32 0x00000000#32) reducesTo_S3x8x512_S3x512_d1 h_S_) (left m c 9)
theorem tail10 (c : Dev nD) : Pipeline.afterTail₀ cfgs (dats m) 0 (V0 m) [hostOps1] c main_v5
    = Host.reduceAdd ((dats m 0 c).arrAt 10 (cfgs 0).N) (constant (F := Ideal) S_ .f32 0x00000000#32) reducesTo_S8x512_S512_d0 h_S_ := by
  unfold Pipeline.afterTail₀
  simp only [hostOps1, List.flatten_cons, List.flatten_nil, List.append_nil, List.cons_append, List.nil_append]
  after_results
  exact congrArg (fun A => Host.reduceAdd A (constant (F := Ideal) S_ .f32 0x00000000#32) reducesTo_S8x512_S512_d0 h_S_) (left m c 10)
theorem tail11 (c : Dev nD) : Pipeline.afterTail₀ cfgs (dats m) 0 (V0 m) [hostOps1] c main_v6
    = Host.reduceAdd ((dats m 0 c).arrAt 11 (cfgs 0).N) (constant (F := Ideal) S_ .f32 0x00000000#32) reducesTo_S8x512_S512_d0 h_S_ := by
  unfold Pipeline.afterTail₀
  simp only [hostOps1, List.flatten_cons, List.flatten_nil, List.append_nil, List.cons_append, List.nil_append]
  after_results
  exact congrArg (fun A => Host.reduceAdd A (constant (F := Ideal) S_ .f32 0x00000000#32) reducesTo_S8x512_S512_d0 h_S_) (left m c 11)

variable {m} {c : Dev nD} (h : EntriesOf m c) (t : Fin cfg0.N)
include h

set_option maxHeartbeats 1000000 in
/-- Point `t`'s blocks are the model with its lanes counted from `128 t`. -/
theorem reads : Reads (blocks m c t) ((modelOf m c).shift (128 * t.val)) where
  dy r l := by
    have ht := points t
    refine Eq.trans (show _ = _ from ?_) (h.dy_at r ⟨128 * t.val + l, by omega⟩)
    show iblk m c 0 t (ix2 r l) = _
    blk_ext [iblk, V, idx t]
  p0 r l := by
    have ht := points t
    refine Eq.trans (show _ = _ from ?_) (h.p0_at r ⟨128 * t.val + l, by omega⟩)
    show iblk m c 1 t (ix3 0 r l) = _
    blk_ext [iblk, V, idx t]
  p1 r l := by
    have ht := points t
    refine Eq.trans (show _ = _ from ?_) (h.p1_at r ⟨128 * t.val + l, by omega⟩)
    show iblk m c 2 t (ix3 0 r l) = _
    blk_ext [iblk, V, idx t]
  p2 r l := by
    have ht := points t
    refine Eq.trans (show _ = _ from ?_) (h.p2_at r ⟨128 * t.val + l, by omega⟩)
    show iblk m c 3 t (ix3 0 r l) = _
    blk_ext [iblk, V, idx t]
  p3 r l := by
    have ht := points t
    refine Eq.trans (show _ = _ from ?_) (h.p3_at r ⟨128 * t.val + l, by omega⟩)
    show iblk m c 4 t (ix3 0 r l) = _
    blk_ext [iblk, V, idx t]
  w j l := by
    have ht := points t
    refine Eq.trans (show _ = _ from ?_) (h.w_at j ⟨128 * t.val + l, by omega⟩)
    show iblk m c 5 t (ix2 j l) = _
    blk_ext [iblk, V, idx t]
  b l := by
    have ht := points t
    refine Eq.trans (show _ = _ from ?_) (h.b_at ⟨128 * t.val + l, by omega⟩)
    show V m c main_v0 (((cfg0.win 6).blk t).view.emb (ix2 0 l)) = _
    rw [V_bias, show ((cfg0.win 6).blk t).view.emb (ix2 0 l) = ix2 (0 : Fin 1) (⟨128 * t.val + l, by omega⟩ : Fin 512) by blk_ext [idx t]]
    pointwise
  g l := by
    have ht := points t
    refine Eq.trans (show _ = _ from ?_) (h.g_at ⟨128 * t.val + l, by omega⟩)
    show V m c main_v1 (((cfg0.win 7).blk t).view.emb (ix2 0 l)) = _
    rw [V_gain, show ((cfg0.win 7).blk t).view.emb (ix2 0 l) = ix2 (0 : Fin 1) (⟨128 * t.val + l, by omega⟩ : Fin 1024) by blk_ext [idx t]]
    pointwise

omit h in
theorem ew_shift (M : Model) (j o : ℕ) : (M.shift (128 * o)).ew j = fun r l => M.ew j r (128 * o + l) := by
  funext r l
  unfold Model.ew
  rw [Model.e0_shift, Model.e1_shift, Model.e2_shift]
omit h in
theorem dp_shift (M : Model) (s r l o : ℕ) : (M.shift (128 * o)).dp s r l = M.dp s r (128 * o + l) := by
  unfold Model.dp
  rw [Model.d0_shift, Model.d1_shift, Model.d2_shift, Model.d3_shift]

theorem arr8 : (dats m 0 c).arrAt 8 (cfgs 0).N
    = fun i : S8x4096x512.Idx => if ((i 0 : Fin 8) : ℕ) < 4 then (((modelOf m c).dp (i 0) (i 1) (i 2) : ℝ) : EReal) else V m c main_v2_0 i := by
  refine (dats m 0 c).arrAt_eq_of_coversWhere 8 _ (fun β => β 0 < 1) (by decide +kernel) (fun t hf y => ?_)
    (fun j => by blk_simp [Pipeline.Window.cell_apply]; omega)
  have ht := points t
  blk_simp
  rw [after_8]
  obtain ⟨y0, y1, y2, rfl⟩ : ∃ (a : Fin 4) (b : Fin 4096) (d : Fin 128), y = ix3 a b d := ⟨y 0, y 1, y 2, by ext k; fin_cases k <;> rfl⟩
  refine (out9_at (reads h t) y0 y1 y2).trans ?_
  rw [dp_shift]
  obtain ⟨-, -, -, -, -, -, -, -, e, -⟩ := idx t
  rw [e]
  show _ = (((modelOf m c).dp (0 * 4 + y0) (0 * 4096 + y1) (t.val * 128 + y2) : ℝ) : EReal)
  rw [zero_mul, zero_add, zero_mul, zero_add, mul_comm]
theorem arr9 : (dats m 0 c).arrAt 9 (cfgs 0).N
    = fun i : S3x8x512.Idx => (part ((modelOf m c).ew ((i 0 : Fin 3) : ℕ)) 16 (i 1) ((i 2 : Fin 512) : ℕ) : EReal) := by
  refine (dats m 0 c).arrAt_eq_of_covers 9 _ (by decide +kernel) fun t _ y => ?_
  rw [after_9]
  obtain ⟨y0, y1, y2, rfl⟩ : ∃ (a : Fin 3) (b : Fin 8) (d : Fin 128), y = ix3 a b d := ⟨y 0, y 1, y 2, by ext k; fin_cases k <;> rfl⟩
  have ht := points t
  rw [show ((cfg0.win 9).blk t).view.emb (ix3 y0 y1 y2) = ix3 y0 y1 (⟨128 * t.val + y2, by omega⟩ : Fin 512) by blk_ext [idx t]]
  blk_simp
  refine (out10_at (reads h t) y0 y1 y2).trans ?_
  rw [ew_shift]; rfl
theorem arr10 : (dats m 0 c).arrAt 10 (cfgs 0).N
    = fun i : S8x512.Idx => (part (modelOf m c).dc 16 (i 0) ((i 1 : Fin 512) : ℕ) : EReal) := by
  refine (dats m 0 c).arrAt_eq_of_covers 10 _ (by decide +kernel) fun t _ y => ?_
  rw [after_10]
  obtain ⟨y0, y1, rfl⟩ : ∃ (a : Fin 8) (b : Fin 128), y = ix2 a b := ⟨y 0, y 1, by ext k; fin_cases k <;> rfl⟩
  have ht := points t
  rw [show ((cfg0.win 10).blk t).view.emb (ix2 y0 y1) = ix2 y0 (⟨128 * t.val + y1, by omega⟩ : Fin 512) by blk_ext [idx t]]
  blk_simp
  refine (out11_at (reads h t) y0 y1).trans ?_
  rw [show ((modelOf m c).shift (128 * t.val)).dc = fun r l => (modelOf m c).dc r (128 * t.val + l) from
    funext fun r => funext fun l => Model.dc_shift _ r l _]; rfl
theorem arr11 : (dats m 0 c).arrAt 11 (cfgs 0).N
    = fun i : S8x512.Idx => (part (modelOf m c).eg 16 (i 0) ((i 1 : Fin 512) : ℕ) : EReal) := by
  refine (dats m 0 c).arrAt_eq_of_covers 11 _ (by decide +kernel) fun t _ y => ?_
  rw [after_11]
  obtain ⟨y0, y1, rfl⟩ : ∃ (a : Fin 8) (b : Fin 128), y = ix2 a b := ⟨y 0, y 1, by ext k; fin_cases k <;> rfl⟩
  have ht := points t
  rw [show ((cfg0.win 11).blk t).view.emb (ix2 y0 y1) = ix2 y0 (⟨128 * t.val + y1, by omega⟩ : Fin 512) by blk_ext [idx t]]
  blk_simp
  refine (out12_at (reads h t) y0 y1).trans ?_
  rw [show ((modelOf m c).shift (128 * t.val)).eg = fun r l => (modelOf m c).eg r (128 * t.val + l) from
    funext fun r => funext fun l => Model.eg_shift _ r l _]; rfl

/-! ## After the host's own operations -/

theorem host8 (s : Fin 4) (r : Fin 4096) (l : Fin 512) :
    extractStridedSlice S4x4096x512 ![0, 0, 0] ((dats m 0 c).arrAt 8 (cfgs 0).N) slices_S8x4096x512_S4x4096x512_0_0_0 (ix3 s r l)
      = (((modelOf m c).dp s r l : ℝ) : EReal) := by
  rw [arr8 h]
  pointwise
theorem host9 (j : Fin 3) (l : Fin 512) :
    Host.reduceAdd ((dats m 0 c).arrAt 9 (cfgs 0).N) (constant (F := Ideal) S_ .f32 0x00000000#32) reducesTo_S3x8x512_S3x512_d1 h_S_ (ix2 j l)
      = ((∑ r : Fin 4096, (modelOf m c).ew j r l : ℝ) : EReal) := by
  rw [arr9 h]
  pointwise
  rw [coe_sum, sum_part]
theorem host10 (l : Fin 512) :
    Host.reduceAdd ((dats m 0 c).arrAt 10 (cfgs 0).N) (constant (F := Ideal) S_ .f32 0x00000000#32) reducesTo_S8x512_S512_d0 h_S_ (ix1 l)
      = ((∑ r : Fin 4096, (modelOf m c).dc r l : ℝ) : EReal) := by
  rw [arr10 h]
  pointwise
  rw [coe_sum, sum_part]
theorem host11 (l : Fin 512) :
    Host.reduceAdd ((dats m 0 c).arrAt 11 (cfgs 0).N) (constant (F := Ideal) S_ .f32 0x00000000#32) reducesTo_S8x512_S512_d0 h_S_ (ix1 l)
      = ((∑ r : Fin 4096, (modelOf m c).eg r l : ℝ) : EReal) := by
  rw [arr11 h]
  pointwise
  rw [coe_sum, sum_part]

end Cert.KernelIdeal.Conv
-- ==== Proof.Conv.RefValue.lean ====
module

public import proofs.«01_k».proof.Proof.Gen.ReferenceIdeal.Read
public import proofs.«01_k».proof.Proof.Conv.Entries
public import Idealize.ShloMosaic.Lib.Pointwise

@[expose] public section

noncomputable section

namespace Cert.ReferenceIdeal.Conv

open Idealize.ShloMosaic Cert.Conv Cert.ReferenceIdeal Cert.ReferenceIdeal.Read

/-! # What the reference computes, as functions of the model -/

variable {Y : FVec Ideal S4096x1024 .bf16} {P : FVec Ideal S8x4096x512 .bf16}
  {W : FVec Ideal S3x512 .f32} {B : FVec Ideal S512 .f32} {G : FVec Ideal S1024 .f32}
  (h : Entries Y P W B G)
include h

theorem gate0_at (r : Fin 4096) (l : Fin 512) : val_main_v4 (F := Ideal) P (ix2 r l) = ((model Y P W B G).p0 r l : EReal) := by
  pointwise [val_main_v4, val_main_v3, val_main_v1, val_main_v0]
  exact h.p0_at r l
theorem gate1_at (r : Fin 4096) (l : Fin 512) : val_main_v6 (F := Ideal) P (ix2 r l) = ((model Y P W B G).p1 r l : EReal) := by
  pointwise [val_main_v6, val_main_v5, val_main_v1, val_main_v0]
  exact h.p1_at r l
theorem gate2_at (r : Fin 4096) (l : Fin 512) : val_main_v8 (F := Ideal) P (ix2 r l) = ((model Y P W B G).p2 r l : EReal) := by
  pointwise [val_main_v8, val_main_v7, val_main_v1, val_main_v0]
  exact h.p2_at r l
theorem gate3_at (r : Fin 4096) (l : Fin 512) : val_main_v10 (F := Ideal) P (ix2 r l) = ((model Y P W B G).p3 r l : EReal) := by
  pointwise [val_main_v10, val_main_v9, val_main_v1, val_main_v0]
  exact h.p3_at r l
theorem prod_at (r : Fin 4096) (l : Fin 512) : val_main_v11 (F := Ideal) P (ix2 r l) = ((model Y P W B G).u r l : EReal) := by
  unfold val_main_v11
  pointwise
  rw [gate1_at h, gate2_at h, Model.u, EReal.coe_mul]

/-- The product with two rows of zeros in front, and its three windows of rows. -/
theorem ext_at (r : Fin 4098) (l : Fin 512) : val_main_v13 (F := Ideal) P (ix2 r l)
    = ((if (r : ℕ) < 2 then 0 else (model Y P W B G).u (r - 2) l : ℝ) : EReal) := by
  unfold val_main_v13 val_main_v12 val_main_cst
  pointwise
  split
  · rfl
  · exact prod_at h _ l
theorem back2_at (r : Fin 4096) (l : Fin 512) : val_main_v15 (F := Ideal) P (ix2 r l) = ((model Y P W B G).sh r l 2 : EReal) := by
  unfold val_main_v15
  pointwise
  refine (ext_at h _ l).trans ?_
  unfold Model.sh
  by_cases hr : (r : ℕ) < 2
  · rw [if_pos hr, if_neg (by omega)]
  · rw [if_neg hr, if_pos (by omega)]
theorem back1_at (r : Fin 4096) (l : Fin 512) : val_main_v24 (F := Ideal) P (ix2 r l) = ((model Y P W B G).sh r l 1 : EReal) := by
  unfold val_main_v24
  pointwise
  refine (ext_at h _ l).trans ?_
  unfold Model.sh
  by_cases hr : (r : ℕ) < 1
  · rw [if_pos (show 1 + (r : ℕ) < 2 by omega), if_neg (by omega)]
  · rw [if_neg (show ¬ 1 + (r : ℕ) < 2 by omega), if_pos (by omega), show 1 + (r : ℕ) - 2 = r - 1 by omega]
theorem back0_at (r : Fin 4096) (l : Fin 512) : val_main_v31 (F := Ideal) P (ix2 r l) = ((model Y P W B G).u r l : EReal) := by
  unfold val_main_v31
  pointwise
  refine (ext_at h _ l).trans ?_
  rw [if_neg (show ¬ 2 + (r : ℕ) < 2 by omega), show 2 + (r : ℕ) - 2 = r by omega]

/-- The convolution's result and the product with its gate. -/
theorem conv_at (r : Fin 4096) (l : Fin 512) : val_main_v37 (F := Ideal) P W B (ix2 r l) = ((model Y P W B G).cv r l : EReal) := by
  unfold val_main_v37 val_main_v30 val_main_v23 val_main_v20 val_main_v29 val_main_v36 val_main_v22 val_main_v21 val_main_v19 val_main_v18
    val_main_v17 val_main_v16 val_main_v28 val_main_v27 val_main_v26 val_main_v25 val_main_v35 val_main_v34 val_main_v33 val_main_v32
  pointwise
  rw [back2_at h, back1_at h, back0_at h]
  refine Eq.trans (congrArg₂ (fun a b : EReal => a + b) (congrArg₂ (fun a b : EReal => a + b) (congrArg₂ (fun a b : EReal => a + b)
    (h.b_at l) (congrArg (fun a : EReal => _ * a) (h.w_at 0 l))) (congrArg (fun a : EReal => _ * a) (h.w_at 1 l)))
    (congrArg (fun a : EReal => _ * a) (h.w_at 2 l))) ?_
  unfold Model.cv
  norm_cast
theorem y_at (r : Fin 4096) (l : Fin 512) : val_main_v38 (F := Ideal) P W B (ix2 r l) = ((model Y P W B G).yv r l : EReal) := by
  unfold val_main_v38
  pointwise
  rw [gate0_at h, conv_at h, Model.yv, EReal.coe_mul]

omit h in
theorem sixty_four : Ideal.ofBits FTy.f32 0x42800000#32 = ((64 : ℝ) : EReal) := by
  simp [Ideal.ofBits, Ideal.ieee, -EReal.coe_mul]; norm_num
omit h in
theorem neg_half : Ideal.ofBits FTy.f32 0xBF000000#32 = ((-(1 / 2) : ℝ) : EReal) := by
  simp [Ideal.ofBits, Ideal.ieee, -EReal.coe_mul]; norm_num

/-- The mean square of lane `l`'s group with the small number. -/
theorem ms_at (r : Fin 4096) (a : Fin 8) (l : ℕ) (hl : l / 64 = a) : val_main_v46 (F := Ideal) P W B (ix3 r a 0)
    = ((mean (fun l => (model Y P W B G).yv r l * (model Y P W B G).yv r l) l + eps : ℝ) : EReal) := by
  unfold val_main_v46 val_main_v44 val_main_v42 val_main_v41 val_main_v40 val_main_v39 val_main_v45 val_main_v43 val_main_cst_1 val_main_cst_2 val_main_cst_3
  pointwise
  rw [sixty_four, eps_coe, Ideal.div_coe (by norm_num : (64 : ℝ) ≠ 0), EReal.coe_add]
  refine congrArg (fun a : EReal => a + _) ?_
  refine Eq.trans (congrArg (fun a : EReal => a * _) (Eq.trans (Finset.sum_congr rfl fun k _ => ?_)
    (coe_sum fun k : Fin 64 => (model Y P W B G).yv r (64 * (l / 64) + k) * (model Y P W B G).yv r (64 * (l / 64) + k)))) ?_
  · refine (congrArg₂ (fun a b : EReal => a * b) (y_at h r _) (y_at h r _)).trans ?_
    rw [← EReal.coe_mul, hl, mul_comm 64]
  · unfold mean
    rw [← EReal.coe_mul, mul_one_div]
theorem rs_at (r : Fin 4096) (a : Fin 8) (l : ℕ) (hl : l / 64 = a) : val_main_v47 (F := Ideal) P W B (ix3 r a 0) = ((model Y P W B G).rs r l : EReal) := by
  unfold val_main_v47
  pointwise
  rw [ms_at h r a l hl, rsqrt_pos (Model.ms_pos (model Y P W B G) r l)]; rfl
theorem n_at (r : Fin 4096) (l : Fin 512) : val_main_v53 (F := Ideal) P W B (ix2 r l) = ((model Y P W B G).nv r l : EReal) := by
  unfold val_main_v53 val_main_v52 val_main_v51 val_main_v39
  pointwise
  rw [y_at h]
  refine (congrArg (fun a : EReal => _ * a) (rs_at h r ⟨l / 64, by omega⟩ l rfl)).trans ?_
  rw [Model.nv, EReal.coe_mul]
theorem sg_at (r : Fin 4096) (l : Fin 512) : val_main_v57_2 (F := Ideal) P (ix2 r l) = ((model Y P W B G).sg r l : EReal) := by
  unfold val_main_v57_2 val_main_call0_v4 val_main_call0_v3 val_main_call0_v2 val_main_call0_v1 val_main_call0_v0 val_main_call0_cst val_main_call0_cst_0
  pointwise
  rw [gate3_at h]
  have hp : (0 : ℝ) < 1 + Real.exp (-(model Y P W B G).p3 r l) := add_pos one_pos (Real.exp_pos _)
  rw [← EReal.coe_neg, Ideal.exp_coe, ← EReal.coe_one, ← EReal.coe_add, Ideal.div_coe hp.ne', ← EReal.coe_mul, one_mul]
  rfl
theorem sil_at (r : Fin 4096) (l : Fin 512) : val_main_v57_0 (F := Ideal) P (ix2 r l) = ((model Y P W B G).sil r l : EReal) := by
  unfold val_main_v57_0
  pointwise
  rw [gate3_at h, sg_at h, Model.sil, EReal.coe_mul]
theorem ct_at (r : Fin 4096) (l : Fin 512) : val_main_v60 (F := Ideal) Y (ix2 r l) = ((model Y P W B G).dy r l : EReal) := by
  unfold val_main_v60 val_main_v59
  pointwise
  exact h.dy_at r ⟨l, by omega⟩
theorem dn_at (r : Fin 4096) (l : Fin 512) : val_main_v68 (F := Ideal) Y P G (ix2 r l) = ((model Y P W B G).dn r l : EReal) := by
  unfold val_main_v68 val_main_v67 val_main_v54 val_main_v2 val_main_v62
  pointwise
  rw [ct_at h, sil_at h]
  refine (congrArg (fun a : EReal => _ * a) (h.g_at ⟨l, by omega⟩)).trans ?_
  unfold Model.dn
  norm_cast
  ring_nf
/-- The group's sum, and what the norm's gradient takes from it. -/
theorem gsum_at (r : Fin 4096) (a : Fin 8) (l : ℕ) (hl : l / 64 = a) : val_main_v72 (F := Ideal) Y P W B G (ix2 r a)
    = ((∑ k : Fin 64, (model Y P W B G).yv r (64 * (l / 64) + k) * (model Y P W B G).dn r (64 * (l / 64) + k) : ℝ) : EReal) := by
  unfold val_main_v72 val_main_v71 val_main_v39 val_main_v70 val_main_cst_7
  pointwise
  refine Eq.trans (Finset.sum_congr rfl fun k _ => ?_) (coe_sum fun k : Fin 64 => (model Y P W B G).yv r (64 * (l / 64) + k) * (model Y P W B G).dn r (64 * (l / 64) + k))
  refine (congrArg₂ (fun a b : EReal => a * b) (y_at h r _) (dn_at h r _)).trans ?_
  rw [← EReal.coe_mul, hl, mul_comm 64]
def _root_.Cert.Conv.Model.cor (M : Model) (r l : ℕ) : ℝ :=
  (∑ k : Fin 64, M.yv r (64 * (l / 64) + k) * M.dn r (64 * (l / 64) + k))
    * (-(1 / 2) * (M.rs r l * (1 / (mean (fun l => M.yv r l * M.yv r l) l + eps)))) * (1 / 64)
theorem cor_at (r : Fin 4096) (a : Fin 8) (l : ℕ) (hl : l / 64 = a) : val_main_v79 (F := Ideal) Y P W B G (ix2 r a)
    = ((model Y P W B G).cor r l : EReal) := by
  unfold val_main_v79 val_main_v78 val_main_v77 val_main_v76 val_main_v73 val_main_v50 val_main_v49 val_main_v48 val_main_cst_4 val_main_cst_8 val_main_cst_9
  pointwise
  rw [Fin.sum_univ_one, gsum_at h r a l hl, sixty_four, neg_half, Ideal.div_coe (by norm_num : (64 : ℝ) ≠ 0)]
  refine Eq.trans (congrArg (fun a : EReal => _ * (_ * a) * _) (congrArg₂ Ideal.div (rs_at h r a l hl) (ms_at h r a l hl))) ?_
  rw [Ideal.div_coe (Model.ms_pos _ r l).ne']
  unfold Model.cor
  norm_cast
omit h in
theorem mean_group (f : ℕ → ℝ) (l k : ℕ) (hk : k < 64) : mean f (64 * (l / 64) + k) = mean f l := by
  unfold mean
  rw [show (64 * (l / 64) + k) / 64 = l / 64 by omega]
omit h in
theorem rs_sq (M : Model) (r l : ℕ) : M.rs r l * M.rs r l = 1 / (mean (fun l => M.yv r l * M.yv r l) l + eps) := by
  unfold Model.rs
  rw [← mul_inv, Real.mul_self_sqrt (M.ms_pos r l).le, one_div]
omit h in
/-- The group's root factors out of the sum, and its square is the reciprocal the division gives. -/
theorem dyv_eq (M : Model) (r l : ℕ) : M.dn r l * M.rs r l + M.yv r l * M.cor r l + M.cor r l * M.yv r l = M.dyv r l := by
  have e : mean (fun l => M.dn r l * M.nv r l) l
      = M.rs r l * (∑ k : Fin 64, M.yv r (64 * (l / 64) + k) * M.dn r (64 * (l / 64) + k)) / 64 := by
    rw [Finset.mul_sum]
    unfold mean
    congr 1
    refine Finset.sum_congr rfl fun k _ => ?_
    show M.dn r (64 * (l / 64) + k) * M.nv r (64 * (l / 64) + k) = _
    have e' : M.rs r (64 * (l / 64) + k) = M.rs r l := by
      unfold Model.rs
      rw [mean_group _ l k k.isLt]
    rw [Model.nv, e']
    ring
  rw [Model.dyv, e, Model.cor, Model.nv, ← rs_sq]
  ring

theorem dyv_at (r : Fin 4096) (l : Fin 512) : val_main_v85 (F := Ideal) Y P W B G (ix2 r l) = ((model Y P W B G).dyv r l : EReal) := by
  unfold val_main_v85 val_main_v84 val_main_v83 val_main_v82 val_main_v81 val_main_v80 val_main_v75 val_main_v74 val_main_v70 val_main_v39
  pointwise
  rw [y_at h, dn_at h]
  have e := cor_at h r ⟨l / 64, by omega⟩ l rfl
  refine Eq.trans (congrArg₂ (fun a b : EReal => a + b) (congrArg₂ (fun a b : EReal => a + b)
    (congrArg (fun a : EReal => _ * a) (rs_at h r ⟨l / 64, by omega⟩ l rfl)) (congrArg (fun a : EReal => _ * a) e))
    (congrArg (fun a : EReal => a * _) e)) ?_
  rw [← dyv_eq]
  norm_cast
theorem dc_at (r : Fin 4096) (l : Fin 512) : val_main_v86 (F := Ideal) Y P W B G (ix2 r l) = ((model Y P W B G).dc r l : EReal) := by
  unfold val_main_v86
  pointwise
  rw [gate0_at h, dyv_at h, Model.dc, mul_comm, EReal.coe_mul]
theorem d0_at (r : Fin 4096) (l : Fin 512) : val_main_v87 (F := Ideal) Y P W B G (ix2 r l) = ((model Y P W B G).d0 r l : EReal) := by
  unfold val_main_v87
  pointwise
  rw [dyv_at h, conv_at h, Model.d0, EReal.coe_mul]
theorem d3_at (r : Fin 4096) (l : Fin 512) : val_main_v63 (F := Ideal) Y P W B G (ix2 r l) = ((model Y P W B G).d3 r l : EReal) := by
  have e : val_main_v61 (F := Ideal) Y P W B G (ix2 r l) = (((model Y P W B G).nv r l * (model Y P W B G).g l * (model Y P W B G).dy r l : ℝ) : EReal) := by
    unfold val_main_v61 val_main_v56 val_main_v55 val_main_v54 val_main_v2
    pointwise
    rw [ct_at h, n_at h]
    refine (congrArg (fun a : EReal => _ * a * _) (h.g_at ⟨l, by omega⟩)).trans ?_
    norm_cast
  unfold val_main_v63 val_main_call1_v2 val_main_call1_v1 val_main_call1_v0 val_main_v57_1 val_main_call0_v7 val_main_call0_v6 val_main_call0_cst_1
  pointwise
  rw [e, sg_at h, gate3_at h, ← EReal.coe_one, Model.d3]
  norm_cast
  ring_nf

/-- The three rows of the filter's gradient. -/
theorem g2_at (l : Fin 512) : val_main_v93 (F := Ideal) Y P W B G (ix1 l) = ((∑ r : Fin 4096, (model Y P W B G).e2 r l : ℝ) : EReal) := by
  unfold val_main_v93 val_main_v90 val_main_v89 val_main_v88 val_main_cst_10 val_main_cst_11
  pointwise
  refine (Fin.sum_univ_one _).trans ?_
  refine Eq.trans (Finset.sum_congr rfl fun r _ => ?_) (coe_sum fun r : Fin 4096 => (model Y P W B G).e2 r l)
  rw [back0_at h, dc_at h, Model.e2, mul_comm, EReal.coe_mul]
theorem g1_at (l : Fin 512) : val_main_v102 (F := Ideal) Y P W B G (ix1 l) = ((∑ r : Fin 4096, (model Y P W B G).e1 r l : ℝ) : EReal) := by
  unfold val_main_v102 val_main_v99 val_main_v98 val_main_v97 val_main_cst_14 val_main_cst_15
  pointwise
  refine (Fin.sum_univ_one _).trans ?_
  refine Eq.trans (Finset.sum_congr rfl fun r _ => ?_) (coe_sum fun r : Fin 4096 => (model Y P W B G).e1 r l)
  rw [back1_at h, dc_at h, Model.e1, mul_comm, EReal.coe_mul]
theorem g0_at (l : Fin 512) : val_main_v116 (F := Ideal) Y P W B G (ix1 l) = ((∑ r : Fin 4096, (model Y P W B G).e0 r l : ℝ) : EReal) := by
  unfold val_main_v116 val_main_v113 val_main_v112 val_main_v111 val_main_cst_20 val_main_cst_21
  pointwise
  refine (Fin.sum_univ_one _).trans ?_
  refine Eq.trans (Finset.sum_congr rfl fun r _ => ?_) (coe_sum fun r : Fin 4096 => (model Y P W B G).e0 r l)
  rw [back2_at h, dc_at h, Model.e0, mul_comm, EReal.coe_mul]
theorem bias_at (l : Fin 512) : val_main_v110 (F := Ideal) Y P W B G (ix1 l) = ((∑ r : Fin 4096, (model Y P W B G).dc r l : ℝ) : EReal) := by
  unfold val_main_v110 val_main_v109 val_main_v108 val_main_cst_18 val_main_cst_19
  pointwise
  refine (Fin.sum_univ_one _).trans ?_
  refine Eq.trans (Finset.sum_congr rfl fun r _ => ?_) (coe_sum fun r : Fin 4096 => (model Y P W B G).dc r l)
  exact dc_at h r l
theorem gain_at (l : Fin 512) : val_main_v69 (F := Ideal) Y P W B (ix1 l) = ((∑ r : Fin 4096, (model Y P W B G).eg r l : ℝ) : EReal) := by
  unfold val_main_v69 val_main_v66 val_main_v65 val_main_v64 val_main_v62 val_main_cst_5 val_main_cst_6
  pointwise
  refine (Fin.sum_univ_one _).trans ?_
  refine Eq.trans (Finset.sum_congr rfl fun r _ => ?_) (coe_sum fun r : Fin 4096 => (model Y P W B G).eg r l)
  rw [n_at h, ct_at h, sil_at h, Model.eg]
  norm_cast
  ring_nf
theorem filter_at (j : Fin 3) (l : Fin 512) : val_main_v119 (F := Ideal) Y P W B G (ix2 j l)
    = ((∑ r : Fin 4096, (model Y P W B G).ew j r l : ℝ) : EReal) := by
  unfold val_main_v119 val_main_v105 val_main_v118 val_main_v117 val_main_v104 val_main_v103 val_main_v95 val_main_v94
    val_main_cst_12 val_main_cst_16 val_main_cst_22
  pointwise
  rw [g2_at h, g1_at h, g0_at h]
  unfold Model.ew
  by_cases h0 : (j : ℕ) = 0
  · simp only [h0]
    simp
  · by_cases h1 : (j : ℕ) = 1
    · simp only [h1]
      simp
    · have h2 : (j : ℕ) = 2 := by omega
      simp only [h2]
      simp
theorem du_at (r : Fin 4096) (l : Fin 512) : val_main_v123 (F := Ideal) Y P W B G (ix2 r l) = ((model Y P W B G).du r l : EReal) := by
  unfold val_main_v123 val_main_v121 val_main_v120 val_main_v107 val_main_v106 val_main_v96 val_main_cst_13 val_main_cst_17 val_main_cst_23
  pointwise
  have e2 : val_main_v92 (F := Ideal) Y P W B G (ix2 r l) = (((model Y P W B G).dc r l * (model Y P W B G).w 2 l : ℝ) : EReal) := by
    unfold val_main_v92 val_main_v91 val_main_v34 val_main_v33 val_main_v32
    pointwise
    rw [dc_at h, EReal.coe_mul]
    exact congrArg (fun a : EReal => _ * a) (h.w_at 2 l)
  have e1 : ∀ r : Fin 4096, val_main_v101 (F := Ideal) Y P W B G (ix2 r l) = (((model Y P W B G).dc r l * (model Y P W B G).w 1 l : ℝ) : EReal) := by
    intro r
    unfold val_main_v101 val_main_v100 val_main_v27 val_main_v26 val_main_v25
    pointwise
    rw [dc_at h, EReal.coe_mul]
    exact congrArg (fun a : EReal => _ * a) (h.w_at 1 l)
  have e0 : ∀ r : Fin 4096, val_main_v115 (F := Ideal) Y P W B G (ix2 r l) = (((model Y P W B G).dc r l * (model Y P W B G).w 0 l : ℝ) : EReal) := by
    intro r
    unfold val_main_v115 val_main_v114 val_main_v18 val_main_v17 val_main_v16
    pointwise
    rw [dc_at h, EReal.coe_mul]
    exact congrArg (fun a : EReal => _ * a) (h.w_at 0 l)
  rw [e2]
  unfold Model.du Model.nx
  rw [EReal.coe_add, EReal.coe_add]
  refine congrArg₂ (fun a b : EReal => a + b) (congrArg (fun b : EReal => _ + b) ?_) ?_
  · by_cases hr : (r : ℕ) + 1 < 4096
    · rw [dif_pos (by omega), if_pos hr, e1]
      show (((model Y P W B G).dc (2 + (r : ℕ) - 1) l * _ : ℝ) : EReal) = _
      rw [show 2 + (r : ℕ) - 1 = r + 1 by omega]
    · rw [dif_neg (by omega), if_neg hr, zero_mul, EReal.coe_zero]
  · by_cases hr : (r : ℕ) + 2 < 4096
    · rw [dif_pos (by omega), if_pos hr, e0]
      show (((model Y P W B G).dc (2 + (r : ℕ)) l * _ : ℝ) : EReal) = _
      rw [show 2 + (r : ℕ) = r + 2 by omega]
    · rw [dif_neg (by omega), if_neg hr, zero_mul, EReal.coe_zero]
theorem d1_at (r : Fin 4096) (l : Fin 512) : val_main_v125 (F := Ideal) Y P W B G (ix2 r l) = ((model Y P W B G).d1 r l : EReal) := by
  unfold val_main_v125
  pointwise
  rw [du_at h, gate2_at h, Model.d1, EReal.coe_mul]
theorem d2_at (r : Fin 4096) (l : Fin 512) : val_main_v124 (F := Ideal) Y P W B G (ix2 r l) = ((model Y P W B G).d2 r l : EReal) := by
  unfold val_main_v124
  pointwise
  rw [du_at h, gate1_at h, Model.d2, mul_comm, EReal.coe_mul]
theorem dp_at (s : Fin 4) (r : Fin 4096) (l : Fin 512) : val_main_v137 (F := Ideal) Y P W B G (ix3 s r l) = ((model Y P W B G).dp s r l : EReal) := by
  unfold val_main_v137 val_main_v136 val_main_v135 val_main_v134 val_main_v133 val_main_v132 val_main_v131 val_main_v130 val_main_v129 val_main_v128
    val_main_v127 val_main_v126 val_main_cst_24 val_main_cst_25 val_main_cst_26 val_main_cst_27
  pointwise
  rw [d0_at h, d1_at h, d2_at h, d3_at h]
  unfold Model.dp
  by_cases h0 : (s : ℕ) = 0
  · simp only [h0]
    simp
  · by_cases h1 : (s : ℕ) = 1
    · simp only [h1]
      simp
    · by_cases h2 : (s : ℕ) = 2
      · simp only [h2]
        simp
      · have h3 : (s : ℕ) = 3 := by omega
        simp only [h3]
        simp
end Cert.ReferenceIdeal.Conv
-- ==== Proof.GradIn.Value.lean ====
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.GradIn

open Idealize.ShloMosaic Idealize.ShloMosaic.TcCoe Idealize.ShloMosaic.Tactic
open Idealize.SL Idealize.SL.Sem
open Idealize.ShloMosaic.Pipeline (Dat Cfg Window)
open Cert.Kernel3Ideal.Gen

variable (m : (ℓ : Loc nD τ sig) → Buf (Elt Ideal) ℓ)

theorem idx : ∀ t : Fin cfg0.N,
    win0_0.index t = ![0, 0] ∧ win0_1.index t = ![t.val, 0, 0] ∧ win0_2.index t = ![0, t.val] :=
  (by decide +kernel : ∀ t : Fin grid0.N, _)

/-- After every point the scratch holds the normed activations turned over. -/
theorem scratch (c : Dev nD) : ∀ (n : ℕ) (hn : n < cfg0.N),
    (outsAt0 m c n hn).2 = k0_pay1 (iblk m c 0 ⟨0, by decide⟩)
  | 0, hn => by
    have e := outsAt0_A m c ⟨0, hn⟩ rfl
    dsimp only at e
    rw [e]
    frame_out
  | n + 1, hn => by
    have hN : n + 1 < 8 := hn
    have e := outsAt0_B m c ⟨n + 1, hn⟩ (by show ¬ (n + 1) % 8 = 0; omega)
    dsimp only at e
    rw [e]
    show (outsAt0 m c n _).2 = _
    exact scratch c n _

/-- What a point leaves in its block of the result. -/
theorem block (c : Dev nD) (t : Fin cfg0.N) :
    (outsAt0 m c t.val t.isLt).1 = k0_pay2 (k0_pay1 (iblk m c 0 ⟨0, by decide⟩)) (iblk m c 1 t) := by
  by_cases h : t.val % 8 = 0
  · have : t = ⟨0, by decide⟩ := Fin.ext (by have : t.val < 8 := t.isLt; show t.val = 0; omega)
    subst this
    rw [outsAt0_A m c _ h]
    frame_out
  · rw [outsAt0_B m c t h]
    dsimp only
    rw [scratch]
    frame_out
    simp only [read_unread_whole]

/-- The weight gradient: a column's eight groups are the eight stacked cotangents. -/
def grad (h : S4096x1024.Idx → EReal) (d : S8x4096x512.Idx → EReal) : S1024x4096.Idx → EReal := fun i =>
  ∑ k : Fin 4096, h (ix2 k (i 0)) * d (ix3 (⟨(i 1).val / 512, by have : (i 1).val < 4096 := (i 1).isLt; omega⟩ : Fin 8) k (⟨(i 1).val % 512, by omega⟩ : Fin 512))

theorem left_at (c : Dev nD) (t : Fin cfg0.N) (x : Fin 4096) (a : Fin 1024) :
    iblk m c 0 t (ix2 x a) = m ((c : Thread nD τ).loc main_arg0) (ix2 x a) := by
  blk_ext [iblk, V, idx t]

theorem final (c : Dev nD) :
    (dats m 0 c).arrAt 2 cfg0.N = grad (m ((c : Thread nD τ).loc main_arg0)) (m ((c : Thread nD τ).loc main_arg1)) := by
  refine (dats m 0 c).arrAt_eq_of_covers 2 _ (by decide +kernel) fun t _ y => ?_
  obtain ⟨a, b, rfl⟩ : ∃ (a : Fin 1024) (b : Fin 512), y = ix2 a b := ⟨y 0, y 1, by ext k; fin_cases k <;> rfl⟩
  have ht : t.val < 8 := t.isLt
  rw [show ((cfg0.win 2).blk t).view.emb (ix2 a b) = ix2 a (⟨512 * t.val + b, by omega⟩ : Fin 4096) by blk_ext [idx t]]
  blk_simp
  rw [after0_2, block]
  show k0_pay2 (k0_pay1 (iblk m c 0 ⟨0, by decide⟩)) (iblk m c 1 t) (ix2 a b) = _
  unfold k0_pay2 k0_pay1
  pointwise
  have e' : ∀ x : Fin 4096, iblk m c 1 t (ix3 0 x b) = m ((c : Thread nD τ).loc main_arg1)
      (ix3 (⟨(512 * t.val + b) / 512, by omega⟩ : Fin 8) x (⟨(512 * t.val + b) % 512, by omega⟩ : Fin 512)) := fun x => by
    show iblk m c 1 t (ix3 0 x b) = _
    blk_ext [iblk, V, idx t]
  exact Finset.sum_congr rfl fun x _ => congrArg₂ (· * ·) (left_at m c _ x a) (e' x)

end Cert.Kernel3Ideal.GradIn

end
-- ==== Proof.Shared.Columns.lean ====
module

public import Idealize.ShloMosaic.Lib.Pointwise

@[expose] public section

namespace Cert.Shared

/-- Eight arrays of 512 columns laid side by side: column `b` is column `b % 512` of array `b / 512`. -/
theorem side_by_side {α : Type} (f : Fin 8 → Fin 512 → α) (b : Fin 4096) :
    (if h : b.val < 512 then f 0 ⟨b.val, h⟩
      else if h : b.val - 512 < 512 then f 1 ⟨b.val - 512, h⟩
      else if h : b.val - 512 - 512 < 512 then f 2 ⟨b.val - 512 - 512, h⟩
      else if h : b.val - 512 - 512 - 512 < 512 then f 3 ⟨b.val - 512 - 512 - 512, h⟩
      else if h : b.val - 512 - 512 - 512 - 512 < 512 then f 4 ⟨b.val - 512 - 512 - 512 - 512, h⟩
      else if h : b.val - 512 - 512 - 512 - 512 - 512 < 512 then f 5 ⟨b.val - 512 - 512 - 512 - 512 - 512, h⟩
      else if h : b.val - 512 - 512 - 512 - 512 - 512 - 512 < 512 then f 6 ⟨b.val - 512 - 512 - 512 - 512 - 512 - 512, h⟩
      else f 7 ⟨b.val - 512 - 512 - 512 - 512 - 512 - 512 - 512, by omega⟩)
      = f ⟨b.val / 512, by omega⟩ ⟨b.val % 512, by omega⟩ := by
  split_ifs <;> exact congrArg₂ f (Fin.ext (by simp only [Fin.isValue, Fin.coe_ofNat_eq_mod]; omega)) (Fin.ext (by simp only; omega))

/-- A sum over `n * b` rows, tile by tile. -/
theorem by_tiles {M : Type} [AddCommMonoid M] {N : ℕ} (n b : ℕ) (hN : N = n * b) (f : Fin N → M) :
    ∑ s : Fin n, ∑ k : Fin b, f ⟨b * s.val + k.val, by
      subst hN
      calc b * s.val + k.val < b * s.val + b := Nat.add_lt_add_left k.isLt _
        _ = (s.val + 1) * b := by ring
        _ ≤ n * b := Nat.mul_le_mul_right b s.isLt⟩ = ∑ k : Fin N, f k := by
  subst hN
  rw [← Equiv.sum_comp finProdFinEquiv, Fintype.sum_prod_type]
  exact Finset.sum_congr rfl fun s _ => Finset.sum_congr rfl fun k _ => congrArg f (Fin.ext (by
    simp only [finProdFinEquiv_apply_val]; ring))

/-- A sum over 4096 rows, taken as eight tiles of 512 rows, the rows of a tile eight apart. -/
theorem by_eights {M : Type} [AddCommMonoid M] (f : Fin 4096 → M) :
    ∑ a : Fin 8, ∑ t : Fin 8, ∑ q : Fin 64, f ⟨512 * t.val + (q.val * 8 + a.val), by omega⟩ = ∑ k : Fin 4096, f k := by
  rw [← by_tiles 8 512 rfl f, Finset.sum_comm]
  refine Finset.sum_congr rfl fun t _ => ?_
  rw [← by_tiles 64 8 rfl fun k : Fin 512 => f ⟨512 * t.val + k.val, by omega⟩, Finset.sum_comm]
  exact Finset.sum_congr rfl fun q _ => Finset.sum_congr rfl fun a _ => congrArg f (Fin.ext (by simp only; omega))

end Cert.Shared
-- ==== Proof.GradIn.RefValue.lean ====
module

public import proofs.«01_k».proof.Proof.Gen.Reference3Ideal.Run
public import proofs.«01_k».proof.Proof.GradIn.Value
public import proofs.«01_k».proof.Proof.Shared.Columns

@[expose] public section

set_option maxRecDepth 16384

noncomputable section

namespace Cert.Reference3Ideal.GradIn

open Idealize.ShloMosaic Idealize.ShloMosaic.TcCoe Idealize.ShloMosaic.Tactic
open Idealize.SL Idealize.SL.Sem

/-- The reference's own result is the weight gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
          = Cert.Kernel3Ideal.GradIn.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  obtain ⟨a, b, rfl⟩ : ∃ (a : Fin 1024) (b : Fin 4096), i = ix2 a b := ⟨i 0, i 1, by ext k; fin_cases k <;> rfl⟩
  pointwise
  refine Finset.sum_congr rfl fun x _ => (mul_comm _ _).trans (congrArg₂ (· * ·) rfl ?_)
  exact Cert.Shared.side_by_side (fun s l => m ((c.tc : Thread nD τ).loc main_arg1) (ix3 s x l)) b

end Cert.Reference3Ideal.GradIn

end
-- ==== Proof.MmTn.Gate.lean ====
module

public import proofs.«01_k».proof.Proof.Gen.Kernel5Ideal.Value
public import proofs.«01_k».proof.Proof.Gen.Reference5Ideal.Run
public import proofs.«01_k».proof.Proof.Shared.Columns
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.MmTn

open Idealize.ShloMosaic Idealize.ShloMosaic.TcCoe Idealize.ShloMosaic.Tactic
open Idealize.SL Idealize.SL.Sem
open Idealize.ShloMosaic.Pipeline (Dat Cfg Window)
open Cert.Kernel5Ideal.Gen

variable (m : (ℓ : Loc nD τ sig) → Buf (Elt Ideal) ℓ)

/-- Row `k`'s share of entry `(a, b)`. -/
def term (x : S4096x1024.Idx → EReal) (y : S4096x1024.Idx → EReal) (a : Fin 1024) (b : Fin 1024) (k : Fin 4096) : EReal :=
  x (ix2 k a) * y (ix2 k b)

/-- The weight gradient: the rows of the left operand against the rows of the right one. -/
def grad (x : S4096x1024.Idx → EReal) (y : S4096x1024.Idx → EReal) : S1024x1024.Idx → EReal := fun i =>
  ∑ k : Fin 4096, term x y (i 0) (i 1) k

theorem idx : ∀ t : Fin cfg0.N,
    win0_0.index t = ![t.val, 0] ∧ win0_1.index t = ![t.val, 0] ∧ win0_2.index t = ![0, 0] :=
  (by decide +kernel : ∀ t : Fin grid0.N, _)
theorem last : ∀ t : Fin cfg0.N, (cfg0.win 2).flush t = true → t.val = 3 :=
  (by decide +kernel : ∀ t : Fin grid0.N, _)

variable (c : Dev nD)

/-- Tile `s`'s own product. -/
def tile (s : Fin 4) (a : Fin 1024) (b : Fin 1024) : EReal :=
  ∑ k : Fin 1024, term (m ((c : Thread nD τ).loc main_arg0)) (m ((c : Thread nD τ).loc main_arg1)) a b ⟨1024 * s.val + k.val, by omega⟩

theorem pay (t : Fin cfg0.N) (v : Vec Ideal S1024x1024 .f32) (a : Fin 1024) (b : Fin 1024) :
    k0_pay2 (iblk m c 0 t) v (iblk m c 1 t) (ix2 a b) = v (ix2 a b) + tile m c ⟨t.val, t.isLt⟩ a b := by
  have ht : t.val < 4 := t.isLt
  unfold k0_pay2
  pointwise
  refine congrArg (v (ix2 a b) + ·) (Finset.sum_congr rfl fun k _ => congrArg₂ (· * ·) ?_ ?_)
  · show iblk m c 0 t (ix2 k a) = _
    blk_ext [iblk, V, idx t]
  · show iblk m c 1 t (ix2 k b) = _
    blk_ext [iblk, V, idx t]

theorem pay_first (t : Fin cfg0.N) (a : Fin 1024) (b : Fin 1024) :
    k0_pay2 (F := Ideal) (iblk m c 0 t) (k0_pay1 (F := Ideal)) (iblk m c 1 t) (ix2 a b) = tile m c ⟨t.val, t.isLt⟩ a b := by
  rw [pay, show (k0_pay1 (F := Ideal)) (ix2 a b) = 0 by unfold k0_pay1; pointwise, zero_add]

/-- After point `n` the accumulator is the sum of the first `n + 1` tiles' products. -/
theorem acc (a : Fin 1024) (b : Fin 1024) : ∀ (n : ℕ) (hn : n < cfg0.N),
    (outsAt0 m c n hn).2 (ix2 a b) = ∑ s : Fin (n + 1), tile m c ⟨s.val, lt_of_lt_of_le s.isLt hn⟩ a b
  | 0, hn => by
    have e := outsAt0_A m c ⟨0, hn⟩ rfl (by show ¬ 0 % 4 = 3; omega)
    dsimp only at e
    rw [e]
    frame_out
    rw [pay_first, Fin.sum_univ_one]
    rfl
  | n + 1, hn => by
    have hN : n + 1 < 4 := hn
    rw [Fin.sum_univ_castSucc]
    refine Eq.trans ?_ (congrArg₂ (· + ·) (acc a b n (Nat.lt_of_succ_lt hn)) rfl)
    by_cases h : (n + 1) % 4 = 3
    · have e := outsAt0_C m c ⟨n + 1, hn⟩ (by show ¬ (n + 1) % 4 = 0; omega) h
      dsimp only at e
      rw [e]
      frame_out
      simp only [read_unread_whole]
      rw [pay]
      rfl
    · have e := outsAt0_B m c ⟨n + 1, hn⟩ (by show ¬ (n + 1) % 4 = 0; omega) h
      dsimp only at e
      rw [e]
      frame_out
      simp only [read_unread_whole]
      rw [pay]
      rfl

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, by ext k; fin_cases k <;> rfl⟩
  have ht : t.val = 3 := last t hf
  rw [show ((cfg0.win 2).blk t).view.emb (ix2 a b) = ix2 a b by blk_ext [idx t]]
  blk_simp
  rw [after0_2]
  have e : (outsAt0 m c t.val t.isLt).1 (ix2 a b) = (outsAt0 m c t.val t.isLt).2 (ix2 a b) := by
    rw [outsAt0_C m c t (by omega) (by omega)]
    frame_out
  refine Eq.trans e ((acc m c a b t.val t.isLt).trans ?_)
  obtain ⟨n, hn⟩ := t
  obtain rfl : n = 3 := ht
  exact Cert.Shared.by_tiles 4 1024 rfl fun k : Fin 4096 =>
    term (m ((c : Thread nD τ).loc main_arg0)) (m ((c : Thread nD τ).loc main_arg1)) a b k

end Cert.Kernel5Ideal.MmTn

namespace Cert.Reference5Ideal.MmTn

open Idealize.ShloMosaic Idealize.ShloMosaic.TcCoe Idealize.ShloMosaic.Tactic
open Idealize.SL Idealize.SL.Sem

/-- The reference's own result is the weight gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5)
          = Cert.Kernel5Ideal.MmTn.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  obtain ⟨a, b, rfl⟩ : ∃ (a : Fin 1024) (b : Fin 1024), i = ix2 a b := ⟨i 0, i 1, by ext k; fin_cases k <;> rfl⟩
  pointwise
  exact Finset.sum_congr rfl fun x _ => mul_comm _ _

end Cert.Reference5Ideal.MmTn

end
-- ==== Proof.MmTn.Out.lean ====
module

public import proofs.«01_k».proof.Proof.Gen.Kernel6Ideal.Value
public import proofs.«01_k».proof.Proof.Gen.Reference6Ideal.Run
public import proofs.«01_k».proof.Proof.Shared.Columns
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel6Ideal.MmTn

open Idealize.ShloMosaic Idealize.ShloMosaic.TcCoe Idealize.ShloMosaic.Tactic
open Idealize.SL Idealize.SL.Sem
open Idealize.ShloMosaic.Pipeline (Dat Cfg Window)
open Cert.Kernel6Ideal.Gen

variable (m : (ℓ : Loc nD τ sig) → Buf (Elt Ideal) ℓ)

/-- Row `k`'s share of entry `(a, b)`. -/
def term (x : S4096x1024.Idx → EReal) (y : S4096x1024.Idx → EReal) (a : Fin 1024) (b : Fin 1024) (k : Fin 4096) : EReal :=
  x (ix2 k a) * y (ix2 k b)

/-- The weight gradient: the rows of the left operand against the rows of the right one. -/
def grad (x : S4096x1024.Idx → EReal) (y : S4096x1024.Idx → EReal) : S1024x1024.Idx → EReal := fun i =>
  ∑ k : Fin 4096, term x y (i 0) (i 1) k

theorem idx : ∀ t : Fin cfg0.N,
    win0_0.index t = ![t.val, 0] ∧ win0_1.index t = ![t.val, 0] ∧ win0_2.index t = ![0, 0] :=
  (by decide +kernel : ∀ t : Fin grid0.N, _)
theorem last : ∀ t : Fin cfg0.N, (cfg0.win 2).flush t = true → t.val = 3 :=
  (by decide +kernel : ∀ t : Fin grid0.N, _)

variable (c : Dev nD)

/-- Tile `s`'s own product. -/
def tile (s : Fin 4) (a : Fin 1024) (b : Fin 1024) : EReal :=
  ∑ k : Fin 1024, term (m ((c : Thread nD τ).loc main_arg0)) (m ((c : Thread nD τ).loc main_arg1)) a b ⟨1024 * s.val + k.val, by omega⟩

theorem pay (t : Fin cfg0.N) (v : Vec Ideal S1024x1024 .f32) (a : Fin 1024) (b : Fin 1024) :
    k0_pay2 (iblk m c 0 t) v (iblk m c 1 t) (ix2 a b) = v (ix2 a b) + tile m c ⟨t.val, t.isLt⟩ a b := by
  have ht : t.val < 4 := t.isLt
  unfold k0_pay2
  pointwise
  refine congrArg (v (ix2 a b) + ·) (Finset.sum_congr rfl fun k _ => congrArg₂ (· * ·) ?_ ?_)
  · show iblk m c 0 t (ix2 k a) = _
    blk_ext [iblk, V, idx t]
  · show iblk m c 1 t (ix2 k b) = _
    blk_ext [iblk, V, idx t]

theorem pay_first (t : Fin cfg0.N) (a : Fin 1024) (b : Fin 1024) :
    k0_pay2 (F := Ideal) (iblk m c 0 t) (k0_pay1 (F := Ideal)) (iblk m c 1 t) (ix2 a b) = tile m c ⟨t.val, t.isLt⟩ a b := by
  rw [pay, show (k0_pay1 (F := Ideal)) (ix2 a b) = 0 by unfold k0_pay1; pointwise, zero_add]

/-- After point `n` the accumulator is the sum of the first `n + 1` tiles' products. -/
theorem acc (a : Fin 1024) (b : Fin 1024) : ∀ (n : ℕ) (hn : n < cfg0.N),
    (outsAt0 m c n hn).2 (ix2 a b) = ∑ s : Fin (n + 1), tile m c ⟨s.val, lt_of_lt_of_le s.isLt hn⟩ a b
  | 0, hn => by
    have e := outsAt0_A m c ⟨0, hn⟩ rfl (by show ¬ 0 % 4 = 3; omega)
    dsimp only at e
    rw [e]
    frame_out
    rw [pay_first, Fin.sum_univ_one]
    rfl
  | n + 1, hn => by
    have hN : n + 1 < 4 := hn
    rw [Fin.sum_univ_castSucc]
    refine Eq.trans ?_ (congrArg₂ (· + ·) (acc a b n (Nat.lt_of_succ_lt hn)) rfl)
    by_cases h : (n + 1) % 4 = 3
    · have e := outsAt0_C m c ⟨n + 1, hn⟩ (by show ¬ (n + 1) % 4 = 0; omega) h
      dsimp only at e
      rw [e]
      frame_out
      simp only [read_unread_whole]
      rw [pay]
      rfl
    · have e := outsAt0_B m c ⟨n + 1, hn⟩ (by show ¬ (n + 1) % 4 = 0; omega) h
      dsimp only at e
      rw [e]
      frame_out
      simp only [read_unread_whole]
      rw [pay]
      rfl

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 1024) (b : Fin 1024), y = ix2 a b := ⟨y 0, y 1, by ext k; fin_cases k <;> rfl⟩
  have ht : t.val = 3 := last t hf
  rw [show ((cfg0.win 2).blk t).view.emb (ix2 a b) = ix2 a b by blk_ext [idx t]]
  blk_simp
  rw [after0_2]
  have e : (outsAt0 m c t.val t.isLt).1 (ix2 a b) = (outsAt0 m c t.val t.isLt).2 (ix2 a b) := by
    rw [outsAt0_C m c t (by omega) (by omega)]
    frame_out
  refine Eq.trans e ((acc m c a b t.val t.isLt).trans ?_)
  obtain ⟨n, hn⟩ := t
  obtain rfl : n = 3 := ht
  exact Cert.Shared.by_tiles 4 1024 rfl fun k : Fin 4096 =>
    term (m ((c : Thread nD τ).loc main_arg0)) (m ((c : Thread nD τ).loc main_arg1)) a b k

end Cert.Kernel6Ideal.MmTn

namespace Cert.Reference6Ideal.MmTn

open Idealize.ShloMosaic Idealize.ShloMosaic.TcCoe Idealize.ShloMosaic.Tactic
open Idealize.SL Idealize.SL.Sem

/-- The reference's own result is the weight gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
          = Cert.Kernel6Ideal.MmTn.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  obtain ⟨a, b, rfl⟩ : ∃ (a : Fin 1024) (b : Fin 1024), i = ix2 a b := ⟨i 0, i 1, by ext k; fin_cases k <;> rfl⟩
  pointwise
  exact Finset.sum_congr rfl fun x _ => mul_comm _ _

end Cert.Reference6Ideal.MmTn

end
-- ==== Proof.MmTn.Embed.lean ====
module

public import proofs.«01_k».proof.Proof.Gen.Kernel7Ideal.Value
public import proofs.«01_k».proof.Proof.Gen.Reference7Ideal.Run
public import proofs.«01_k».proof.Proof.Shared.Columns
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel7Ideal.MmTn

open Idealize.ShloMosaic Idealize.ShloMosaic.TcCoe Idealize.ShloMosaic.Tactic
open Idealize.SL Idealize.SL.Sem
open Idealize.ShloMosaic.Pipeline (Dat Cfg Window)
open Cert.Kernel7Ideal.Gen

theorem pay_at (x : Vec Ideal S1x1024x256 .f32) (v : Vec Ideal S256x1024 .f32) (y : Vec Ideal S1024x1024 .bf16) (a : Fin 256) (b : Fin 1024) :
    k0_pay2 x v y (ix2 a b) = v (ix2 a b) + ∑ k : Fin 1024, x (ix3 0 k a) * y (ix2 k b) := by
  unfold k0_pay2
  pointwise

variable (m : (ℓ : Loc nD τ sig) → Buf (Elt Ideal) ℓ)

/-- Row `k`'s share of entry `(a, b)`. -/
def term (x : S2x4096x256.Idx → EReal) (y : S4096x1024.Idx → EReal) (a : Fin 256) (b : Fin 1024) (k : Fin 4096) : EReal :=
  x (ix3 1 k a) * y (ix2 k b)

/-- The weight gradient: the rows of the left operand against the rows of the right one. -/
def grad (x : S2x4096x256.Idx → EReal) (y : S4096x1024.Idx → EReal) : S256x1024.Idx → EReal := fun i =>
  ∑ k : Fin 4096, term x y (i 0) (i 1) k

theorem idx : ∀ t : Fin cfg0.N,
    win0_0.index t = ![1, t.val, 0] ∧ win0_1.index t = ![t.val, 0] ∧ win0_2.index t = ![0, 0] :=
  (by decide +kernel : ∀ t : Fin grid0.N, _)
theorem last : ∀ t : Fin cfg0.N, (cfg0.win 2).flush t = true → t.val = 3 :=
  (by decide +kernel : ∀ t : Fin grid0.N, _)

variable (c : Dev nD)

/-- Tile `s`'s own product. -/
def tile (s : Fin 4) (a : Fin 256) (b : Fin 1024) : EReal :=
  ∑ k : Fin 1024, term (m ((c : Thread nD τ).loc main_arg0)) (m ((c : Thread nD τ).loc main_arg1)) a b ⟨1024 * s.val + k.val, by omega⟩

theorem pay (t : Fin cfg0.N) (v : Vec Ideal S256x1024 .f32) (a : Fin 256) (b : Fin 1024) :
    k0_pay2 (iblk m c 0 t) v (iblk m c 1 t) (ix2 a b) = v (ix2 a b) + tile m c ⟨t.val, t.isLt⟩ a b := by
  have ht : t.val < 4 := t.isLt
  unfold k0_pay2
  pointwise
  refine congrArg (v (ix2 a b) + ·) (Finset.sum_congr rfl fun k _ => congrArg₂ (· * ·) ?_ ?_)
  · show iblk m c 0 t (ix3 0 k a) = _
    blk_ext [iblk, V, idx t]
  · show iblk m c 1 t (ix2 k b) = _
    blk_ext [iblk, V, idx t]

theorem pay_first (t : Fin cfg0.N) (a : Fin 256) (b : Fin 1024) :
    k0_pay2 (F := Ideal) (iblk m c 0 t) (k0_pay1 (F := Ideal)) (iblk m c 1 t) (ix2 a b) = tile m c ⟨t.val, t.isLt⟩ a b := by
  rw [pay, show (k0_pay1 (F := Ideal)) (ix2 a b) = 0 by unfold k0_pay1; pointwise, zero_add]

/-- After point `n` the accumulator is the sum of the first `n + 1` tiles' products. -/
theorem acc (a : Fin 256) (b : Fin 1024) : ∀ (n : ℕ) (hn : n < cfg0.N),
    (outsAt0 m c n hn).2 (ix2 a b) = ∑ s : Fin (n + 1), tile m c ⟨s.val, lt_of_lt_of_le s.isLt hn⟩ a b
  | 0, hn => by
    have e := outsAt0_A m c ⟨0, hn⟩ rfl (by show ¬ 0 % 4 = 3; omega)
    dsimp only at e
    rw [e]
    frame_out
    rw [pay_first, Fin.sum_univ_one]
    rfl
  | n + 1, hn => by
    have hN : n + 1 < 4 := hn
    rw [Fin.sum_univ_castSucc]
    refine Eq.trans ?_ (congrArg₂ (· + ·) (acc a b n (Nat.lt_of_succ_lt hn)) rfl)
    by_cases h : (n + 1) % 4 = 3
    · have e := outsAt0_C m c ⟨n + 1, hn⟩ (by show ¬ (n + 1) % 4 = 0; omega) h
      dsimp only at e
      rw [e]
      frame_out
      simp only [read_unread_whole]
      rw [pay]
      rfl
    · have e := outsAt0_B m c ⟨n + 1, hn⟩ (by show ¬ (n + 1) % 4 = 0; omega) h
      dsimp only at e
      rw [e]
      frame_out
      simp only [read_unread_whole]
      rw [pay]
      rfl

theorem final : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 256) (b : Fin 1024), y = ix2 a b := ⟨y 0, y 1, by ext k; fin_cases k <;> rfl⟩
  have ht : t.val = 3 := last t hf
  rw [show ((cfg0.win 2).blk t).view.emb (ix2 a b) = ix2 a b by blk_ext [idx t]]
  blk_simp
  rw [after0_2]
  have e : (outsAt0 m c t.val t.isLt).1 (ix2 a b) = (outsAt0 m c t.val t.isLt).2 (ix2 a b) := by
    rw [outsAt0_C m c t (by omega) (by omega)]
    frame_out
  refine Eq.trans e ((acc m c a b t.val t.isLt).trans ?_)
  obtain ⟨n, hn⟩ := t
  obtain rfl : n = 3 := ht
  exact Cert.Shared.by_tiles 4 1024 rfl fun k : Fin 4096 =>
    term (m ((c : Thread nD τ).loc main_arg0)) (m ((c : Thread nD τ).loc main_arg1)) a b k

end Cert.Kernel7Ideal.MmTn

namespace Cert.Reference7Ideal.MmTn

open Idealize.ShloMosaic Idealize.ShloMosaic.TcCoe Idealize.ShloMosaic.Tactic
open Idealize.SL Idealize.SL.Sem

/-- The reference's own result is the weight gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
          = Cert.Kernel7Ideal.MmTn.grad (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  obtain ⟨a, b, rfl⟩ : ∃ (a : Fin 256) (b : Fin 1024), i = ix2 a b := ⟨i 0, i 1, by ext k; fin_cases k <;> rfl⟩
  pointwise
  exact Finset.sum_congr rfl fun x _ => mul_comm _ _

end Cert.Reference7Ideal.MmTn

end
-- ==== Proof.Products.lean ====
module

public import proofs.«01_k».proof.Defs
public import proofs.«01_k».proof.Proof.Gen.Kernel3.Frame
public import proofs.«01_k».proof.Proof.Gen.Kernel5.Frame
public import proofs.«01_k».proof.Proof.Gen.Kernel6.Frame
public import proofs.«01_k».proof.Proof.Gen.Kernel7.Frame
public import proofs.«01_k».proof.Proof.GradIn.RefValue
public import proofs.«01_k».proof.Proof.MmTn.Gate
public import proofs.«01_k».proof.Proof.MmTn.Out
public import proofs.«01_k».proof.Proof.MmTn.Embed
public import Idealize.ShloMosaic.Lib.Claim
public import Idealize.ShloMosaic.Adequacy
public import Idealize.ShloMosaic.Init

@[expose] public section

set_option maxRecDepth 16384

noncomputable section

namespace Cert.Proof.Calls

open Idealize.ShloMosaic Idealize.ShloMosaic.TcCoe Idealize.SL.Sem

attribute [local instance] Cert.Kernel3.Gen.facts Cert.Kernel3Ideal.Gen.facts Cert.Reference3Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Kernel7.Gen.facts Cert.Kernel7Ideal.Gen.facts Cert.Reference7Ideal.Gen.facts

/-! The gradient of the input projection's weights. -/

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_ref3 : Cert.quiescent_Reference3Ideal := fun m ρ _ =>
  (θ_run Cert.Reference3Ideal.defs _ _).mono (fun _ h => ⟨fun c => (h c).2, sem_eq_zero_of_no_sems (by decide) _⟩) (Cert.Reference3Ideal.Value.run (F := Ideal) m ρ)
theorem algebraic3 : Cert.algebraic_Kernel3Ideal_Reference3Ideal := by
  intro m g m' g' _ hagree
  refine ⟨fun c => Cert.Kernel3Ideal.GradIn.grad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ⟨(h c).1.trans (Cert.Kernel3Ideal.GradIn.final m c), (h c).2⟩) (Cert.Kernel3Ideal.Value.run_blocks m g),
    (θ_run Cert.Reference3Ideal.defs _ _).mono (fun r h c => ⟨(h c).1.trans ?_, (h c).2⟩) (Cert.Reference3Ideal.GradIn.run m' g')⟩
  all_goals
    obtain ⟨e0, e1⟩ := hagree c
    simp only [e0, e1]

/-! The gradient of the gate's weights. -/

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_ref5 : Cert.quiescent_Reference5Ideal := fun m ρ _ =>
  (θ_run Cert.Reference5Ideal.defs _ _).mono (fun _ h => ⟨fun c => (h c).2, sem_eq_zero_of_no_sems (by decide) _⟩) (Cert.Reference5Ideal.Value.run (F := Ideal) m ρ)
theorem algebraic5 : Cert.algebraic_Kernel5Ideal_Reference5Ideal := by
  intro m g m' g' _ hagree
  refine ⟨fun c => Cert.Kernel5Ideal.MmTn.grad (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun r h c => ⟨(h c).1.trans (Cert.Kernel5Ideal.MmTn.final m c), (h c).2⟩) (Cert.Kernel5Ideal.Value.run_blocks m g),
    (θ_run Cert.Reference5Ideal.defs _ _).mono (fun r h c => ⟨(h c).1.trans ?_, (h c).2⟩) (Cert.Reference5Ideal.MmTn.run m' g')⟩
  all_goals
    obtain ⟨e0, e1⟩ := hagree c
    simp only [e0, e1]

/-! The gradient of the output projection's weights. -/

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_ref6 : Cert.quiescent_Reference6Ideal := fun m ρ _ =>
  (θ_run Cert.Reference6Ideal.defs _ _).mono (fun _ h => ⟨fun c => (h c).2, sem_eq_zero_of_no_sems (by decide) _⟩) (Cert.Reference6Ideal.Value.run (F := Ideal) m ρ)
theorem algebraic6 : Cert.algebraic_Kernel6Ideal_Reference6Ideal := by
  intro m g m' g' _ hagree
  refine ⟨fun c => Cert.Kernel6Ideal.MmTn.grad (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ⟨(h c).1.trans (Cert.Kernel6Ideal.MmTn.final m c), (h c).2⟩) (Cert.Kernel6Ideal.Value.run_blocks m g),
    (θ_run Cert.Reference6Ideal.defs _ _).mono (fun r h c => ⟨(h c).1.trans ?_, (h c).2⟩) (Cert.Reference6Ideal.MmTn.run m' g')⟩
  all_goals
    obtain ⟨e0, e1⟩ := hagree c
    simp only [e0, e1]

/-! The gradient of the embedding's weights. -/

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_ref7 : Cert.quiescent_Reference7Ideal := fun m ρ _ =>
  (θ_run Cert.Reference7Ideal.defs _ _).mono (fun _ h => ⟨fun c => (h c).2, sem_eq_zero_of_no_sems (by decide) _⟩) (Cert.Reference7Ideal.Value.run (F := Ideal) m ρ)
theorem algebraic7 : Cert.algebraic_Kernel7Ideal_Reference7Ideal := by
  intro m g m' g' _ hagree
  refine ⟨fun c => Cert.Kernel7Ideal.MmTn.grad (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun r h c => ⟨(h c).1.trans (Cert.Kernel7Ideal.MmTn.final m c), (h c).2⟩) (Cert.Kernel7Ideal.Value.run_blocks m g),
    (θ_run Cert.Reference7Ideal.defs _ _).mono (fun r h c => ⟨(h c).1.trans ?_, (h c).2⟩) (Cert.Reference7Ideal.MmTn.run m' g')⟩
  all_goals
    obtain ⟨e0, e1⟩ := hagree c
    simp only [e0, e1]

end Cert.Proof.Calls

end
-- ==== Proof.Shared.Rms.lean ====
module

public import Idealize.ShloMosaic.Lib.Pointwise

@[expose] public section

noncomputable section

namespace Cert.Shared

open Idealize.ShloMosaic

/-- The reciprocal root mean square of a row, as both programs write it: 1149239296 is the word of 1024 and
    897988541 the word of the small number added under the root. -/
def scaleOf (f : Fin 1024 → EReal) : EReal :=
  Ideal.rsqrt (Ideal.div (∑ x, f x * f x) (Ideal.ofBits FTy.f32 1149239296#32) + Ideal.ofBits FTy.f32 897988541#32)

/-- Entry `b` of a row normed, then scaled by `g`. -/
def normed (f : Fin 1024 → EReal) (g : EReal) (b : Fin 1024) : EReal := f b * scaleOf f * g

end Cert.Shared

end
-- ==== Proof.Inproj.Value.lean ====
module

public import proofs.«01_k».proof.Proof.Gen.Kernel8Ideal.Value
public import proofs.«01_k».proof.Proof.Gen.Reference8Ideal.Run
public import proofs.«01_k».proof.Proof.Shared.Rms
public import proofs.«01_k».proof.Proof.Shared.Columns
public import Idealize.ShloMosaic.Lib.Pipeline.ValueKit
public import Idealize.ShloMosaic.Lib.Pointwise

@[expose] public section

set_option maxRecDepth 16384

noncomputable section

namespace Cert.Kernel8Ideal.Inproj

open Idealize.ShloMosaic Idealize.ShloMosaic.TcCoe Idealize.ShloMosaic.Tactic
open Idealize.SL Idealize.SL.Sem
open Idealize.ShloMosaic.Pipeline (Dat Cfg Window)
open Cert.Kernel8Ideal.Gen

/-- Section `s` of a tile: the normed tile against the weights' columns `512 s` onwards. -/
theorem block (x0 : Vec Ideal S512x1024 .f32) (x1 : Vec Ideal S1x1024 .f32) (x2 : Vec Ideal S1x1024x4096 .bf16)
    (s : Fin 8) (a b : Fin 512) :
    out0_4 x0 x1 x2 (ix3 s a b) = ∑ k : Fin 1024, k0_pay3 x0 x1 (ix2 a k) * x2 (ix3 0 k (⟨512 * s.val + b.val, by omega⟩ : Fin 4096)) := by
  unfold out0_4
  canon_tiles x h
  all_goals
    change s.val = _ at h0
    change a.val = _ at h1
    change b.val = _ at h2
    have z : (x 0).val = 0 := by omega
    rw [z] at h0
    obtain rfl : x = ix3 0 a b := by
      funext k
      fin_cases k
      · exact Fin.ext (by show (x 0).val = 0; omega)
      · exact Fin.ext (by show (x 1).val = a.val; omega)
      · exact Fin.ext (by show (x 2).val = b.val; omega)
    simp only [k0_pay1, k0_pay2, k0_pay4, k0_pay5, k0_pay6, k0_pay7, k0_pay8, k0_pay9, k0_pay10]
    frame_out
    pointwise
    refine Finset.sum_congr rfl fun k _ => congrArg (fun j => k0_pay3 x0 x1 (ix2 a k) * x2 (ix3 0 k j)) (Fin.ext ?_)
    show _ = 512 * s.val + b.val
    simp only
    omega

theorem normed_at (x0 : Vec Ideal S512x1024 .f32) (x1 : Vec Ideal S1x1024 .f32) (a : Fin 512) (b : Fin 1024) :
    k0_pay3 x0 x1 (ix2 a b) = Cert.Shared.normed (fun k => x0 (ix2 a k)) (x1 (ix2 0 b)) b := by
  unfold k0_pay3
  pointwise
  rfl

variable (m : (ℓ : Loc nD τ sig) → Buf (Elt Ideal) ℓ)

theorem idx : ∀ t : Fin cfg0.N,
    win0_0.index t = ![t.val, 0] ∧ win0_1.index t = ![0, 0] ∧ win0_2.index t = ![1, 0, 0]
      ∧ win0_3.index t = ![t.val, 0] ∧ win0_4.index t = ![0, t.val, 0] :=
  (by decide +kernel : ∀ t : Fin grid0.N, _)

variable (c : Dev nD)

theorem gain : V m c main_v0 = shapeCast S1x1024 (m ((c : Thread nD τ).loc main_arg1)) shapeCasts_S1024_S1x1024 := by
  simp only [V, hostOps0, List.flatten_cons, List.flatten_nil, List.append_nil, List.cons_append, List.nil_append]
  after_results
  rfl

/-- The rows normed and scaled. -/
def out3 (x : S4096x1024.Idx → EReal) (g : S1024.Idx → EReal) : S4096x1024.Idx → EReal :=
  fun i => Cert.Shared.normed (fun k => x (ix2 (i 0) k)) (g (ix1 (i 1))) (i 1)
/-- Section `s` of row `a`: the normed row against the second layer's columns `512 s` onwards. -/
def entry (x : S4096x1024.Idx → EReal) (g : S1024.Idx → EReal) (w : S2x1024x4096.Idx → EReal) (s : Fin 8) (a : Fin 4096) (b : Fin 512) : EReal :=
  ∑ k : Fin 1024, out3 x g (ix2 a k) * w (ix3 1 k (⟨512 * s.val + b.val, by omega⟩ : Fin 4096))
def out4 (x : S4096x1024.Idx → EReal) (g : S1024.Idx → EReal) (w : S2x1024x4096.Idx → EReal) : S8x4096x512.Idx → EReal :=
  fun i => entry x g w (i 0) (i 1) (i 2)

theorem tile (t : Fin cfg0.N) (a : Fin 512) (b : Fin 1024) :
    k0_pay3 (iblk m c 0 t) (iblk m c 1 t) (ix2 a b)
      = out3 (m ((c : Thread nD τ).loc main_arg0)) (m ((c : Thread nD τ).loc main_arg1))
          (ix2 (⟨512 * t.val + a.val, by have : t.val < 8 := t.isLt; omega⟩ : Fin 4096) b) := by
  have ht : t.val < 8 := t.isLt
  unfold k0_pay3
  pointwise
  have e : iblk m c 1 t (ix2 0 b) = m ((c : Thread nD τ).loc main_arg1) (ix1 b) := by
    show V m c main_v0 (((cfg0.win 1).blk t).view.emb (ix2 0 b)) = _
    rw [gain, show ((cfg0.win 1).blk t).view.emb (ix2 0 b) = ix2 (0 : Fin 1) b by blk_ext [idx t]]
    pointwise
  have e0 : ∀ k : Fin 1024, iblk m c 0 t (ix2 a k) = m ((c : Thread nD τ).loc main_arg0) (ix2 (⟨512 * t.val + a.val, by omega⟩ : Fin 4096) k) := fun k => by
    refine Eq.trans ?_ (congrFun (V_main_arg0 m c) _)
    blk_ext [iblk, V, idx t]
  simp only [e0]
  rw [e]
  rfl

theorem final3 : (dats m 0 c).arrAt 3 cfg0.N = out3 (m ((c : Thread nD τ).loc main_arg0)) (m ((c : Thread nD τ).loc main_arg1)) := by
  refine (dats m 0 c).arrAt_eq_of_covers 3 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 3).blk t).view.emb (ix2 a b) = ix2 (⟨512 * t.val + a, by omega⟩ : Fin 4096) b by blk_ext [idx t]]
  blk_simp
  rw [after0_3]
  frame_out
  exact tile m c t a b

theorem final4 : (dats m 0 c).arrAt 4 cfg0.N
    = out4 (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨s, a, b, rfl⟩ : ∃ (s : Fin 8) (a b : Fin 512), y = ix3 s a b := ⟨y 0, y 1, y 2, by ext k; fin_cases k <;> rfl⟩
  have ht : t.val < 8 := t.isLt
  rw [show ((cfg0.win 4).blk t).view.emb (ix3 s a b) = ix3 s (⟨512 * t.val + a, by omega⟩ : Fin 4096) b by blk_ext [idx t]]
  blk_simp
  rw [after0_4, block]
  show _ = entry (m ((c : Thread nD τ).loc main_arg0)) (m ((c : Thread nD τ).loc main_arg1)) (m ((c : Thread nD τ).loc main_arg2)) s _ b
  unfold entry
  refine Finset.sum_congr rfl fun k _ => congrArg₂ (· * ·) (tile m c t a k) ?_
  show iblk m c 2 t (ix3 0 k (⟨512 * s.val + b.val, by omega⟩ : Fin 4096)) = _
  refine Eq.trans ?_ (congrFun (V_main_arg2 m c) _)
  blk_ext [iblk, V, idx t]

end Cert.Kernel8Ideal.Inproj
namespace Cert.Reference8Ideal.Inproj

open Idealize.ShloMosaic Idealize.ShloMosaic.TcCoe Idealize.ShloMosaic.Tactic
open Idealize.SL Idealize.SL.Sem

/-- The reference's own results are the same two arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = Cert.Kernel8Ideal.Inproj.out3 (m ((c.tc : Thread nD τ).loc main_arg0)) (m ((c.tc : Thread nD τ).loc main_arg1))
      ∧ r.2.mem ((c.tc : Thread nD τ).loc main_v35) = Cert.Kernel8Ideal.Inproj.out4 (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · clear h; funext i
    obtain ⟨a, b, rfl⟩ : ∃ (a : Fin 4096) (b : Fin 1024), i = ix2 a b := ⟨i 0, i 1, by ext k; fin_cases k <;> rfl⟩
    pointwise
    rfl
  · clear h; funext i
    obtain ⟨s, a, b, rfl⟩ : ∃ (s : Fin 8) (a : Fin 4096) (b : Fin 512), i = ix3 s a b := ⟨i 0, i 1, i 2, by ext k; fin_cases k <;> rfl⟩
    unfold Value.res_main_v35
    pointwise
    show _ = Cert.Kernel8Ideal.Inproj.entry _ _ _ s a b
    fin_cases s
    · exact Finset.sum_congr rfl fun k _ => congrArg (fun j => Cert.Kernel8Ideal.Inproj.out3 (m ((c.tc : Thread nD τ).loc main_arg0))
        (m ((c.tc : Thread nD τ).loc main_arg1)) (ix2 a k) * m ((c.tc : Thread nD τ).loc main_arg2) (ix3 1 k j))
        (Fin.ext (by show b.val = 512 * 0 + b.val; omega))
    all_goals rfl

end Cert.Reference8Ideal.Inproj

end
-- ==== Proof.Outproj.Value.lean ====
module

public import proofs.«01_k».proof.Proof.Gen.Kernel9Ideal.Value
public import proofs.«01_k».proof.Proof.Gen.Reference9Ideal.Run
public import proofs.«01_k».proof.Proof.Shared.Rms
public import Idealize.ShloMosaic.Lib.Pipeline.ValueKit
public import Idealize.ShloMosaic.Lib.Pointwise

@[expose] public section

set_option maxRecDepth 16384

noncomputable section

namespace Cert.Kernel9Ideal.Outproj

open Idealize.ShloMosaic Idealize.ShloMosaic.TcCoe Idealize.ShloMosaic.Tactic
open Idealize.SL Idealize.SL.Sem
open Idealize.ShloMosaic.Pipeline (Dat Cfg Window)
open Cert.Kernel9Ideal.Gen

theorem stream_at (x : Vec Ideal S512x1024 .f32) (y : Vec Ideal S512x1024 .bf16) (w : Vec Ideal S1x1024x1024 .bf16) (a : Fin 512) (b : Fin 1024) :
    k0_pay1 x y w (ix2 a b) = x (ix2 a b) + ∑ k : Fin 1024, y (ix2 a k) * w (ix3 0 k b) := by
  unfold k0_pay1
  pointwise

theorem normed_at (x : Vec Ideal S512x1024 .f32) (y : Vec Ideal S512x1024 .bf16) (w : Vec Ideal S1x1024x1024 .bf16) (g : Vec Ideal S1x1024 .f32)
    (a : Fin 512) (b : Fin 1024) :
    k0_pay2 x y w g (ix2 a b) = Cert.Shared.normed (fun k => k0_pay1 x y w (ix2 a k)) (g (ix2 0 b)) b := by
  unfold k0_pay2
  pointwise
  rfl

variable (m : (ℓ : Loc nD τ sig) → Buf (Elt Ideal) ℓ)

theorem idx : ∀ t : Fin cfg0.N,
    win0_0.index t = ![t.val, 0] ∧ win0_1.index t = ![1, 0, 0] ∧ win0_2.index t = ![t.val, 0] ∧ win0_3.index t = ![0, 0]
      ∧ win0_4.index t = ![t.val, 0] ∧ win0_5.index t = ![t.val, 0] :=
  (by decide +kernel : ∀ t : Fin grid0.N, _)

variable (c : Dev nD)

theorem gain : V m c main_v0 = shapeCast S1x1024 (m ((c : Thread nD τ).loc main_arg3)) shapeCasts_S1024_S1x1024 := by
  simp only [V, hostOps0, List.flatten_cons, List.flatten_nil, List.append_nil, List.cons_append, List.nil_append]
  after_results
  rfl

/-- The residual stream after the projection: row `a`. -/
def stream (y : S4096x1024.Idx → EReal) (w : S2x1024x1024.Idx → EReal) (x : S4096x1024.Idx → EReal) (a : Fin 4096) (b : Fin 1024) : EReal :=
  x (ix2 a b) + ∑ k : Fin 1024, y (ix2 a k) * w (ix3 1 k b)
/-- The same array, and its rows normed and scaled. -/
def out4 (y : S4096x1024.Idx → EReal) (w : S2x1024x1024.Idx → EReal) (x : S4096x1024.Idx → EReal) : S4096x1024.Idx → EReal :=
  fun i => stream y w x (i 0) (i 1)
def out5 (y : S4096x1024.Idx → EReal) (w : S2x1024x1024.Idx → EReal) (x : S4096x1024.Idx → EReal) (g : S1024.Idx → EReal) : S4096x1024.Idx → EReal :=
  fun i => Cert.Shared.normed (stream y w x (i 0)) (g (ix1 (i 1))) (i 1)

theorem tile (t : Fin cfg0.N) (a : Fin 512) (b : Fin 1024) :
    k0_pay1 (iblk m c 2 t) (iblk m c 0 t) (iblk m c 1 t) (ix2 a b)
      = stream (m ((c : Thread nD τ).loc main_arg0)) (m ((c : Thread nD τ).loc main_arg1)) (m ((c : Thread nD τ).loc main_arg2))
          ⟨512 * t.val + a.val, by have : t.val < 8 := t.isLt; omega⟩ b := by
  have ht : t.val < 8 := t.isLt
  unfold k0_pay1
  pointwise
  refine congrArg₂ (· + ·) ?_ (Finset.sum_congr rfl fun k _ => congrArg₂ (· * ·) ?_ ?_)
  · show iblk m c 2 t (ix2 a b) = _
    refine Eq.trans ?_ (congrFun (V_main_arg2 m c) _)
    blk_ext [iblk, V, idx t]
  · show iblk m c 0 t (ix2 a k) = _
    refine Eq.trans ?_ (congrFun (V_main_arg0 m c) _)
    blk_ext [iblk, V, idx t]
  · show iblk m c 1 t (ix3 0 k b) = _
    refine Eq.trans ?_ (congrFun (V_main_arg1 m c) _)
    blk_ext [iblk, V, idx t]

theorem final4 : (dats m 0 c).arrAt 4 cfg0.N
    = out4 (m ((c : Thread nD τ).loc main_arg0)) (m ((c : Thread nD τ).loc main_arg1)) (m ((c : Thread nD τ).loc main_arg2)) := by
  refine (dats m 0 c).arrAt_eq_of_covers 4 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 4).blk t).view.emb (ix2 a b) = ix2 (⟨512 * t.val + a, by omega⟩ : Fin 4096) b by blk_ext [idx t]]
  blk_simp
  rw [after0_4]
  frame_out
  exact tile m c t a b

theorem final5 : (dats m 0 c).arrAt 5 cfg0.N
    = out5 (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 5).blk t).view.emb (ix2 a b) = ix2 (⟨512 * t.val + a, by omega⟩ : Fin 4096) b by blk_ext [idx t]]
  blk_simp
  rw [after0_5]
  frame_out
  unfold k0_pay2
  pointwise
  have e : iblk m c 3 t (ix2 0 b) = m ((c : Thread nD τ).loc main_arg3) (ix1 b) := by
    show V m c main_v0 (((cfg0.win 3).blk t).view.emb (ix2 0 b)) = _
    rw [gain, show ((cfg0.win 3).blk t).view.emb (ix2 0 b) = ix2 (0 : Fin 1) b by blk_ext [idx t]]
    pointwise
  simp only [tile]
  rw [e]
  rfl

end Cert.Kernel9Ideal.Outproj

namespace Cert.Reference9Ideal.Outproj

open Idealize.ShloMosaic Idealize.ShloMosaic.TcCoe Idealize.ShloMosaic.Tactic
open Idealize.SL Idealize.SL.Sem

/-- The reference's own results are the same two arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Cert.Kernel9Ideal.Outproj.out4 (m ((c.tc : Thread nD τ).loc main_arg0)) (m ((c.tc : Thread nD τ).loc main_arg1))
          (m ((c.tc : Thread nD τ).loc main_arg2))
      ∧ r.2.mem ((c.tc : Thread nD τ).loc main_v19) = Cert.Kernel9Ideal.Outproj.out5 (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  · clear h; funext i
    obtain ⟨a, b, rfl⟩ : ∃ (a : Fin 4096) (b : Fin 1024), i = ix2 a b := ⟨i 0, i 1, by ext k; fin_cases k <;> rfl⟩
    pointwise
    rfl
  · clear h; funext i
    obtain ⟨a, b, rfl⟩ : ∃ (a : Fin 4096) (b : Fin 1024), i = ix2 a b := ⟨i 0, i 1, by ext k; fin_cases k <;> rfl⟩
    pointwise
    rfl

end Cert.Reference9Ideal.Outproj

end
-- ==== Proof.PleFwd.Value.lean ====
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.PleFwd

open Idealize.ShloMosaic Idealize.ShloMosaic.TcCoe Idealize.ShloMosaic.Tactic
open Idealize.SL Idealize.SL.Sem
open Idealize.ShloMosaic.Pipeline (Dat Cfg Window)
open Cert.Kernel10Ideal.Gen

theorem gate_at (h : Vec Ideal S512x1024 .bf16) (w : Vec Ideal S1x1024x1024 .bf16) (v : Vec Ideal S1x1024 .f32) (a : Fin 512) (b : Fin 1024) :
    k0_pay1 h w v (ix2 a b) = Ideal.div 1 (1 + Ideal.exp (-(∑ k : Fin 1024, h (ix2 a k) * w (ix3 0 k b) + v (ix2 0 b)))) := by
  unfold k0_pay1
  pointwise
  rw [zero_sub]

theorem embed_at (p : Vec Ideal S1x512x256 .f32) (w : Vec Ideal S1x256x1024 .bf16) (a : Fin 512) (b : Fin 1024) :
    k0_pay2 p w (ix2 a b) = ∑ k : Fin 256, p (ix3 0 a k) * w (ix3 0 k b) := by
  unfold k0_pay2
  pointwise

variable (m : (ℓ : Loc nD τ sig) → Buf (Elt Ideal) ℓ)

theorem idx : ∀ t : Fin cfg0.N,
    win0_0.index t = ![t.val, 0] ∧ win0_1.index t = ![1, 0, 0] ∧ win0_2.index t = ![0, 0] ∧ win0_3.index t = ![1, t.val, 0]
      ∧ win0_4.index t = ![1, 0, 0] ∧ win0_5.index t = ![t.val, 0]
      ∧ win0_6.index t = ![t.val, 0] ∧ win0_7.index t = ![t.val, 0] ∧ win0_8.index t = ![t.val, 0] :=
  (by decide +kernel : ∀ t : Fin grid0.N, _)

variable (c : Dev nD)

theorem bias : V m c main_v0 = shapeCast S1x1024 (m ((c : Thread nD τ).loc main_arg2)) shapeCasts_S1024_S1x1024 := by
  simp only [V, hostOps0, List.flatten_cons, List.flatten_nil, List.append_nil, List.cons_append, List.nil_append]
  after_results
  rfl

/-- The gate and the layer's embedding at a row and a column. -/
def gateAt (h : S4096x1024.Idx → EReal) (w : S2x1024x1024.Idx → EReal) (b : S1024.Idx → EReal) (r : Fin 4096) (d : Fin 1024) : EReal :=
  Ideal.div 1 (1 + Ideal.exp (-(∑ k : Fin 1024, h (ix2 r k) * w (ix3 1 k d) + b (ix1 d))))
def embedAt (p : S2x4096x256.Idx → EReal) (w : S2x256x1024.Idx → EReal) (r : Fin 4096) (d : Fin 1024) : EReal :=
  ∑ k : Fin 256, p (ix3 1 r k) * w (ix3 1 k d)
/-- The three results: the residual stream with the gated embedding added, the gate, the embedding. -/
def out6 (h : S4096x1024.Idx → EReal) (w : S2x1024x1024.Idx → EReal) (b : S1024.Idx → EReal) (p : S2x4096x256.Idx → EReal)
    (w' : S2x256x1024.Idx → EReal) (x : S4096x1024.Idx → EReal) : S4096x1024.Idx → EReal :=
  fun i => x (ix2 (i 0) (i 1)) + gateAt h w b (i 0) (i 1) * embedAt p w' (i 0) (i 1)
def out7 (h : S4096x1024.Idx → EReal) (w : S2x1024x1024.Idx → EReal) (b : S1024.Idx → EReal) : S4096x1024.Idx → EReal :=
  fun i => gateAt h w b (i 0) (i 1)
def out8 (p : S2x4096x256.Idx → EReal) (w' : S2x256x1024.Idx → EReal) : S4096x1024.Idx → EReal :=
  fun i => embedAt p w' (i 0) (i 1)

theorem gate_tile (t : Fin cfg0.N) (a : Fin 512) (b : Fin 1024) :
    k0_pay1 (iblk m c 0 t) (iblk m c 1 t) (iblk m c 2 t) (ix2 a b)
      = gateAt (m ((c : Thread nD τ).loc main_arg0)) (m ((c : Thread nD τ).loc main_arg1)) (m ((c : Thread nD τ).loc main_arg2))
          ⟨512 * t.val + a.val, by have : t.val < 8 := t.isLt; omega⟩ b := by
  have ht : t.val < 8 := t.isLt
  unfold k0_pay1
  pointwise
  rw [zero_sub]
  refine congrArg (fun z => Ideal.div 1 (1 + Ideal.exp (-z))) ?_
  refine congrArg₂ (· + ·) (Finset.sum_congr rfl fun k _ => congrArg₂ (· * ·) ?_ ?_) ?_
  · show iblk m c 0 t (ix2 a k) = _
    refine Eq.trans ?_ (congrFun (V_main_arg0 m c) _)
    blk_ext [iblk, V, idx t]
  · show iblk m c 1 t (ix3 0 k b) = _
    refine Eq.trans ?_ (congrFun (V_main_arg1 m c) _)
    blk_ext [iblk, V, idx t]
  · show V m c main_v0 (((cfg0.win 2).blk t).view.emb (ix2 0 b)) = _
    rw [bias, show ((cfg0.win 2).blk t).view.emb (ix2 0 b) = ix2 (0 : Fin 1) b by blk_ext [idx t]]
    pointwise

theorem embed_tile (t : Fin cfg0.N) (a : Fin 512) (b : Fin 1024) :
    k0_pay2 (iblk m c 3 t) (iblk m c 4 t) (ix2 a b)
      = embedAt (m ((c : Thread nD τ).loc main_arg3)) (m ((c : Thread nD τ).loc main_arg4))
          ⟨512 * t.val + a.val, by have : t.val < 8 := t.isLt; omega⟩ b := by
  have ht : t.val < 8 := t.isLt
  unfold k0_pay2
  pointwise
  refine Finset.sum_congr rfl fun k _ => congrArg₂ (· * ·) ?_ ?_
  · show iblk m c 3 t (ix3 0 a k) = _
    refine Eq.trans ?_ (congrFun (V_main_arg3 m c) _)
    blk_ext [iblk, V, idx t]
  · show iblk m c 4 t (ix3 0 k b) = _
    refine Eq.trans ?_ (congrFun (V_main_arg4 m c) _)
    blk_ext [iblk, V, idx t]

theorem final6 : (dats m 0 c).arrAt 6 cfg0.N
    = out6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 6).blk t).view.emb (ix2 a b) = ix2 (⟨512 * t.val + a, by omega⟩ : Fin 4096) b by blk_ext [idx t]]
  blk_simp
  rw [after0_6]
  frame_out
  unfold k0_pay3
  pointwise
  refine congrArg₂ (· + ·) ?_ (congrArg₂ (· * ·) (gate_tile m c t a b) (embed_tile m c t a b))
  show iblk m c 5 t (ix2 a b) = _
  refine Eq.trans ?_ (congrFun (V_main_arg5 m c) _)
  blk_ext [iblk, V, idx t]

theorem final7 : (dats m 0 c).arrAt 7 cfg0.N
    = out7 (m ((c : Thread nD τ).loc main_arg0)) (m ((c : Thread nD τ).loc main_arg1)) (m ((c : Thread nD τ).loc main_arg2)) := by
  refine (dats m 0 c).arrAt_eq_of_covers 7 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 7).blk t).view.emb (ix2 a b) = ix2 (⟨512 * t.val + a, by omega⟩ : Fin 4096) b by blk_ext [idx t]]
  blk_simp
  rw [after0_7]
  frame_out
  unfold k0_pay4
  pointwise
  exact gate_tile m c t a b

theorem final8 : (dats m 0 c).arrAt 8 cfg0.N
    = out8 (m ((c : Thread nD τ).loc main_arg3)) (m ((c : Thread nD τ).loc main_arg4)) := by
  refine (dats m 0 c).arrAt_eq_of_covers 8 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 8).blk t).view.emb (ix2 a b) = ix2 (⟨512 * t.val + a, by omega⟩ : Fin 4096) b by blk_ext [idx t]]
  blk_simp
  rw [after0_8]
  frame_out
  unfold k0_pay5
  pointwise
  exact embed_tile m c t a b

end Cert.Kernel10Ideal.PleFwd

namespace Cert.Reference10Ideal.PleFwd

open Idealize.ShloMosaic Idealize.ShloMosaic.TcCoe Idealize.ShloMosaic.Tactic
open Idealize.SL Idealize.SL.Sem

/-- The reference's own results are the same three arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = Cert.Kernel10Ideal.PleFwd.out6 (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v22) = Cert.Kernel10Ideal.PleFwd.out7 (m ((c.tc : Thread nD τ).loc main_arg0)) (m ((c.tc : Thread nD τ).loc main_arg1)) (m ((c.tc : Thread nD τ).loc main_arg2))
      ∧ r.2.mem ((c.tc : Thread nD τ).loc main_v23) = Cert.Kernel10Ideal.PleFwd.out8 (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2⟩) (Value.run m ρ)
  all_goals
    clear h; funext i
    obtain ⟨a, b, rfl⟩ : ∃ (a : Fin 4096) (b : Fin 1024), i = ix2 a b := ⟨i 0, i 1, by ext k; fin_cases k <;> rfl⟩
    pointwise
  all_goals rfl

end Cert.Reference10Ideal.PleFwd

end
-- ==== Proof.Forward.lean ====
module

public import proofs.«01_k».proof.Defs
public import proofs.«01_k».proof.Proof.Gen.Kernel8.Frame
public import proofs.«01_k».proof.Proof.Gen.Kernel9.Frame
public import proofs.«01_k».proof.Proof.Gen.Kernel10.Frame
public import proofs.«01_k».proof.Proof.Inproj.Value
public import proofs.«01_k».proof.Proof.Outproj.Value
public import proofs.«01_k».proof.Proof.PleFwd.Value
public import Idealize.ShloMosaic.Lib.Claim
public import Idealize.ShloMosaic.Adequacy
public import Idealize.ShloMosaic.Init

@[expose] public section

set_option maxRecDepth 16384

noncomputable section

namespace Cert.Proof.Calls

open Idealize.ShloMosaic Idealize.ShloMosaic.TcCoe Idealize.SL.Sem

attribute [local instance] Cert.Kernel8.Gen.facts Cert.Kernel8Ideal.Gen.facts Cert.Reference8Ideal.Gen.facts Cert.Kernel9.Gen.facts Cert.Kernel9Ideal.Gen.facts Cert.Reference9Ideal.Gen.facts Cert.Kernel10.Gen.facts Cert.Kernel10Ideal.Gen.facts Cert.Reference10Ideal.Gen.facts

/-! The norm and the input projection. -/

theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_ref8 : Cert.quiescent_Reference8Ideal := fun m ρ _ =>
  (θ_run Cert.Reference8Ideal.defs _ _).mono (fun _ h => ⟨fun c => (h c).2.2, sem_eq_zero_of_no_sems (by decide) _⟩) (Cert.Reference8Ideal.Value.run (F := Ideal) m ρ)
theorem algebraic8 : Cert.algebraic_Kernel8Ideal_Reference8Ideal := by
  intro m g m' g' _ hagree
  refine ⟨fun c => Cert.Kernel8Ideal.Inproj.out3 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    fun c => Cert.Kernel8Ideal.Inproj.out4 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)),
    (θ_run Cert.Kernel8Ideal.defs _ _).mono (fun r h c => ⟨(h c).1.trans (Cert.Kernel8Ideal.Inproj.final3 m c), (h c).2.1.trans (Cert.Kernel8Ideal.Inproj.final4 m c), (h c).2.2⟩) (Cert.Kernel8Ideal.Value.run_blocks m g),
    (θ_run Cert.Reference8Ideal.defs _ _).mono (fun r h c => ⟨(h c).1.trans ?_, (h c).2.1.trans ?_, (h c).2.2⟩) (Cert.Reference8Ideal.Inproj.run m' g')⟩
  all_goals
    obtain ⟨e0, e1, e2⟩ := hagree c
    simp only [e0, e1, e2]

/-! The output projection, the residual and the norm. -/

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_ref9 : Cert.quiescent_Reference9Ideal := fun m ρ _ =>
  (θ_run Cert.Reference9Ideal.defs _ _).mono (fun _ h => ⟨fun c => (h c).2.2, sem_eq_zero_of_no_sems (by decide) _⟩) (Cert.Reference9Ideal.Value.run (F := Ideal) m ρ)
theorem algebraic9 : Cert.algebraic_Kernel9Ideal_Reference9Ideal := by
  intro m g m' g' _ hagree
  refine ⟨fun c => Cert.Kernel9Ideal.Outproj.out4 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)),
    fun c => Cert.Kernel9Ideal.Outproj.out5 (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)),
    (θ_run Cert.Kernel9Ideal.defs _ _).mono (fun r h c => ⟨(h c).1.trans (Cert.Kernel9Ideal.Outproj.final4 m c), (h c).2.1.trans (Cert.Kernel9Ideal.Outproj.final5 m c), (h c).2.2⟩) (Cert.Kernel9Ideal.Value.run_blocks m g),
    (θ_run Cert.Reference9Ideal.defs _ _).mono (fun r h c => ⟨(h c).1.trans ?_, (h c).2.1.trans ?_, (h c).2.2⟩) (Cert.Reference9Ideal.Outproj.run m' g')⟩
  all_goals
    obtain ⟨e0, e1, e2, e3⟩ := hagree c
    simp only [e0, e1, e2, e3]

/-! The per-layer embedding gate. -/

theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_ref10 : Cert.quiescent_Reference10Ideal := fun m ρ _ =>
  (θ_run Cert.Reference10Ideal.defs _ _).mono (fun _ h => ⟨fun c => (h c).2.2.2, sem_eq_zero_of_no_sems (by decide) _⟩) (Cert.Reference10Ideal.Value.run (F := Ideal) m ρ)
theorem algebraic10 : Cert.algebraic_Kernel10Ideal_Reference10Ideal := by
  intro m g m' g' _ hagree
  refine ⟨fun c => Cert.Kernel10Ideal.PleFwd.out6 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)),
    fun c => Cert.Kernel10Ideal.PleFwd.out7 (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)),
    fun c => Cert.Kernel10Ideal.PleFwd.out8 (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)),
    (θ_run Cert.Kernel10Ideal.defs _ _).mono (fun r h c => ⟨(h c).1.trans (Cert.Kernel10Ideal.PleFwd.final6 m c), (h c).2.1.trans (Cert.Kernel10Ideal.PleFwd.final7 m c), (h c).2.2.1.trans (Cert.Kernel10Ideal.PleFwd.final8 m c), (h c).2.2.2⟩) (Cert.Kernel10Ideal.Value.run_blocks m g),
    (θ_run Cert.Reference10Ideal.defs _ _).mono (fun r h c => ⟨(h c).1.trans ?_, (h c).2.1.trans ?_, (h c).2.2.1.trans ?_, (h c).2.2.2⟩) (Cert.Reference10Ideal.PleFwd.run m' g')⟩
  all_goals
    obtain ⟨e0, e1, e2, e3, e4, e5⟩ := hagree c
    simp only [e0, e1, e2, e3, e4, e5]

end Cert.Proof.Calls

end
-- ==== Proof.Shared.RmsBack.lean ====
module

public import proofs.«01_k».proof.Proof.Shared.Rms
public import proofs.«01_k».proof.Proof.Conv.Model
public import proofs.«01_k».proof.Proof.Conv.Entries

@[expose] public section

noncomputable section

namespace Cert.Shared

open Idealize.ShloMosaic

/-! # The gradient of the root-mean-square norm -/

/-- A row's mean square plus the small number. -/
def meanOf (f : Fin 1024 → EReal) : EReal :=
  Ideal.div (∑ x, f x * f x) (Ideal.ofBits FTy.f32 1149239296#32) + Ideal.ofBits FTy.f32 897988541#32

/-- The row's gradient as the kernel writes it: `w` is the cotangent times the gain. -/
def back (f w : Fin 1024 → EReal) (b : Fin 1024) : EReal :=
  scaleOf f * (w b - f b * scaleOf f * Ideal.div (∑ k, w k * (f k * scaleOf f)) (Ideal.ofBits FTy.f32 1149239296#32))

/-- What the derivative through the mean square adds, half of it, as the reference writes it. -/
def half (f w : Fin 1024 → EReal) : EReal :=
  Ideal.div ((∑ k, f k * w k) * (Ideal.ofBits FTy.f32 0xBF000000#32 * Ideal.div (scaleOf f) (meanOf f)))
    (Ideal.ofBits FTy.f32 1149239296#32)

theorem word_1024 : Ideal.ofBits FTy.f32 1149239296#32 = ((1024 : ℝ) : EReal) := by
  simp [Ideal.ofBits, Ideal.ieee, -EReal.coe_mul]; norm_num
theorem word_eps : Ideal.ofBits FTy.f32 897988541#32 = (Cert.Conv.eps : EReal) := Cert.Conv.eps_coe

theorem word_neg_half : Ideal.ofBits FTy.f32 0xBF000000#32 = ((-(1 / 2) : ℝ) : EReal) := by
  simp [Ideal.ofBits, Ideal.ieee, -EReal.coe_mul]; norm_num

section
variable (f w : Fin 1024 → ℝ)

/-- The same mean as a real number. -/
def meanR : ℝ := (∑ x, f x * f x) / 1024 + Cert.Conv.eps
theorem meanR_pos : 0 < meanR f := by
  have : 0 ≤ ∑ x, f x * f x := Finset.sum_nonneg fun x _ => mul_self_nonneg _
  have := Cert.Conv.eps_pos
  unfold meanR
  positivity

theorem meanOf_coe : meanOf (fun k => (f k : EReal)) = (meanR f : EReal) := by
  unfold meanOf meanR
  simp only [← EReal.coe_mul]
  rw [Cert.Conv.coe_sum, word_1024, Ideal.div_coe (by norm_num), word_eps, ← EReal.coe_mul, ← EReal.coe_add]
  refine congrArg _ ?_
  ring

theorem scaleOf_coe : scaleOf (fun k => (f k : EReal)) = (((√(meanR f))⁻¹ : ℝ) : EReal) := by
  show Ideal.rsqrt (meanOf fun k => (f k : EReal)) = _
  rw [meanOf_coe, Cert.Conv.rsqrt_pos (meanR_pos f)]

theorem back_coe (b : Fin 1024) :
    ((w b : EReal) * scaleOf (fun k => (f k : EReal)) + (f b : EReal) * half (fun k => (f k : EReal)) (fun k => (w k : EReal)))
        + half (fun k => (f k : EReal)) (fun k => (w k : EReal)) * (f b : EReal)
      = back (fun k => (f k : EReal)) (fun k => (w k : EReal)) b := by
  unfold half back
  have hm := meanR_pos f
  have hs : √(meanR f) ≠ 0 := (Real.sqrt_pos.2 hm).ne'
  have hq : √(meanR f) * √(meanR f) = meanR f := Real.mul_self_sqrt hm.le
  rw [scaleOf_coe, meanOf_coe, word_1024, word_neg_half]
  simp only [← EReal.coe_mul]
  rw [Cert.Conv.coe_sum, Cert.Conv.coe_sum]
  rw [Ideal.div_coe hm.ne']
  simp only [← EReal.coe_mul]
  rw [Ideal.div_coe (by norm_num), Ideal.div_coe (by norm_num)]
  simp only [← EReal.coe_mul, ← EReal.coe_add, ← EReal.coe_sub]
  refine congrArg _ ?_
  have e : ∑ k, w k * (f k * (√(meanR f))⁻¹) = (∑ k, f k * w k) * (√(meanR f))⁻¹ := by
    rw [Finset.sum_mul]; exact Finset.sum_congr rfl fun k _ => by ring
  rw [e]
  generalize ∑ k, f k * w k = S
  generalize √(meanR f) = s at hs hq ⊢
  rw [← hq]
  field_simp
  ring
end

/-- Being a real number. -/
def Real' (a : EReal) : Prop := a = (a.toReal : EReal)

theorem real_mul {a b : EReal} (ha : Real' a) (hb : Real' b) : Real' (a * b) := by
  unfold Real' at *; rw [ha, hb, ← EReal.coe_mul, EReal.toReal_coe]
theorem real_add {a b : EReal} (ha : Real' a) (hb : Real' b) : Real' (a + b) := by
  unfold Real' at *; rw [ha, hb, ← EReal.coe_add, EReal.toReal_coe]
theorem real_sub {a b : EReal} (ha : Real' a) (hb : Real' b) : Real' (a - b) := by
  unfold Real' at *; rw [ha, hb, ← EReal.coe_sub, EReal.toReal_coe]
theorem real_coe (a : ℝ) : Real' (a : EReal) := by unfold Real'; rw [EReal.toReal_coe]
theorem real_sum {n : ℕ} {f : Fin n → EReal} (h : ∀ k, Real' (f k)) : Real' (∑ k, f k) := by
  rw [show f = fun k => ((f k).toReal : EReal) from funext h, Cert.Conv.coe_sum]
  exact real_coe _
theorem real_scale {f : Fin 1024 → EReal} (h : ∀ k, Real' (f k)) : Real' (scaleOf f) := by
  rw [show f = fun k => ((f k).toReal : EReal) from funext h, scaleOf_coe]
  exact real_coe _

/-- The reference's gradient of a row is the kernel's when the row and its cotangent are real numbers. -/
theorem back_eq {f w : Fin 1024 → EReal} (hf : ∀ k, Real' (f k)) (hw : ∀ k, Real' (w k)) (b : Fin 1024) :
    (w b * scaleOf f + f b * half f w) + half f w * f b = back f w b := by
  have ef : f = fun k => ((f k).toReal : EReal) := funext hf
  have ew : w = fun k => ((w k).toReal : EReal) := funext hw
  rw [ef, ew]
  exact back_coe (fun k => (f k).toReal) (fun k => (w k).toReal) b

/-- The same with something added first. -/
theorem add_back_eq {f w : Fin 1024 → EReal} (hf : ∀ k, Real' (f k)) (hw : ∀ k, Real' (w k)) (b : Fin 1024) (a : EReal) :
    ((a + w b * scaleOf f) + f b * half f w) + half f w * f b = a + back f w b := by
  rw [← back_eq hf hw, add_assoc, add_assoc, add_assoc]

end Cert.Shared

end
-- ==== Proof.InprojBwd.Model.lean ====
module

public import proofs.«01_k».proof.Proof.Shared.RmsBack
public import proofs.«01_k».proof.Proof.Shared.Columns

@[expose] public section

noncomputable section

namespace Cert.InprojBwd

open Idealize.ShloMosaic

variable (dp : (⟨3, ![8, 4096, 512]⟩ : Shape).Idx → EReal) (w : (⟨3, ![2, 1024, 4096]⟩ : Shape).Idx → EReal)
  (x : (⟨2, ![4096, 1024]⟩ : Shape).Idx → EReal) (g : (⟨1, ![1024]⟩ : Shape).Idx → EReal)
  (dx1 : (⟨2, ![4096, 1024]⟩ : Shape).Idx → EReal)

/-- The gradient of the normed row: the eight sections side by side against the first layer's weights. -/
def dh (a : Fin 4096) (b : Fin 1024) : EReal :=
  ∑ k : Fin 4096, dp (ix3 (⟨k.val / 512, by omega⟩ : Fin 8) a (⟨k.val % 512, by omega⟩ : Fin 512)) * w (ix3 0 b k)
/-- Row `a` of the input. -/
def row (a : Fin 4096) (k : Fin 1024) : EReal := x (ix2 a k)
/-- Row `a`'s cotangent times the gain. -/
def ct (a : Fin 4096) (k : Fin 1024) : EReal := dh dp w a k * g (ix1 k)
/-- The gradient of the input. -/
def dx : (⟨2, ![4096, 1024]⟩ : Shape).Idx → EReal := fun i =>
  dx1 i + Cert.Shared.back (row x (i 0)) (ct dp w g (i 0)) (i 1)
/-- Row `a`'s share of the gain's gradient, and the gradient. -/
def share (b : Fin 1024) (a : Fin 4096) : EReal := dh dp w a b * (row x a b * Cert.Shared.scaleOf (row x a))
def dg : (⟨1, ![1024]⟩ : Shape).Idx → EReal := fun i => ∑ a : Fin 4096, share dp w x (i 0) a

/-- The same gradient section by section. -/
theorem sections (a : Fin 4096) (b : Fin 1024) :
    (∑ s : Fin 8, ∑ k : Fin 512, dp (ix3 s a k) * w (ix3 0 b (⟨512 * s.val + k.val, by omega⟩ : Fin 4096)) : EReal) = dh dp w a b := by
  unfold dh
  rw [← Cert.Shared.by_tiles 8 512 rfl]
  refine Finset.sum_congr rfl fun s _ => Finset.sum_congr rfl fun k _ => ?_
  rw [show (⟨(512 * s.val + k.val) / 512, by omega⟩ : Fin 8) = s from Fin.ext (by simp only; omega),
    show (⟨(512 * s.val + k.val) % 512, by omega⟩ : Fin 512) = k from Fin.ext (by simp only; omega)]

end Cert.InprojBwd

end
-- ==== Proof.InprojBwd.Value.lean ====
module

public import proofs.«01_k».proof.Proof.Gen.Kernel2Ideal.Frame
public import proofs.«01_k».proof.Proof.InprojBwd.Model
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.InprojBwd

open Idealize.ShloMosaic Idealize.ShloMosaic.TcCoe Idealize.ShloMosaic.Tactic
open Idealize.SL Idealize.SL.Sem
open Idealize.ShloMosaic.Pipeline (Dat Cfg Window)
open Cert.Kernel2Ideal.Gen Cert.InprojBwd Cert.Shared

/-- A tile's gradient of the normed rows, as the body adds it up section by section. -/
def sect (x0 : Vec Ideal S8x512x512 .bf16) (x1 : Vec Ideal S1x1024x4096 .bf16) : FVec Ideal S512x1024 .f32 :=
  k0_pay7
    (k0_pay6 (View.ld x0 (Rect.unit ![0, 0, 0] ![1, 512, 512] inb_S8x512x512_S1x512x512_0_0_0))
      (View.ld x1 (Rect.unit ![0, 0, 0] ![1, 1024, 512] inb_S1x1024x4096_S1x1024x512_0_0_0))
      (View.ld x0 (Rect.unit ![1, 0, 0] ![1, 512, 512] inb_S8x512x512_S1x512x512_1_0_0))
      (View.ld x1 (Rect.unit ![0, 0, 512] ![1, 1024, 512] inb_S1x1024x4096_S1x1024x512_0_0_512))
      (View.ld x0 (Rect.unit ![2, 0, 0] ![1, 512, 512] inb_S8x512x512_S1x512x512_2_0_0))
      (View.ld x1 (Rect.unit ![0, 0, 1024] ![1, 1024, 512] inb_S1x1024x4096_S1x1024x512_0_0_1024))
      (View.ld x0 (Rect.unit ![3, 0, 0] ![1, 512, 512] inb_S8x512x512_S1x512x512_3_0_0))
      (View.ld x1 (Rect.unit ![0, 0, 1536] ![1, 1024, 512] inb_S1x1024x4096_S1x1024x512_0_0_1536)))
    (View.ld x0 (Rect.unit ![4, 0, 0] ![1, 512, 512] inb_S8x512x512_S1x512x512_4_0_0))
    (View.ld x1 (Rect.unit ![0, 0, 2048] ![1, 1024, 512] inb_S1x1024x4096_S1x1024x512_0_0_2048))
    (View.ld x0 (Rect.unit ![5, 0, 0] ![1, 512, 512] inb_S8x512x512_S1x512x512_5_0_0))
    (View.ld x1 (Rect.unit ![0, 0, 2560] ![1, 1024, 512] inb_S1x1024x4096_S1x1024x512_0_0_2560))
    (View.ld x0 (Rect.unit ![6, 0, 0] ![1, 512, 512] inb_S8x512x512_S1x512x512_6_0_0))
    (View.ld x1 (Rect.unit ![0, 0, 3072] ![1, 1024, 512] inb_S1x1024x4096_S1x1024x512_0_0_3072))
    (View.ld x0 (Rect.unit ![7, 0, 0] ![1, 512, 512] inb_S8x512x512_S1x512x512_7_0_0))
    (View.ld x1 (Rect.unit ![0, 0, 3584] ![1, 1024, 512] inb_S1x1024x4096_S1x1024x512_0_0_3584))

theorem sect_at (x0 : Vec Ideal S8x512x512 .bf16) (x1 : Vec Ideal S1x1024x4096 .bf16) (a : Fin 512) (b : Fin 1024) :
    sect x0 x1 (ix2 a b) = ∑ s : Fin 8, ∑ k : Fin 512, x0 (ix3 s a k) * x1 (ix3 0 b (⟨512 * s.val + k.val, by omega⟩ : Fin 4096)) := by
  unfold sect k0_pay7 k0_pay6
  pointwise
  rw [Fin.sum_univ_eight]
  rfl

theorem scale_at (x : Vec Ideal S512x1024 .f32) (a : Fin 512) : k0_pay1 (k0_pay9 x) (ix2 a 0) = scaleOf fun k => x (ix2 a k) := by
  unfold k0_pay1 k0_pay9
  pointwise
  rfl

theorem norm_at (x : Vec Ideal S512x1024 .f32) (a : Fin 512) (b : Fin 1024) :
    k0_pay2 x (k0_pay9 x) (ix2 a b) = x (ix2 a b) * scaleOf fun k => x (ix2 a k) := by
  unfold k0_pay2
  pointwise
  rw [scale_at]

theorem dx_at (d x : Vec Ideal S512x1024 .f32) (g : Vec Ideal S1x1024 .f32) (r : Vec Ideal S512x1024 .f32) (a : Fin 512) (b : Fin 1024) :
    k0_pay3 d x (k0_pay8 g) (k0_pay9 x) r (ix2 a b)
      = r (ix2 a b) + back (fun k => x (ix2 a k)) (fun k => d (ix2 a k) * g (ix2 0 k)) b := by
  unfold k0_pay3 k0_pay8
  pointwise
  simp only [norm_at]
  rw [scale_at]
  rfl

theorem dg_at (d x : Vec Ideal S512x1024 .f32) (o : Vec Ideal S8x1024 .f32) (a : Fin 8) (b : Fin 1024) :
    k0_pay4 d x (k0_pay9 x) o (ix2 a b)
      = o (ix2 a b) + ∑ q : Fin 64, d (ix2 (⟨q.val * 8 + a.val, by omega⟩ : Fin 512) b)
          * (x (ix2 (⟨q.val * 8 + a.val, by omega⟩ : Fin 512) b) * scaleOf fun k => x (ix2 (⟨q.val * 8 + a.val, by omega⟩ : Fin 512) k)) := by
  unfold k0_pay4
  pointwise
  simp only [norm_at]

variable (m : (ℓ : Loc nD τ sig) → Buf (Elt Ideal) ℓ)

theorem idx : ∀ t : Fin cfg0.N,
    win0_0.index t = ![0, t.val, 0] ∧ win0_1.index t = ![0, 0, 0] ∧ win0_2.index t = ![t.val, 0]
      ∧ win0_3.index t = ![0, 0] ∧ win0_4.index t = ![t.val, 0] ∧ win0_5.index t = ![t.val, 0] ∧ win0_6.index t = ![0, 0] :=
  (by decide +kernel : ∀ t : Fin grid0.N, _)
theorem last : ∀ t : Fin cfg0.N, (cfg0.win 6).flush t = true → t.val = 7 :=
  (by decide +kernel : ∀ t : Fin grid0.N, _)

variable (c : Dev nD)

/-- The five arguments. -/
abbrev dpA := m ((c : Thread nD τ).loc main_arg0)
abbrev wA := m ((c : Thread nD τ).loc main_arg1)
abbrev xA := m ((c : Thread nD τ).loc main_arg2)
abbrev gA := m ((c : Thread nD τ).loc main_arg3)
abbrev dx1A := m ((c : Thread nD τ).loc main_arg4)

theorem gain : V m c main_v0 = shapeCast S1x1024 (gA m c) shapeCasts_S1024_S1x1024 := by
  simp only [V, V0, hostOps0, List.flatten_cons, List.flatten_nil, List.append_nil, List.cons_append, List.nil_append]
  after_results
  rfl

/-- Row `a` of tile `t`. -/
abbrev at' (t : Fin cfg0.N) (a : Fin 512) : Fin 4096 := ⟨512 * t.val + a.val, by have : t.val < 8 := t.isLt; omega⟩

theorem rd0 (t : Fin cfg0.N) (s : Fin 8) (a k : Fin 512) : iblk m c 0 t (ix3 s a k) = dpA m c (ix3 s (at' t a) k) := by
  refine Eq.trans ?_ (congrFun (V_main_arg0 m c) _)
  blk_ext [iblk, V, idx t]
theorem rd1 (t : Fin cfg0.N) (b : Fin 1024) (k : Fin 4096) : iblk m c 1 t (ix3 0 b k) = wA m c (ix3 0 b k) := by
  refine Eq.trans ?_ (congrFun (V_main_arg1 m c) _)
  blk_ext [iblk, V, idx t]
theorem rd2 (t : Fin cfg0.N) (a : Fin 512) (b : Fin 1024) : iblk m c 2 t (ix2 a b) = row (xA m c) (at' t a) b := by
  refine Eq.trans ?_ (congrFun (V_main_arg2 m c) _)
  blk_ext [iblk, V, idx t]
theorem rd3 (t : Fin cfg0.N) (b : Fin 1024) : iblk m c 3 t (ix2 0 b) = gA m c (ix1 b) := by
  show V m c main_v0 (((cfg0.win 3).blk t).view.emb (ix2 0 b)) = _
  rw [gain, show ((cfg0.win 3).blk t).view.emb (ix2 0 b) = ix2 (0 : Fin 1) b by blk_ext [idx t]]
  pointwise
theorem rd4 (t : Fin cfg0.N) (a : Fin 512) (b : Fin 1024) : iblk m c 4 t (ix2 a b) = dx1A m c (ix2 (at' t a) b) := by
  refine Eq.trans ?_ (congrFun (V_main_arg4 m c) _)
  blk_ext [iblk, V, idx t]

theorem sect_tile (t : Fin cfg0.N) (a : Fin 512) (b : Fin 1024) :
    sect (iblk m c 0 t) (iblk m c 1 t) (ix2 a b) = dh (dpA m c) (wA m c) (at' t a) b := by
  rw [sect_at]
  simp only [rd0, rd1]
  exact sections (dpA m c) (wA m c) (at' t a) b

/-- What a tile leaves of the input's gradient. -/
theorem dx_tile (t : Fin cfg0.N) (a : Fin 512) (b : Fin 1024) :
    k0_pay3 (sect (iblk m c 0 t) (iblk m c 1 t)) (iblk m c 2 t) (k0_pay8 (iblk m c 3 t)) (k0_pay9 (iblk m c 2 t)) (iblk m c 4 t) (ix2 a b)
      = dx (dpA m c) (wA m c) (xA m c) (gA m c) (dx1A m c) (ix2 (at' t a) b) := by
  rw [dx_at]
  simp only [sect_tile, rd2, rd3, rd4]
  rfl

theorem dx_point (t : Fin cfg0.N) (a : Fin 512) (b : Fin 1024) :
    (outsAt0 m c t.val t.isLt).1 (ix2 a b) = dx (dpA m c) (wA m c) (xA m c) (gA m c) (dx1A m c) (ix2 (at' t a) b) := by
  by_cases h : t.val % 8 = 0
  · have e := outsAt0_A m c t h
    rw [e]
    frame_out
    exact dx_tile m c t a b
  · have e := outsAt0_B m c t h
    rw [e]
    frame_out
    exact dx_tile m c t a b

theorem final5 : (dats m 0 c).arrAt 5 cfg0.N = dx (dpA m c) (wA m c) (xA m c) (gA m c) (dx1A m c) := by
  refine (dats m 0 c).arrAt_eq_of_covers 5 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 5).blk t).view.emb (ix2 a b) = ix2 (at' t a) b by blk_ext [idx t]]
  blk_simp
  rw [after0_5]
  exact dx_point m c t a b

/-- A tile's share of the gain's gradient: its rows eight apart. -/
def tile (s : Fin 8) (a : Fin 8) (b : Fin 1024) : EReal :=
  ∑ q : Fin 64, share (dpA m c) (wA m c) (xA m c) b ⟨512 * s.val + (q.val * 8 + a.val), by omega⟩

theorem dg_tile (t : Fin cfg0.N) (o : Vec Ideal S8x1024 .f32) (a : Fin 8) (b : Fin 1024) :
    k0_pay4 (sect (iblk m c 0 t) (iblk m c 1 t)) (iblk m c 2 t) (k0_pay9 (iblk m c 2 t)) o (ix2 a b)
      = o (ix2 a b) + tile m c ⟨t.val, t.isLt⟩ a b := by
  rw [dg_at]
  simp only [sect_tile, rd2]
  rfl

/-- After point `n` the block holds the first `n + 1` tiles' shares. -/
theorem acc (a : Fin 8) (b : Fin 1024) : ∀ (n : ℕ) (hn : n < cfg0.N),
    (outsAt0 m c n hn).2 (ix2 a b) = ∑ s : Fin (n + 1), tile m c ⟨s.val, lt_of_lt_of_le s.isLt hn⟩ a b
  | 0, hn => by
    have e := outsAt0_A m c ⟨0, hn⟩ rfl
    rw [e]
    frame_out
    rw [Fin.sum_univ_one]
    refine (dg_tile m c ⟨0, hn⟩ _ a b).trans ?_
    rw [show (k0_pay5 (F := Ideal)) (ix2 a b) = 0 by unfold k0_pay5; pointwise, zero_add]
    rfl
  | n + 1, hn => by
    have hN : n + 1 < 8 := hn
    rw [Fin.sum_univ_castSucc]
    refine Eq.trans ?_ (congrArg₂ (· + ·) (acc a b n (Nat.lt_of_succ_lt hn)) rfl)
    have e := outsAt0_B m c ⟨n + 1, hn⟩ (by show ¬ (n + 1) % 8 = 0; omega)
    rw [e]
    frame_out
    exact dg_tile m c ⟨n + 1, hn⟩ _ a b

theorem final6 (a : Fin 8) (b : Fin 1024) : ((dats m 0 c).arrAt 6 cfg0.N : S8x1024.Idx → EReal) (ix2 a b) = (∑ s : Fin 8, tile m c s a b : EReal) := by
  refine congrFun (a := ix2 a b) (f := (dats m 0 c).arrAt 6 cfg0.N) (g := fun i => (∑ s : Fin 8, tile m c s (i 0) (i 1) : EReal)) ?_
  refine (dats m 0 c).arrAt_eq_of_covers 6 _ (by decide +kernel) fun t hf y => ?_
  obtain ⟨a, b, rfl⟩ : ∃ (a : Fin 8) (b : Fin 1024), y = ix2 a b := ⟨y 0, y 1, by ext k; fin_cases k <;> rfl⟩
  have ht : t.val = 7 := last t hf
  rw [show ((cfg0.win 6).blk t).view.emb (ix2 a b) = ix2 a b by blk_ext [idx t]]
  blk_simp
  rw [after0_6]
  refine (acc m c a b t.val t.isLt).trans ?_
  obtain ⟨n, hn⟩ := t
  obtain rfl : n = 7 := ht
  rfl

theorem left (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr cfg0.spec (by decide) c (V0 m c) _ w

theorem tail6 : Pipeline.afterTail₀ cfgs (dats m) 0 (V0 m) [hostOps1] c main_v2
    = Host.reduceAdd ((dats m 0 c).arrAt 6 (cfgs 0).N) (constant (F := Ideal) S_ .f32 0x00000000#32) reducesTo_S8x1024_S1024_d0 h_S_ := by
  unfold Pipeline.afterTail₀
  simp only [hostOps1, List.flatten_cons, List.flatten_nil, List.append_nil, List.cons_append, List.nil_append]
  after_results
  exact congrArg (fun A => Host.reduceAdd A (constant (F := Ideal) S_ .f32 0x00000000#32) reducesTo_S8x1024_S1024_d0 h_S_) (left m c 6)

/-- The host's sum of the eight rows is the gain's gradient. -/
theorem host6 : Pipeline.afterTail₀ cfgs (dats m) 0 (V0 m) [hostOps1] c main_v2 = dg (dpA m c) (wA m c) (xA m c) := by
  funext i
  obtain ⟨b, rfl⟩ : ∃ b : Fin 1024, i = ix1 b := ⟨i 0, by ext k; fin_cases k; rfl⟩
  rw [tail6]
  pointwise
  have e : ∀ a : Fin 8, ((dats m 0 c).arrAt 6 (cfgs 0).N : S8x1024.Idx → EReal) (ix2 a b) = (∑ s : Fin 8, tile m c s a b : EReal) := fun a => final6 m c a b
  show (∑ a : Fin 8, ((dats m 0 c).arrAt 6 (cfgs 0).N : S8x1024.Idx → EReal) (ix2 a b) : EReal) = ∑ k : Fin 4096, share (dpA m c) (wA m c) (xA m c) b k
  simp only [e]
  exact by_eights fun k => share (dpA m c) (wA m c) (xA m c) b k

end Cert.Kernel2Ideal.InprojBwd
end
-- ==== Proof.InprojBwd.RefValue.lean ====
module

public import proofs.«01_k».proof.Proof.Gen.Reference2Ideal.Run
public import proofs.«01_k».proof.Proof.Gen.Reference2Ideal.Read
public import proofs.«01_k».proof.Proof.InprojBwd.Model
public import Idealize.ShloMosaic.Lib.Pointwise

@[expose] public section

set_option maxRecDepth 16384

noncomputable section

namespace Cert.Reference2Ideal.InprojBwd

open Idealize.ShloMosaic Idealize.ShloMosaic.TcCoe Idealize.ShloMosaic.Tactic
open Idealize.SL Idealize.SL.Sem
open Cert.Reference2Ideal.Read Cert.InprojBwd Cert.Shared

variable (dp : FVec Ideal S8x4096x512 .bf16) (w : FVec Ideal S2x1024x4096 .bf16) (x : FVec Ideal S4096x1024 .f32)
  (g : FVec Ideal S1024 .f32) (dx1 : FVec Ideal S4096x1024 .f32)

theorem dh_at (a : Fin 4096) (b : Fin 1024) : val_main_v46 (F := Ideal) dp w (ix2 a b) = dh dp w a b := by
  unfold val_main_v46 val_main_v45 val_main_v44 val_main_v42 val_main_v40 val_main_v38 val_main_v36 val_main_v34 val_main_v32 val_main_v30
    val_main_v43 val_main_v41 val_main_v39 val_main_v37 val_main_v35 val_main_v33 val_main_v31 val_main_v29 val_main_v28 val_main_v18 val_main_v17 val_main_v16
  pointwise
  show _ = ∑ k : Fin 4096, _
  exact Finset.sum_congr rfl fun k _ => congrArg (· * w (ix3 0 b k)) (side_by_side (fun s l => dp (ix3 s a l)) k)

theorem mean_at (a : Fin 4096) : val_main_v6 (F := Ideal) x (ix2 a 0) = meanOf (row x a) := by
  unfold val_main_v6 val_main_v5 val_main_cst_1 val_main_v4 val_main_v3 val_main_cst_0 val_main_v2 val_main_v1 val_main_cst val_main_v0
  pointwise
  rfl

theorem scale_at (a : Fin 4096) : val_main_v7 (F := Ideal) x (ix2 a 0) = scaleOf (row x a) := by
  unfold val_main_v7
  pointwise
  rw [mean_at]
  rfl

theorem norm_at (a : Fin 4096) (b : Fin 1024) : val_main_v12 (F := Ideal) x (ix2 a b) = row x a b * scaleOf (row x a) := by
  unfold val_main_v12 val_main_v11
  pointwise
  rw [scale_at]
  rfl

theorem ct_at (a : Fin 4096) (b : Fin 1024) : val_main_v51 (F := Ideal) dp w g (ix2 a b) = ct dp w g a b := by
  unfold val_main_v51 val_main_v50 val_main_v13
  pointwise
  rw [dh_at]
  rfl

theorem dg_at (b : Fin 1024) : val_main_v52 (F := Ideal) dp w x (ix1 b) = dg dp w x (ix1 b) := by
  unfold val_main_v52 val_main_cst_4 val_main_v49 val_main_v48 val_main_cst_3 val_main_v47
  pointwise
  rw [Fin.sum_univ_one]
  show _ = ∑ k : Fin 4096, share dp w x b k
  refine Finset.sum_congr rfl fun k _ => ?_
  rw [norm_at, dh_at]
  exact mul_comm _ _

theorem half_at (a : Fin 4096) (b : Fin 1024) : val_main_v63 (F := Ideal) dp w x g (ix2 a b) = half (row x a) (ct dp w g a) := by
  unfold val_main_v63 val_main_v62 val_main_cst_7 val_main_v61 val_main_v60 val_main_cst_6 val_main_v59 val_main_v55 val_main_v54 val_main_cst_5 val_main_v53
    val_main_v10 val_main_v9 val_main_cst_2 val_main_v8
  pointwise
  rw [Fin.sum_univ_one, scale_at, mean_at]
  simp only [ct_at]
  rfl

theorem dx_at (a : Fin 4096) (b : Fin 1024) : val_main_v67 (F := Ideal) dp w x g dx1 (ix2 a b)
    = ((dx1 (ix2 a b) + ct dp w g a b * scaleOf (row x a)) + row x a b * half (row x a) (ct dp w g a)) + half (row x a) (ct dp w g a) * row x a b := by
  unfold val_main_v67 val_main_v66 val_main_v65 val_main_v64 val_main_v58 val_main_v57 val_main_v56
  pointwise
  rw [ct_at, scale_at, half_at]
  rfl

/-- The reference's own results are the two gradients, when the arguments they multiply are real numbers. -/
theorem run (m : (ℓ : Loc nD τ sig) → Buf (Elt Ideal) ℓ) (ρ : Dev nD → PrngReg)
    (hx : ∀ (c : Dev nD) a k, Real' (row (m ((c.tc : Thread nD τ).loc main_arg2)) a k))
    (hc : ∀ (c : Dev nD) a k, Real' (ct (m ((c.tc : Thread nD τ).loc main_arg0)) (m ((c.tc : Thread nD τ).loc main_arg1)) (m ((c.tc : Thread nD τ).loc main_arg3)) a k)) :
    θ_run defs (onTc (τ := τ) (main (F := Ideal))) ⟨m, fun _ => 0, ρ⟩ fun r => ∀ c : Dev nD,
      r.2.mem ((c.tc : Thread nD τ).loc main_v67) = dx (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_v52) = dg (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (Value.run m ρ)
  · clear h; rw [val_main_v67_eq]; funext i
    obtain ⟨a, b, rfl⟩ : ∃ (a : Fin 4096) (b : Fin 1024), i = ix2 a b := ⟨i 0, i 1, by ext k; fin_cases k <;> rfl⟩
    rw [dx_at]
    exact add_back_eq (hx c a) (hc c a) b _
  · clear h; rw [val_main_v52_eq]; funext i
    obtain ⟨b, rfl⟩ : ∃ (b : Fin 1024), i = ix1 b := ⟨i 0, by ext k; fin_cases k <;> rfl⟩
    exact dg_at _ _ _ b

end Cert.Reference2Ideal.InprojBwd
end
-- ==== Proof.Shared.Layer.lean ====
module

public import Idealize.ShloMosaic.Lib.Pointwise

@[expose] public section

noncomputable section

namespace Cert.Shared

open Idealize.ShloMosaic

/-- The same two layers in the other order: what one call finds in a layer, the same call for the other layer finds here. -/
def other {p q : ℕ} (w : (⟨3, ![2, p, q]⟩ : Shape).Idx → EReal) : (⟨3, ![2, p, q]⟩ : Shape).Idx → EReal :=
  fun i => w (ix3 (1 - (show Fin 2 from i 0)) (show Fin p from i 1) (show Fin q from i 2))

theorem other_zero {p q : ℕ} (w : (⟨3, ![2, p, q]⟩ : Shape).Idx → EReal) (a : Fin p) (b : Fin q) : other w (ix3 0 a b) = w (ix3 1 a b) := rfl
theorem other_one {p q : ℕ} (w : (⟨3, ![2, p, q]⟩ : Shape).Idx → EReal) (a : Fin p) (b : Fin q) : other w (ix3 1 a b) = w (ix3 0 a b) := rfl

/-- A sequence that starts with the first of `N` terms and adds the next one at each step is the sum of the terms so far. -/
theorem running_sum {N : ℕ} (o : ∀ n, n < N → EReal) (f : Fin N → EReal) (h0 : ∀ h, o 0 h = f ⟨0, h⟩)
    (hs : ∀ n (h : n + 1 < N), o (n + 1) h = o n (Nat.lt_of_succ_lt h) + f ⟨n + 1, h⟩) :
    ∀ (n : ℕ) (h : n < N), o n h = ∑ s : Fin (n + 1), f ⟨s.val, lt_of_lt_of_le s.isLt h⟩
  | 0, h => by rw [Fin.sum_univ_one]; exact h0 h
  | n + 1, h => by
    rw [Fin.sum_univ_castSucc, hs n h, running_sum o f h0 hs n (Nat.lt_of_succ_lt h)]
    rfl

end Cert.Shared

end
-- ==== Proof.InprojBwd.Entries.lean ====
module

public import proofs.«01_k».proof.Pre_finite2
public import proofs.«01_k».proof.Proof.InprojBwd.Model
public import proofs.«01_k».proof.Proof.Shared.Layer
public import Idealize.ShloMosaic.Lib.Pointwise

@[expose] public section

noncomputable section

namespace Cert.InprojBwd

open Idealize.ShloMosaic Cert.Shared

variable {dp : FVec Ideal Cert.Pre_finite2.S8x4096x512 .bf16} {w : FVec Ideal Cert.Pre_finite2.S2x1024x4096 .bf16}
  {x : FVec Ideal Cert.Pre_finite2.S4096x1024 .f32} {g : FVec Ideal Cert.Pre_finite2.S1024 .f32} {dx1 : FVec Ideal Cert.Pre_finite2.S4096x1024 .f32}

/-- The precondition makes the rows and their cotangents real numbers, through either layer's weights. -/
theorem reals_of [Cert.Pre_finite2.Facts]
    (h : (Cert.Pre_finite2.fn (F := Ideal) dp w x g dx1).1 = (fun _ => 1#1) ∧ (Cert.Pre_finite2.fn (F := Ideal) dp w x g dx1).2.1 = (fun _ => 1#1)
      ∧ (Cert.Pre_finite2.fn (F := Ideal) dp w x g dx1).2.2.1 = (fun _ => 1#1) ∧ (Cert.Pre_finite2.fn (F := Ideal) dp w x g dx1).2.2.2 = (fun _ => 1#1)) :
    (∀ a k, Real' (row x a k)) ∧ (∀ a k, Real' (ct dp w g a k)) ∧ ∀ a k, Real' (ct dp (other w) g a k) := by
  unfold Cert.Pre_finite2.fn at h
  obtain ⟨h0, h1, h2, h3⟩ := h
  have r0 : ∀ (s : Fin 8) (a : Fin 4096) (k : Fin 512), Real' (dp (ix3 s a k)) := fun s a k => by
    have e := congrFun h0 (ix3 s a k)
    pointwise at e
    exact Cert.Conv.real_of_lt _ e
  have r1 : ∀ (s : Fin 2) (a : Fin 1024) (k : Fin 4096), Real' (w (ix3 s a k)) := fun s a k => by
    have e := congrFun h1 (ix3 s a k)
    pointwise at e
    exact Cert.Conv.real_of_lt _ e
  have r2 : ∀ (a : Fin 4096) (k : Fin 1024), Real' (x (ix2 a k)) := fun a k => by
    have e := congrFun h2 (ix2 a k)
    pointwise at e
    exact Cert.Conv.real_of_lt _ e
  have r3 : ∀ k : Fin 1024, Real' (g (ix1 k)) := fun k => by
    have e := congrFun h3 (ix1 k)
    pointwise at e
    exact Cert.Conv.real_of_lt _ e
  exact ⟨r2, fun a k => real_mul (real_sum fun j => real_mul (r0 _ _ _) (r1 _ _ _)) (r3 k),
    fun a k => real_mul (real_sum fun j => real_mul (r0 _ _ _) (r1 1 _ _)) (r3 k)⟩

end Cert.InprojBwd

end
-- ==== Proof.InprojBwd.Claims.lean ====
module

public import proofs.«01_k».proof.Defs
public import proofs.«01_k».proof.Proof.Gen.Kernel2.Frame
public import proofs.«01_k».proof.Proof.Gen.Pre_finite2
public import proofs.«01_k».proof.Proof.InprojBwd.Value
public import proofs.«01_k».proof.Proof.InprojBwd.RefValue
public import proofs.«01_k».proof.Proof.InprojBwd.Entries
public import Idealize.ShloMosaic.Lib.Claim
public import Idealize.ShloMosaic.Adequacy
public import Idealize.ShloMosaic.Init

@[expose] public section

set_option maxRecDepth 16384

noncomputable section

namespace Cert.Proof.Calls

open Idealize.ShloMosaic Idealize.ShloMosaic.TcCoe Idealize.SL.Sem

attribute [local instance] Cert.Kernel2.Gen.facts Cert.Kernel2Ideal.Gen.facts Cert.Reference2Ideal.Gen.facts Cert.Pre_finite2.Gen.facts

/-! The gradient through the input projection and its norm. -/

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_ideal2_pre : Cert.quiescent_Kernel2Ideal_pre_finite2 := fun m ρ _ => Cert.Kernel2Ideal.Gen.frame m ρ
theorem frame_ref2 : Cert.quiescent_Reference2Ideal := fun m ρ _ =>
  (θ_run Cert.Reference2Ideal.defs _ _).mono (fun _ h => ⟨fun c => (h c).2.2, sem_eq_zero_of_no_sems (by decide) _⟩) (Cert.Reference2Ideal.Value.run (F := Ideal) m ρ)
theorem frame_ref2_pre : Cert.quiescent_Reference2Ideal_pre_finite2 := fun m ρ _ => frame_ref2 m ρ trivial
theorem algebraic2 : Cert.algebraic_Kernel2Ideal_Reference2Ideal_pre_finite2 := by
  intro m g m' g' hpre hagree
  open Cert.Kernel2Ideal.InprojBwd in
  refine ⟨fun c => Cert.InprojBwd.dx (dpA m c) (wA m c) (xA m c) (gA m c) (dx1A m c), fun c => Cert.InprojBwd.dg (dpA m c) (wA m c) (xA m c), ?_, ?_⟩
  · run_from Cert.Kernel2Ideal.Gen.run_main m g
    · exact Cert.Kernel2Ideal.InprojBwd.final5 m c
    · exact Cert.Kernel2Ideal.InprojBwd.host6 m c
    · exact Cert.Kernel2Ideal.Gen.W_main_arg3 m _ c
  · refine (θ_run Cert.Reference2Ideal.defs _ _).mono (fun r h c => ⟨(h c).1.trans ?_, (h c).2.1.trans ?_, (h c).2.2⟩)
      (Cert.Reference2Ideal.InprojBwd.run m' g' (fun c => ?_) fun c => ?_)
    · obtain ⟨e0, e1, e2, e3, e4⟩ := hagree c
      rw [e2]
      exact (Cert.InprojBwd.reals_of (hpre c)).1
    · obtain ⟨e0, e1, e2, e3, e4⟩ := hagree c
      rw [e0, e1, e3]
      exact (Cert.InprojBwd.reals_of (hpre c)).2.1
    all_goals
      obtain ⟨e0, e1, e2, e3, e4⟩ := hagree c
      simp only [e0, e1, e2, e3, e4]

end Cert.Proof.Calls

end
-- ==== Proof.PleBwd.Model.lean ====
module

public import proofs.«01_k».proof.Proof.Shared.RmsBack
public import proofs.«01_k».proof.Proof.Shared.Columns

@[expose] public section

noncomputable section

namespace Cert.PleBwd

open Idealize.ShloMosaic

variable (ct : (⟨2, ![4096, 1024]⟩ : Shape).Idx → EReal) (u : (⟨2, ![4096, 1024]⟩ : Shape).Idx → EReal)
  (e : (⟨2, ![4096, 1024]⟩ : Shape).Idx → EReal) (x : (⟨2, ![4096, 1024]⟩ : Shape).Idx → EReal)
  (w : (⟨3, ![2, 1024, 1024]⟩ : Shape).Idx → EReal) (g : (⟨1, ![1024]⟩ : Shape).Idx → EReal)
  (wo : (⟨3, ![2, 1024, 1024]⟩ : Shape).Idx → EReal)

/-- The gate, and the gradients of what it is taken of and of what it multiplies. -/
def gate (a : Fin 4096) (b : Fin 1024) : EReal := Ideal.div 1 (1 + Ideal.exp (-u (ix2 a b)))
def duAt (a : Fin 4096) (b : Fin 1024) : EReal := ct (ix2 a b) * e (ix2 a b) * gate u a b * (1 - gate u a b)
def du : (⟨2, ![4096, 1024]⟩ : Shape).Idx → EReal := fun i => duAt ct u e (i 0) (i 1)
def de : (⟨2, ![4096, 1024]⟩ : Shape).Idx → EReal := fun i => ct (ix2 (i 0) (i 1)) * gate u (i 0) (i 1)
/-- The gradient of the normed row, against the second layer's weights. -/
def dh (a : Fin 4096) (b : Fin 1024) : EReal := ∑ k : Fin 1024, duAt ct u e a k * w (ix3 1 b k)
/-- Row `a` of the residual stream, and its cotangent times the gain. -/
def row (a : Fin 4096) (k : Fin 1024) : EReal := x (ix2 a k)
def cot (a : Fin 4096) (k : Fin 1024) : EReal := dh ct u e w a k * g (ix1 k)
/-- The gradient of the residual stream, and of the branch added to it. -/
def dxAt (a : Fin 4096) (b : Fin 1024) : EReal := ct (ix2 a b) + Cert.Shared.back (row x a) (cot ct u e w g a) b
def dx : (⟨2, ![4096, 1024]⟩ : Shape).Idx → EReal := fun i => dxAt ct u e x w g (i 0) (i 1)
def dy : (⟨2, ![4096, 1024]⟩ : Shape).Idx → EReal := fun i =>
  ∑ k : Fin 1024, dxAt ct u e x w g (i 0) k * wo (ix3 1 (i 1) k)
/-- The gradient of the gate's bias. -/
def db : (⟨1, ![1024]⟩ : Shape).Idx → EReal := fun i => ∑ a : Fin 4096, duAt ct u e a (i 0)
/-- Row `a`'s share of the gain's gradient, and the gradient. -/
def share (b : Fin 1024) (a : Fin 4096) : EReal := dh ct u e w a b * (row x a b * Cert.Shared.scaleOf (row x a))
def dg : (⟨1, ![1024]⟩ : Shape).Idx → EReal := fun i => ∑ a : Fin 4096, share ct u e x w (i 0) a

end Cert.PleBwd

end
-- ==== Proof.PleBwd.Value.lean ====
module

public import proofs.«01_k».proof.Proof.Gen.Kernel4Ideal.Frame
public import proofs.«01_k».proof.Proof.PleBwd.Model
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.PleBwd

open Idealize.ShloMosaic Idealize.ShloMosaic.TcCoe Idealize.ShloMosaic.Tactic
open Idealize.SL Idealize.SL.Sem
open Idealize.ShloMosaic.Pipeline (Dat Cfg Window)
open Cert.Kernel4Ideal.Gen Cert.PleBwd Cert.Shared

theorem du_at (d : Vec Ideal S512x1024 .f32) (q e : Vec Ideal S512x1024 .bf16) (a : Fin 512) (b : Fin 1024) :
    k0_pay4 d q e (ix2 a b) = d (ix2 a b) * e (ix2 a b) * q (ix2 a b) * (1 - q (ix2 a b)) := by
  unfold k0_pay4 k0_pay3
  pointwise

theorem dh_at (d : Vec Ideal S512x1024 .f32) (q e : Vec Ideal S512x1024 .bf16) (w : Vec Ideal S1x1024x1024 .bf16) (a : Fin 512) (b : Fin 1024) :
    k0_pay8 d q e w (ix2 a b) = ∑ k : Fin 1024, k0_pay4 d q e (ix2 a k) * w (ix3 0 b k) := by
  unfold k0_pay8 k0_pay6
  pointwise

theorem scale_at (x : Vec Ideal S512x1024 .f32) (a : Fin 512) : k0_pay9 x (ix2 a 0) = scaleOf fun k => x (ix2 a k) := by
  unfold k0_pay9
  pointwise
  rfl

theorem norm_at (x : Vec Ideal S512x1024 .f32) (a : Fin 512) (b : Fin 1024) :
    k0_pay10 x (ix2 a b) = x (ix2 a b) * scaleOf fun k => x (ix2 a k) := by
  unfold k0_pay10
  pointwise
  rw [scale_at]

theorem dx_at (d h x : Vec Ideal S512x1024 .f32) (g : Vec Ideal S1x1024 .f32) (a : Fin 512) (b : Fin 1024) :
    k0_pay11 d h x g (ix2 a b)
      = d (ix2 a b) + back (fun k => x (ix2 a k)) (fun k => h (ix2 a k) * g (ix2 0 k)) b := by
  unfold k0_pay11
  pointwise
  simp only [norm_at]
  rw [scale_at]
  rfl

theorem dy_at (d h x : Vec Ideal S512x1024 .f32) (g : Vec Ideal S1x1024 .f32) (w : Vec Ideal S1x1024x1024 .bf16) (a : Fin 512) (b : Fin 1024) :
    k0_pay13 d h x g w (ix2 a b) = ∑ k : Fin 1024, k0_pay11 d h x g (ix2 a k) * w (ix3 0 b k) := by
  unfold k0_pay13
  pointwise

theorem db_at (d : Vec Ideal S512x1024 .f32) (q e : Vec Ideal S512x1024 .bf16) (o : Vec Ideal S8x1024 .f32) (a : Fin 8) (b : Fin 1024) :
    k0_pay7 d q e o (ix2 a b)
      = o (ix2 a b) + ∑ s : Fin 64, k0_pay4 d q e (ix2 (⟨s.val * 8 + a.val, by omega⟩ : Fin 512) b) := by
  unfold k0_pay7
  pointwise

theorem dg_at (h x : Vec Ideal S512x1024 .f32) (o : Vec Ideal S8x1024 .f32) (a : Fin 8) (b : Fin 1024) :
    k0_pay12 h x o (ix2 a b)
      = o (ix2 a b) + ∑ q : Fin 64, h (ix2 (⟨q.val * 8 + a.val, by omega⟩ : Fin 512) b)
          * (x (ix2 (⟨q.val * 8 + a.val, by omega⟩ : Fin 512) b) * scaleOf fun k => x (ix2 (⟨q.val * 8 + a.val, by omega⟩ : Fin 512) k)) := by
  unfold k0_pay12
  pointwise
  simp only [norm_at]

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0]
      ∧ win0_4.index t = ![1, 0, 0] ∧ win0_5.index t = ![0, 0] ∧ win0_6.index t = ![1, 0, 0]
      ∧ win0_7.index t = ![t.val, 0] ∧ win0_8.index t = ![t.val, 0] ∧ win0_9.index t = ![t.val, 0] ∧ win0_10.index t = ![t.val, 0]
      ∧ win0_11.index t = ![0, 0] ∧ win0_12.index t = ![0, 0] :=
  (by decide +kernel : ∀ t : Fin grid0.N, _)
theorem last : ∀ t : Fin cfg0.N, ((cfg0.win 11).flush t = true → t.val = 7) ∧ ((cfg0.win 12).flush t = true → t.val = 7) :=
  (by decide +kernel : ∀ t : Fin grid0.N, _)

variable (c : Dev nD)

/-- The seven arguments. -/
abbrev ctA := m ((c : Thread nD τ).loc main_arg0)
abbrev uA := m ((c : Thread nD τ).loc main_arg1)
abbrev eA := m ((c : Thread nD τ).loc main_arg2)
abbrev xA := m ((c : Thread nD τ).loc main_arg3)
abbrev wA := m ((c : Thread nD τ).loc main_arg4)
abbrev gA := m ((c : Thread nD τ).loc main_arg5)
abbrev woA := m ((c : Thread nD τ).loc main_arg6)

theorem gain : V m c main_v7 = shapeCast S1x1024 (gA m c) shapeCasts_S1024_S1x1024 := by
  simp only [V, V0, hostOps0, List.flatten_cons, List.flatten_nil, List.append_nil, List.cons_append, List.nil_append]
  after_results
  rfl

theorem gated (a : Fin 4096) (b : Fin 1024) : (V m c main_v6 : S4096x1024.Idx → EReal) (ix2 a b) = gate (uA m c) a b := by
  simp only [V, V0, hostOps0, List.flatten_cons, List.flatten_nil, List.append_nil, List.cons_append, List.nil_append]
  after_results
  pointwise
  rfl

/-- Row `a` of tile `t`. -/
abbrev at' (t : Fin cfg0.N) (a : Fin 512) : Fin 4096 := ⟨512 * t.val + a.val, by have : t.val < 8 := t.isLt; omega⟩

theorem rd0 (t : Fin cfg0.N) (a : Fin 512) (b : Fin 1024) : iblk m c 0 t (ix2 a b) = ctA m c (ix2 (at' t a) b) := by
  refine Eq.trans ?_ (congrFun (V_main_arg0 m c) _)
  blk_ext [iblk, V, idx t]
theorem rd1 (t : Fin cfg0.N) (a : Fin 512) (b : Fin 1024) : iblk m c 1 t (ix2 a b) = gate (uA m c) (at' t a) b := by
  refine Eq.trans ?_ (gated m c (at' t a) b)
  blk_ext [iblk, V, idx t]
theorem rd2 (t : Fin cfg0.N) (a : Fin 512) (b : Fin 1024) : iblk m c 2 t (ix2 a b) = eA m c (ix2 (at' t a) b) := by
  refine Eq.trans ?_ (congrFun (V_main_arg2 m c) _)
  blk_ext [iblk, V, idx t]
theorem rd3 (t : Fin cfg0.N) (a : Fin 512) (b : Fin 1024) : iblk m c 3 t (ix2 a b) = row (xA m c) (at' t a) b := by
  refine Eq.trans ?_ (congrFun (V_main_arg3 m c) _)
  blk_ext [iblk, V, idx t]
theorem rd4 (t : Fin cfg0.N) (b k : Fin 1024) : iblk m c 4 t (ix3 0 b k) = wA m c (ix3 1 b k) := by
  refine Eq.trans ?_ (congrFun (V_main_arg4 m c) _)
  blk_ext [iblk, V, idx t]
theorem rd5 (t : Fin cfg0.N) (b : Fin 1024) : iblk m c 5 t (ix2 0 b) = gA m c (ix1 b) := by
  show V m c main_v7 (((cfg0.win 5).blk t).view.emb (ix2 0 b)) = _
  rw [gain, show ((cfg0.win 5).blk t).view.emb (ix2 0 b) = ix2 (0 : Fin 1) b by blk_ext [idx t]]
  pointwise
theorem rd6 (t : Fin cfg0.N) (b k : Fin 1024) : iblk m c 6 t (ix3 0 b k) = woA m c (ix3 1 b k) := by
  refine Eq.trans ?_ (congrFun (V_main_arg6 m c) _)
  blk_ext [iblk, V, idx t]

/-- A tile's gradient at the gate, and of its normed rows. -/
abbrev duT (t : Fin cfg0.N) : FVec Ideal S512x1024 .f32 := k0_pay4 (iblk m c 0 t) (iblk m c 1 t) (iblk m c 2 t)
abbrev dhT (t : Fin cfg0.N) : FVec Ideal S512x1024 .f32 := k0_pay8 (iblk m c 0 t) (iblk m c 1 t) (iblk m c 2 t) (iblk m c 4 t)

theorem du_tile (t : Fin cfg0.N) (a : Fin 512) (b : Fin 1024) :
    duT m c t (ix2 a b) = duAt (ctA m c) (uA m c) (eA m c) (at' t a) b := by
  refine (du_at _ _ _ a b).trans ?_
  simp only [rd0, rd1, rd2]
  rfl
theorem dh_tile (t : Fin cfg0.N) (a : Fin 512) (b : Fin 1024) :
    dhT m c t (ix2 a b) = dh (ctA m c) (uA m c) (eA m c) (wA m c) (at' t a) b := by
  refine (dh_at _ _ _ _ a b).trans ?_
  simp only [du_tile, rd4]
  rfl
theorem de_tile (t : Fin cfg0.N) (a : Fin 512) (b : Fin 1024) :
    k0_pay5 (iblk m c 0 t) (iblk m c 1 t) (ix2 a b) = de (ctA m c) (uA m c) (ix2 (at' t a) b) := by
  unfold k0_pay5 k0_pay3
  pointwise
  rw [rd0, rd1]
  rfl
theorem dx_tile (t : Fin cfg0.N) (a : Fin 512) (b : Fin 1024) :
    k0_pay11 (iblk m c 0 t) (dhT m c t) (iblk m c 3 t) (iblk m c 5 t) (ix2 a b)
      = dxAt (ctA m c) (uA m c) (eA m c) (xA m c) (wA m c) (gA m c) (at' t a) b := by
  rw [dx_at]
  simp only [dh_tile, rd0, rd3, rd5]
  rfl
theorem dy_tile (t : Fin cfg0.N) (a : Fin 512) (b : Fin 1024) :
    k0_pay13 (iblk m c 0 t) (dhT m c t) (iblk m c 3 t) (iblk m c 5 t) (iblk m c 6 t) (ix2 a b)
      = dy (ctA m c) (uA m c) (eA m c) (xA m c) (wA m c) (gA m c) (woA m c) (ix2 (at' t a) b) := by
  rw [dy_at]
  simp only [dx_tile, rd6]
  rfl

/-- What a point leaves of the four gradients written tile by tile. -/
theorem point (t : Fin cfg0.N) (a : Fin 512) (b : Fin 1024) :
    (outsAt0 m c t.val t.isLt).1 (ix2 a b) = du (ctA m c) (uA m c) (eA m c) (ix2 (at' t a) b)
      ∧ (outsAt0 m c t.val t.isLt).2.1 (ix2 a b) = de (ctA m c) (uA m c) (ix2 (at' t a) b)
      ∧ (outsAt0 m c t.val t.isLt).2.2.1 (ix2 a b) = dx (ctA m c) (uA m c) (eA m c) (xA m c) (wA m c) (gA m c) (ix2 (at' t a) b)
      ∧ (outsAt0 m c t.val t.isLt).2.2.2.1 (ix2 a b) = dy (ctA m c) (uA m c) (eA m c) (xA m c) (wA m c) (gA m c) (woA m c) (ix2 (at' t a) b) := by
  by_cases h : t.val % 8 = 0
  · have e := outsAt0_A m c t h
    rw [e]
    refine ⟨?_, ?_, ?_, ?_⟩
    · frame_out
      unfold k0_pay6
      pointwise
      exact du_tile m c t a b
    · frame_out
      exact de_tile m c t a b
    · frame_out
      exact dx_tile m c t a b
    · frame_out
      exact dy_tile m c t a b
  · have e := outsAt0_B m c t h
    rw [e]
    refine ⟨?_, ?_, ?_, ?_⟩
    · frame_out
      unfold k0_pay6
      pointwise
      exact du_tile m c t a b
    · frame_out
      exact de_tile m c t a b
    · frame_out
      exact dx_tile m c t a b
    · frame_out
      exact dy_tile m c t a b

theorem final7 : (dats m 0 c).arrAt 7 cfg0.N = du (ctA m c) (uA m c) (eA m c) := by
  refine (dats m 0 c).arrAt_eq_of_covers 7 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 7).blk t).view.emb (ix2 a b) = ix2 (at' t a) b by blk_ext [idx t]]
  blk_simp
  rw [after0_7]
  exact (point m c t a b).1
theorem final8 : (dats m 0 c).arrAt 8 cfg0.N = de (ctA m c) (uA m c) := by
  refine (dats m 0 c).arrAt_eq_of_covers 8 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 8).blk t).view.emb (ix2 a b) = ix2 (at' t a) b by blk_ext [idx t]]
  blk_simp
  rw [after0_8]
  exact (point m c t a b).2.1
theorem final9 : (dats m 0 c).arrAt 9 cfg0.N = dx (ctA m c) (uA m c) (eA m c) (xA m c) (wA m c) (gA m c) := by
  refine (dats m 0 c).arrAt_eq_of_covers 9 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 9).blk t).view.emb (ix2 a b) = ix2 (at' t a) b by blk_ext [idx t]]
  blk_simp
  rw [after0_9]
  exact (point m c t a b).2.2.1
theorem final10 : (dats m 0 c).arrAt 10 cfg0.N = dy (ctA m c) (uA m c) (eA m c) (xA m c) (wA m c) (gA m c) (woA m c) := by
  refine (dats m 0 c).arrAt_eq_of_covers 10 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 10).blk t).view.emb (ix2 a b) = ix2 (at' t a) b by blk_ext [idx t]]
  blk_simp
  rw [after0_10]
  exact (point m c t a b).2.2.2

/-- A tile's shares of the two column sums: its rows eight apart. -/
def tileB (s : Fin 8) (a : Fin 8) (b : Fin 1024) : EReal :=
  ∑ q : Fin 64, duAt (ctA m c) (uA m c) (eA m c) ⟨512 * s.val + (q.val * 8 + a.val), by omega⟩ b
def tileG (s : Fin 8) (a : Fin 8) (b : Fin 1024) : EReal :=
  ∑ q : Fin 64, share (ctA m c) (uA m c) (eA m c) (xA m c) (wA m c) b ⟨512 * s.val + (q.val * 8 + a.val), by omega⟩

theorem db_tile (t : Fin cfg0.N) (o : Vec Ideal S8x1024 .f32) (a : Fin 8) (b : Fin 1024) :
    k0_pay7 (iblk m c 0 t) (iblk m c 1 t) (iblk m c 2 t) o (ix2 a b) = o (ix2 a b) + tileB m c ⟨t.val, t.isLt⟩ a b := by
  rw [db_at]
  simp only [du_tile]
  rfl
theorem dg_tile (t : Fin cfg0.N) (o : Vec Ideal S8x1024 .f32) (a : Fin 8) (b : Fin 1024) :
    k0_pay12 (dhT m c t) (iblk m c 3 t) o (ix2 a b) = o (ix2 a b) + tileG m c ⟨t.val, t.isLt⟩ a b := by
  rw [dg_at]
  simp only [dh_tile, rd3]
  rfl

/-- After point `n` the two blocks hold the first `n + 1` tiles' shares. -/
theorem accB (a : Fin 8) (b : Fin 1024) : ∀ (n : ℕ) (hn : n < cfg0.N),
    (outsAt0 m c n hn).2.2.2.2.1 (ix2 a b) = ∑ s : Fin (n + 1), tileB m c ⟨s.val, lt_of_lt_of_le s.isLt hn⟩ a b
  | 0, hn => by
    have e := outsAt0_A m c ⟨0, hn⟩ rfl
    rw [e]
    frame_out
    rw [Fin.sum_univ_one]
    refine (db_tile m c ⟨0, hn⟩ _ a b).trans ?_
    rw [show (k0_pay1 (F := Ideal)) (ix2 a b) = 0 by unfold k0_pay1; pointwise, zero_add]
    rfl
  | n + 1, hn => by
    have hN : n + 1 < 8 := hn
    rw [Fin.sum_univ_castSucc]
    refine Eq.trans ?_ (congrArg₂ (· + ·) (accB a b n (Nat.lt_of_succ_lt hn)) rfl)
    have e := outsAt0_B m c ⟨n + 1, hn⟩ (by show ¬ (n + 1) % 8 = 0; omega)
    rw [e]
    frame_out
    exact db_tile m c ⟨n + 1, hn⟩ _ a b
theorem accG (a : Fin 8) (b : Fin 1024) : ∀ (n : ℕ) (hn : n < cfg0.N),
    (outsAt0 m c n hn).2.2.2.2.2 (ix2 a b) = ∑ s : Fin (n + 1), tileG m c ⟨s.val, lt_of_lt_of_le s.isLt hn⟩ a b
  | 0, hn => by
    have e := outsAt0_A m c ⟨0, hn⟩ rfl
    rw [e]
    frame_out
    rw [Fin.sum_univ_one]
    refine (dg_tile m c ⟨0, hn⟩ _ a b).trans ?_
    rw [show (k0_pay2 (F := Ideal)) (ix2 a b) = 0 by unfold k0_pay2; pointwise, zero_add]
    rfl
  | n + 1, hn => by
    have hN : n + 1 < 8 := hn
    rw [Fin.sum_univ_castSucc]
    refine Eq.trans ?_ (congrArg₂ (· + ·) (accG a b n (Nat.lt_of_succ_lt hn)) rfl)
    have e := outsAt0_B m c ⟨n + 1, hn⟩ (by show ¬ (n + 1) % 8 = 0; omega)
    rw [e]
    frame_out
    exact dg_tile m c ⟨n + 1, hn⟩ _ a b

theorem final11 (a : Fin 8) (b : Fin 1024) : ((dats m 0 c).arrAt 11 cfg0.N : S8x1024.Idx → EReal) (ix2 a b) = (∑ s : Fin 8, tileB m c s a b : EReal) := by
  refine congrFun (a := ix2 a b) (f := (dats m 0 c).arrAt 11 cfg0.N) (g := fun i => (∑ s : Fin 8, tileB m c s (i 0) (i 1) : EReal)) ?_
  refine (dats m 0 c).arrAt_eq_of_covers 11 _ (by decide +kernel) fun t hf y => ?_
  obtain ⟨a, b, rfl⟩ : ∃ (a : Fin 8) (b : Fin 1024), y = ix2 a b := ⟨y 0, y 1, by ext k; fin_cases k <;> rfl⟩
  have ht : t.val = 7 := (last t).1 hf
  rw [show ((cfg0.win 11).blk t).view.emb (ix2 a b) = ix2 a b by blk_ext [idx t]]
  blk_simp
  rw [after0_11]
  refine (accB m c a b t.val t.isLt).trans ?_
  obtain ⟨n, hn⟩ := t
  obtain rfl : n = 7 := ht
  rfl
theorem final12 (a : Fin 8) (b : Fin 1024) : ((dats m 0 c).arrAt 12 cfg0.N : S8x1024.Idx → EReal) (ix2 a b) = (∑ s : Fin 8, tileG m c s a b : EReal) := by
  refine congrFun (a := ix2 a b) (f := (dats m 0 c).arrAt 12 cfg0.N) (g := fun i => (∑ s : Fin 8, tileG m c s (i 0) (i 1) : EReal)) ?_
  refine (dats m 0 c).arrAt_eq_of_covers 12 _ (by decide +kernel) fun t hf y => ?_
  obtain ⟨a, b, rfl⟩ : ∃ (a : Fin 8) (b : Fin 1024), y = ix2 a b := ⟨y 0, y 1, by ext k; fin_cases k <;> rfl⟩
  have ht : t.val = 7 := (last t).2 hf
  rw [show ((cfg0.win 12).blk t).view.emb (ix2 a b) = ix2 a b by blk_ext [idx t]]
  blk_simp
  rw [after0_12]
  refine (accG m c a b t.val t.isLt).trans ?_
  obtain ⟨n, hn⟩ := t
  obtain rfl : n = 7 := ht
  rfl

theorem left (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr cfg0.spec (by decide) c (V0 m c) _ w

theorem tail11 : Pipeline.afterTail₀ cfgs (dats m) 0 (V0 m) [hostOps1] c main_v9
    = Host.reduceAdd ((dats m 0 c).arrAt 11 (cfgs 0).N) (constant (F := Ideal) S_ .f32 0x00000000#32) reducesTo_S8x1024_S1024_d0 h_S_ := by
  unfold Pipeline.afterTail₀
  simp only [hostOps1, List.flatten_cons, List.flatten_nil, List.append_nil, List.cons_append, List.nil_append]
  after_results
  exact congrArg (fun A => Host.reduceAdd A (constant (F := Ideal) S_ .f32 0x00000000#32) reducesTo_S8x1024_S1024_d0 h_S_) (left m c 11)
theorem tail12 : Pipeline.afterTail₀ cfgs (dats m) 0 (V0 m) [hostOps1] c main_v10
    = Host.reduceAdd ((dats m 0 c).arrAt 12 (cfgs 0).N) (constant (F := Ideal) S_ .f32 0x00000000#32) reducesTo_S8x1024_S1024_d0 h_S_ := by
  unfold Pipeline.afterTail₀
  simp only [hostOps1, List.flatten_cons, List.flatten_nil, List.append_nil, List.cons_append, List.nil_append]
  after_results
  exact congrArg (fun A => Host.reduceAdd A (constant (F := Ideal) S_ .f32 0x00000000#32) reducesTo_S8x1024_S1024_d0 h_S_) (left m c 12)

/-- The host's sums of the eight rows are the two gradients. -/
theorem host11 : Pipeline.afterTail₀ cfgs (dats m) 0 (V0 m) [hostOps1] c main_v9 = db (ctA m c) (uA m c) (eA m c) := by
  funext i
  obtain ⟨b, rfl⟩ : ∃ b : Fin 1024, i = ix1 b := ⟨i 0, by ext k; fin_cases k; rfl⟩
  rw [tail11]
  pointwise
  have e : ∀ a : Fin 8, ((dats m 0 c).arrAt 11 (cfgs 0).N : S8x1024.Idx → EReal) (ix2 a b) = (∑ s : Fin 8, tileB m c s a b : EReal) := fun a => final11 m c a b
  show (∑ a : Fin 8, ((dats m 0 c).arrAt 11 (cfgs 0).N : S8x1024.Idx → EReal) (ix2 a b) : EReal) = ∑ k : Fin 4096, duAt (ctA m c) (uA m c) (eA m c) k b
  simp only [e]
  exact by_eights fun k => duAt (ctA m c) (uA m c) (eA m c) k b
theorem host12 : Pipeline.afterTail₀ cfgs (dats m) 0 (V0 m) [hostOps1] c main_v10 = dg (ctA m c) (uA m c) (eA m c) (xA m c) (wA m c) := by
  funext i
  obtain ⟨b, rfl⟩ : ∃ b : Fin 1024, i = ix1 b := ⟨i 0, by ext k; fin_cases k; rfl⟩
  rw [tail12]
  pointwise
  have e : ∀ a : Fin 8, ((dats m 0 c).arrAt 12 (cfgs 0).N : S8x1024.Idx → EReal) (ix2 a b) = (∑ s : Fin 8, tileG m c s a b : EReal) := fun a => final12 m c a b
  show (∑ a : Fin 8, ((dats m 0 c).arrAt 12 (cfgs 0).N : S8x1024.Idx → EReal) (ix2 a b) : EReal) = ∑ k : Fin 4096, share (ctA m c) (uA m c) (eA m c) (xA m c) (wA m c) b k
  simp only [e]
  exact by_eights fun k => share (ctA m c) (uA m c) (eA m c) (xA m c) (wA m c) b k

end Cert.Kernel4Ideal.PleBwd
end
-- ==== Proof.PleBwd.RefValue.lean ====
module

public import proofs.«01_k».proof.Proof.Gen.Reference4Ideal.Run
public import proofs.«01_k».proof.Proof.Gen.Reference4Ideal.Read
public import proofs.«01_k».proof.Proof.PleBwd.Model
public import Idealize.ShloMosaic.Lib.Pointwise

@[expose] public section

set_option maxRecDepth 16384

noncomputable section

namespace Cert.Reference4Ideal.PleBwd

open Idealize.ShloMosaic Idealize.ShloMosaic.TcCoe Idealize.ShloMosaic.Tactic
open Idealize.SL Idealize.SL.Sem
open Cert.Reference4Ideal.Read Cert.PleBwd Cert.Shared

variable (ct u : FVec Ideal S4096x1024 .f32) (e : FVec Ideal S4096x1024 .bf16) (x : FVec Ideal S4096x1024 .f32)
  (w : FVec Ideal S2x1024x1024 .bf16) (g : FVec Ideal S1024 .f32) (wo : FVec Ideal S2x1024x1024 .bf16)

theorem gate_at (a : Fin 4096) (b : Fin 1024) : val_main_v6 (F := Ideal) u (ix2 a b) = gate u a b := by
  unfold val_main_v6 val_main_v5 val_main_v4 val_main_v3 val_main_v2 val_main_v1 val_main_cst val_main_cst_0
  pointwise
  rfl

theorem du_at (a : Fin 4096) (b : Fin 1024) : val_main_v15 (F := Ideal) ct u e (ix2 a b) = duAt ct u e a b := by
  unfold val_main_v15 val_main_v14 val_main_v12 val_main_v9 val_main_v8 val_main_v7 val_main_cst_1 val_main_v0
  pointwise
  rw [gate_at]
  exact (mul_assoc _ _ _).symm

theorem de_at (a : Fin 4096) (b : Fin 1024) : val_main_v13 (F := Ideal) ct u (ix2 a b) = de ct u (ix2 a b) := by
  unfold val_main_v13 val_main_v12
  pointwise
  rw [gate_at]
  exact mul_comm _ _

theorem dh_at (a : Fin 4096) (b : Fin 1024) : val_main_v43 (F := Ideal) ct u e w (ix2 a b) = dh ct u e w a b := by
  unfold val_main_v43 val_main_v35 val_main_v34 val_main_v33
  pointwise
  simp only [du_at]
  rfl

theorem mean_at (a : Fin 4096) : val_main_v23 (F := Ideal) x (ix2 a 0) = meanOf (row x a) := by
  unfold val_main_v23 val_main_v22 val_main_cst_5 val_main_v21 val_main_v20 val_main_cst_4 val_main_v19 val_main_v18 val_main_cst_3 val_main_v17
  pointwise
  rfl

theorem scale_at (a : Fin 4096) : val_main_v24 (F := Ideal) x (ix2 a 0) = scaleOf (row x a) := by
  unfold val_main_v24
  pointwise
  rw [mean_at]
  rfl

theorem norm_at (a : Fin 4096) (b : Fin 1024) : val_main_v29 (F := Ideal) x (ix2 a b) = row x a b * scaleOf (row x a) := by
  unfold val_main_v29 val_main_v28
  pointwise
  rw [scale_at]
  rfl

theorem cot_at (a : Fin 4096) (b : Fin 1024) : val_main_v48 (F := Ideal) ct u e w g (ix2 a b) = cot ct u e w g a b := by
  unfold val_main_v48 val_main_v47 val_main_v30
  pointwise
  rw [dh_at]
  rfl

theorem db_at (b : Fin 1024) : val_main_v42 (F := Ideal) ct u e (ix1 b) = db ct u e (ix1 b) := by
  unfold val_main_v42 val_main_cst_8 val_main_v41 val_main_v40 val_main_cst_7
  pointwise
  rw [Fin.sum_univ_one]
  simp only [du_at]
  rfl

theorem dg_at (b : Fin 1024) : val_main_v49 (F := Ideal) ct u e x w (ix1 b) = dg ct u e x w (ix1 b) := by
  unfold val_main_v49 val_main_cst_10 val_main_v46 val_main_v45 val_main_cst_9 val_main_v44
  pointwise
  rw [Fin.sum_univ_one]
  show _ = ∑ k : Fin 4096, share ct u e x w b k
  refine Finset.sum_congr rfl fun k _ => ?_
  rw [norm_at, dh_at]
  exact mul_comm _ _

theorem half_at (a : Fin 4096) (b : Fin 1024) : val_main_v60 (F := Ideal) ct u e x w g (ix2 a b) = half (row x a) (cot ct u e w g a) := by
  unfold val_main_v60 val_main_v59 val_main_cst_13 val_main_v58 val_main_v57 val_main_cst_12 val_main_v56 val_main_v52 val_main_v51 val_main_cst_11 val_main_v50
    val_main_v27 val_main_v26 val_main_cst_6 val_main_v25
  pointwise
  rw [Fin.sum_univ_one, scale_at, mean_at]
  simp only [cot_at]
  rfl

theorem dx_at (hx : ∀ a k, Real' (row x a k)) (hc : ∀ a k, Real' (cot ct u e w g a k)) (a : Fin 4096) (b : Fin 1024) :
    val_main_v64 (F := Ideal) ct u e x w g (ix2 a b) = dxAt ct u e x w g a b := by
  refine Eq.trans ?_ (add_back_eq (hx a) (hc a) b (ct (ix2 a b)))
  unfold val_main_v64 val_main_v63 val_main_v62 val_main_v61 val_main_v55 val_main_v54 val_main_v53
  pointwise
  rw [cot_at, scale_at, half_at]
  rfl

theorem dy_at (hx : ∀ a k, Real' (row x a k)) (hc : ∀ a k, Real' (cot ct u e w g a k)) (a : Fin 4096) (b : Fin 1024) :
    val_main_v70 (F := Ideal) ct u e x w g wo (ix2 a b) = dy ct u e x w g wo (ix2 a b) := by
  unfold val_main_v70 val_main_v68 val_main_v67 val_main_v66
  pointwise
  simp only [dx_at ct u e x w g hx hc]
  rfl

/-- The reference's own results are the six gradients, when what the norm's gradient multiplies are real numbers. -/
theorem run (m : (ℓ : Loc nD τ sig) → Buf (Elt Ideal) ℓ) (ρ : Dev nD → PrngReg)
    (hx : ∀ (c : Dev nD) a k, Real' (row (m ((c.tc : Thread nD τ).loc main_arg3)) a k))
    (hc : ∀ (c : Dev nD) a k, Real' (cot (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) a k)) :
    θ_run defs (onTc (τ := τ) (main (F := Ideal))) ⟨m, fun _ => 0, ρ⟩ fun r => ∀ c : Dev nD,
      r.2.mem ((c.tc : Thread nD τ).loc main_v71) = du (m ((c.tc : Thread nD τ).loc main_arg0)) (m ((c.tc : Thread nD τ).loc main_arg1))
          (m ((c.tc : Thread nD τ).loc main_arg2))
      ∧ r.2.mem ((c.tc : Thread nD τ).loc main_v72) = de (m ((c.tc : Thread nD τ).loc main_arg0)) (m ((c.tc : Thread nD τ).loc main_arg1))
      ∧ r.2.mem ((c.tc : Thread nD τ).loc main_v64) = dx (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v73) = dy (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6))
      ∧ r.2.mem ((c.tc : Thread nD τ).loc main_v42) = db (m ((c.tc : Thread nD τ).loc main_arg0)) (m ((c.tc : Thread nD τ).loc main_arg1))
          (m ((c.tc : Thread nD τ).loc main_arg2))
      ∧ r.2.mem ((c.tc : Thread nD τ).loc main_v49) = dg (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Value.run m ρ)
  · clear h; rw [val_main_v71_eq]; funext i
    obtain ⟨a, b, rfl⟩ : ∃ (a : Fin 4096) (b : Fin 1024), i = ix2 a b := ⟨i 0, i 1, by ext k; fin_cases k <;> rfl⟩
    unfold val_main_v71
    pointwise
    exact du_at _ _ _ a b
  · clear h; rw [val_main_v72_eq]; funext i
    obtain ⟨a, b, rfl⟩ : ∃ (a : Fin 4096) (b : Fin 1024), i = ix2 a b := ⟨i 0, i 1, by ext k; fin_cases k <;> rfl⟩
    unfold val_main_v72
    pointwise
    exact de_at _ _ a b
  · clear h; rw [val_main_v64_eq]; funext i
    obtain ⟨a, b, rfl⟩ : ∃ (a : Fin 4096) (b : Fin 1024), i = ix2 a b := ⟨i 0, i 1, by ext k; fin_cases k <;> rfl⟩
    exact dx_at _ _ _ _ _ _ (hx c) (hc c) a b
  · clear h; rw [val_main_v73_eq]; funext i
    obtain ⟨a, b, rfl⟩ : ∃ (a : Fin 4096) (b : Fin 1024), i = ix2 a b := ⟨i 0, i 1, by ext k; fin_cases k <;> rfl⟩
    unfold val_main_v73
    pointwise
    exact dy_at _ _ _ _ _ _ _ (hx c) (hc c) a b
  · clear h; rw [val_main_v42_eq]; funext i
    obtain ⟨b, rfl⟩ : ∃ (b : Fin 1024), i = ix1 b := ⟨i 0, by ext k; fin_cases k <;> rfl⟩
    exact db_at _ _ _ b
  · clear h; rw [val_main_v49_eq]; funext i
    obtain ⟨b, rfl⟩ : ∃ (b : Fin 1024), i = ix1 b := ⟨i 0, by ext k; fin_cases k <;> rfl⟩
    exact dg_at _ _ _ _ _ b

end Cert.Reference4Ideal.PleBwd
end
-- ==== Proof.PleBwd.Entries.lean ====
module

public import proofs.«01_k».proof.Pre_finite4
public import proofs.«01_k».proof.Proof.PleBwd.Model
public import proofs.«01_k».proof.Proof.Shared.Layer
public import Idealize.ShloMosaic.Lib.Pointwise

@[expose] public section

noncomputable section

namespace Cert.PleBwd

open Idealize.ShloMosaic Cert.Shared

variable {ct u : FVec Ideal Cert.Pre_finite4.S4096x1024 .f32} {e : FVec Ideal Cert.Pre_finite4.S4096x1024 .bf16}
  {x : FVec Ideal Cert.Pre_finite4.S4096x1024 .f32} {w : FVec Ideal Cert.Pre_finite4.S2x1024x1024 .bf16}
  {g : FVec Ideal Cert.Pre_finite4.S1024 .f32} {wo : FVec Ideal Cert.Pre_finite4.S2x1024x1024 .bf16}

/-- The gate is a real number wherever it is taken, at the two infinities too. -/
theorem gate_real (z : EReal) : Real' (Ideal.div 1 (1 + Ideal.exp (-z))) := by
  induction z with
  | bot =>
    rw [EReal.neg_bot, Ideal.exp_top, EReal.add_top_of_ne_bot (by rw [← EReal.coe_one]; exact EReal.coe_ne_bot 1), Ideal.div, if_neg (by simp), EReal.inv_top, mul_zero, ← EReal.coe_zero]
    exact real_coe _
  | coe r =>
    have hp : (0 : ℝ) < 1 + Real.exp (-r) := add_pos one_pos (Real.exp_pos _)
    rw [← EReal.coe_neg, Ideal.exp_coe, ← EReal.coe_one, ← EReal.coe_add, Ideal.div_coe hp.ne', ← EReal.coe_mul]
    exact real_coe _
  | top =>
    rw [EReal.neg_top, Ideal.exp_bot, add_zero, ← EReal.coe_one, Ideal.div_coe one_ne_zero, ← EReal.coe_mul]
    exact real_coe _

/-- The precondition makes the rows and their cotangents real numbers, through either layer's weights. -/
theorem reals_of [Cert.Pre_finite4.Facts]
    (h : (Cert.Pre_finite4.fn (F := Ideal) ct u e x w g wo).1 = (fun _ => 1#1) ∧ (Cert.Pre_finite4.fn (F := Ideal) ct u e x w g wo).2.1 = (fun _ => 1#1)
      ∧ (Cert.Pre_finite4.fn (F := Ideal) ct u e x w g wo).2.2.1 = (fun _ => 1#1) ∧ (Cert.Pre_finite4.fn (F := Ideal) ct u e x w g wo).2.2.2.1 = (fun _ => 1#1)
      ∧ (Cert.Pre_finite4.fn (F := Ideal) ct u e x w g wo).2.2.2.2 = (fun _ => 1#1)) :
    (∀ a k, Real' (row x a k)) ∧ (∀ a k, Real' (cot ct u e w g a k)) ∧ ∀ a k, Real' (cot ct u e (other w) g a k) := by
  unfold Cert.Pre_finite4.fn at h
  obtain ⟨h0, h1, h2, h3, h4⟩ := h
  have r0 : ∀ (a : Fin 4096) (k : Fin 1024), Real' (ct (ix2 a k)) := fun a k => by
    have e := congrFun h0 (ix2 a k)
    pointwise at e
    exact Cert.Conv.real_of_lt _ e
  have r1 : ∀ (a : Fin 4096) (k : Fin 1024), Real' (e (ix2 a k)) := fun a k => by
    have e := congrFun h1 (ix2 a k)
    pointwise at e
    exact Cert.Conv.real_of_lt _ e
  have r2 : ∀ (a : Fin 4096) (k : Fin 1024), Real' (x (ix2 a k)) := fun a k => by
    have e := congrFun h2 (ix2 a k)
    pointwise at e
    exact Cert.Conv.real_of_lt _ e
  have r3 : ∀ (s : Fin 2) (a k : Fin 1024), Real' (w (ix3 s a k)) := fun s a k => by
    have e := congrFun h3 (ix3 s a k)
    pointwise at e
    exact Cert.Conv.real_of_lt _ e
  have r4 : ∀ k : Fin 1024, Real' (g (ix1 k)) := fun k => by
    have e := congrFun h4 (ix1 k)
    pointwise at e
    exact Cert.Conv.real_of_lt _ e
  have one : Real' (1 : EReal) := by rw [← EReal.coe_one]; exact real_coe _
  have d : ∀ (a : Fin 4096) (k : Fin 1024), Real' (duAt ct u e a k) := fun a k =>
    real_mul (real_mul (real_mul (r0 _ _) (r1 _ _)) (gate_real _)) (real_sub one (gate_real _))
  exact ⟨r2, fun a k => real_mul (real_sum fun j => real_mul (d _ _) (r3 _ _ _)) (r4 k),
    fun a k => real_mul (real_sum fun j => real_mul (d _ _) (r3 0 _ _)) (r4 k)⟩

end Cert.PleBwd

end
-- ==== Proof.PleBwd.Claims.lean ====
module

public import proofs.«01_k».proof.Defs
public import proofs.«01_k».proof.Proof.Gen.Kernel4.Frame
public import proofs.«01_k».proof.Proof.Gen.Pre_finite4
public import proofs.«01_k».proof.Proof.PleBwd.Value
public import proofs.«01_k».proof.Proof.PleBwd.RefValue
public import proofs.«01_k».proof.Proof.PleBwd.Entries
public import Idealize.ShloMosaic.Lib.Claim
public import Idealize.ShloMosaic.Adequacy
public import Idealize.ShloMosaic.Init

@[expose] public section

set_option maxRecDepth 16384

noncomputable section

namespace Cert.Proof.Calls

open Idealize.ShloMosaic Idealize.ShloMosaic.TcCoe Idealize.SL.Sem

attribute [local instance] Cert.Kernel4.Gen.facts Cert.Kernel4Ideal.Gen.facts Cert.Reference4Ideal.Gen.facts Cert.Pre_finite4.Gen.facts

/-! The gradient through the gated embedding. -/

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_ideal4_pre : Cert.quiescent_Kernel4Ideal_pre_finite4 := fun m ρ _ => Cert.Kernel4Ideal.Gen.frame m ρ
theorem frame_ref4 : Cert.quiescent_Reference4Ideal := fun m ρ _ =>
  (θ_run Cert.Reference4Ideal.defs _ _).mono (fun _ h => ⟨fun c => (h c).2.2.2.2.2.2, sem_eq_zero_of_no_sems (by decide) _⟩) (Cert.Reference4Ideal.Value.run (F := Ideal) m ρ)
theorem frame_ref4_pre : Cert.quiescent_Reference4Ideal_pre_finite4 := fun m ρ _ => frame_ref4 m ρ trivial
set_option maxHeartbeats 2000000 in
theorem algebraic4 : Cert.algebraic_Kernel4Ideal_Reference4Ideal_pre_finite4 := by
  intro m g m' g' hpre hagree
  open Cert.Kernel4Ideal.PleBwd in
  refine ⟨fun c => Cert.PleBwd.du (ctA m c) (uA m c) (eA m c), fun c => Cert.PleBwd.de (ctA m c) (uA m c),
    fun c => Cert.PleBwd.dx (ctA m c) (uA m c) (eA m c) (xA m c) (wA m c) (gA m c),
    fun c => Cert.PleBwd.dy (ctA m c) (uA m c) (eA m c) (xA m c) (wA m c) (gA m c) (woA m c),
    fun c => Cert.PleBwd.db (ctA m c) (uA m c) (eA m c), fun c => Cert.PleBwd.dg (ctA m c) (uA m c) (eA m c) (xA m c) (wA m c), ?_, ?_⟩
  · run_from Cert.Kernel4Ideal.Gen.run_main m g
    · exact Cert.Kernel4Ideal.PleBwd.final7 m c
    · exact Cert.Kernel4Ideal.PleBwd.final8 m c
    · exact Cert.Kernel4Ideal.PleBwd.final9 m c
    · exact Cert.Kernel4Ideal.PleBwd.final10 m c
    · exact Cert.Kernel4Ideal.PleBwd.host11 m c
    · exact Cert.Kernel4Ideal.PleBwd.host12 m c
    · exact Cert.Kernel4Ideal.Gen.W_main_arg1 m _ c
    · exact Cert.Kernel4Ideal.Gen.W_main_arg5 m _ c
  · refine (θ_run Cert.Reference4Ideal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
      (Cert.Reference4Ideal.PleBwd.run m' g' (fun c => ?_) fun c => ?_)
    · obtain ⟨e0, e1, e2, e3, e4, e5, e6⟩ := hagree c
      rw [e3]
      exact (Cert.PleBwd.reals_of (hpre c)).1
    · obtain ⟨e0, e1, e2, e3, e4, e5, e6⟩ := hagree c
      rw [e0, e1, e2, e4, e5]
      exact (Cert.PleBwd.reals_of (hpre c)).2.1
    all_goals
      obtain ⟨e0, e1, e2, e3, e4, e5, e6⟩ := hagree c
      simp only [e0, e1, e2, e3, e4, e5, e6]

end Cert.Proof.Calls

end
-- ==== Proof.Loss.Model.lean ====
module

public import proofs.«01_k».proof.Proof.Shared.RmsBack
public import proofs.«01_k».proof.Proof.Shared.Columns

@[expose] public section

noncomputable section

namespace Cert.Loss

open Idealize.ShloMosaic Cert.Shared

variable (x t : (⟨2, ![4096, 1024]⟩ : Shape).Idx → EReal) (g : (⟨1, ![1024]⟩ : Shape).Idx → EReal)

/-- Row `a`, its normed entries, and how far they are from the target. -/
def row (a : Fin 4096) (k : Fin 1024) : EReal := x (ix2 a k)
def norm (a : Fin 4096) (b : Fin 1024) : EReal := row x a b * scaleOf (row x a)
def err (a : Fin 4096) (b : Fin 1024) : EReal := norm x a b * g (ix1 b) - t (ix2 a b)
/-- The loss: half the sum of the rows' mean squares. -/
def square (a : Fin 4096) : EReal := ∑ k : Fin 1024, err x t g a k * err x t g a k
def loss : EReal := Ideal.div (Ideal.ofBits FTy.f32 0x3F000000#32 * ∑ a : Fin 4096, square x t g a) (Ideal.ofBits FTy.f32 1149239296#32)
/-- The cotangent of the normed row's image, and that times the gain. -/
def ct (a : Fin 4096) (b : Fin 1024) : EReal := err x t g a b * Ideal.ofBits FTy.f32 0x3A800000#32
def cot (a : Fin 4096) (b : Fin 1024) : EReal := ct x t g a b * g (ix1 b)
/-- The gradients of the input and of the gain. -/
def dx : (⟨2, ![4096, 1024]⟩ : Shape).Idx → EReal := fun i => back (row x (i 0)) (cot x t g (i 0)) (i 1)
def share (b : Fin 1024) (a : Fin 4096) : EReal := ct x t g a b * norm x a b
def dg : (⟨1, ![1024]⟩ : Shape).Idx → EReal := fun i => ∑ a : Fin 4096, share x t g (i 0) a

theorem word_half : Ideal.ofBits FTy.f32 0x3F000000#32 = ((1 / 2 : ℝ) : EReal) := by
  simp [Ideal.ofBits, Ideal.ieee, -EReal.coe_mul]; norm_num
theorem word_two : Ideal.ofBits FTy.f32 0x40000000#32 = ((2 : ℝ) : EReal) := by
  simp [Ideal.ofBits, Ideal.ieee, -EReal.coe_mul]; norm_num
theorem word_part : Ideal.ofBits FTy.f32 0x3A800000#32 = ((1 / 1024 : ℝ) : EReal) := by
  simp [Ideal.ofBits, Ideal.ieee, -EReal.coe_mul]; norm_num

/-- Half of one, shared among a row, times twice the error, is the error's share. -/
theorem ct_eq (z : EReal) : Ideal.div (Ideal.ofBits FTy.f32 0x3F000000#32 * 1) (Ideal.ofBits FTy.f32 1149239296#32) * (Ideal.ofBits FTy.f32 0x40000000#32 * z)
    = z * Ideal.ofBits FTy.f32 0x3A800000#32 := by
  rw [word_half, word_two, word_part, word_1024, mul_one, Ideal.div_coe (by norm_num), ← EReal.coe_mul, ← mul_assoc, ← EReal.coe_mul, mul_comm]
  norm_num

/-- Dividing each row's square or their sum comes to the same over the real numbers. -/
theorem loss_eq (h : ∀ a, Real' (square x t g a)) :
    Ideal.ofBits FTy.f32 0x3F000000#32 * ∑ a : Fin 4096, Ideal.div (square x t g a) (Ideal.ofBits FTy.f32 1149239296#32) = loss x t g := by
  unfold loss
  generalize square x t g = s at h ⊢
  rw [show s = fun a => ((s a).toReal : EReal) from funext h, word_half, word_1024]
  simp only [Ideal.div_coe (show (1024 : ℝ) ≠ 0 by norm_num), ← EReal.coe_mul]
  rw [Cert.Conv.coe_sum, Cert.Conv.coe_sum, ← EReal.coe_mul, ← EReal.coe_mul, ← EReal.coe_mul, ← Finset.sum_mul]
  exact congrArg _ (mul_assoc _ _ _).symm

end Cert.Loss

end
-- ==== Proof.Loss.Value.lean ====
module

public import proofs.«01_k».proof.Proof.Gen.Kernel11Ideal.Frame
public import proofs.«01_k».proof.Proof.Loss.Model
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel11Ideal.Loss

open Idealize.ShloMosaic Idealize.ShloMosaic.TcCoe Idealize.ShloMosaic.Tactic
open Idealize.SL Idealize.SL.Sem
open Idealize.ShloMosaic.Pipeline (Dat Cfg Window)
open Cert.Kernel11Ideal.Gen Cert.Loss Cert.Shared

theorem scale_at (x : Vec Ideal S512x1024 .f32) (a : Fin 512) : k0_pay6 x (ix2 a 0) = scaleOf fun k => x (ix2 a k) := by
  unfold k0_pay6
  pointwise
  rfl

theorem norm_at (x : Vec Ideal S512x1024 .f32) (a : Fin 512) (b : Fin 1024) :
    k0_pay7 x (ix2 a b) = x (ix2 a b) * scaleOf fun k => x (ix2 a k) := by
  unfold k0_pay7
  pointwise
  rw [scale_at]

theorem err_at (x : Vec Ideal S512x1024 .f32) (g : Vec Ideal S1x1024 .f32) (t : Vec Ideal S512x1024 .f32) (a : Fin 512) (b : Fin 1024) :
    k0_pay8 x g t (ix2 a b) = x (ix2 a b) * (scaleOf fun k => x (ix2 a k)) * g (ix2 0 b) - t (ix2 a b) := by
  unfold k0_pay8 k0_pay5
  pointwise
  rw [norm_at]

theorem loss_at (x : Vec Ideal S512x1024 .f32) (g : Vec Ideal S1x1024 .f32) (t : Vec Ideal S512x1024 .f32) (o : Vec Ideal S8x128 .f32) (a : Fin 8) (b : Fin 128) :
    k0_pay9 x g t o (ix2 a b) = o (ix2 a b) + ∑ r : Fin 512, ∑ k : Fin 1024, k0_pay8 x g t (ix2 r k) * k0_pay8 x g t (ix2 r k) := by
  unfold k0_pay9
  pointwise

theorem ct_at (x : Vec Ideal S512x1024 .f32) (g : Vec Ideal S1x1024 .f32) (t : Vec Ideal S512x1024 .f32) (a : Fin 512) (b : Fin 1024) :
    k0_pay10 x g t (ix2 a b) = k0_pay8 x g t (ix2 a b) * Ideal.ofBits FTy.f32 0x3A800000#32 := by
  unfold k0_pay10
  pointwise

theorem cot_at (x : Vec Ideal S512x1024 .f32) (g : Vec Ideal S1x1024 .f32) (t : Vec Ideal S512x1024 .f32) (a : Fin 512) (b : Fin 1024) :
    k0_pay11 x g t (ix2 a b) = k0_pay10 x g t (ix2 a b) * g (ix2 0 b) := by
  unfold k0_pay11 k0_pay5
  pointwise

theorem dx_at (x : Vec Ideal S512x1024 .f32) (g : Vec Ideal S1x1024 .f32) (t : Vec Ideal S512x1024 .f32) (a : Fin 512) (b : Fin 1024) :
    k0_pay1 (k0_pay6 x) (k0_pay7 x) (k0_pay11 x g t) (k0_pay12 x g t) (k0_pay13 (F := Ideal)) (ix2 a b)
      = back (fun k => x (ix2 a k)) (fun k => k0_pay11 x g t (ix2 a k)) b := by
  unfold k0_pay1 k0_pay12 k0_pay13
  pointwise
  simp only [norm_at]
  rw [scale_at]
  rfl

theorem dg_at (x : Vec Ideal S512x1024 .f32) (g : Vec Ideal S1x1024 .f32) (t : Vec Ideal S512x1024 .f32) (o : Vec Ideal S8x1024 .f32) (a : Fin 8) (b : Fin 1024) :
    k0_pay2 (k0_pay7 x) (k0_pay10 x g t) o (ix2 a b)
      = o (ix2 a b) + ∑ q : Fin 64, k0_pay10 x g t (ix2 (⟨q.val * 8 + a.val, by omega⟩ : Fin 512) b)
          * (x (ix2 (⟨q.val * 8 + a.val, by omega⟩ : Fin 512) b) * scaleOf fun k => x (ix2 (⟨q.val * 8 + a.val, by omega⟩ : Fin 512) k)) := by
  unfold k0_pay2
  pointwise
  simp only [norm_at]

variable (m : (ℓ : Loc nD τ sig) → Buf (Elt Ideal) ℓ)

theorem idx : ∀ t : Fin cfg0.N,
    win0_0.index t = ![t.val, 0] ∧ win0_1.index t = ![t.val, 0] ∧ win0_2.index t = ![0, 0]
      ∧ win0_3.index t = ![0, 0] ∧ win0_4.index t = ![t.val, 0] ∧ win0_5.index t = ![0, 0] :=
  (by decide +kernel : ∀ t : Fin grid0.N, _)
theorem last : ∀ t : Fin cfg0.N, ((cfg0.win 3).flush t = true → t.val = 7) ∧ ((cfg0.win 5).flush t = true → t.val = 7) :=
  (by decide +kernel : ∀ t : Fin grid0.N, _)

variable (c : Dev nD)

/-- The three arguments. -/
abbrev xA := m ((c : Thread nD τ).loc main_arg0)
abbrev tA := m ((c : Thread nD τ).loc main_arg1)
abbrev gA := m ((c : Thread nD τ).loc main_arg2)

theorem gain : V m c main_v0 = shapeCast S1x1024 (gA m c) shapeCasts_S1024_S1x1024 := by
  simp only [V, V0, hostOps0, List.flatten_cons, List.flatten_nil, List.append_nil, List.cons_append, List.nil_append]
  after_results
  rfl

/-- Row `a` of tile `t`. -/
abbrev at' (t : Fin cfg0.N) (a : Fin 512) : Fin 4096 := ⟨512 * t.val + a.val, by have : t.val < 8 := t.isLt; omega⟩

theorem rd0 (t : Fin cfg0.N) (a : Fin 512) (b : Fin 1024) : iblk m c 0 t (ix2 a b) = row (xA m c) (at' t a) b := by
  refine Eq.trans ?_ (congrFun (V_main_arg0 m c) _)
  blk_ext [iblk, V, idx t]
theorem rd1 (t : Fin cfg0.N) (a : Fin 512) (b : Fin 1024) : iblk m c 1 t (ix2 a b) = tA m c (ix2 (at' t a) b) := by
  refine Eq.trans ?_ (congrFun (V_main_arg1 m c) _)
  blk_ext [iblk, V, idx t]
theorem rd2 (t : Fin cfg0.N) (b : Fin 1024) : iblk m c 2 t (ix2 0 b) = gA m c (ix1 b) := by
  show V m c main_v0 (((cfg0.win 2).blk t).view.emb (ix2 0 b)) = _
  rw [gain, show ((cfg0.win 2).blk t).view.emb (ix2 0 b) = ix2 (0 : Fin 1) b by blk_ext [idx t]]
  pointwise

theorem err_tile (t : Fin cfg0.N) (a : Fin 512) (b : Fin 1024) :
    k0_pay8 (iblk m c 0 t) (iblk m c 2 t) (iblk m c 1 t) (ix2 a b) = err (xA m c) (tA m c) (gA m c) (at' t a) b := by
  rw [err_at]
  simp only [rd0, rd1, rd2]
  rfl
theorem ct_tile (t : Fin cfg0.N) (a : Fin 512) (b : Fin 1024) :
    k0_pay10 (iblk m c 0 t) (iblk m c 2 t) (iblk m c 1 t) (ix2 a b) = ct (xA m c) (tA m c) (gA m c) (at' t a) b := by
  rw [ct_at, err_tile]
  rfl
theorem cot_tile (t : Fin cfg0.N) (a : Fin 512) (b : Fin 1024) :
    k0_pay11 (iblk m c 0 t) (iblk m c 2 t) (iblk m c 1 t) (ix2 a b) = cot (xA m c) (tA m c) (gA m c) (at' t a) b := by
  rw [cot_at, ct_tile, rd2]
  rfl
theorem dx_tile (t : Fin cfg0.N) (a : Fin 512) (b : Fin 1024) :
    k0_pay1 (k0_pay6 (iblk m c 0 t)) (k0_pay7 (iblk m c 0 t)) (k0_pay11 (iblk m c 0 t) (iblk m c 2 t) (iblk m c 1 t))
        (k0_pay12 (iblk m c 0 t) (iblk m c 2 t) (iblk m c 1 t)) (k0_pay13 (F := Ideal)) (ix2 a b)
      = dx (xA m c) (tA m c) (gA m c) (ix2 (at' t a) b) := by
  rw [dx_at]
  simp only [cot_tile, rd0]
  rfl

theorem dx_point (t : Fin cfg0.N) (a : Fin 512) (b : Fin 1024) :
    (outsAt0 m c t.val t.isLt).2.1 (ix2 a b) = dx (xA m c) (tA m c) (gA m c) (ix2 (at' t a) b) := by
  by_cases h : t.val % 8 = 0
  · have e := outsAt0_A m c t h
    rw [e]
    frame_out
    exact dx_tile m c t a b
  · have e := outsAt0_B m c t h
    rw [e]
    frame_out
    exact dx_tile m c t a b

theorem final4 : (dats m 0 c).arrAt 4 cfg0.N = dx (xA m c) (tA m c) (gA m c) := by
  refine (dats m 0 c).arrAt_eq_of_covers 4 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 4).blk t).view.emb (ix2 a b) = ix2 (at' t a) b by blk_ext [idx t]]
  blk_simp
  rw [after0_4]
  exact dx_point m c t a b

/-- A tile's shares of the loss and of the gain's gradient. -/
def tileL (s : Fin 8) : EReal := ∑ r : Fin 512, square (xA m c) (tA m c) (gA m c) ⟨512 * s.val + r.val, by omega⟩
def tileG (s : Fin 8) (a : Fin 8) (b : Fin 1024) : EReal :=
  ∑ q : Fin 64, share (xA m c) (tA m c) (gA m c) b ⟨512 * s.val + (q.val * 8 + a.val), by omega⟩

theorem loss_tile (t : Fin cfg0.N) (o : Vec Ideal S8x128 .f32) (a : Fin 8) (b : Fin 128) :
    k0_pay9 (iblk m c 0 t) (iblk m c 2 t) (iblk m c 1 t) o (ix2 a b) = o (ix2 a b) + tileL m c ⟨t.val, t.isLt⟩ := by
  rw [loss_at]
  simp only [err_tile]
  rfl
theorem dg_tile (t : Fin cfg0.N) (o : Vec Ideal S8x1024 .f32) (a : Fin 8) (b : Fin 1024) :
    k0_pay2 (k0_pay7 (iblk m c 0 t)) (k0_pay10 (iblk m c 0 t) (iblk m c 2 t) (iblk m c 1 t)) o (ix2 a b)
      = o (ix2 a b) + tileG m c ⟨t.val, t.isLt⟩ a b := by
  rw [dg_at]
  simp only [ct_tile, rd0]
  rfl

/-- After point `n` the two blocks hold the first `n + 1` tiles' shares. -/
theorem accL (a : Fin 8) (b : Fin 128) : ∀ (n : ℕ) (hn : n < cfg0.N),
    (outsAt0 m c n hn).1 (ix2 a b) = ∑ s : Fin (n + 1), tileL m c ⟨s.val, lt_of_lt_of_le s.isLt hn⟩
  | 0, hn => by
    have e := outsAt0_A m c ⟨0, hn⟩ rfl
    rw [e]
    frame_out
    rw [Fin.sum_univ_one]
    refine (loss_tile m c ⟨0, hn⟩ _ a b).trans ?_
    rw [show (k0_pay3 (F := Ideal)) (ix2 a b) = 0 by unfold k0_pay3; pointwise, zero_add]
    rfl
  | n + 1, hn => by
    have hN : n + 1 < 8 := hn
    rw [Fin.sum_univ_castSucc]
    refine Eq.trans ?_ (congrArg₂ (· + ·) (accL a b n (Nat.lt_of_succ_lt hn)) rfl)
    have e := outsAt0_B m c ⟨n + 1, hn⟩ (by show ¬ (n + 1) % 8 = 0; omega)
    rw [e]
    frame_out
    exact loss_tile m c ⟨n + 1, hn⟩ _ a b
theorem accG (a : Fin 8) (b : Fin 1024) : ∀ (n : ℕ) (hn : n < cfg0.N),
    (outsAt0 m c n hn).2.2 (ix2 a b) = ∑ s : Fin (n + 1), tileG m c ⟨s.val, lt_of_lt_of_le s.isLt hn⟩ a b
  | 0, hn => by
    have e := outsAt0_A m c ⟨0, hn⟩ rfl
    rw [e]
    frame_out
    rw [Fin.sum_univ_one]
    refine (dg_tile m c ⟨0, hn⟩ _ a b).trans ?_
    rw [show (k0_pay4 (F := Ideal)) (ix2 a b) = 0 by unfold k0_pay4; pointwise, zero_add]
    rfl
  | n + 1, hn => by
    have hN : n + 1 < 8 := hn
    rw [Fin.sum_univ_castSucc]
    refine Eq.trans ?_ (congrArg₂ (· + ·) (accG a b n (Nat.lt_of_succ_lt hn)) rfl)
    have e := outsAt0_B m c ⟨n + 1, hn⟩ (by show ¬ (n + 1) % 8 = 0; omega)
    rw [e]
    frame_out
    exact dg_tile m c ⟨n + 1, hn⟩ _ a b

theorem final3 (a : Fin 8) (b : Fin 128) : ((dats m 0 c).arrAt 3 cfg0.N : S8x128.Idx → EReal) (ix2 a b) = (∑ s : Fin 8, tileL m c s : EReal) := by
  refine congrFun (a := ix2 a b) (f := (dats m 0 c).arrAt 3 cfg0.N) (g := fun _ => (∑ s : Fin 8, tileL m c s : EReal)) ?_
  refine (dats m 0 c).arrAt_eq_of_covers 3 _ (by decide +kernel) fun t hf y => ?_
  obtain ⟨a, b, rfl⟩ : ∃ (a : Fin 8) (b : Fin 128), y = ix2 a b := ⟨y 0, y 1, by ext k; fin_cases k <;> rfl⟩
  have ht : t.val = 7 := (last t).1 hf
  blk_simp
  rw [after0_3]
  refine (accL m c a b t.val t.isLt).trans ?_
  obtain ⟨n, hn⟩ := t
  obtain rfl : n = 7 := ht
  rfl
theorem final5 (a : Fin 8) (b : Fin 1024) : ((dats m 0 c).arrAt 5 cfg0.N : S8x1024.Idx → EReal) (ix2 a b) = (∑ s : Fin 8, tileG m c s a b : EReal) := by
  refine congrFun (a := ix2 a b) (f := (dats m 0 c).arrAt 5 cfg0.N) (g := fun i => (∑ s : Fin 8, tileG m c s (i 0) (i 1) : EReal)) ?_
  refine (dats m 0 c).arrAt_eq_of_covers 5 _ (by decide +kernel) fun t hf y => ?_
  obtain ⟨a, b, rfl⟩ : ∃ (a : Fin 8) (b : Fin 1024), y = ix2 a b := ⟨y 0, y 1, by ext k; fin_cases k <;> rfl⟩
  have ht : t.val = 7 := (last t).2 hf
  rw [show ((cfg0.win 5).blk t).view.emb (ix2 a b) = ix2 a b by blk_ext [idx t]]
  blk_simp
  rw [after0_5]
  refine (accG m c a b t.val t.isLt).trans ?_
  obtain ⟨n, hn⟩ := t
  obtain rfl : n = 7 := ht
  rfl

theorem left (w : Fin cfg0.W) :
    Pipeline.withArrays cfg0.spec c (V0 m c) (fun w => (dats m 0 c).arrAt w cfg0.N) (Proc.devRef .tc (Pipeline.arrRef cfg0.spec w)) = (dats m 0 c).arrAt w cfg0.N :=
  Pipeline.withArrays_arr cfg0.spec (by decide) c (V0 m c) _ w

theorem tail3 : Pipeline.afterTail₀ cfgs (dats m) 0 (V0 m) [hostOps1] c main_v5
    = Host.divf (mulf (constant (F := Ideal) S_ .f32 0x3F000000#32)
        (shapeCast S_ (extractStridedSlice S1x1 ![0, 0] ((dats m 0 c).arrAt 3 (cfgs 0).N) slices_S8x128_S1x1_0_0) shapeCasts_S1x1_S_))
      (constant (F := Ideal) S_ .f32 0x44800000#32) := by
  unfold Pipeline.afterTail₀
  simp only [hostOps1, List.flatten_cons, List.flatten_nil, List.append_nil, List.cons_append, List.nil_append]
  after_results
  exact congrArg (fun A => Host.divf (mulf (constant (F := Ideal) S_ .f32 0x3F000000#32)
        (shapeCast S_ (extractStridedSlice S1x1 ![0, 0] A slices_S8x128_S1x1_0_0) shapeCasts_S1x1_S_))
      (constant (F := Ideal) S_ .f32 0x44800000#32)) (left m c 3)
theorem tail5 : Pipeline.afterTail₀ cfgs (dats m) 0 (V0 m) [hostOps1] c main_v6
    = Host.reduceAdd ((dats m 0 c).arrAt 5 (cfgs 0).N) (constant (F := Ideal) S_ .f32 0x00000000#32) reducesTo_S8x1024_S1024_d0 h_S_ := by
  unfold Pipeline.afterTail₀
  simp only [hostOps1, List.flatten_cons, List.flatten_nil, List.append_nil, List.cons_append, List.nil_append]
  after_results
  exact congrArg (fun A => Host.reduceAdd A (constant (F := Ideal) S_ .f32 0x00000000#32) reducesTo_S8x1024_S1024_d0 h_S_) (left m c 5)

/-- The host's half of the summed squares over the row length is the loss. -/
theorem host3 : Pipeline.afterTail₀ cfgs (dats m) 0 (V0 m) [hostOps1] c main_v5 = (fun _ => loss (xA m c) (tA m c) (gA m c) : S_.Idx → EReal) := by
  funext i
  obtain rfl : i = ix0 := by ext k; exact k.elim0
  rw [tail3]
  pointwise
  have e : ((dats m 0 c).arrAt 3 (cfgs 0).N : S8x128.Idx → EReal) (ix2 0 0) = (∑ s : Fin 8, tileL m c s : EReal) := final3 m c 0 0
  refine congrArg (fun z => Ideal.div (Ideal.ofBits FTy.f32 0x3F000000#32 * z) (Ideal.ofBits FTy.f32 1149239296#32)) (e.trans ?_)
  exact by_tiles 8 512 rfl fun k => square (xA m c) (tA m c) (gA m c) k
/-- The host's sum of the eight rows is the gain's gradient. -/
theorem host5 : Pipeline.afterTail₀ cfgs (dats m) 0 (V0 m) [hostOps1] c main_v6 = dg (xA m c) (tA m c) (gA m c) := by
  funext i
  obtain ⟨b, rfl⟩ : ∃ b : Fin 1024, i = ix1 b := ⟨i 0, by ext k; fin_cases k; rfl⟩
  rw [tail5]
  pointwise
  have e : ∀ a : Fin 8, ((dats m 0 c).arrAt 5 (cfgs 0).N : S8x1024.Idx → EReal) (ix2 a b) = (∑ s : Fin 8, tileG m c s a b : EReal) := fun a => final5 m c a b
  show (∑ a : Fin 8, ((dats m 0 c).arrAt 5 (cfgs 0).N : S8x1024.Idx → EReal) (ix2 a b) : EReal) = ∑ k : Fin 4096, share (xA m c) (tA m c) (gA m c) b k
  simp only [e]
  exact by_eights fun k => share (xA m c) (tA m c) (gA m c) b k

end Cert.Kernel11Ideal.Loss
end
-- ==== Proof.Loss.RefValue.lean ====
module

public import proofs.«01_k».proof.Proof.Gen.Reference11Ideal.Run
public import proofs.«01_k».proof.Proof.Gen.Reference11Ideal.Read
public import proofs.«01_k».proof.Proof.Loss.Model
public import Idealize.ShloMosaic.Lib.Pointwise

@[expose] public section

set_option maxRecDepth 16384

noncomputable section

namespace Cert.Reference11Ideal.Loss

open Idealize.ShloMosaic Idealize.ShloMosaic.TcCoe Idealize.ShloMosaic.Tactic
open Idealize.SL Idealize.SL.Sem
open Cert.Reference11Ideal.Read Cert.Loss Cert.Shared

variable (x t : FVec Ideal S4096x1024 .f32) (g : FVec Ideal S1024 .f32)

theorem mean_at (a : Fin 4096) : val_main_v6 (F := Ideal) x (ix2 a 0) = meanOf (row x a) := by
  unfold val_main_v6 val_main_v5 val_main_cst_1 val_main_v4 val_main_v3 val_main_cst_0 val_main_v2 val_main_v1 val_main_cst val_main_v0
  pointwise
  rfl

theorem scale_at (a : Fin 4096) : val_main_v7 (F := Ideal) x (ix2 a 0) = scaleOf (row x a) := by
  unfold val_main_v7
  pointwise
  rw [mean_at]
  rfl

theorem norm_at (a : Fin 4096) (b : Fin 1024) : val_main_v12 (F := Ideal) x (ix2 a b) = norm x a b := by
  unfold val_main_v12 val_main_v11
  pointwise
  rw [scale_at]
  rfl

theorem err_at (a : Fin 4096) (b : Fin 1024) : val_main_v16 (F := Ideal) x t g (ix2 a b) = err x t g a b := by
  unfold val_main_v16 val_main_v15 val_main_v14 val_main_v13
  pointwise
  rw [norm_at]
  rfl

theorem loss_at (h : ∀ a, Real' (square x t g a)) (i : S_.Idx) : val_main_v24 (F := Ideal) x t g i = loss x t g := by
  refine Eq.trans ?_ (loss_eq x t g h)
  unfold val_main_v24 val_main_cst_7 val_main_v23 val_main_cst_6 val_main_v22 val_main_v21 val_main_cst_5 val_main_v20 val_main_cst_4 val_main_v17
  obtain rfl : i = ix0 := by ext k; exact k.elim0
  pointwise
  simp only [err_at]
  rfl

theorem ct_at (a : Fin 4096) (b : Fin 1024) : val_main_v30 (F := Ideal) x t g (ix2 a b) = ct x t g a b := by
  refine Eq.trans ?_ (ct_eq (err x t g a b))
  unfold val_main_v30 val_main_v29 val_main_v28 val_main_v27 val_main_cst_10 val_main_v26 val_main_v25 val_main_cst_9 val_main_cst_8 val_main_v19 val_main_v18 val_main_cst_3
  pointwise
  rw [err_at]

theorem cot_at (a : Fin 4096) (b : Fin 1024) : val_main_v35 (F := Ideal) x t g (ix2 a b) = cot x t g a b := by
  unfold val_main_v35 val_main_v34 val_main_v13
  pointwise
  rw [ct_at]
  rfl

theorem dg_at (b : Fin 1024) : val_main_v36 (F := Ideal) x t g (ix1 b) = dg x t g (ix1 b) := by
  unfold val_main_v36 val_main_cst_12 val_main_v33 val_main_v32 val_main_cst_11 val_main_v31
  pointwise
  rw [Fin.sum_univ_one]
  show _ = ∑ k : Fin 4096, share x t g b k
  refine Finset.sum_congr rfl fun k _ => ?_
  rw [norm_at, ct_at]
  exact mul_comm _ _

theorem half_at (a : Fin 4096) (b : Fin 1024) : val_main_v46 (F := Ideal) x t g (ix2 a b) = half (row x a) (cot x t g a) := by
  unfold val_main_v46 val_main_v45 val_main_cst_15 val_main_v44 val_main_v43 val_main_cst_14 val_main_v42 val_main_v39 val_main_v38 val_main_cst_13 val_main_v37
    val_main_v10 val_main_v9 val_main_cst_2 val_main_v8
  pointwise
  rw [Fin.sum_univ_one, scale_at, mean_at]
  simp only [cot_at]
  rfl

theorem dx_at (hx : ∀ a k, Real' (row x a k)) (hc : ∀ a k, Real' (cot x t g a k)) (a : Fin 4096) (b : Fin 1024) :
    val_main_v50 (F := Ideal) x t g (ix2 a b) = dx x t g (ix2 a b) := by
  refine Eq.trans ?_ (back_eq (hx a) (hc a) b)
  unfold val_main_v50 val_main_v49 val_main_v48 val_main_v47 val_main_v41 val_main_v40
  pointwise
  rw [cot_at, scale_at, half_at]
  rfl

/-- The reference's own results are the loss and the two gradients, when the arguments are real numbers. -/
theorem run (m : (ℓ : Loc nD τ sig) → Buf (Elt Ideal) ℓ) (ρ : Dev nD → PrngReg)
    (hx : ∀ (c : Dev nD) a k, Real' (row (m ((c.tc : Thread nD τ).loc main_arg0)) a k))
    (hs : ∀ (c : Dev nD) a, Real' (square (m ((c.tc : Thread nD τ).loc main_arg0)) (m ((c.tc : Thread nD τ).loc main_arg1)) (m ((c.tc : Thread nD τ).loc main_arg2)) a))
    (hc : ∀ (c : Dev nD) a k, Real' (cot (m ((c.tc : Thread nD τ).loc main_arg0)) (m ((c.tc : Thread nD τ).loc main_arg1)) (m ((c.tc : Thread nD τ).loc main_arg2)) a k)) :
    θ_run defs (onTc (τ := τ) (main (F := Ideal))) ⟨m, fun _ => 0, ρ⟩ fun r => ∀ c : Dev nD,
      r.2.mem ((c.tc : Thread nD τ).loc main_v24) = (fun _ => loss (m ((c.tc : Thread nD τ).loc main_arg0)) (m ((c.tc : Thread nD τ).loc main_arg1)) (m ((c.tc : Thread nD τ).loc main_arg2)) : S_.Idx → EReal)
      ∧ r.2.mem ((c.tc : Thread nD τ).loc main_v50) = dx (m ((c.tc : Thread nD τ).loc main_arg0)) (m ((c.tc : Thread nD τ).loc main_arg1)) (m ((c.tc : Thread nD τ).loc main_arg2))
      ∧ r.2.mem ((c.tc : Thread nD τ).loc main_v36) = dg (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2⟩) (Value.run m ρ)
  · clear h; rw [val_main_v24_eq]; funext i
    exact loss_at _ _ _ (hs c) i
  · clear h; rw [val_main_v50_eq]; funext i
    obtain ⟨a, b, rfl⟩ : ∃ (a : Fin 4096) (b : Fin 1024), i = ix2 a b := ⟨i 0, i 1, by ext k; fin_cases k <;> rfl⟩
    exact dx_at _ _ _ (hx c) (hc c) a b
  · clear h; rw [val_main_v36_eq]; funext i
    obtain ⟨b, rfl⟩ : ∃ (b : Fin 1024), i = ix1 b := ⟨i 0, by ext k; fin_cases k <;> rfl⟩
    exact dg_at _ _ _ b

end Cert.Reference11Ideal.Loss
end
-- ==== Proof.Loss.Entries.lean ====
module

public import proofs.«01_k».proof.Pre_finite11
public import proofs.«01_k».proof.Proof.Loss.Model
public import Idealize.ShloMosaic.Lib.Pointwise

@[expose] public section

noncomputable section

namespace Cert.Loss

open Idealize.ShloMosaic Cert.Shared

variable {x t : FVec Ideal Cert.Pre_finite11.S4096x1024 .f32} {g : FVec Ideal Cert.Pre_finite11.S1024 .f32}

/-- The precondition makes the rows, their squared errors and their cotangents real numbers. -/
theorem reals_of [Cert.Pre_finite11.Facts]
    (h : (Cert.Pre_finite11.fn (F := Ideal) x t g).1 = (fun _ => 1#1) ∧ (Cert.Pre_finite11.fn (F := Ideal) x t g).2.1 = (fun _ => 1#1)
      ∧ (Cert.Pre_finite11.fn (F := Ideal) x t g).2.2 = (fun _ => 1#1)) :
    (∀ a k, Real' (row x a k)) ∧ (∀ a, Real' (square x t g a)) ∧ ∀ a k, Real' (cot x t g a k) := by
  unfold Cert.Pre_finite11.fn at h
  obtain ⟨h0, h1, h2⟩ := h
  have r0 : ∀ (a : Fin 4096) (k : Fin 1024), Real' (x (ix2 a k)) := fun a k => by
    have e := congrFun h0 (ix2 a k)
    pointwise at e
    exact Cert.Conv.real_of_lt _ e
  have r1 : ∀ (a : Fin 4096) (k : Fin 1024), Real' (t (ix2 a k)) := fun a k => by
    have e := congrFun h1 (ix2 a k)
    pointwise at e
    exact Cert.Conv.real_of_lt _ e
  have r2 : ∀ k : Fin 1024, Real' (g (ix1 k)) := fun k => by
    have e := congrFun h2 (ix1 k)
    pointwise at e
    exact Cert.Conv.real_of_lt _ e
  have he : ∀ a k, Real' (err x t g a k) := fun a k =>
    real_sub (real_mul (real_mul (r0 a k) (real_scale (r0 a))) (r2 k)) (r1 a k)
  exact ⟨r0, fun a => real_sum fun k => real_mul (he a k) (he a k),
    fun a k => real_mul (real_mul (he a k) (by rw [word_part]; exact real_coe _)) (r2 k)⟩

end Cert.Loss

end
-- ==== Proof.Loss.Claims.lean ====
module

public import proofs.«01_k».proof.Defs
public import proofs.«01_k».proof.Proof.Gen.Kernel11.Frame
public import proofs.«01_k».proof.Proof.Gen.Pre_finite11
public import proofs.«01_k».proof.Proof.Loss.Value
public import proofs.«01_k».proof.Proof.Loss.RefValue
public import proofs.«01_k».proof.Proof.Loss.Entries
public import Idealize.ShloMosaic.Lib.Claim
public import Idealize.ShloMosaic.Adequacy
public import Idealize.ShloMosaic.Init

@[expose] public section

set_option maxRecDepth 16384

noncomputable section

namespace Cert.Proof.Calls

open Idealize.ShloMosaic Idealize.ShloMosaic.TcCoe Idealize.SL.Sem

attribute [local instance] Cert.Kernel11.Gen.facts Cert.Kernel11Ideal.Gen.facts Cert.Reference11Ideal.Gen.facts Cert.Pre_finite11.Gen.facts

/-! The loss and its gradients. -/

theorem frame_kernel11 : Cert.quiescent_Kernel11 := fun m ρ _ => Cert.Kernel11.Gen.frame m ρ
theorem frame_ideal11 : Cert.quiescent_Kernel11Ideal := fun m ρ _ => Cert.Kernel11Ideal.Gen.frame m ρ
theorem frame_ideal11_pre : Cert.quiescent_Kernel11Ideal_pre_finite11 := fun m ρ _ => Cert.Kernel11Ideal.Gen.frame m ρ
theorem frame_ref11 : Cert.quiescent_Reference11Ideal := fun m ρ _ =>
  (θ_run Cert.Reference11Ideal.defs _ _).mono (fun _ h => ⟨fun c => (h c).2.2.2, sem_eq_zero_of_no_sems (by decide) _⟩) (Cert.Reference11Ideal.Value.run (F := Ideal) m ρ)
theorem frame_ref11_pre : Cert.quiescent_Reference11Ideal_pre_finite11 := fun m ρ _ => frame_ref11 m ρ trivial
theorem algebraic11 : Cert.algebraic_Kernel11Ideal_Reference11Ideal_pre_finite11 := by
  intro m g m' g' hpre hagree
  open Cert.Kernel11Ideal.Loss in
  refine ⟨fun c => (fun _ => Cert.Loss.loss (xA m c) (tA m c) (gA m c) : Cert.Kernel11Ideal.S_.Idx → EReal),
    fun c => Cert.Loss.dx (xA m c) (tA m c) (gA m c), fun c => Cert.Loss.dg (xA m c) (tA m c) (gA m c), ?_, ?_⟩
  · run_from Cert.Kernel11Ideal.Gen.run_main m g
    · exact Cert.Kernel11Ideal.Loss.host3 m c
    · exact Cert.Kernel11Ideal.Loss.final4 m c
    · exact Cert.Kernel11Ideal.Loss.host5 m c
    · exact Cert.Kernel11Ideal.Gen.W_main_arg2 m _ c
  · refine (θ_run Cert.Reference11Ideal.defs _ _).mono (fun r h c => ⟨(h c).1.trans ?_, (h c).2.1.trans ?_, (h c).2.2.1.trans ?_, (h c).2.2.2⟩)
      (Cert.Reference11Ideal.Loss.run m' g' (fun c => ?_) (fun c => ?_) fun c => ?_)
    · obtain ⟨e0, e1, e2⟩ := hagree c
      rw [e0]
      exact (Cert.Loss.reals_of (hpre c)).1
    · obtain ⟨e0, e1, e2⟩ := hagree c
      rw [e0, e1, e2]
      exact (Cert.Loss.reals_of (hpre c)).2.1
    · obtain ⟨e0, e1, e2⟩ := hagree c
      rw [e0, e1, e2]
      exact (Cert.Loss.reals_of (hpre c)).2.2
    all_goals
      obtain ⟨e0, e1, e2⟩ := hagree c
      simp only [e0, e1, e2]

end Cert.Proof.Calls

end
-- ==== Proof.AdamW.Model.lean ====
module

public import Idealize.ShloMosaic.Lib.Pointwise

@[expose] public section

noncomputable section

namespace Cert.AdamW

open Idealize.ShloMosaic

/-- The two moments' next values at one entry, from the gradient and the moment before. -/
def first (g m : EReal) : EReal := Ideal.ofBits FTy.f32 0x3F666666#32 * m + Ideal.ofBits FTy.f32 0x3DCCCCCD#32 * g
def second (g v : EReal) : EReal := Ideal.ofBits FTy.f32 0x3F7FBE77#32 * v + Ideal.ofBits FTy.f32 0x3A83126F#32 * (g * g)
/-- The step: the moments corrected for their start at zero, their quotient, and the decay of the weight. -/
def step (w g m v : EReal) : EReal :=
  Ideal.ofBits FTy.f32 0xBA83126F#32
    * (Ideal.div (Ideal.div (first g m) (Ideal.ofBits FTy.f32 0x3F26BD02#32))
        (Ideal.sqrt (Ideal.div (second g v) (Ideal.ofBits FTy.f32 0x3C231ACC#32)) + Ideal.ofBits FTy.f32 0x322BCC77#32)
      + Ideal.ofBits FTy.f32 0x3C23D70A#32 * w)

end Cert.AdamW

end
-- ==== Proof.AdamW.In.lean ====
module

public import proofs.«01_k».proof.Defs
public import proofs.«01_k».proof.Proof.Gen.Kernel12.Frame
public import proofs.«01_k».proof.Proof.Gen.Kernel12Ideal.Value
public import proofs.«01_k».proof.Proof.Gen.Reference12Ideal.Run
public import proofs.«01_k».proof.Proof.AdamW.Model
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel12Ideal.AdamW

open Idealize.ShloMosaic Idealize.ShloMosaic.TcCoe Idealize.ShloMosaic.Tactic
open Idealize.SL Idealize.SL.Sem
open Idealize.ShloMosaic.Pipeline (Dat Cfg Window)
open Cert.Kernel12Ideal.Gen Cert.AdamW

variable (m : (ℓ : Loc nD τ sig) → Buf (Elt Ideal) ℓ) (c : Dev nD)

/-- All eight windows go down the rows together, so a point's block of an argument sits where its block of a result does. -/
theorem same (t : Fin cfg0.N) (y : S256x1024.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y)
    ∧ iblk m c 3 t y = m ((c : Thread nD τ).loc main_arg3) (((cfg0.win 4).blk t).view.emb y) :=
  ⟨congrFun (V_main_arg0 m c) _, congrFun (V_main_arg1 m c) _, congrFun (V_main_arg2 m c) _, congrFun (V_main_arg3 m c) _⟩

/-- The four results: the gradient as it came, the step, and the two moments. -/
theorem finals : (dats m 0 c).arrAt 4 cfg0.N = m ((c : Thread nD τ).loc main_arg1)
    ∧ (dats m 0 c).arrAt 5 cfg0.N = (fun i => step (m ((c : Thread nD τ).loc main_arg0) i) (m ((c : Thread nD τ).loc main_arg1) i) (m ((c : Thread nD τ).loc main_arg2) i) (m ((c : Thread nD τ).loc main_arg3) i))
    ∧ (dats m 0 c).arrAt 6 cfg0.N = (fun i => first (m ((c : Thread nD τ).loc main_arg1) i) (m ((c : Thread nD τ).loc main_arg2) i))
    ∧ (dats m 0 c).arrAt 7 cfg0.N = (fun i => second (m ((c : Thread nD τ).loc main_arg1) i) (m ((c : Thread nD τ).loc main_arg3) i)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  all_goals
    obtain ⟨e0, e1, e2, e3⟩ := same m c t y
    blk_simp
    simp only [after0_4, after0_5, after0_6, after0_7]
    frame_out
  · exact e1
  all_goals
    first | unfold k0_pay3 k0_pay2 k0_pay1 | unfold k0_pay1 | unfold k0_pay2
    pointwise
    simp only [e0, e1, e2, e3]
    rfl

end Cert.Kernel12Ideal.AdamW

namespace Cert.Proof.Calls

open Idealize.ShloMosaic Idealize.ShloMosaic.TcCoe Idealize.SL.Sem

attribute [local instance] Cert.Kernel12.Gen.facts Cert.Kernel12Ideal.Gen.facts Cert.Reference12Ideal.Gen.facts

theorem frame_kernel12 : Cert.quiescent_Kernel12 := fun m ρ _ => Cert.Kernel12.Gen.frame m ρ
theorem frame_ideal12 : Cert.quiescent_Kernel12Ideal := fun m ρ _ => Cert.Kernel12Ideal.Gen.frame m ρ
theorem frame_ref12 : Cert.quiescent_Reference12Ideal := fun m ρ _ =>
  (θ_run Cert.Reference12Ideal.defs _ _).mono (fun _ h => ⟨fun c => (h c).2.2.2.2, sem_eq_zero_of_no_sems (by decide) _⟩) (Cert.Reference12Ideal.Value.run (F := Ideal) m ρ)
open Cert.Kernel12Ideal.AdamW in
theorem algebraic12 : Cert.algebraic_Kernel12Ideal_Reference12Ideal := by
  intro m g m' g' _ hagree
  refine ⟨_, _, _, _,
    (θ_run Cert.Kernel12Ideal.defs _ _).mono (fun r h c => ⟨(h c).1.trans (finals m c).1, (h c).2.1.trans (finals m c).2.1, (h c).2.2.1.trans (finals m c).2.2.1, (h c).2.2.2.1.trans (finals m c).2.2.2, (h c).2.2.2.2⟩) (Cert.Kernel12Ideal.Value.run_blocks m g),
    (θ_run Cert.Reference12Ideal.defs _ _).mono (fun r h c => ⟨(h c).1.trans ?_, (h c).2.1.trans ?_, (h c).2.2.1.trans ?_, (h c).2.2.2.1.trans ?_, (h c).2.2.2.2⟩) (Cert.Reference12Ideal.Value.run (F := Ideal) m' g')⟩
  all_goals
    obtain ⟨e0, e1, e2, e3⟩ := hagree c
    simp only [e0, e1, e2, e3]
  all_goals
    funext i
    pointwise
    rfl

end Cert.Proof.Calls

end
-- ==== Proof.AdamW.Out.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Run
public import proofs.«01_k».proof.Proof.AdamW.Model
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel13Ideal.AdamW

open Idealize.ShloMosaic Idealize.ShloMosaic.TcCoe Idealize.ShloMosaic.Tactic
open Idealize.SL Idealize.SL.Sem
open Idealize.ShloMosaic.Pipeline (Dat Cfg Window)
open Cert.Kernel13Ideal.Gen Cert.AdamW

variable (m : (ℓ : Loc nD τ sig) → Buf (Elt Ideal) ℓ) (c : Dev nD)

/-- All eight windows go down the rows together, so a point's block of an argument sits where its block of a result does. -/
theorem same (t : Fin cfg0.N) (y : S256x1024.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y)
    ∧ iblk m c 3 t y = m ((c : Thread nD τ).loc main_arg3) (((cfg0.win 4).blk t).view.emb y) :=
  ⟨congrFun (V_main_arg0 m c) _, congrFun (V_main_arg1 m c) _, congrFun (V_main_arg2 m c) _, congrFun (V_main_arg3 m c) _⟩

/-- The four results: the gradient as it came, the step, and the two moments. -/
theorem finals : (dats m 0 c).arrAt 4 cfg0.N = m ((c : Thread nD τ).loc main_arg1)
    ∧ (dats m 0 c).arrAt 5 cfg0.N = (fun i => step (m ((c : Thread nD τ).loc main_arg0) i) (m ((c : Thread nD τ).loc main_arg1) i) (m ((c : Thread nD τ).loc main_arg2) i) (m ((c : Thread nD τ).loc main_arg3) i))
    ∧ (dats m 0 c).arrAt 6 cfg0.N = (fun i => first (m ((c : Thread nD τ).loc main_arg1) i) (m ((c : Thread nD τ).loc main_arg2) i))
    ∧ (dats m 0 c).arrAt 7 cfg0.N = (fun i => second (m ((c : Thread nD τ).loc main_arg1) i) (m ((c : Thread nD τ).loc main_arg3) i)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  all_goals
    obtain ⟨e0, e1, e2, e3⟩ := same m c t y
    blk_simp
    simp only [after0_4, after0_5, after0_6, after0_7]
    frame_out
  · exact e1
  all_goals
    first | unfold k0_pay3 k0_pay2 k0_pay1 | unfold k0_pay1 | unfold k0_pay2
    pointwise
    simp only [e0, e1, e2, e3]
    rfl

end Cert.Kernel13Ideal.AdamW

namespace Cert.Proof.Calls

open Idealize.ShloMosaic Idealize.ShloMosaic.TcCoe Idealize.SL.Sem

attribute [local instance] Cert.Kernel13.Gen.facts Cert.Kernel13Ideal.Gen.facts Cert.Reference13Ideal.Gen.facts

theorem frame_kernel13 : Cert.quiescent_Kernel13 := fun m ρ _ => Cert.Kernel13.Gen.frame m ρ
theorem frame_ideal13 : Cert.quiescent_Kernel13Ideal := fun m ρ _ => Cert.Kernel13Ideal.Gen.frame m ρ
theorem frame_ref13 : Cert.quiescent_Reference13Ideal := fun m ρ _ =>
  (θ_run Cert.Reference13Ideal.defs _ _).mono (fun _ h => ⟨fun c => (h c).2.2.2.2, sem_eq_zero_of_no_sems (by decide) _⟩) (Cert.Reference13Ideal.Value.run (F := Ideal) m ρ)
open Cert.Kernel13Ideal.AdamW in
theorem algebraic13 : Cert.algebraic_Kernel13Ideal_Reference13Ideal := by
  intro m g m' g' _ hagree
  refine ⟨_, _, _, _,
    (θ_run Cert.Kernel13Ideal.defs _ _).mono (fun r h c => ⟨(h c).1.trans (finals m c).1, (h c).2.1.trans (finals m c).2.1, (h c).2.2.1.trans (finals m c).2.2.1, (h c).2.2.2.1.trans (finals m c).2.2.2, (h c).2.2.2.2⟩) (Cert.Kernel13Ideal.Value.run_blocks m g),
    (θ_run Cert.Reference13Ideal.defs _ _).mono (fun r h c => ⟨(h c).1.trans ?_, (h c).2.1.trans ?_, (h c).2.2.1.trans ?_, (h c).2.2.2.1.trans ?_, (h c).2.2.2.2⟩) (Cert.Reference13Ideal.Value.run (F := Ideal) m' g')⟩
  all_goals
    obtain ⟨e0, e1, e2, e3⟩ := hagree c
    simp only [e0, e1, e2, e3]
  all_goals
    funext i
    pointwise
    rfl

end Cert.Proof.Calls

end
-- ==== Proof.AdamW.Embed.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Run
public import proofs.«01_k».proof.Proof.AdamW.Model
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel14Ideal.AdamW

open Idealize.ShloMosaic Idealize.ShloMosaic.TcCoe Idealize.ShloMosaic.Tactic
open Idealize.SL Idealize.SL.Sem
open Idealize.ShloMosaic.Pipeline (Dat Cfg Window)
open Cert.Kernel14Ideal.Gen Cert.AdamW

variable (m : (ℓ : Loc nD τ sig) → Buf (Elt Ideal) ℓ) (c : Dev nD)

/-- All eight windows go down the rows together, so a point's block of an argument sits where its block of a result does. -/
theorem same (t : Fin cfg0.N) (y : S256x256.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y)
    ∧ iblk m c 3 t y = m ((c : Thread nD τ).loc main_arg3) (((cfg0.win 4).blk t).view.emb y) :=
  ⟨congrFun (V_main_arg0 m c) _, congrFun (V_main_arg1 m c) _, congrFun (V_main_arg2 m c) _, congrFun (V_main_arg3 m c) _⟩

/-- The four results: the gradient as it came, the step, and the two moments. -/
theorem finals : (dats m 0 c).arrAt 4 cfg0.N = m ((c : Thread nD τ).loc main_arg1)
    ∧ (dats m 0 c).arrAt 5 cfg0.N = (fun i => step (m ((c : Thread nD τ).loc main_arg0) i) (m ((c : Thread nD τ).loc main_arg1) i) (m ((c : Thread nD τ).loc main_arg2) i) (m ((c : Thread nD τ).loc main_arg3) i))
    ∧ (dats m 0 c).arrAt 6 cfg0.N = (fun i => first (m ((c : Thread nD τ).loc main_arg1) i) (m ((c : Thread nD τ).loc main_arg2) i))
    ∧ (dats m 0 c).arrAt 7 cfg0.N = (fun i => second (m ((c : Thread nD τ).loc main_arg1) i) (m ((c : Thread nD τ).loc main_arg3) i)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  all_goals
    obtain ⟨e0, e1, e2, e3⟩ := same m c t y
    blk_simp
    simp only [after0_4, after0_5, after0_6, after0_7]
    frame_out
  · exact e1
  all_goals
    first | unfold k0_pay3 k0_pay2 k0_pay1 | unfold k0_pay1 | unfold k0_pay2
    pointwise
    simp only [e0, e1, e2, e3]
    rfl

end Cert.Kernel14Ideal.AdamW

namespace Cert.Proof.Calls

open Idealize.ShloMosaic Idealize.ShloMosaic.TcCoe Idealize.SL.Sem

attribute [local instance] Cert.Kernel14.Gen.facts Cert.Kernel14Ideal.Gen.facts Cert.Reference14Ideal.Gen.facts

theorem frame_kernel14 : Cert.quiescent_Kernel14 := fun m ρ _ => Cert.Kernel14.Gen.frame m ρ
theorem frame_ideal14 : Cert.quiescent_Kernel14Ideal := fun m ρ _ => Cert.Kernel14Ideal.Gen.frame m ρ
theorem frame_ref14 : Cert.quiescent_Reference14Ideal := fun m ρ _ =>
  (θ_run Cert.Reference14Ideal.defs _ _).mono (fun _ h => ⟨fun c => (h c).2.2.2.2, sem_eq_zero_of_no_sems (by decide) _⟩) (Cert.Reference14Ideal.Value.run (F := Ideal) m ρ)
open Cert.Kernel14Ideal.AdamW in
theorem algebraic14 : Cert.algebraic_Kernel14Ideal_Reference14Ideal := by
  intro m g m' g' _ hagree
  refine ⟨_, _, _, _,
    (θ_run Cert.Kernel14Ideal.defs _ _).mono (fun r h c => ⟨(h c).1.trans (finals m c).1, (h c).2.1.trans (finals m c).2.1, (h c).2.2.1.trans (finals m c).2.2.1, (h c).2.2.2.1.trans (finals m c).2.2.2, (h c).2.2.2.2⟩) (Cert.Kernel14Ideal.Value.run_blocks m g),
    (θ_run Cert.Reference14Ideal.defs _ _).mono (fun r h c => ⟨(h c).1.trans ?_, (h c).2.1.trans ?_, (h c).2.2.1.trans ?_, (h c).2.2.2.1.trans ?_, (h c).2.2.2.2⟩) (Cert.Reference14Ideal.Value.run (F := Ideal) m' g')⟩
  all_goals
    obtain ⟨e0, e1, e2, e3⟩ := hagree c
    simp only [e0, e1, e2, e3]
  all_goals
    funext i
    pointwise
    rfl

end Cert.Proof.Calls

end
-- ==== Proof.AdamW.Small.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import proofs.«01_k».proof.Proof.AdamW.Model
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel15Ideal.AdamW

open Idealize.ShloMosaic Idealize.ShloMosaic.TcCoe Idealize.ShloMosaic.Tactic
open Idealize.SL Idealize.SL.Sem
open Idealize.ShloMosaic.Pipeline (Dat Cfg Window)
open Cert.Kernel15Ideal.Gen Cert.AdamW

variable (m : (ℓ : Loc nD τ sig) → Buf (Elt Ideal) ℓ) (c : Dev nD)

/-- All eight windows go down the rows together, so a point's block of an argument sits where its block of a result does. -/
theorem same (t : Fin cfg0.N) (y : S16x1024.Idx) :
    iblk m c 0 t y = m ((c : Thread nD τ).loc main_arg0) (((cfg0.win 4).blk t).view.emb y)
    ∧ iblk m c 1 t y = m ((c : Thread nD τ).loc main_arg1) (((cfg0.win 4).blk t).view.emb y)
    ∧ iblk m c 2 t y = m ((c : Thread nD τ).loc main_arg2) (((cfg0.win 4).blk t).view.emb y)
    ∧ iblk m c 3 t y = m ((c : Thread nD τ).loc main_arg3) (((cfg0.win 4).blk t).view.emb y) :=
  ⟨congrFun (V_main_arg0 m c) _, congrFun (V_main_arg1 m c) _, congrFun (V_main_arg2 m c) _, congrFun (V_main_arg3 m c) _⟩

/-- The four results: the gradient as it came, the step, and the two moments. -/
theorem finals : (dats m 0 c).arrAt 4 cfg0.N = m ((c : Thread nD τ).loc main_arg1)
    ∧ (dats m 0 c).arrAt 5 cfg0.N = (fun i => step (m ((c : Thread nD τ).loc main_arg0) i) (m ((c : Thread nD τ).loc main_arg1) i) (m ((c : Thread nD τ).loc main_arg2) i) (m ((c : Thread nD τ).loc main_arg3) i))
    ∧ (dats m 0 c).arrAt 6 cfg0.N = (fun i => first (m ((c : Thread nD τ).loc main_arg1) i) (m ((c : Thread nD τ).loc main_arg2) i))
    ∧ (dats m 0 c).arrAt 7 cfg0.N = (fun i => second (m ((c : Thread nD τ).loc main_arg1) i) (m ((c : Thread nD τ).loc main_arg3) i)) := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_, (dats m 0 c).arrAt_eq_of_covers 7 _ (by decide +kernel) fun t _ y => ?_⟩
  all_goals
    obtain ⟨e0, e1, e2, e3⟩ := same m c t y
    blk_simp
    simp only [after0_4, after0_5, after0_6, after0_7]
    frame_out
  · exact e1
  all_goals
    first | unfold k0_pay3 k0_pay2 k0_pay1 | unfold k0_pay1 | unfold k0_pay2
    pointwise
    simp only [e0, e1, e2, e3]
    rfl

end Cert.Kernel15Ideal.AdamW

namespace Cert.Proof.Calls

open Idealize.ShloMosaic Idealize.ShloMosaic.TcCoe Idealize.SL.Sem

attribute [local instance] Cert.Kernel15.Gen.facts Cert.Kernel15Ideal.Gen.facts Cert.Reference15Ideal.Gen.facts

theorem frame_kernel15 : Cert.quiescent_Kernel15 := fun m ρ _ => Cert.Kernel15.Gen.frame m ρ
theorem frame_ideal15 : Cert.quiescent_Kernel15Ideal := fun m ρ _ => Cert.Kernel15Ideal.Gen.frame m ρ
theorem frame_ref15 : Cert.quiescent_Reference15Ideal := fun m ρ _ =>
  (θ_run Cert.Reference15Ideal.defs _ _).mono (fun _ h => ⟨fun c => (h c).2.2.2.2, sem_eq_zero_of_no_sems (by decide) _⟩) (Cert.Reference15Ideal.Value.run (F := Ideal) m ρ)
open Cert.Kernel15Ideal.AdamW in
theorem algebraic15 : Cert.algebraic_Kernel15Ideal_Reference15Ideal := by
  intro m g m' g' _ hagree
  refine ⟨_, _, _, _,
    (θ_run Cert.Kernel15Ideal.defs _ _).mono (fun r h c => ⟨(h c).1.trans (finals m c).1, (h c).2.1.trans (finals m c).2.1, (h c).2.2.1.trans (finals m c).2.2.1, (h c).2.2.2.1.trans (finals m c).2.2.2, (h c).2.2.2.2⟩) (Cert.Kernel15Ideal.Value.run_blocks m g),
    (θ_run Cert.Reference15Ideal.defs _ _).mono (fun r h c => ⟨(h c).1.trans ?_, (h c).2.1.trans ?_, (h c).2.2.1.trans ?_, (h c).2.2.2.1.trans ?_, (h c).2.2.2.2⟩) (Cert.Reference15Ideal.Value.run (F := Ideal) m' g')⟩
  all_goals
    obtain ⟨e0, e1, e2, e3⟩ := hagree c
    simp only [e0, e1, e2, e3]
  all_goals
    funext i
    pointwise
    rfl

end Cert.Proof.Calls

end
-- ==== Proof.Mix.Tile.lean ====
module

public import proofs.«01_k».proof.Proof.Gen.Kernel16Ideal.Value
public import proofs.«01_k».proof.Proof.Gen.Kernel16Ideal.Loops
public import proofs.«01_k».proof.Proof.Conv.Pieces
public import Idealize.ShloMosaic.Lib.WholeRead
public import Idealize.ShloMosaic.Lib.Tactic.Stretches

@[expose] public section

set_option maxRecDepth 16384

noncomputable section

namespace Cert.Kernel16Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel16Ideal.Gen
open Cert.KernelIdeal.Conv (Agree)
open Cert.KernelIdeal.Conv.Blocks (ext2 ext3)

variable {F : FTy → Type} [FloatOps F]

/-! ## The offsets of the two loops in closed form -/

theorem off1 : ∀ k : Fin k0_t1_loop.trips, k0_off1 k = ![0, 256 * k.val, 0] := by decide +kernel
theorem off2 : ∀ k : Fin k0_t1_loop.trips, k0_off2 k = ![0, 256 * k.val - 16, 0] := by decide +kernel
theorem off3 : ∀ k : Fin k0_t1_loop.trips, k0_off3 k = ![256 * k.val, 0] := by decide +kernel
theorem off4 : ∀ k : Fin k0_t2_loop.trips, k0_off4 k = ![256 * k.val, 0] := by decide +kernel
theorem off5 : ∀ k : Fin k0_t2_loop.trips, k0_off5 k = ![0, 256 * k.val, 0] := by decide +kernel
theorem trips1 : k0_t1_loop.trips = 16 := by decide +kernel
theorem trips2 : k0_t2_loop.trips = 16 := by decide +kernel

/-! ## What one trip stores, over the blocks the body is given -/

/-- The matrix that averages over groups of 64 lanes. -/
def avg : FVec F S128x128 .bf16 := k0_pay1 (F := F) k0_pay15 k0_pay16 k0_pay17 k0_pay18
/-- A filter's taps, and a row. -/
def tap0 (W : Vec F S3x128 .f32) : Vec F S1x128 .f32 := View.ld W (Rect.unit (s := S3x128) ![0, 0] S1x128.size inb_S3x128_S1x128_0_0)
def tap1 (W : Vec F S3x128 .f32) : Vec F S1x128 .f32 := View.ld W (Rect.unit (s := S3x128) ![1, 0] S1x128.size inb_S3x128_S1x128_1_0)
def tap2 (W : Vec F S3x128 .f32) : Vec F S1x128 .f32 := View.ld W (Rect.unit (s := S3x128) ![2, 0] S1x128.size inb_S3x128_S1x128_2_0)
def row1 (W : Vec F S1x128 .f32) : Vec F S1x128 .f32 := View.ld W (Rect.unit (s := S1x128) ![0, 0] S1x128.size inb_S1x128_S1x128_0_0)

section conv
variable (i : grid0.Coords) (h1 : k0_cond1 i = 1#1)

/-- The 256 rows of a gate that trip `k` reads, and the sixteen rows before them. -/
def rows (X : Vec F S1x4096x128 .bf16) (k : Fin k0_t1_loop.trips) : Vec F S1x256x128 .bf16 :=
  View.ld X (Rect.unit (s := S1x4096x128) (k0_off1 k) S1x256x128.size (k0_off1_inb i k h1))
def prev (X : Vec F S1x4096x128 .bf16) (k : Fin k0_t1_loop.trips) : Vec F S1x16x128 .bf16 :=
  View.ld X (Rect.unit (s := S1x4096x128) (k0_off2 k) S1x16x128.size (k0_off2_inb i k h1))

variable (p0 p1 p2 p3 : Vec F S1x4096x128 .bf16) (w : Vec F S3x128 .f32) (b g : Vec F S1x128 .f32)

/-- The normalised product with its gain, and the tile that trip `k` of the convolution half stores. -/
def norm (k : Fin k0_t1_loop.trips) : FVec F S256x128 .f32 :=
  k0_pay13 avg (k0_pay4 (rows i h1 p1 k) (rows i h1 p2 k)) (k0_pay6 0#32 1#32 k (prev i h1 p1 k) (prev i h1 p2 k))
    (k0_pay7 0#32 1#32 k (prev i h1 p1 k) (prev i h1 p2 k))
    (k0_pay8 0#32 1#32 k (rows i h1 p1 k) (rows i h1 p2 k) (prev i h1 p1 k) (prev i h1 p2 k)) k0_pay9 k0_pay10
    (k0_pay11 (rows i h1 p1 k) (rows i h1 p2 k)) (row1 b) (tap0 w) (tap1 w) (tap2 w) (rows i h1 p0 k) (row1 g)
def tileA (k : Fin k0_t1_loop.trips) : FVec F S256x128 .bf16 :=
  k0_pay2 (k0_pay12 (rows i h1 p3 k)) (norm i h1 p0 p1 p2 w b g k) (k0_pay14 (rows i h1 p3 k))
end conv

/-- The tile that trip `k` of the attention half stores. -/
def tileB (i : grid0.Coords) (h2 : k0_cond2 i = 1#1) (ya : Vec F S4096x128 .bf16) (az : Vec F S1x4096x128 .bf16) (g : Vec F S1x128 .f32)
    (k : Fin k0_t2_loop.trips) : FVec F S256x128 .bf16 :=
  k0_pay3 k0_pay15 k0_pay16 k0_pay17 k0_pay18
    (View.ld ya (Rect.unit (s := S4096x128) (k0_off4 k) S256x128.size (k0_off4_inb i k h2)))
    (View.ld az (Rect.unit (s := S1x4096x128) (k0_off5 k) S1x256x128.size (k0_off5_inb i k h2))) (row1 g)

/-- The row of its tile that row `r` is, and the tiles below one another. -/
def inTile (r : ℕ) : Fin 256 := ⟨r % 256, by omega⟩
def stack1 (T : Fin k0_t1_loop.trips → FVec F S256x128 .bf16) : Vec F S4096x128 .bf16 := fun i =>
  T ⟨(i 0 : ℕ) / 256 % 16, by rw [trips1]; omega⟩ (ix2 (inTile (i 0)) (i 1))
def stack2 (T : Fin k0_t2_loop.trips → FVec F S256x128 .bf16) : Vec F S4096x128 .bf16 := fun i =>
  T ⟨(i 0 : ℕ) / 256 % 16, by rw [trips2]; omega⟩ (ix2 (inTile (i 0)) (i 1))

theorem stack1_emb (T : Fin k0_t1_loop.trips → FVec F S256x128 .bf16) (k : Fin k0_t1_loop.trips) {inb} (j : S256x128.Idx) :
    stack1 T ((Rect.unit (s := S4096x128) (k0_off3 k) S256x128.size inb).emb j) = T k j := by
  have hk := k.isLt.trans_eq trips1
  have h0 : (((Rect.unit (s := S4096x128) (k0_off3 k) S256x128.size inb).emb j) 0 : ℕ) = 256 * k.val + (j 0 : ℕ) := by
    show k0_off3 k 0 + 1 * (j 0 : ℕ) = _
    rw [off3]; simp
  have h1 : (((Rect.unit (s := S4096x128) (k0_off3 k) S256x128.size inb).emb j) 1 : ℕ) = (j 1 : ℕ) := by
    show k0_off3 k 1 + 1 * (j 1 : ℕ) = _
    rw [off3]; simp
  have hj := (j 0).isLt
  change (j 0 : ℕ) < 256 at hj
  unfold stack1
  refine congr (congrArg T (Fin.ext ?_)) (ext2 ?_ h1)
  · show _ / 256 % 16 = k.val
    rw [h0]; omega
  · show (_ % 256 : ℕ) = _
    rw [h0]; omega
theorem stack2_emb (T : Fin k0_t2_loop.trips → FVec F S256x128 .bf16) (k : Fin k0_t2_loop.trips) {inb} (j : S256x128.Idx) :
    stack2 T ((Rect.unit (s := S4096x128) (k0_off4 k) S256x128.size inb).emb j) = T k j := by
  have hk := k.isLt.trans_eq trips2
  have h0 : (((Rect.unit (s := S4096x128) (k0_off4 k) S256x128.size inb).emb j) 0 : ℕ) = 256 * k.val + (j 0 : ℕ) := by
    show k0_off4 k 0 + 1 * (j 0 : ℕ) = _
    rw [off4]; simp
  have h1 : (((Rect.unit (s := S4096x128) (k0_off4 k) S256x128.size inb).emb j) 1 : ℕ) = (j 1 : ℕ) := by
    show k0_off4 k 1 + 1 * (j 1 : ℕ) = _
    rw [off4]; simp
  have hj := (j 0).isLt
  change (j 0 : ℕ) < 256 at hj
  unfold stack2
  refine congr (congrArg T (Fin.ext ?_)) (ext2 ?_ h1)
  · show _ / 256 % 16 = k.val
    rw [h0]; omega
  · show (_ % 256 : ℕ) = _
    rw [h0]; omega

/-! ## The pieces the two loops leave -/

variable (c : Dev nD) (i : grid0.Coords) (arg1 : Memref sig .tc .vmem S1x4096x128 .bf16) (harg1 : arg1.IsWhole)
  (arg2 : Memref sig .tc .vmem S1x4096x128 .bf16) (harg2 : arg2.IsWhole) (arg3 : Memref sig .tc .vmem S1x4096x128 .bf16) (harg3 : arg3.IsWhole)
  (arg4 : Memref sig .tc .vmem S1x4096x128 .bf16) (harg4 : arg4.IsWhole) (arg5 : Memref sig .tc .vmem S4096x128 .bf16) (harg5 : arg5.IsWhole)
  (arg6 : Memref sig .tc .vmem S1x4096x128 .bf16) (harg6 : arg6.IsWhole) (arg7 : Memref sig .tc .vmem S3x128 .f32) (harg7 : arg7.IsWhole)
  (arg8 : Memref sig .tc .vmem S1x128 .f32) (harg8 : arg8.IsWhole) (arg9 : Memref sig .tc .vmem S1x128 .f32) (harg9 : arg9.IsWhole)
  (arg10 : Memref sig .tc .vmem S4096x128 .bf16) (harg10 : arg10.IsWhole)
  (p0 p1 p2 p3 : Vec F S1x4096x128 .bf16) (ya : Vec F S4096x128 .bf16) (az : Vec F S1x4096x128 .bf16) (w : Vec F S3x128 .f32) (b g : Vec F S1x128 .f32)

theorem trip1_pieces (h1 : k0_cond1 i = 1#1) (k : Fin k0_t1_loop.trips) :
    tripL_k0_t1 (F := F) Variants.none c none i arg1 harg1 arg2 harg2 arg3 harg3 arg4 harg4 arg5 harg5 arg6 harg6 arg7 harg7 arg8 harg8 arg9 harg9 arg10 harg10 k0_pay15 k0_pay16 k0_pay17 k0_pay18 h1 (harg1.unread p0) (harg2.unread p1) (harg3.unread p2) (harg4.unread p3) (harg7.unread w) (harg8.unread b) (harg9.unread g) k =
      [⟨Rect.unit (s := S4096x128) (k0_off3 k) S256x128.size (k0_off3_inb i k h1), tileA i h1 p0 p1 p2 p3 w b g k⟩] := by
  unfold tripL_k0_t1 trip_k0_t1
  dsimp only
  sl_open_run
  simp only [View.readAt_eq_ld, Memref.IsWhole.read_unread]
  rfl
theorem trip2_pieces (h2 : k0_cond2 i = 1#1) (k : Fin k0_t2_loop.trips) :
    tripL_k0_t2 (F := F) Variants.none c none i arg1 harg1 arg2 harg2 arg3 harg3 arg4 harg4 arg5 harg5 arg6 harg6 arg7 harg7 arg8 harg8 arg9 harg9 arg10 harg10 k0_pay15 k0_pay16 k0_pay17 k0_pay18 h2 (harg5.unread ya) (harg6.unread az) (harg9.unread g) k =
      [⟨Rect.unit (s := S4096x128) (k0_off4 k) S256x128.size (k0_off4_inb i k h2), tileB i h2 ya az g k⟩] := by
  unfold tripL_k0_t2 trip_k0_t2
  dsimp only
  sl_open_run
  simp only [View.readAt_eq_ld, Memref.IsWhole.read_unread]
  rfl

theorem loop1 (h1 : k0_cond1 i = 1#1) : ∀ n ≤ 16,
    Agree (stack1 (tileA i h1 p0 p1 p2 p3 w b g)) (pb_k0_t1 (F := F) Variants.none c none i arg1 harg1 arg2 harg2 arg3 harg3 arg4 harg4 arg5 harg5 arg6 harg6 arg7 harg7 arg8 harg8 arg9 harg9 arg10 harg10 k0_pay15 k0_pay16 k0_pay17 k0_pay18 h1 (harg1.unread p0) (harg2.unread p1) (harg3.unread p2) (harg4.unread p3) (harg7.unread w) (harg8.unread b) (harg9.unread g) n) := by
  intro n
  induction n with
  | zero => exact fun _ => Agree.nil _
  | succ n ih =>
    intro hn
    have hk : n < k0_t1_loop.trips := by rw [trips1]; omega
    rw [show pb_k0_t1 (F := F) Variants.none c none i arg1 harg1 arg2 harg2 arg3 harg3 arg4 harg4 arg5 harg5 arg6 harg6 arg7 harg7 arg8 harg8 arg9 harg9 arg10 harg10 k0_pay15 k0_pay16 k0_pay17 k0_pay18 h1 (harg1.unread p0) (harg2.unread p1) (harg3.unread p2) (harg4.unread p3) (harg7.unread w) (harg8.unread b) (harg9.unread g) (n + 1) = _ from pb_k0_t1_succ (F := F) Variants.none c none i arg1 harg1 arg2 harg2 arg3 harg3 arg4 harg4 arg5 harg5 arg6 harg6 arg7 harg7 arg8 harg8 arg9 harg9 arg10 harg10 k0_pay15 k0_pay16 k0_pay17 k0_pay18 h1 (harg1.unread p0) (harg2.unread p1) (harg3.unread p2) (harg4.unread p3) (harg7.unread w) (harg8.unread b) (harg9.unread g) ⟨n, hk⟩, trip1_pieces]
    exact (Agree.cons (fun y => (stack1_emb _ _ y).symm) (Agree.nil _)).app (ih (by omega))
theorem loop2 (h2 : k0_cond2 i = 1#1) : ∀ n ≤ 16,
    Agree (stack2 (tileB i h2 ya az g)) (pb_k0_t2 (F := F) Variants.none c none i arg1 harg1 arg2 harg2 arg3 harg3 arg4 harg4 arg5 harg5 arg6 harg6 arg7 harg7 arg8 harg8 arg9 harg9 arg10 harg10 k0_pay15 k0_pay16 k0_pay17 k0_pay18 h2 (harg5.unread ya) (harg6.unread az) (harg9.unread g) n) := by
  intro n
  induction n with
  | zero => exact fun _ => Agree.nil _
  | succ n ih =>
    intro hn
    have hk : n < k0_t2_loop.trips := by rw [trips2]; omega
    rw [show pb_k0_t2 (F := F) Variants.none c none i arg1 harg1 arg2 harg2 arg3 harg3 arg4 harg4 arg5 harg5 arg6 harg6 arg7 harg7 arg8 harg8 arg9 harg9 arg10 harg10 k0_pay15 k0_pay16 k0_pay17 k0_pay18 h2 (harg5.unread ya) (harg6.unread az) (harg9.unread g) (n + 1) = _ from pb_k0_t2_succ (F := F) Variants.none c none i arg1 harg1 arg2 harg2 arg3 harg3 arg4 harg4 arg5 harg5 arg6 harg6 arg7 harg7 arg8 harg8 arg9 harg9 arg10 harg10 k0_pay15 k0_pay16 k0_pay17 k0_pay18 h2 (harg5.unread ya) (harg6.unread az) (harg9.unread g) ⟨n, hk⟩, trip2_pieces]
    exact (Agree.cons (fun y => (stack2_emb _ _ y).symm) (Agree.nil _)).app (ih (by omega))

/-- The block a point of the convolution half leaves, and one of the attention half. -/
theorem outA (h1 : cond0_0 i) (h2 : ¬cond0_1 i) :
    out0_A_9 c i arg1 harg1 arg2 harg2 arg3 harg3 arg4 harg4 arg5 harg5 arg6 harg6 arg7 harg7 arg8 harg8 arg9 harg9 arg10 harg10 h1 h2 p0 p1 p2 p3 ya az w b g
      = stack1 (tileA i h1 p0 p1 p2 p3 w b g) := by
  have e : (kernelRun0_A c i arg1 harg1 arg2 harg2 arg3 harg3 arg4 harg4 arg5 harg5 arg6 harg6 arg7 harg7 arg8 harg8 arg9 harg9 arg10 harg10 h1 h2 p0 p1 p2 p3 ya az w b g).1 = pb_k0_t1 (F := F) Variants.none c none i arg1 harg1 arg2 harg2 arg3 harg3 arg4 harg4 arg5 harg5 arg6 harg6 arg7 harg7 arg8 harg8 arg9 harg9 arg10 harg10 k0_pay15 k0_pay16 k0_pay17 k0_pay18 h1 (harg1.unread p0) (harg2.unread p1) (harg3.unread p2) (harg4.unread p3) (harg7.unread w) (harg8.unread b) (harg9.unread g) 16 := by
    unfold kernelRun0_A
    rfl
  have hc := cover0_A_9 (F := F) c i arg1 harg1 arg2 harg2 arg3 harg3 arg4 harg4 arg5 harg5 arg6 harg6 arg7 harg7 arg8 harg8 arg9 harg9 arg10 harg10 h1 h2 p0 p1 p2 p3 ya az w b g
  unfold out0_A_9
  rw [e] at hc ⊢
  exact Agree.read (loop1 c i arg1 harg1 arg2 harg2 arg3 harg3 arg4 harg4 arg5 harg5 arg6 harg6 arg7 harg7 arg8 harg8 arg9 harg9 arg10 harg10 p0 p1 p2 p3 w b g h1 16 le_rfl) fun y _ => hc y
theorem outB (h1 : ¬cond0_0 i) (h2 : cond0_1 i) :
    out0_B_9 c i arg1 harg1 arg2 harg2 arg3 harg3 arg4 harg4 arg5 harg5 arg6 harg6 arg7 harg7 arg8 harg8 arg9 harg9 arg10 harg10 h1 h2 p0 p1 p2 p3 ya az w b g
      = stack2 (tileB i h2 ya az g) := by
  have e : (kernelRun0_B c i arg1 harg1 arg2 harg2 arg3 harg3 arg4 harg4 arg5 harg5 arg6 harg6 arg7 harg7 arg8 harg8 arg9 harg9 arg10 harg10 h1 h2 p0 p1 p2 p3 ya az w b g).1 = pb_k0_t2 (F := F) Variants.none c none i arg1 harg1 arg2 harg2 arg3 harg3 arg4 harg4 arg5 harg5 arg6 harg6 arg7 harg7 arg8 harg8 arg9 harg9 arg10 harg10 k0_pay15 k0_pay16 k0_pay17 k0_pay18 h2 (harg5.unread ya) (harg6.unread az) (harg9.unread g) 16 := by
    unfold kernelRun0_B
    rfl
  have hc := cover0_B_9 (F := F) c i arg1 harg1 arg2 harg2 arg3 harg3 arg4 harg4 arg5 harg5 arg6 harg6 arg7 harg7 arg8 harg8 arg9 harg9 arg10 harg10 h1 h2 p0 p1 p2 p3 ya az w b g
  unfold out0_B_9
  rw [e] at hc ⊢
  exact Agree.read (loop2 c i arg1 harg1 arg2 harg2 arg3 harg3 arg4 harg4 arg5 harg5 arg6 harg6 arg7 harg7 arg8 harg8 arg9 harg9 arg10 harg10 ya az g h2 16 le_rfl) fun y _ => hc y

end Cert.Kernel16Ideal.Mix
-- ==== Proof.Mix.Model.lean ====
module

public import Idealize.ShloMosaic.Lib.Pointwise

@[expose] public section

noncomputable section

namespace Cert.Mix

open Idealize.ShloMosaic

/-! # The mixer's output over the extended real numbers

A row is a token, a lane a channel. Nothing here asks an entry to be finite: the sums keep their order, and the only
number multiplied into a sum is the group's `1/64`. -/

/-- The entries: the convolution half's four gates, the attention half's gate and result, the filter, its bias and the
norm's gain. -/
structure Model where
  p0 : ℕ → ℕ → EReal
  p1 : ℕ → ℕ → EReal
  p2 : ℕ → ℕ → EReal
  p3 : ℕ → ℕ → EReal
  az : ℕ → ℕ → EReal
  ya : ℕ → ℕ → EReal
  w : ℕ → ℕ → EReal
  b : ℕ → EReal
  g : ℕ → EReal

/-- The mean over the group of 64 lanes that lane `l` is in. -/
def mean (f : ℕ → EReal) (l : ℕ) : EReal := (∑ k : Fin 64, f (64 * (l / 64) + k)) * ((1 / 64 : ℝ) : EReal)

/-- `y` normalised by its group's mean square, times the gain, times the gate `z` and its logistic function. -/
def gated (y z g : ℕ → EReal) (l : ℕ) : EReal :=
  y l * Ideal.rsqrt (mean (fun l => y l * y l) l + Ideal.ofBits .f32 0x358637BD#32) * g l
    * (z l * Ideal.div 1 (1 + Ideal.exp (-z l)))

theorem mean_shift (f : ℕ → EReal) (t l : ℕ) : mean (fun l => f (128 * t + l)) l = mean f (128 * t + l) := by
  unfold mean
  refine congrArg (fun s : EReal => s * _) (Finset.sum_congr rfl fun k _ => congrArg f ?_)
  show 128 * t + (64 * (l / 64) + (k : ℕ)) = 64 * ((128 * t + l) / 64) + k
  omega
/-- Lanes counted from a multiple of 128 have the same groups. -/
theorem gated_shift (y z g : ℕ → EReal) (t l : ℕ) :
    gated (fun l => y (128 * t + l)) (fun l => z (128 * t + l)) (fun l => g (128 * t + l)) l = gated y z g (128 * t + l) := by
  unfold gated
  rw [mean_shift (fun l => y l * y l)]

theorem sum_mul_real {c : ℝ} (hc : 0 ≤ c) {n : ℕ} (f : Fin n → EReal) : ∑ k, f k * (c : EReal) = (∑ k, f k) * (c : EReal) := by
  induction n with
  | zero => simp
  | succ n ih =>
    rw [Fin.sum_univ_castSucc, Fin.sum_univ_castSucc, ih,
      EReal.right_distrib_of_nonneg_of_ne_top (EReal.coe_nonneg.2 hc) (EReal.coe_ne_top c)]

/-- The product with the averaging matrix is the group's mean. -/
theorem avg_sum (f : ℕ → EReal) (l : Fin 128) :
    (∑ a : Fin 128, f a * ((if (a : ℕ) / 64 = l / 64 then 1 / 64 else 0 : ℝ) : EReal)) = mean f l := by
  have e := Fin.sum_univ_tiles 2 64 rfl (fun a : Fin 128 => f a * ((if (a : ℕ) / 64 = l / 64 then 1 / 64 else 0 : ℝ) : EReal))
  rw [e, Fin.sum_univ_two]
  have t0 : ∀ t : Fin 64, (((0 : Fin 2) : ℕ) * 64 + (t : ℕ)) / 64 = 0 := fun t => by simp
  have t1 : ∀ t : Fin 64, (((1 : Fin 2) : ℕ) * 64 + (t : ℕ)) / 64 = 1 := fun t => by simp
  simp only [t0, t1]
  unfold mean
  rw [← sum_mul_real (by norm_num)]
  have hl : (l : ℕ) / 64 = 0 ∨ (l : ℕ) / 64 = 1 := by omega
  rcases hl with hl | hl
  · rw [hl]; simp
  · rw [hl]; simp

namespace Model
variable (M : Model) (r l : ℕ)

/-- The gated input, and the same `j` rows earlier. -/
def u : EReal := M.p1 r l * M.p2 r l
def sh (j : ℕ) : EReal := if j ≤ r then M.u (r - j) l else 0
/-- The convolution's result, and the product with its gate. -/
def cv : EReal := ((M.b l + M.sh r l 2 * M.w 0 l) + M.sh r l 1 * M.w 1 l) + M.u r l * M.w 2 l
def yv : EReal := M.p0 r l * M.cv r l
/-- The convolution's half of the output, the attention's half, and the two side by side. -/
def conv : EReal := gated (M.yv r) (M.p3 r) M.g l
def attn (o : ℕ) : EReal := gated (M.ya r) (M.az r) (fun l => M.g (o + l)) l
def out : EReal := if l < 512 then M.conv r l else M.attn r (l - 512) 512

/-- The convolution half's entries with the lanes counted from `o`. -/
def shift (o : ℕ) : Model where
  p0 r l := M.p0 r (o + l)
  p1 r l := M.p1 r (o + l)
  p2 r l := M.p2 r (o + l)
  p3 r l := M.p3 r (o + l)
  az r l := M.az r (o + l)
  ya r l := M.ya r (o + l)
  w j l := M.w j (o + l)
  b l := M.b (o + l)
  g l := M.g (o + l)

theorem conv_shift (t : ℕ) : (M.shift (128 * t)).conv r l = M.conv r (128 * t + l) :=
  gated_shift (M.yv r) (M.p3 r) M.g t l
end Model

end Cert.Mix
-- ==== Proof.Mix.TileValue.lean ====
module

public import proofs.«01_k».proof.Proof.Mix.Tile
public import proofs.«01_k».proof.Proof.Mix.Model
public import proofs.«01_k».proof.Proof.Conv.TileValue

@[expose] public section

set_option maxRecDepth 16384

noncomputable section

namespace Cert.Kernel16Ideal.Mix

open Idealize.ShloMosaic Idealize.ShloMosaic.TcCoe Idealize.ShloMosaic.Tactic
open Idealize.SL Idealize.SL.Sem
open Cert.Kernel16Ideal.Gen Cert.Mix
open Cert.KernelIdeal.Conv.Blocks (ext2 ext3)
open Cert.KernelIdeal.Conv (sel_eq group_of)

/-! # What the body computes, over the extended real numbers -/

theorem avg_at (a b : Fin 128) : avg (F := Ideal) (ix2 a b) = ((if (a : ℕ) / 64 = b / 64 then 1 / 64 else 0 : ℝ) : EReal) := by
  unfold avg k0_pay1 k0_pay15 k0_pay16 k0_pay17 k0_pay18
  pointwise
  rw [group_of, group_of, sel_eq (by omega) (by omega)]
  split
  · simp [Ideal.ofBits, Ideal.ieee, -EReal.coe_mul]
    norm_num
  · simp

theorem later : ∀ k : Fin k0_t1_loop.trips,
    (Scalar.extui (Scalar.cmpi .sgt (Scf.iv 0#32 1#32 k) 0#32) : BitVec 32).toInt = if k.val = 0 then 0 else 1 := by decide +kernel

/-! ## The convolution's half -/

/-- The blocks of one point hold the model's entries. -/
structure Reads (p0 p1 p2 p3 : Vec Ideal S1x4096x128 .bf16) (w : Vec Ideal S3x128 .f32) (b g : Vec Ideal S1x128 .f32) (M : Model) : Prop where
  p0 : ∀ (r : Fin 4096) (l : Fin 128), p0 (ix3 0 r l) = M.p0 r l
  p1 : ∀ (r : Fin 4096) (l : Fin 128), p1 (ix3 0 r l) = M.p1 r l
  p2 : ∀ (r : Fin 4096) (l : Fin 128), p2 (ix3 0 r l) = M.p2 r l
  p3 : ∀ (r : Fin 4096) (l : Fin 128), p3 (ix3 0 r l) = M.p3 r l
  w : ∀ (j : Fin 3) (l : Fin 128), w (ix2 j l) = M.w j l
  b : ∀ l : Fin 128, b (ix2 0 l) = M.b l
  g : ∀ l : Fin 128, g (ix2 0 l) = M.g l

section conv
variable (i : grid0.Coords) (h1 : k0_cond1 i = 1#1) (k : Fin k0_t1_loop.trips)

theorem row_lt (a : Fin 256) : 256 * k.val + a.val < 4096 := by
  have := k.isLt.trans_eq trips1
  omega
theorem rows_at {X : Vec Ideal S1x4096x128 .bf16} {f : ℕ → ℕ → EReal} (h : ∀ (r : Fin 4096) (l : Fin 128), X (ix3 0 r l) = f r l)
    (a : Fin 256) (l : Fin 128) : rows i h1 X k (ix3 0 a l) = f (256 * k.val + a) l := by
  refine Eq.trans (congrArg X (ext3 ?_ ?_ ?_)) (h ⟨256 * k.val + a, row_lt k a⟩ l)
  · show k0_off1 k 0 + 1 * 0 = 0
    rw [off1]; rfl
  · show k0_off1 k 1 + 1 * (a : ℕ) = 256 * k.val + a
    rw [off1]; simp
  · show k0_off1 k 2 + 1 * (l : ℕ) = l
    rw [off1]; simp
theorem prev_at {X : Vec Ideal S1x4096x128 .bf16} {f : ℕ → ℕ → EReal} (h : ∀ (r : Fin 4096) (l : Fin 128), X (ix3 0 r l) = f r l)
    (a : Fin 16) (l : Fin 128) : prev i h1 X k (ix3 0 a l) = f (256 * k.val - 16 + a) l := by
  have hk := k.isLt.trans_eq trips1
  refine Eq.trans (congrArg X (ext3 ?_ ?_ ?_)) (h ⟨256 * k.val - 16 + a, by omega⟩ l)
  · show k0_off2 k 0 + 1 * 0 = 0
    rw [off2]; rfl
  · show k0_off2 k 1 + 1 * (a : ℕ) = 256 * k.val - 16 + a
    rw [off2]; simp
  · show k0_off2 k 2 + 1 * (l : ℕ) = l
    rw [off2]; simp

theorem row1_at (X : Vec Ideal S1x128 .f32) (l : Fin 128) : row1 X (ix2 0 l) = X (ix2 0 l) :=
  congrArg X (ext2 (j := ix2 0 l) rfl (show 0 + 1 * (l : ℕ) = l by omega))

variable {p0 p1 p2 p3 : Vec Ideal S1x4096x128 .bf16} {w : Vec Ideal S3x128 .f32} {b g : Vec Ideal S1x128 .f32} {M : Model}
  (h : Reads p0 p1 p2 p3 w b g M)
include h

theorem tap0_at (l : Fin 128) : tap0 w (ix2 0 l) = M.w 0 l :=
  Eq.trans (congrArg w (ext2 (j := ix2 0 l) rfl (show 0 + 1 * (l : ℕ) = l by omega))) (h.w 0 l)
theorem tap1_at (l : Fin 128) : tap1 w (ix2 0 l) = M.w 1 l :=
  Eq.trans (congrArg w (ext2 (j := ix2 1 l) rfl (show 0 + 1 * (l : ℕ) = l by omega))) (h.w 1 l)
theorem tap2_at (l : Fin 128) : tap2 w (ix2 0 l) = M.w 2 l :=
  Eq.trans (congrArg w (ext2 (j := ix2 2 l) rfl (show 0 + 1 * (l : ℕ) = l by omega))) (h.w 2 l)

theorem u_at (a : Fin 256) (l : Fin 128) :
    k0_pay4 (rows i h1 p1 k) (rows i h1 p2 k) (ix2 a l) = M.u (256 * k.val + a) l := by
  unfold k0_pay4
  pointwise
  rw [rows_at i h1 k h.p1, rows_at i h1 k h.p2, Model.u]

theorem prev_u (a : Fin 16) (l : Fin 128) :
    k0_pay5 (F := Ideal) 0#32 1#32 k (prev i h1 p1 k) (prev i h1 p2 k) (ix2 a l)
      = if k.val = 0 then 0 else M.u (256 * k.val - 16 + a) l := by
  unfold k0_pay5
  pointwise
  rw [prev_at i h1 k h.p1, prev_at i h1 k h.p2, later, Model.u]
  split <;> simp

theorem pa_at (l : Fin 128) : k0_pay6 (F := Ideal) 0#32 1#32 k (prev i h1 p1 k) (prev i h1 p2 k) (ix2 0 l)
    = if k.val = 0 then 0 else M.u (256 * k.val - 1) l := by
  unfold k0_pay6
  pointwise
  refine (prev_u i h1 k h 15 l).trans ?_
  split
  · rfl
  · rw [show 256 * k.val - 16 + ((15 : Fin 16) : ℕ) = 256 * k.val - 1 by simp; omega]
theorem pb_at (l : Fin 128) : k0_pay7 (F := Ideal) 0#32 1#32 k (prev i h1 p1 k) (prev i h1 p2 k) (ix2 0 l)
    = if k.val = 0 then 0 else M.u (256 * k.val - 2) l := by
  unfold k0_pay7
  pointwise
  refine (prev_u i h1 k h 14 l).trans ?_
  split
  · rfl
  · rw [show 256 * k.val - 16 + ((14 : Fin 16) : ℕ) = 256 * k.val - 2 by simp; omega]

theorem u1_at (a : Fin 256) (l : Fin 128) :
    k0_pay8 (F := Ideal) 0#32 1#32 k (rows i h1 p1 k) (rows i h1 p2 k) (prev i h1 p1 k) (prev i h1 p2 k) (ix2 a l)
      = M.sh (256 * k.val + a) l 1 := by
  unfold k0_pay8
  pointwise
  rw [sel_eq a.isLt (by norm_num : 0 < 256)]
  unfold Model.sh
  by_cases hi : (a : ℕ) = 0
  · rw [if_pos hi]
    refine (pa_at i h1 k h l).trans ?_
    by_cases hk : k.val = 0
    · rw [if_pos hk, if_neg (by omega)]
    · rw [if_neg hk, if_pos (by omega), hi]; rfl
  · rw [if_neg hi, if_pos (by omega)]
    refine (u_at i h1 k h ⟨(a + 256 - 1) % 256, by omega⟩ l).trans ?_
    rw [show 256 * k.val + (a + 256 - 1) % 256 = 256 * k.val + a - 1 by omega]

/-- The choice of rows two earlier, as the body makes it. -/
theorem u2_at (a : Fin 256) (l : Fin 128) :
    (if (a : ℕ) = 0 then k0_pay7 (F := Ideal) 0#32 1#32 k (prev i h1 p1 k) (prev i h1 p2 k) (ix2 0 l)
      else if (a : ℕ) = 1 then k0_pay6 (F := Ideal) 0#32 1#32 k (prev i h1 p1 k) (prev i h1 p2 k) (ix2 0 l)
      else k0_pay4 (rows i h1 p1 k) (rows i h1 p2 k) (ix2 ⟨(a + 256 - 2) % 256, by omega⟩ l)) = M.sh (256 * k.val + a) l 2 := by
  rw [pa_at i h1 k h, pb_at i h1 k h, u_at i h1 k h]
  unfold Model.sh
  by_cases hk : k.val = 0
  · by_cases hi : (a : ℕ) = 0
    · rw [if_pos hi, if_pos hk, if_neg (by omega)]
    by_cases hj : (a : ℕ) = 1
    · rw [if_neg hi, if_pos hj, if_pos hk, if_neg (by omega)]
    rw [if_neg hi, if_neg hj, if_pos (by omega)]
    rw [show 256 * k.val + (a + 256 - 2) % 256 = 256 * k.val + a - 2 by omega]
  · rw [if_pos (show 2 ≤ 256 * k.val + a by omega)]
    by_cases hi : (a : ℕ) = 0
    · rw [if_pos hi, if_neg hk, hi]; rfl
    by_cases hj : (a : ℕ) = 1
    · rw [if_neg hi, if_pos hj, if_neg hk, show 256 * k.val + (a : ℕ) - 2 = 256 * k.val - 1 by omega]
    rw [if_neg hi, if_neg hj]
    rw [show 256 * k.val + (a + 256 - 2) % 256 = 256 * k.val + a - 2 by omega]

/-- The normalised product with its gain. -/
theorem norm_at (a : Fin 256) (l : Fin 128) : norm i h1 p0 p1 p2 w b g k (ix2 a l)
    = M.yv (256 * k.val + a) l * Ideal.rsqrt (mean (fun l => M.yv (256 * k.val + a) l * M.yv (256 * k.val + a) l) l
        + Ideal.ofBits .f32 0x358637BD#32) * M.g l := by
  unfold norm k0_pay13 k0_pay9 k0_pay10 k0_pay11
  pointwise
  simp only [sel_eq a.isLt (by norm_num : 0 < 256), sel_eq a.isLt (by norm_num : 1 < 256)]
  have e : ∀ l : Fin 128, _ = M.yv (256 * k.val + a) l := fun l =>
    congrArg₂ (fun a b : EReal => a * b) (rows_at i h1 k h.p0 a l)
      (congrArg₂ (fun a b : EReal => a + b) (congrArg₂ (fun a b : EReal => a + b) (congrArg₂ (fun a b : EReal => a + b)
        ((row1_at b l).trans (h.b l)) (congrArg₂ (fun a b : EReal => a * b) (u2_at i h1 k h a l) (tap0_at h l)))
        (congrArg₂ (fun a b : EReal => a * b) (u1_at i h1 k h a l) (tap1_at h l)))
        (congrArg₂ (fun a b : EReal => a * b) (u_at i h1 k h a l) (tap2_at h l)))
  refine congrArg₂ (fun a b : EReal => a * b) (congrArg₂ (fun a b : EReal => a * b) (e l)
    (congrArg (fun s : EReal => Ideal.rsqrt (s + _)) ?_)) ((row1_at g l).trans (h.g l))
  rw [← avg_sum (fun l => M.yv (256 * k.val + a) l * M.yv (256 * k.val + a) l)]
  exact Finset.sum_congr rfl fun d _ => congrArg₂ (fun a b : EReal => a * b) (congrArg₂ (fun a b : EReal => a * b) (e d) (e d)) (avg_at d l)

theorem tileA_at (a : Fin 256) (l : Fin 128) : tileA i h1 p0 p1 p2 p3 w b g k (ix2 a l) = M.conv (256 * k.val + a) l := by
  unfold tileA k0_pay2 k0_pay14 k0_pay12
  pointwise
  rw [norm_at i h1 k h, rows_at i h1 k h.p3, zero_sub]
  rfl

theorem outA_at (r : Fin 4096) (l : Fin 128) : stack1 (tileA i h1 p0 p1 p2 p3 w b g) (ix2 r l) = M.conv r l := by
  refine (tileA_at i h1 ⟨(r : ℕ) / 256 % 16, by rw [trips1]; omega⟩ h (inTile r) l).trans ?_
  show M.conv (256 * ((r : ℕ) / 256 % 16) + (r : ℕ) % 256) l = _
  rw [show 256 * ((r : ℕ) / 256 % 16) + (r : ℕ) % 256 = r by omega]
end conv

/-! ## The attention's half -/

section attn
variable (i : grid0.Coords) (h2 : k0_cond2 i = 1#1) (k : Fin k0_t2_loop.trips)
  {ya : Vec Ideal S4096x128 .bf16} {az : Vec Ideal S1x4096x128 .bf16} {g : Vec Ideal S1x128 .f32} {y z : ℕ → ℕ → EReal} {gn : ℕ → EReal}
  (hy : ∀ (r : Fin 4096) (l : Fin 128), ya (ix2 r l) = y r l) (hz : ∀ (r : Fin 4096) (l : Fin 128), az (ix3 0 r l) = z r l)
  (hg : ∀ l : Fin 128, g (ix2 0 l) = gn l)
include hy hz hg

theorem tileB_at (a : Fin 256) (l : Fin 128) : tileB i h2 ya az g k (ix2 a l) = gated (y (256 * k.val + a)) (z (256 * k.val + a)) gn l := by
  have hk := k.isLt.trans_eq trips2
  have ey : ∀ l : Fin 128, View.ld ya (Rect.unit (s := S4096x128) (k0_off4 k) S256x128.size (k0_off4_inb i k h2)) (ix2 a l) = y (256 * k.val + a) l := fun l => by
    refine Eq.trans (congrArg ya (ext2 ?_ ?_)) (hy ⟨256 * k.val + a, by omega⟩ l)
    · show k0_off4 k 0 + 1 * (a : ℕ) = 256 * k.val + a
      rw [off4]; simp
    · show k0_off4 k 1 + 1 * (l : ℕ) = l
      rw [off4]; simp
  have ez : View.ld az (Rect.unit (s := S1x4096x128) (k0_off5 k) S1x256x128.size (k0_off5_inb i k h2)) (ix3 0 a l) = z (256 * k.val + a) l := by
    refine Eq.trans (congrArg az (ext3 ?_ ?_ ?_)) (hz ⟨256 * k.val + a, by omega⟩ l)
    · show k0_off5 k 0 + 1 * 0 = 0
      rw [off5]; rfl
    · show k0_off5 k 1 + 1 * (a : ℕ) = 256 * k.val + a
      rw [off5]; simp
    · show k0_off5 k 2 + 1 * (l : ℕ) = l
      rw [off5]; simp
  unfold tileB
  generalize View.ld ya (Rect.unit (s := S4096x128) (k0_off4 k) S256x128.size (k0_off4_inb i k h2)) = Y at ey ⊢
  generalize View.ld az (Rect.unit (s := S1x4096x128) (k0_off5 k) S1x256x128.size (k0_off5_inb i k h2)) = Z at ez ⊢
  unfold k0_pay3
  pointwise
  rw [ez, zero_sub, ey, row1_at, hg]
  unfold gated
  refine congrArg (fun s : EReal => _ * Ideal.rsqrt (s + _) * _ * _) ?_
  rw [← avg_sum (fun l => y (256 * k.val + a) l * y (256 * k.val + a) l)]
  exact Finset.sum_congr rfl fun d _ => congrArg₂ (fun a b : EReal => a * b) (congrArg₂ (fun a b : EReal => a * b) (ey d) (ey d)) (avg_at d l)

theorem outB_at (r : Fin 4096) (l : Fin 128) : stack2 (tileB i h2 ya az g) (ix2 r l) = gated (y r) (z r) gn l := by
  refine (tileB_at i h2 ⟨(r : ℕ) / 256 % 16, by rw [trips2]; omega⟩ hy hz hg (inTile r) l).trans ?_
  show gated (y (256 * ((r : ℕ) / 256 % 16) + (r : ℕ) % 256)) (z (256 * ((r : ℕ) / 256 % 16) + (r : ℕ) % 256)) gn l = _
  rw [show 256 * ((r : ℕ) / 256 % 16) + (r : ℕ) % 256 = r by omega]
end attn

end Cert.Kernel16Ideal.Mix
-- ==== Proof.Mix.Entries.lean ====
module

public import proofs.«01_k».proof.Proof.Mix.Model
public import proofs.«01_k».proof.Kernel16Ideal

@[expose] public section

noncomputable section

namespace Cert.Mix

open Idealize.ShloMosaic

/-! # The arguments as a model -/

/-- An array's entries at natural indices, and zero outside it. -/
def at1 {n : ℕ} (X : Fin n → EReal) (l : ℕ) : EReal := if h : l < n then X ⟨l, h⟩ else 0
def at2 {n k : ℕ} (X : Fin n → Fin k → EReal) (r l : ℕ) : EReal := if h : r < n ∧ l < k then X ⟨r, h.1⟩ ⟨l, h.2⟩ else 0

theorem at1_eq {n : ℕ} (X : Fin n → EReal) (l : Fin n) : X l = at1 X l := by
  rw [at1, dif_pos l.isLt]
theorem at2_eq {n k : ℕ} (X : Fin n → Fin k → EReal) (r : Fin n) (l : Fin k) : X r l = at2 X r l := by
  rw [at2, dif_pos ⟨r.isLt, l.isLt⟩]

variable (P : FVec Ideal Cert.Kernel16Ideal.S8x4096x512 .bf16) (Y : FVec Ideal Cert.Kernel16Ideal.S4096x512 .bf16)
  (W : FVec Ideal Cert.Kernel16Ideal.S3x512 .f32) (B : FVec Ideal Cert.Kernel16Ideal.S512 .f32) (G : FVec Ideal Cert.Kernel16Ideal.S1024 .f32)

/-- The model the five argument arrays give. -/
def model : Model where
  p0 := at2 fun (r : Fin 4096) (l : Fin 512) => P (ix3 0 r l)
  p1 := at2 fun (r : Fin 4096) (l : Fin 512) => P (ix3 1 r l)
  p2 := at2 fun (r : Fin 4096) (l : Fin 512) => P (ix3 2 r l)
  p3 := at2 fun (r : Fin 4096) (l : Fin 512) => P (ix3 3 r l)
  az := at2 fun (r : Fin 4096) (l : Fin 512) => P (ix3 7 r l)
  ya := at2 fun (r : Fin 4096) (l : Fin 512) => Y (ix2 r l)
  w := at2 fun (j : Fin 3) (l : Fin 512) => W (ix2 j l)
  b := at1 fun (l : Fin 512) => B (ix1 l)
  g := at1 fun (l : Fin 1024) => G (ix1 l)

theorem p0_at (r : Fin 4096) (l : Fin 512) : P (ix3 0 r l) = (model P Y W B G).p0 r l := at2_eq (fun r l => P (ix3 0 r l)) r l
theorem p1_at (r : Fin 4096) (l : Fin 512) : P (ix3 1 r l) = (model P Y W B G).p1 r l := at2_eq (fun r l => P (ix3 1 r l)) r l
theorem p2_at (r : Fin 4096) (l : Fin 512) : P (ix3 2 r l) = (model P Y W B G).p2 r l := at2_eq (fun r l => P (ix3 2 r l)) r l
theorem p3_at (r : Fin 4096) (l : Fin 512) : P (ix3 3 r l) = (model P Y W B G).p3 r l := at2_eq (fun r l => P (ix3 3 r l)) r l
theorem az_at (r : Fin 4096) (l : Fin 512) : P (ix3 7 r l) = (model P Y W B G).az r l := at2_eq (fun r l => P (ix3 7 r l)) r l
theorem ya_at (r : Fin 4096) (l : Fin 512) : Y (ix2 r l) = (model P Y W B G).ya r l := at2_eq (fun r l => Y (ix2 r l)) r l
theorem w_at (j : Fin 3) (l : Fin 512) : W (ix2 j l) = (model P Y W B G).w j l := at2_eq (fun j l => W (ix2 j l)) j l
theorem b_at (l : Fin 512) : B (ix1 l) = (model P Y W B G).b l := at1_eq (fun l => B (ix1 l)) l
theorem g_at (l : Fin 1024) : G (ix1 l) = (model P Y W B G).g l := at1_eq (fun l => G (ix1 l)) l

/-! ## The two halves side by side -/

/-- What the norm is taken of, and the gate, over all 1024 lanes. -/
def _root_.Cert.Mix.Model.ys (M : Model) (r l : ℕ) : EReal := if l < 512 then M.yv r l else M.ya r (l - 512)
def _root_.Cert.Mix.Model.zs (M : Model) (r l : ℕ) : EReal := if l < 512 then M.p3 r l else M.az r (l - 512)

/-- No group of lanes lies in both halves, so the norm of the whole is the norms of the halves. -/
theorem gated_out (M : Model) (r l : ℕ) : gated (M.ys r) (M.zs r) M.g l = M.out r l := by
  unfold Model.out
  by_cases hl : l < 512
  · rw [if_pos hl]
    have e : mean (fun l => M.ys r l * M.ys r l) l = mean (fun l => M.yv r l * M.yv r l) l :=
      congrArg (fun s : EReal => s * _) (Finset.sum_congr rfl fun k _ => by
        show M.ys r _ * M.ys r _ = _
        rw [Model.ys, if_pos (by omega)])
    unfold gated Model.conv gated
    rw [e, Model.ys, Model.zs, if_pos hl, if_pos hl]
  · rw [if_neg hl]
    have e : mean (fun l => M.ys r l * M.ys r l) l = mean (fun l => M.ya r l * M.ya r l) (l - 512) :=
      congrArg (fun s : EReal => s * _) (Finset.sum_congr rfl fun k _ => by
        show M.ys r _ * M.ys r _ = _
        rw [Model.ys, if_neg (by omega), show 64 * (l / 64) + (k : ℕ) - 512 = 64 * ((l - 512) / 64) + k by omega])
    unfold gated Model.attn gated
    rw [e, Model.ys, Model.zs, if_neg hl, if_neg hl]
    show _ = _ * M.g (512 + (l - 512)) * _
    rw [show 512 + (l - 512) = l by omega]

end Cert.Mix
-- ==== Proof.Mix.Value.lean ====
module

public import proofs.«01_k».proof.Proof.Mix.TileValue
public import proofs.«01_k».proof.Proof.Mix.Entries
public import Idealize.ShloMosaic.Lib.Pipeline.ValueKit

@[expose] public section

set_option maxRecDepth 16384

noncomputable section

namespace Cert.Kernel16Ideal.Mix

open Idealize.ShloMosaic Idealize.ShloMosaic.TcCoe Idealize.ShloMosaic.Tactic
open Idealize.SL Idealize.SL.Sem
open Idealize.ShloMosaic.Pipeline (Dat Cfg Window)
open Cert.Kernel16Ideal.Gen Cert.Mix

/-! # The result array -/

variable (m : (ℓ : Loc nD τ sig) → Buf (Elt Ideal) ℓ)

/-- The blocks of the first four points, of the last four, and those counted alike at all eight. -/
theorem idxA : ∀ t : Fin cfg0.N, t.val < 4 →
    win0_0.index t = ![0, 0, t.val] ∧ win0_1.index t = ![1, 0, t.val] ∧ win0_2.index t = ![2, 0, t.val] ∧ win0_3.index t = ![3, 0, t.val]
      ∧ win0_6.index t = ![0, t.val] ∧ win0_7.index t = ![0, t.val] :=
  (by decide +kernel : ∀ t : Fin grid0.N, t.val < 4 → _)
theorem idxB : ∀ t : Fin cfg0.N, 4 ≤ t.val → win0_4.index t = ![0, t.val - 4] ∧ win0_5.index t = ![7, 0, t.val - 4] :=
  (by decide +kernel : ∀ t : Fin grid0.N, 4 ≤ t.val → _)
theorem idx : ∀ t : Fin cfg0.N, win0_8.index t = ![0, t.val] ∧ win0_9.index t = ![0, t.val] :=
  (by decide +kernel : ∀ t : Fin grid0.N, _)

variable (c : Dev nD)

theorem V_bias : V m c main_v0 = shapeCast S1x512 (m ((c : Thread nD τ).loc main_arg3)) shapeCasts_S512_S1x512 := by
  simp only [V, hostOps0, List.flatten_cons, List.flatten_nil, List.append_nil, List.cons_append, List.nil_append]
  after_results
  rfl
theorem V_gain : V m c main_v1 = shapeCast S1x1024 (m ((c : Thread nD τ).loc main_arg4)) shapeCasts_S1024_S1x1024 := by
  simp only [V, hostOps0, List.flatten_cons, List.flatten_nil, List.append_nil, List.cons_append, List.nil_append]
  after_results
  rfl

abbrev A0 : FVec Ideal S8x4096x512 .bf16 := m ((c : Thread nD τ).loc main_arg0)
abbrev A1 : FVec Ideal S4096x512 .bf16 := m ((c : Thread nD τ).loc main_arg1)
abbrev A2 : FVec Ideal S3x512 .f32 := m ((c : Thread nD τ).loc main_arg2)
abbrev A3 : FVec Ideal S512 .f32 := m ((c : Thread nD τ).loc main_arg3)
abbrev A4 : FVec Ideal S1024 .f32 := m ((c : Thread nD τ).loc main_arg4)
/-- The model the device's arguments give. -/
abbrev modelOf : Model := model (A0 m c) (A1 m c) (A2 m c) (A3 m c) (A4 m c)

variable (t : Fin cfg0.N)

/-- The gain's block at point `t`. -/
theorem gain_at (l : Fin 128) : iblk m c 8 t (ix2 0 l) = (modelOf m c).g (128 * t.val + l) := by
  have ht : t.val < 8 := t.isLt
  refine Eq.trans (show _ = _ from ?_) (g_at (A0 m c) (A1 m c) (A2 m c) (A3 m c) (A4 m c) ⟨128 * t.val + l, by omega⟩)
  show V m c main_v1 (((cfg0.win 8).blk t).view.emb (ix2 0 l)) = _
  rw [V_gain, show ((cfg0.win 8).blk t).view.emb (ix2 0 l) = ix2 (0 : Fin 1) (⟨128 * t.val + l, by omega⟩ : Fin 1024) by blk_ext [idx t]]
  pointwise

/-- The first four points' blocks are the model with its lanes counted from `128 t`. -/
theorem reads (ht : t.val < 4) : Reads (iblk m c 0 t) (iblk m c 1 t) (iblk m c 2 t) (iblk m c 3 t) (iblk m c 6 t) (iblk m c 7 t) (iblk m c 8 t)
    ((modelOf m c).shift (128 * t.val)) where
  p0 r l := by
    refine Eq.trans (show _ = _ from ?_) (p0_at (A0 m c) (A1 m c) (A2 m c) (A3 m c) (A4 m c) r ⟨128 * t.val + l, by omega⟩)
    refine Eq.trans ?_ (congrFun (V_main_arg0 m c) _)
    blk_ext [iblk, V, idxA t ht]
  p1 r l := by
    refine Eq.trans (show _ = _ from ?_) (p1_at (A0 m c) (A1 m c) (A2 m c) (A3 m c) (A4 m c) r ⟨128 * t.val + l, by omega⟩)
    refine Eq.trans ?_ (congrFun (V_main_arg0 m c) _)
    blk_ext [iblk, V, idxA t ht]
  p2 r l := by
    refine Eq.trans (show _ = _ from ?_) (p2_at (A0 m c) (A1 m c) (A2 m c) (A3 m c) (A4 m c) r ⟨128 * t.val + l, by omega⟩)
    refine Eq.trans ?_ (congrFun (V_main_arg0 m c) _)
    blk_ext [iblk, V, idxA t ht]
  p3 r l := by
    refine Eq.trans (show _ = _ from ?_) (p3_at (A0 m c) (A1 m c) (A2 m c) (A3 m c) (A4 m c) r ⟨128 * t.val + l, by omega⟩)
    refine Eq.trans ?_ (congrFun (V_main_arg0 m c) _)
    blk_ext [iblk, V, idxA t ht]
  w j l := by
    refine Eq.trans (show _ = _ from ?_) (w_at (A0 m c) (A1 m c) (A2 m c) (A3 m c) (A4 m c) j ⟨128 * t.val + l, by omega⟩)
    refine Eq.trans ?_ (congrFun (V_main_arg2 m c) _)
    blk_ext [iblk, V, idxA t ht]
  b l := by
    refine Eq.trans (show _ = _ from ?_) (b_at (A0 m c) (A1 m c) (A2 m c) (A3 m c) (A4 m c) ⟨128 * t.val + l, by omega⟩)
    show V m c main_v0 (((cfg0.win 7).blk t).view.emb (ix2 0 l)) = _
    rw [V_bias, show ((cfg0.win 7).blk t).view.emb (ix2 0 l) = ix2 (0 : Fin 1) (⟨128 * t.val + l, by omega⟩ : Fin 512) by blk_ext [idxA t ht]]
    pointwise
  g l := gain_at m c t l

theorem ya_block (ht : 4 ≤ t.val) (r : Fin 4096) (l : Fin 128) : iblk m c 4 t (ix2 r l) = (modelOf m c).ya r (128 * (t.val - 4) + l) := by
  have h8 : t.val < 8 := t.isLt
  refine Eq.trans (show _ = _ from ?_) (ya_at (A0 m c) (A1 m c) (A2 m c) (A3 m c) (A4 m c) r ⟨128 * (t.val - 4) + l, by omega⟩)
  refine Eq.trans ?_ (congrFun (V_main_arg1 m c) _)
  blk_ext [iblk, V, idxB t ht]
theorem az_block (ht : 4 ≤ t.val) (r : Fin 4096) (l : Fin 128) : iblk m c 5 t (ix3 0 r l) = (modelOf m c).az r (128 * (t.val - 4) + l) := by
  have h8 : t.val < 8 := t.isLt
  refine Eq.trans (show _ = _ from ?_) (az_at (A0 m c) (A1 m c) (A2 m c) (A3 m c) (A4 m c) r ⟨128 * (t.val - 4) + l, by omega⟩)
  refine Eq.trans ?_ (congrFun (V_main_arg0 m c) _)
  blk_ext [iblk, V, idxB t ht]

theorem final : (dats m 0 c).arrAt 9 cfg0.N = (fun i => (modelOf m c).out (i 0) (i 1) : S4096x1024.Idx → EReal) := by
  refine (dats m 0 c).arrAt_eq_of_covers 9 _ (by decide +kernel) fun t _ y => ?_
  obtain ⟨a, b, rfl⟩ : ∃ (a : Fin 4096) (b : Fin 128), y = ix2 a b := ⟨y 0, y 1, by ext k; fin_cases k <;> rfl⟩
  have h8 : t.val < 8 := t.isLt
  rw [show ((cfg0.win 9).blk t).view.emb (ix2 a b) = ix2 a (⟨128 * t.val + b, by omega⟩ : Fin 1024) by blk_ext [idx t]]
  blk_simp
  rw [after0_9]
  by_cases ht : t.val < 4
  · rw [outsAt0_A m c t ht (by omega), outA]
    refine (outA_at _ _ (reads m c t ht) a b).trans ?_
    rw [Model.conv_shift]
    show _ = (modelOf m c).out a (128 * t.val + b)
    rw [Model.out, if_pos (by omega)]
  · rw [outsAt0_B m c t ht (by omega), outB]
    refine (outB_at _ _ (y := fun r l => (modelOf m c).ya r (128 * (t.val - 4) + l)) (z := fun r l => (modelOf m c).az r (128 * (t.val - 4) + l))
      (gn := fun l => (modelOf m c).g (512 + (128 * (t.val - 4) + l))) (ya_block m c t (by omega)) (az_block m c t (by omega))
      (fun l => (gain_at m c t l).trans (congrArg (modelOf m c).g (by omega))) a b).trans ?_
    refine (gated_shift ((modelOf m c).ya a) ((modelOf m c).az a) (fun l => (modelOf m c).g (512 + l)) (t.val - 4) b).trans ?_
    show _ = (modelOf m c).out a (128 * t.val + b)
    rw [Model.out, if_neg (by omega), show 128 * t.val + (b : ℕ) - 512 = 128 * (t.val - 4) + b by omega]
    rfl

end Cert.Kernel16Ideal.Mix
-- ==== Proof.Mix.RefValue.lean ====
module

public import proofs.«01_k».proof.Proof.Gen.Reference16Ideal.Read
public import proofs.«01_k».proof.Proof.Gen.Reference16Ideal.Run
public import proofs.«01_k».proof.Proof.Mix.Entries
public import proofs.«01_k».proof.Proof.Conv.RefValue

@[expose] public section

noncomputable section

namespace Cert.Reference16Ideal.Mix

open Idealize.ShloMosaic Idealize.ShloMosaic.TcCoe Idealize.SL.Sem
open Cert.Mix Cert.Reference16Ideal Cert.Reference16Ideal.Read
open Cert.ReferenceIdeal.Conv (sixty_four)

/-! # What the reference computes, as functions of the model -/

variable (P : FVec Ideal S8x4096x512 .bf16) (Y : FVec Ideal S4096x512 .bf16)
  (W : FVec Ideal S3x512 .f32) (B : FVec Ideal S512 .f32) (G : FVec Ideal S1024 .f32)

theorem prod_at (r : Fin 4096) (l : Fin 512) : val_main_v15 (F := Ideal) P (ix2 r l) = (model P Y W B G).u r l := by
  pointwise [val_main_v15, val_main_v5, val_main_v4, val_main_v3, val_main_v8, val_main_v7, val_main_v6]
  exact congrArg₂ (fun a b : EReal => a * b) (p1_at P Y W B G r l) (p2_at P Y W B G r l)

/-- The product with two rows of zeros in front, and its three windows of rows. -/
theorem ext_at (r : Fin 4098) (l : Fin 512) : val_main_v17 (F := Ideal) P (ix2 r l)
    = if (r : ℕ) < 2 then 0 else (model P Y W B G).u (r - 2) l := by
  unfold val_main_v17 val_main_v16 val_main_cst
  pointwise
  split
  · rfl
  · exact prod_at P Y W B G _ l
theorem back2_at (r : Fin 4096) (l : Fin 512) : val_main_v18 (F := Ideal) P (ix2 r l) = (model P Y W B G).sh r l 2 := by
  unfold val_main_v18
  pointwise
  refine (ext_at P Y W B G _ l).trans ?_
  unfold Model.sh
  by_cases hr : (r : ℕ) < 2
  · rw [if_pos hr, if_neg (by omega)]
  · rw [if_neg hr, if_pos (by omega)]
theorem back1_at (r : Fin 4096) (l : Fin 512) : val_main_v27 (F := Ideal) P (ix2 r l) = (model P Y W B G).sh r l 1 := by
  unfold val_main_v27
  pointwise
  refine (ext_at P Y W B G _ l).trans ?_
  unfold Model.sh
  by_cases hr : (r : ℕ) < 1
  · rw [if_pos (show 1 + (r : ℕ) < 2 by omega), if_neg (by omega)]
  · rw [if_neg (show ¬ 1 + (r : ℕ) < 2 by omega), if_pos (by omega), show 1 + (r : ℕ) - 2 = r - 1 by omega]
theorem back0_at (r : Fin 4096) (l : Fin 512) : val_main_v34 (F := Ideal) P (ix2 r l) = (model P Y W B G).u r l := by
  unfold val_main_v34
  pointwise
  refine (ext_at P Y W B G _ l).trans ?_
  rw [if_neg (show ¬ 2 + (r : ℕ) < 2 by omega), show 2 + (r : ℕ) - 2 = r by omega]

/-- The convolution's result with its gate, beside the attention's. -/
theorem y_at (r : Fin 4096) (l : Fin 512) : val_main_v41 (F := Ideal) P W B (ix2 r l) = (model P Y W B G).yv r l := by
  unfold val_main_v41 val_main_v40 val_main_v33 val_main_v26 val_main_v39 val_main_v32 val_main_v23 val_main_v25 val_main_v24 val_main_v22 val_main_v21
    val_main_v20 val_main_v19 val_main_v31 val_main_v30 val_main_v29 val_main_v28 val_main_v38 val_main_v37 val_main_v36 val_main_v35
    val_main_v2 val_main_v1 val_main_v0
  pointwise
  rw [back2_at P Y W B G, back1_at P Y W B G, back0_at P Y W B G]
  exact congrArg₂ (fun a b : EReal => a * b) (p0_at P Y W B G r l)
    (congrArg₂ (fun a b : EReal => a + b) (congrArg₂ (fun a b : EReal => a + b) (congrArg₂ (fun a b : EReal => a + b)
      (b_at P Y W B G l) (congrArg (fun a : EReal => _ * a) (w_at P Y W B G 0 l))) (congrArg (fun a : EReal => _ * a) (w_at P Y W B G 1 l)))
      (congrArg (fun a : EReal => _ * a) (w_at P Y W B G 2 l)))
theorem ys_at (r : Fin 4096) (l : Fin 1024) : val_main_v43 (F := Ideal) P Y W B (ix2 r l) = (model P Y W B G).ys r l := by
  unfold val_main_v43 val_main_v42
  pointwise
  unfold Model.ys
  split
  · exact y_at P Y W B G r _
  · exact ya_at P Y W B G r _
theorem zs_at (r : Fin 4096) (l : Fin 1024) : val_main_v59 (F := Ideal) P (ix2 r l) = (model P Y W B G).zs r l := by
  unfold val_main_v59
  pointwise [val_main_v11, val_main_v10, val_main_v9, val_main_v14, val_main_v13, val_main_v12]
  unfold Model.zs
  split
  · exact p3_at P Y W B G r _
  · exact az_at P Y W B G r _

/-- The mean square of lane `l`'s group with the small number. -/
theorem ms_at (r : Fin 4096) (a : Fin 16) (l : ℕ) (hl : l / 64 = a) : val_main_v51 (F := Ideal) P Y W B (ix3 r a 0)
    = mean (fun l => (model P Y W B G).ys r l * (model P Y W B G).ys r l) l + Ideal.ofBits .f32 0x358637BD#32 := by
  unfold val_main_v51 val_main_v49 val_main_v47 val_main_v46 val_main_v45 val_main_v44 val_main_v50 val_main_v48 val_main_cst_0 val_main_cst_1 val_main_cst_2
  pointwise
  rw [sixty_four, Ideal.div_coe (by norm_num : (64 : ℝ) ≠ 0)]
  refine congrArg (fun a : EReal => a * _ + _) (Finset.sum_congr rfl fun k _ => ?_)
  refine (congrArg₂ (fun a b : EReal => a * b) (ys_at P Y W B G r _) (ys_at P Y W B G r _)).trans ?_
  rw [hl, mul_comm 64]

theorem out_at (r : Fin 4096) (l : Fin 1024) : val_main_v62 (F := Ideal) P Y W B G (ix2 r l) = (model P Y W B G).out r l := by
  rw [← gated_out]
  unfold val_main_v62 val_main_v61 val_main_v58 val_main_v57 val_main_v56 val_main_v55 val_main_v54 val_main_v53 val_main_v52 val_main_v44
    val_main_v60 val_main_call0_v5 val_main_call0_v4 val_main_call0_v3 val_main_call0_v2 val_main_call0_v1 val_main_call0_v0
    val_main_call0_cst val_main_call0_cst_0
  pointwise
  rw [ys_at P Y W B G, zs_at P Y W B G]
  exact congrArg₂ (fun a b : EReal => a * b) (congrArg₂ (fun a b : EReal => a * b)
    (congrArg (fun s : EReal => _ * Ideal.rsqrt s) (ms_at P Y W B G r ⟨l / 64, by omega⟩ l rfl)) (g_at P Y W B G l)) rfl

/-- The reference's result is the model's output. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v62) = (fun i => (model (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))).out (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2⟩) (Value.run m ρ)
  refine (val_main_v62_eq m c).trans ?_
  funext i
  obtain ⟨a, b, rfl⟩ : ∃ (a : Fin 4096) (b : Fin 1024), i = ix2 a b := ⟨i 0, i 1, by ext k; fin_cases k <;> rfl⟩
  exact out_at _ _ _ _ _ a b

end Cert.Reference16Ideal.Mix
-- ==== Proof.Mix.Claims.lean ====
module

public import proofs.«01_k».proof.Defs
public import proofs.«01_k».proof.Proof.Gen.Kernel16.Frame
public import proofs.«01_k».proof.Proof.Mix.Value
public import proofs.«01_k».proof.Proof.Mix.RefValue
public import Idealize.ShloMosaic.Lib.Claim
public import Idealize.ShloMosaic.Adequacy
public import Idealize.ShloMosaic.Init

@[expose] public section

set_option maxRecDepth 16384

noncomputable section

namespace Cert.Proof.Calls

open Idealize.ShloMosaic Idealize.ShloMosaic.TcCoe Idealize.SL.Sem

attribute [local instance] Cert.Kernel16.Gen.facts Cert.Kernel16Ideal.Gen.facts Cert.Reference16Ideal.Gen.facts

/-! The mixer's gated convolution, group norm and gates. -/

theorem frame_kernel16 : Cert.quiescent_Kernel16 := fun m ρ _ => Cert.Kernel16.Gen.frame m ρ
theorem frame_ideal16 : Cert.quiescent_Kernel16Ideal := fun m ρ _ => Cert.Kernel16Ideal.Gen.frame m ρ
theorem frame_ref16 : Cert.quiescent_Reference16Ideal := fun m ρ _ =>
  (θ_run Cert.Reference16Ideal.defs _ _).mono (fun _ h => ⟨fun c => (h c).2, sem_eq_zero_of_no_sems (by decide) _⟩) (Cert.Reference16Ideal.Value.run (F := Ideal) m ρ)
theorem algebraic16 : Cert.algebraic_Kernel16Ideal_Reference16Ideal := by
  intro m g m' g' _ hagree
  refine ⟨fun c i => (Cert.Kernel16Ideal.Mix.modelOf m c).out (i 0) (i 1),
    (θ_run Cert.Kernel16Ideal.defs _ _).mono (fun r h c => ⟨(h c).1.trans (Cert.Kernel16Ideal.Mix.final m c), (h c).2⟩) (Cert.Kernel16Ideal.Value.run_blocks m g),
    (θ_run Cert.Reference16Ideal.defs _ _).mono (fun r h c => ⟨(h c).1.trans ?_, (h c).2⟩) (Cert.Reference16Ideal.Mix.run m' g')⟩
  obtain ⟨e0, e1, e2, e3, e4⟩ := hagree c
  simp only [e0, e1, e2, e3, e4]
  rfl

end Cert.Proof.Calls

end
-- ==== Proof.Layer.InprojBwd.lean ====
module

public import proofs.«01_k».proof.Proof.Gen.Kernel17Ideal.Frame
public import proofs.«01_k».proof.Proof.InprojBwd.Value
public import proofs.«01_k».proof.Proof.Shared.Layer
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel17Ideal.InprojBwd

open Idealize.ShloMosaic Idealize.ShloMosaic.TcCoe Idealize.ShloMosaic.Tactic
open Idealize.SL Idealize.SL.Sem
open Idealize.ShloMosaic.Pipeline (Dat Cfg Window)
open Cert.Kernel17Ideal.Gen Cert.InprojBwd Cert.Shared
open Cert.Kernel2Ideal.InprojBwd (sect sect_at)

theorem dx_at (d x : Vec Ideal S512x1024 .f32) (g : Vec Ideal S1x1024 .f32) (r : Vec Ideal S512x1024 .f32) (a : Fin 512) (b : Fin 1024) :
    k0_pay3 d x (k0_pay8 g) (k0_pay9 x) r (ix2 a b)
      = r (ix2 a b) + back (fun k => x (ix2 a k)) (fun k => d (ix2 a k) * g (ix2 0 k)) b :=
  Cert.Kernel2Ideal.InprojBwd.dx_at d x g r a b
theorem dg_at (d x : Vec Ideal S512x1024 .f32) (o : Vec Ideal S8x1024 .f32) (a : Fin 8) (b : Fin 1024) :
    k0_pay4 d x (k0_pay9 x) o (ix2 a b)
      = o (ix2 a b) + ∑ q : Fin 64, d (ix2 (⟨q.val * 8 + a.val, by omega⟩ : Fin 512) b)
          * (x (ix2 (⟨q.val * 8 + a.val, by omega⟩ : Fin 512) b) * scaleOf fun k => x (ix2 (⟨q.val * 8 + a.val, by omega⟩ : Fin 512) k)) :=
  Cert.Kernel2Ideal.InprojBwd.dg_at d x o a b

variable (m : (ℓ : Loc nD τ sig) → Buf (Elt Ideal) ℓ)

theorem idx : ∀ t : Fin cfg0.N,
    win0_0.index t = ![0, t.val, 0] ∧ win0_1.index t = ![1, 0, 0] ∧ win0_2.index t = ![t.val, 0]
      ∧ win0_3.index t = ![0, 0] ∧ win0_4.index t = ![t.val, 0] ∧ win0_5.index t = ![t.val, 0] ∧ win0_6.index t = ![0, 0] :=
  (by decide +kernel : ∀ t : Fin grid0.N, _)
theorem last : ∀ t : Fin cfg0.N, (cfg0.win 6).flush t = true → t.val = 7 :=
  (by decide +kernel : ∀ t : Fin grid0.N, _)

variable (c : Dev nD)

/-- The five arguments, the weights with their layers in the other order. -/
abbrev dpA := m ((c : Thread nD τ).loc main_arg0)
abbrev wA := other (m ((c : Thread nD τ).loc main_arg1))
abbrev xA := m ((c : Thread nD τ).loc main_arg2)
abbrev gA := m ((c : Thread nD τ).loc main_arg3)
abbrev dx1A := m ((c : Thread nD τ).loc main_arg4)

theorem gain : V m c main_v0 = shapeCast S1x1024 (gA m c) shapeCasts_S1024_S1x1024 := by
  simp only [V, V0, hostOps0, List.flatten_cons, List.flatten_nil, List.append_nil, List.cons_append, List.nil_append]
  after_results
  rfl

/-- Row `a` of tile `t`. -/
abbrev at' (t : Fin cfg0.N) (a : Fin 512) : Fin 4096 := ⟨512 * t.val + a.val, by have : t.val < 8 := t.isLt; omega⟩

theorem rd0 (t : Fin cfg0.N) (s : Fin 8) (a k : Fin 512) : iblk m c 0 t (ix3 s a k) = dpA m c (ix3 s (at' t a) k) := by
  refine Eq.trans ?_ (congrFun (V_main_arg0 m c) _)
  blk_ext [iblk, V, idx t]
theorem rd1 (t : Fin cfg0.N) (b : Fin 1024) (k : Fin 4096) : iblk m c 1 t (ix3 0 b k) = wA m c (ix3 0 b k) := by
  show _ = m ((c : Thread nD τ).loc main_arg1) (ix3 1 b k)
  refine Eq.trans ?_ (congrFun (V_main_arg1 m c) _)
  blk_ext [iblk, V, idx t]
theorem rd2 (t : Fin cfg0.N) (a : Fin 512) (b : Fin 1024) : iblk m c 2 t (ix2 a b) = row (xA m c) (at' t a) b := by
  refine Eq.trans ?_ (congrFun (V_main_arg2 m c) _)
  blk_ext [iblk, V, idx t]
theorem rd3 (t : Fin cfg0.N) (b : Fin 1024) : iblk m c 3 t (ix2 0 b) = gA m c (ix1 b) := by
  show V m c main_v0 (((cfg0.win 3).blk t).view.emb (ix2 0 b)) = _
  rw [gain, show ((cfg0.win 3).blk t).view.emb (ix2 0 b) = ix2 (0 : Fin 1) b by blk_ext [idx t]]
  pointwise
theorem rd4 (t : Fin cfg0.N) (a : Fin 512) (b : Fin 1024) : iblk m c 4 t (ix2 a b) = dx1A m c (ix2 (at' t a) b) := by
  refine Eq.trans ?_ (congrFun (V_main_arg4 m c) _)
  blk_ext [iblk, V, idx t]

/-- A tile's gradient of the normed rows. -/
abbrev dhT (t : Fin cfg0.N) : FVec Ideal S512x1024 .f32 := sect (iblk m c 0 t) (iblk m c 1 t)

theorem sect_tile (t : Fin cfg0.N) (a : Fin 512) (b : Fin 1024) : dhT m c t (ix2 a b) = dh (dpA m c) (wA m c) (at' t a) b := by
  refine (sect_at _ _ a b).trans ?_
  simp only [rd0, rd1]
  exact sections (dpA m c) (wA m c) (at' t a) b

theorem dx_tile (t : Fin cfg0.N) (a : Fin 512) (b : Fin 1024) :
    k0_pay3 (dhT m c t) (iblk m c 2 t) (k0_pay8 (iblk m c 3 t)) (k0_pay9 (iblk m c 2 t)) (iblk m c 4 t) (ix2 a b)
      = dx (dpA m c) (wA m c) (xA m c) (gA m c) (dx1A m c) (ix2 (at' t a) b) := by
  rw [dx_at]
  simp only [sect_tile, rd2, rd3, rd4]
  rfl

theorem final5 : (dats m 0 c).arrAt 5 cfg0.N = dx (dpA m c) (wA m c) (xA m c) (gA m c) (dx1A m c) := by
  refine (dats m 0 c).arrAt_eq_of_covers 5 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 5).blk t).view.emb (ix2 a b) = ix2 (at' t a) b by blk_ext [idx t]]
  blk_simp
  rw [after0_5]
  by_cases h : t.val % 8 = 0
  · rw [outsAt0_A m c t h]
    frame_out
    exact dx_tile m c t a b
  · rw [outsAt0_B m c t h]
    frame_out
    exact dx_tile m c t a b

/-- A tile's share of the gain's gradient: its rows eight apart. -/
def tile (a : Fin 8) (b : Fin 1024) (s : Fin 8) : EReal :=
  ∑ q : Fin 64, share (dpA m c) (wA m c) (xA m c) b ⟨512 * s.val + (q.val * 8 + a.val), by omega⟩

theorem dg_tile (t : Fin cfg0.N) (o : Vec Ideal S8x1024 .f32) (a : Fin 8) (b : Fin 1024) :
    k0_pay4 (dhT m c t) (iblk m c 2 t) (k0_pay9 (iblk m c 2 t)) o (ix2 a b) = o (ix2 a b) + tile m c a b ⟨t.val, t.isLt⟩ := by
  rw [dg_at]
  simp only [sect_tile, rd2]
  rfl

theorem acc (a : Fin 8) (b : Fin 1024) (n : ℕ) (hn : n < cfg0.N) :
    (outsAt0 m c n hn).2 (ix2 a b) = ∑ s : Fin (n + 1), tile m c a b ⟨s.val, lt_of_lt_of_le s.isLt hn⟩ := by
  refine running_sum (N := 8) (fun n hn => (outsAt0 m c n hn).2 (ix2 a b)) (tile m c a b) (fun h => ?_) (fun n h => ?_) n hn
  · have e := outsAt0_A m c ⟨0, h⟩ rfl
    dsimp only at e ⊢
    rw [e]
    frame_out
    refine (dg_tile m c ⟨0, h⟩ _ a b).trans ?_
    rw [show (k0_pay5 (F := Ideal)) (ix2 a b) = 0 by unfold k0_pay5; pointwise, zero_add]
  · have e := outsAt0_B m c ⟨n + 1, h⟩ (by show ¬ (n + 1) % 8 = 0; omega)
    dsimp only at e ⊢
    rw [e]
    frame_out
    exact dg_tile m c ⟨n + 1, h⟩ _ a b

theorem final6 : ((dats m 0 c).arrAt 6 cfg0.N : S8x1024.Idx → EReal) = fun i => (∑ s : Fin 8, tile m c (i 0) (i 1) s : EReal) := by
  refine (dats m 0 c).arrAt_eq_of_covers 6 _ (by decide +kernel) fun t hf y => ?_
  obtain ⟨a, b, rfl⟩ : ∃ (a : Fin 8) (b : Fin 1024), y = ix2 a b := ⟨y 0, y 1, by ext k; fin_cases k <;> rfl⟩
  have ht : t.val = 7 := last t hf
  rw [show ((cfg0.win 6).blk t).view.emb (ix2 a b) = ix2 a b by blk_ext [idx t]]
  blk_simp
  rw [after0_6]
  refine (acc m c a b t.val t.isLt).trans ?_
  obtain ⟨n, hn⟩ := t
  obtain rfl : n = 7 := ht
  rfl

/-- The host's sum of the eight rows is the gain's gradient. -/
theorem host6 : Pipeline.afterTail₀ cfgs (dats m) 0 (V0 m) [hostOps1] c main_v2 = dg (dpA m c) (wA m c) (xA m c) := by
  have e : Pipeline.afterTail₀ cfgs (dats m) 0 (V0 m) [hostOps1] c main_v2
      = Host.reduceAdd ((dats m 0 c).arrAt 6 (cfgs 0).N) (constant (F := Ideal) S_ .f32 0x00000000#32) reducesTo_S8x1024_S1024_d0 h_S_ := by
    unfold Pipeline.afterTail₀
    simp only [hostOps1, List.flatten_cons, List.flatten_nil, List.append_nil, List.cons_append, List.nil_append]
    after_results
    exact congrArg (fun A => Host.reduceAdd A (constant (F := Ideal) S_ .f32 0x00000000#32) reducesTo_S8x1024_S1024_d0 h_S_)
      (Pipeline.withArrays_arr cfg0.spec (by decide) c (V0 m c) (fun w => (dats m 0 c).arrAt w cfg0.N) 6)
  funext i
  obtain ⟨b, rfl⟩ : ∃ b : Fin 1024, i = ix1 b := ⟨i 0, by ext k; fin_cases k; rfl⟩
  rw [e, show (dats m 0 c).arrAt 6 (cfgs 0).N = _ from final6 m c]
  pointwise
  exact by_eights fun k => share (dpA m c) (wA m c) (xA m c) b k

end Cert.Kernel17Ideal.InprojBwd
end
-- ==== Proof.Layer.InprojBwdRef.lean ====
module

public import proofs.«01_k».proof.Proof.Gen.Reference17Ideal.Run
public import proofs.«01_k».proof.Proof.Gen.Reference17Ideal.Read
public import proofs.«01_k».proof.Proof.InprojBwd.RefValue
public import proofs.«01_k».proof.Proof.Shared.Layer
public import Idealize.ShloMosaic.Lib.Pointwise

@[expose] public section

set_option maxRecDepth 16384

noncomputable section

namespace Cert.Reference17Ideal.InprojBwd

open Idealize.ShloMosaic Idealize.ShloMosaic.TcCoe Idealize.ShloMosaic.Tactic
open Idealize.SL Idealize.SL.Sem
open Cert.InprojBwd Cert.Shared
open Cert.Reference17Ideal.Read

variable (dp : FVec Ideal S8x4096x512 .bf16) (w : FVec Ideal S2x1024x4096 .bf16) (x : FVec Ideal S4096x1024 .f32)
  (g : FVec Ideal S1024 .f32) (dx1 : FVec Ideal S4096x1024 .f32)

/-- The second layer's weights are the first of the two in the other order. -/
theorem layer : val_main_v16 (F := Ideal) w = Cert.Reference2Ideal.Read.val_main_v16 (F := Ideal) (other w) := by
  funext i
  obtain ⟨s, a, b, rfl⟩ : ∃ (s : Fin 1) (a : Fin 1024) (b : Fin 4096), i = ix3 s a b := ⟨i 0, i 1, i 2, by ext k; fin_cases k <;> rfl⟩
  obtain rfl : s = 0 := Subsingleton.elim _ _
  unfold val_main_v16 Cert.Reference2Ideal.Read.val_main_v16
  pointwise
  rfl

theorem dh_eq : val_main_v46 (F := Ideal) dp w = Cert.Reference2Ideal.Read.val_main_v46 (F := Ideal) dp (other w) := by
  unfold val_main_v46 val_main_v18 val_main_v17 Cert.Reference2Ideal.Read.val_main_v46 Cert.Reference2Ideal.Read.val_main_v18 Cert.Reference2Ideal.Read.val_main_v17
  rw [layer]
  rfl

theorem dg_eq : val_main_v52 (F := Ideal) dp w x = Cert.Reference2Ideal.Read.val_main_v52 (F := Ideal) dp (other w) x := by
  simp only [val_main_v52, val_main_v49, val_main_v48, val_main_v47, Cert.Reference2Ideal.Read.val_main_v52, Cert.Reference2Ideal.Read.val_main_v49,
    Cert.Reference2Ideal.Read.val_main_v48, Cert.Reference2Ideal.Read.val_main_v47, dh_eq]
  rfl

theorem ct_eq : val_main_v51 (F := Ideal) dp w g = Cert.Reference2Ideal.Read.val_main_v51 (F := Ideal) dp (other w) g := by
  simp only [val_main_v51, Cert.Reference2Ideal.Read.val_main_v51, dh_eq]
  rfl

theorem half_eq : val_main_v63 (F := Ideal) dp w x g = Cert.Reference2Ideal.Read.val_main_v63 (F := Ideal) dp (other w) x g := by
  simp only [val_main_v63, val_main_v61, val_main_v60, val_main_v59, val_main_v55, val_main_v54, val_main_v53, val_main_v62,
    Cert.Reference2Ideal.Read.val_main_v63, Cert.Reference2Ideal.Read.val_main_v61, Cert.Reference2Ideal.Read.val_main_v60, Cert.Reference2Ideal.Read.val_main_v59,
    Cert.Reference2Ideal.Read.val_main_v55, Cert.Reference2Ideal.Read.val_main_v54, Cert.Reference2Ideal.Read.val_main_v53, Cert.Reference2Ideal.Read.val_main_v62, ct_eq]
  rfl

theorem dx_eq : val_main_v67 (F := Ideal) dp w x g dx1 = Cert.Reference2Ideal.Read.val_main_v67 (F := Ideal) dp (other w) x g dx1 := by
  simp only [val_main_v67, val_main_v66, val_main_v65, val_main_v64, val_main_v58, val_main_v57, val_main_v56,
    Cert.Reference2Ideal.Read.val_main_v67, Cert.Reference2Ideal.Read.val_main_v66, Cert.Reference2Ideal.Read.val_main_v65, Cert.Reference2Ideal.Read.val_main_v64,
    Cert.Reference2Ideal.Read.val_main_v58, Cert.Reference2Ideal.Read.val_main_v57, Cert.Reference2Ideal.Read.val_main_v56, ct_eq, half_eq]
  rfl

/-- The reference's own results are the two gradients, when the arguments they multiply are real numbers. -/
theorem run (m : (ℓ : Loc nD τ sig) → Buf (Elt Ideal) ℓ) (ρ : Dev nD → PrngReg)
    (hx : ∀ (c : Dev nD) a k, Real' (row (m ((c.tc : Thread nD τ).loc main_arg2)) a k))
    (hc : ∀ (c : Dev nD) a k, Real' (ct (m ((c.tc : Thread nD τ).loc main_arg0)) (other (m ((c.tc : Thread nD τ).loc main_arg1))) (m ((c.tc : Thread nD τ).loc main_arg3)) a k)) :
    θ_run defs (onTc (τ := τ) (main (F := Ideal))) ⟨m, fun _ => 0, ρ⟩ fun r => ∀ c : Dev nD,
      r.2.mem ((c.tc : Thread nD τ).loc main_v67) = dx (m ((c.tc : Thread nD τ).loc main_arg0)) (other (m ((c.tc : Thread nD τ).loc main_arg1)))
          (m ((c.tc : Thread nD τ).loc main_arg2)) (m ((c.tc : Thread nD τ).loc main_arg3)) (m ((c.tc : Thread nD τ).loc main_arg4))
      ∧ r.2.mem ((c.tc : Thread nD τ).loc main_v52) = dg (m ((c.tc : Thread nD τ).loc main_arg0)) (other (m ((c.tc : Thread nD τ).loc main_arg1)))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (Value.run m ρ)
  · clear h; rw [val_main_v67_eq, dx_eq]; funext i
    obtain ⟨a, b, rfl⟩ : ∃ (a : Fin 4096) (b : Fin 1024), i = ix2 a b := ⟨i 0, i 1, by ext k; fin_cases k <;> rfl⟩
    exact (Cert.Reference2Ideal.InprojBwd.dx_at _ _ _ _ _ a b).trans (add_back_eq (hx c a) (hc c a) b _)
  · clear h; rw [val_main_v52_eq, dg_eq]; funext i
    obtain ⟨b, rfl⟩ : ∃ (b : Fin 1024), i = ix1 b := ⟨i 0, by ext k; fin_cases k <;> rfl⟩
    exact Cert.Reference2Ideal.InprojBwd.dg_at _ _ _ b

end Cert.Reference17Ideal.InprojBwd
end
-- ==== Proof.Layer.PleBwd.lean ====
module

public import proofs.«01_k».proof.Proof.Gen.Kernel18Ideal.Frame
public import proofs.«01_k».proof.Proof.PleBwd.Value
public import proofs.«01_k».proof.Proof.Shared.Layer
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel18Ideal.PleBwd

open Idealize.ShloMosaic Idealize.ShloMosaic.TcCoe Idealize.ShloMosaic.Tactic
open Idealize.SL Idealize.SL.Sem
open Idealize.ShloMosaic.Pipeline (Dat Cfg Window)
open Cert.Kernel18Ideal.Gen Cert.PleBwd Cert.Shared

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0]
      ∧ win0_4.index t = ![0, 0, 0] ∧ win0_5.index t = ![0, 0] ∧ win0_6.index t = ![0, 0, 0]
      ∧ win0_7.index t = ![t.val, 0] ∧ win0_8.index t = ![t.val, 0] ∧ win0_9.index t = ![t.val, 0] ∧ win0_10.index t = ![t.val, 0]
      ∧ win0_11.index t = ![0, 0] ∧ win0_12.index t = ![0, 0] :=
  (by decide +kernel : ∀ t : Fin grid0.N, _)
theorem last : ∀ t : Fin cfg0.N, ((cfg0.win 11).flush t = true → t.val = 7) ∧ ((cfg0.win 12).flush t = true → t.val = 7) :=
  (by decide +kernel : ∀ t : Fin grid0.N, _)

variable (c : Dev nD)

/-- The seven arguments, the weights with their layers in the other order. -/
abbrev ctA := m ((c : Thread nD τ).loc main_arg0)
abbrev uA := m ((c : Thread nD τ).loc main_arg1)
abbrev eA := m ((c : Thread nD τ).loc main_arg2)
abbrev xA := m ((c : Thread nD τ).loc main_arg3)
abbrev wA := other (m ((c : Thread nD τ).loc main_arg4))
abbrev gA := m ((c : Thread nD τ).loc main_arg5)
abbrev woA := other (m ((c : Thread nD τ).loc main_arg6))

theorem gain : V m c main_v7 = shapeCast S1x1024 (gA m c) shapeCasts_S1024_S1x1024 := by
  simp only [V, V0, hostOps0, List.flatten_cons, List.flatten_nil, List.append_nil, List.cons_append, List.nil_append]
  after_results
  rfl

theorem gated (a : Fin 4096) (b : Fin 1024) : (V m c main_v6 : S4096x1024.Idx → EReal) (ix2 a b) = gate (uA m c) a b := by
  simp only [V, V0, hostOps0, List.flatten_cons, List.flatten_nil, List.append_nil, List.cons_append, List.nil_append]
  after_results
  pointwise
  rfl

/-- Row `a` of tile `t`. -/
abbrev at' (t : Fin cfg0.N) (a : Fin 512) : Fin 4096 := ⟨512 * t.val + a.val, by have : t.val < 8 := t.isLt; omega⟩

theorem rd0 (t : Fin cfg0.N) (a : Fin 512) (b : Fin 1024) : iblk m c 0 t (ix2 a b) = ctA m c (ix2 (at' t a) b) := by
  refine Eq.trans ?_ (congrFun (V_main_arg0 m c) _)
  blk_ext [iblk, V, idx t]
theorem rd1 (t : Fin cfg0.N) (a : Fin 512) (b : Fin 1024) : iblk m c 1 t (ix2 a b) = gate (uA m c) (at' t a) b := by
  refine Eq.trans ?_ (gated m c (at' t a) b)
  blk_ext [iblk, V, idx t]
theorem rd2 (t : Fin cfg0.N) (a : Fin 512) (b : Fin 1024) : iblk m c 2 t (ix2 a b) = eA m c (ix2 (at' t a) b) := by
  refine Eq.trans ?_ (congrFun (V_main_arg2 m c) _)
  blk_ext [iblk, V, idx t]
theorem rd3 (t : Fin cfg0.N) (a : Fin 512) (b : Fin 1024) : iblk m c 3 t (ix2 a b) = row (xA m c) (at' t a) b := by
  refine Eq.trans ?_ (congrFun (V_main_arg3 m c) _)
  blk_ext [iblk, V, idx t]
theorem rd4 (t : Fin cfg0.N) (b k : Fin 1024) : iblk m c 4 t (ix3 0 b k) = wA m c (ix3 1 b k) := by
  show _ = m ((c : Thread nD τ).loc main_arg4) (ix3 0 b k)
  refine Eq.trans ?_ (congrFun (V_main_arg4 m c) _)
  blk_ext [iblk, V, idx t]
theorem rd5 (t : Fin cfg0.N) (b : Fin 1024) : iblk m c 5 t (ix2 0 b) = gA m c (ix1 b) := by
  show V m c main_v7 (((cfg0.win 5).blk t).view.emb (ix2 0 b)) = _
  rw [gain, show ((cfg0.win 5).blk t).view.emb (ix2 0 b) = ix2 (0 : Fin 1) b by blk_ext [idx t]]
  pointwise
theorem rd6 (t : Fin cfg0.N) (b k : Fin 1024) : iblk m c 6 t (ix3 0 b k) = woA m c (ix3 1 b k) := by
  show _ = m ((c : Thread nD τ).loc main_arg6) (ix3 0 b k)
  refine Eq.trans ?_ (congrFun (V_main_arg6 m c) _)
  blk_ext [iblk, V, idx t]

/-- A tile's gradient at the gate, and of its normed rows. -/
abbrev duT (t : Fin cfg0.N) : FVec Ideal S512x1024 .f32 := k0_pay4 (iblk m c 0 t) (iblk m c 1 t) (iblk m c 2 t)
abbrev dhT (t : Fin cfg0.N) : FVec Ideal S512x1024 .f32 := k0_pay8 (iblk m c 0 t) (iblk m c 1 t) (iblk m c 2 t) (iblk m c 4 t)

theorem du_tile (t : Fin cfg0.N) (a : Fin 512) (b : Fin 1024) : duT m c t (ix2 a b) = duAt (ctA m c) (uA m c) (eA m c) (at' t a) b := by
  refine (Cert.Kernel4Ideal.PleBwd.du_at _ _ _ a b).trans ?_
  simp only [rd0, rd1, rd2]
  rfl
theorem dh_tile (t : Fin cfg0.N) (a : Fin 512) (b : Fin 1024) : dhT m c t (ix2 a b) = dh (ctA m c) (uA m c) (eA m c) (wA m c) (at' t a) b := by
  refine (Cert.Kernel4Ideal.PleBwd.dh_at _ _ _ _ a b).trans ?_
  exact Finset.sum_congr rfl fun k _ => congrArg₂ (· * ·) (du_tile m c t a k) (rd4 m c t b k)
theorem de_tile (t : Fin cfg0.N) (a : Fin 512) (b : Fin 1024) :
    k0_pay5 (iblk m c 0 t) (iblk m c 1 t) (ix2 a b) = de (ctA m c) (uA m c) (ix2 (at' t a) b) := by
  unfold k0_pay5 k0_pay3
  pointwise
  rw [rd0, rd1]
  rfl
theorem dx_tile (t : Fin cfg0.N) (a : Fin 512) (b : Fin 1024) :
    k0_pay11 (iblk m c 0 t) (dhT m c t) (iblk m c 3 t) (iblk m c 5 t) (ix2 a b)
      = dxAt (ctA m c) (uA m c) (eA m c) (xA m c) (wA m c) (gA m c) (at' t a) b := by
  refine (Cert.Kernel4Ideal.PleBwd.dx_at _ (dhT m c t) _ _ a b).trans ?_
  simp only [dh_tile, rd0, rd3, rd5]
  rfl
theorem dy_tile (t : Fin cfg0.N) (a : Fin 512) (b : Fin 1024) :
    k0_pay13 (iblk m c 0 t) (dhT m c t) (iblk m c 3 t) (iblk m c 5 t) (iblk m c 6 t) (ix2 a b)
      = dy (ctA m c) (uA m c) (eA m c) (xA m c) (wA m c) (gA m c) (woA m c) (ix2 (at' t a) b) := by
  refine (Cert.Kernel4Ideal.PleBwd.dy_at _ (dhT m c t) _ _ _ a b).trans ?_
  exact Finset.sum_congr rfl fun k _ => congrArg₂ (· * ·) (dx_tile m c t a k) (rd6 m c t b k)

/-- What a point leaves of the four gradients written tile by tile. -/
theorem point (t : Fin cfg0.N) (a : Fin 512) (b : Fin 1024) :
    (outsAt0 m c t.val t.isLt).1 (ix2 a b) = du (ctA m c) (uA m c) (eA m c) (ix2 (at' t a) b)
      ∧ (outsAt0 m c t.val t.isLt).2.1 (ix2 a b) = de (ctA m c) (uA m c) (ix2 (at' t a) b)
      ∧ (outsAt0 m c t.val t.isLt).2.2.1 (ix2 a b) = dx (ctA m c) (uA m c) (eA m c) (xA m c) (wA m c) (gA m c) (ix2 (at' t a) b)
      ∧ (outsAt0 m c t.val t.isLt).2.2.2.1 (ix2 a b) = dy (ctA m c) (uA m c) (eA m c) (xA m c) (wA m c) (gA m c) (woA m c) (ix2 (at' t a) b) := by
  have d : k0_pay6 (iblk m c 0 t) (iblk m c 1 t) (iblk m c 2 t) (ix2 a b) = du (ctA m c) (uA m c) (eA m c) (ix2 (at' t a) b) := by
    unfold k0_pay6
    pointwise
    exact du_tile m c t a b
  by_cases h : t.val % 8 = 0
  · rw [outsAt0_A m c t h]
    frame_out
    exact ⟨d, de_tile m c t a b, dx_tile m c t a b, dy_tile m c t a b⟩
  · rw [outsAt0_B m c t h]
    frame_out
    exact ⟨d, de_tile m c t a b, dx_tile m c t a b, dy_tile m c t a b⟩

theorem final7 : (dats m 0 c).arrAt 7 cfg0.N = du (ctA m c) (uA m c) (eA m c) := by
  refine (dats m 0 c).arrAt_eq_of_covers 7 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 7).blk t).view.emb (ix2 a b) = ix2 (at' t a) b by blk_ext [idx t]]
  blk_simp
  rw [after0_7]
  exact (point m c t a b).1
theorem final8 : (dats m 0 c).arrAt 8 cfg0.N = de (ctA m c) (uA m c) := by
  refine (dats m 0 c).arrAt_eq_of_covers 8 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 8).blk t).view.emb (ix2 a b) = ix2 (at' t a) b by blk_ext [idx t]]
  blk_simp
  rw [after0_8]
  exact (point m c t a b).2.1
theorem final9 : (dats m 0 c).arrAt 9 cfg0.N = dx (ctA m c) (uA m c) (eA m c) (xA m c) (wA m c) (gA m c) := by
  refine (dats m 0 c).arrAt_eq_of_covers 9 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 9).blk t).view.emb (ix2 a b) = ix2 (at' t a) b by blk_ext [idx t]]
  blk_simp
  rw [after0_9]
  exact (point m c t a b).2.2.1
theorem final10 : (dats m 0 c).arrAt 10 cfg0.N = dy (ctA m c) (uA m c) (eA m c) (xA m c) (wA m c) (gA m c) (woA m c) := by
  refine (dats m 0 c).arrAt_eq_of_covers 10 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 10).blk t).view.emb (ix2 a b) = ix2 (at' t a) b by blk_ext [idx t]]
  blk_simp
  rw [after0_10]
  exact (point m c t a b).2.2.2

/-- A tile's shares of the two column sums: its rows eight apart. -/
def tileB (a : Fin 8) (b : Fin 1024) (s : Fin 8) : EReal :=
  ∑ q : Fin 64, duAt (ctA m c) (uA m c) (eA m c) ⟨512 * s.val + (q.val * 8 + a.val), by omega⟩ b
def tileG (a : Fin 8) (b : Fin 1024) (s : Fin 8) : EReal :=
  ∑ q : Fin 64, share (ctA m c) (uA m c) (eA m c) (xA m c) (wA m c) b ⟨512 * s.val + (q.val * 8 + a.val), by omega⟩

theorem db_tile (t : Fin cfg0.N) (o : Vec Ideal S8x1024 .f32) (a : Fin 8) (b : Fin 1024) :
    k0_pay7 (iblk m c 0 t) (iblk m c 1 t) (iblk m c 2 t) o (ix2 a b) = o (ix2 a b) + tileB m c a b ⟨t.val, t.isLt⟩ := by
  refine (Cert.Kernel4Ideal.PleBwd.db_at _ _ _ o a b).trans (congrArg (o (ix2 a b) + ·) ?_)
  exact Finset.sum_congr rfl fun q _ => du_tile m c t _ b
theorem dg_tile (t : Fin cfg0.N) (o : Vec Ideal S8x1024 .f32) (a : Fin 8) (b : Fin 1024) :
    k0_pay12 (dhT m c t) (iblk m c 3 t) o (ix2 a b) = o (ix2 a b) + tileG m c a b ⟨t.val, t.isLt⟩ := by
  refine (Cert.Kernel4Ideal.PleBwd.dg_at (dhT m c t) _ o a b).trans ?_
  simp only [dh_tile, rd3]
  rfl

/-- After point `n` the two blocks hold the first `n + 1` tiles' shares. -/
theorem accB (a : Fin 8) (b : Fin 1024) (n : ℕ) (hn : n < cfg0.N) :
    (outsAt0 m c n hn).2.2.2.2.1 (ix2 a b) = ∑ s : Fin (n + 1), tileB m c a b ⟨s.val, lt_of_lt_of_le s.isLt hn⟩ := by
  refine running_sum (N := 8) (fun n hn => (outsAt0 m c n hn).2.2.2.2.1 (ix2 a b)) (tileB m c a b) (fun h => ?_) (fun n h => ?_) n hn
  · have e := outsAt0_A m c ⟨0, h⟩ rfl
    dsimp only at e ⊢
    rw [e]
    frame_out
    refine (db_tile m c ⟨0, h⟩ _ a b).trans ?_
    rw [show (k0_pay1 (F := Ideal)) (ix2 a b) = 0 by unfold k0_pay1; pointwise, zero_add]
  · have e := outsAt0_B m c ⟨n + 1, h⟩ (by show ¬ (n + 1) % 8 = 0; omega)
    dsimp only at e ⊢
    rw [e]
    frame_out
    exact db_tile m c ⟨n + 1, h⟩ _ a b
theorem accG (a : Fin 8) (b : Fin 1024) (n : ℕ) (hn : n < cfg0.N) :
    (outsAt0 m c n hn).2.2.2.2.2 (ix2 a b) = ∑ s : Fin (n + 1), tileG m c a b ⟨s.val, lt_of_lt_of_le s.isLt hn⟩ := by
  refine running_sum (N := 8) (fun n hn => (outsAt0 m c n hn).2.2.2.2.2 (ix2 a b)) (tileG m c a b) (fun h => ?_) (fun n h => ?_) n hn
  · have e := outsAt0_A m c ⟨0, h⟩ rfl
    dsimp only at e ⊢
    rw [e]
    frame_out
    refine (dg_tile m c ⟨0, h⟩ _ a b).trans ?_
    rw [show (k0_pay2 (F := Ideal)) (ix2 a b) = 0 by unfold k0_pay2; pointwise, zero_add]
  · have e := outsAt0_B m c ⟨n + 1, h⟩ (by show ¬ (n + 1) % 8 = 0; omega)
    dsimp only at e ⊢
    rw [e]
    frame_out
    exact dg_tile m c ⟨n + 1, h⟩ _ a b

theorem final11 : ((dats m 0 c).arrAt 11 cfg0.N : S8x1024.Idx → EReal) = fun i => (∑ s : Fin 8, tileB m c (i 0) (i 1) s : EReal) := by
  refine (dats m 0 c).arrAt_eq_of_covers 11 _ (by decide +kernel) fun t hf y => ?_
  obtain ⟨a, b, rfl⟩ : ∃ (a : Fin 8) (b : Fin 1024), y = ix2 a b := ⟨y 0, y 1, by ext k; fin_cases k <;> rfl⟩
  have ht : t.val = 7 := (last t).1 hf
  rw [show ((cfg0.win 11).blk t).view.emb (ix2 a b) = ix2 a b by blk_ext [idx t]]
  blk_simp
  rw [after0_11]
  refine (accB m c a b t.val t.isLt).trans ?_
  obtain ⟨n, hn⟩ := t
  obtain rfl : n = 7 := ht
  rfl
theorem final12 : ((dats m 0 c).arrAt 12 cfg0.N : S8x1024.Idx → EReal) = fun i => (∑ s : Fin 8, tileG m c (i 0) (i 1) s : EReal) := by
  refine (dats m 0 c).arrAt_eq_of_covers 12 _ (by decide +kernel) fun t hf y => ?_
  obtain ⟨a, b, rfl⟩ : ∃ (a : Fin 8) (b : Fin 1024), y = ix2 a b := ⟨y 0, y 1, by ext k; fin_cases k <;> rfl⟩
  have ht : t.val = 7 := (last t).2 hf
  rw [show ((cfg0.win 12).blk t).view.emb (ix2 a b) = ix2 a b by blk_ext [idx t]]
  blk_simp
  rw [after0_12]
  refine (accG m c a b t.val t.isLt).trans ?_
  obtain ⟨n, hn⟩ := t
  obtain rfl : n = 7 := ht
  rfl

/-- An array of eight rows added up by the host. -/
abbrev rowsSum (A : FVec Ideal S8x1024 .f32) : FVec Ideal S1024 .f32 :=
  Host.reduceAdd A (constant (F := Ideal) S_ .f32 0x00000000#32) reducesTo_S8x1024_S1024_d0 h_S_

theorem tails : Pipeline.afterTail₀ cfgs (dats m) 0 (V0 m) [hostOps1] c main_v9 = rowsSum ((dats m 0 c).arrAt 11 (cfgs 0).N)
    ∧ Pipeline.afterTail₀ cfgs (dats m) 0 (V0 m) [hostOps1] c main_v10 = rowsSum ((dats m 0 c).arrAt 12 (cfgs 0).N) := by
  constructor
  all_goals
    unfold Pipeline.afterTail₀
    simp only [hostOps1, List.flatten_cons, List.flatten_nil, List.append_nil, List.cons_append, List.nil_append]
    after_results
  · exact congrArg rowsSum (Pipeline.withArrays_arr cfg0.spec (by decide) c (V0 m c) (fun w => (dats m 0 c).arrAt w cfg0.N) 11)
  · exact congrArg rowsSum (Pipeline.withArrays_arr cfg0.spec (by decide) c (V0 m c) (fun w => (dats m 0 c).arrAt w cfg0.N) 12)

/-- The host's sums of the eight rows are the two gradients. -/
theorem host11 : Pipeline.afterTail₀ cfgs (dats m) 0 (V0 m) [hostOps1] c main_v9 = db (ctA m c) (uA m c) (eA m c) := by
  funext i
  obtain ⟨b, rfl⟩ : ∃ b : Fin 1024, i = ix1 b := ⟨i 0, by ext k; fin_cases k; rfl⟩
  rw [(tails m c).1, show (dats m 0 c).arrAt 11 (cfgs 0).N = _ from final11 m c]
  pointwise
  exact by_eights fun k => duAt (ctA m c) (uA m c) (eA m c) k b
theorem host12 : Pipeline.afterTail₀ cfgs (dats m) 0 (V0 m) [hostOps1] c main_v10 = dg (ctA m c) (uA m c) (eA m c) (xA m c) (wA m c) := by
  funext i
  obtain ⟨b, rfl⟩ : ∃ b : Fin 1024, i = ix1 b := ⟨i 0, by ext k; fin_cases k; rfl⟩
  rw [(tails m c).2, show (dats m 0 c).arrAt 12 (cfgs 0).N = _ from final12 m c]
  pointwise
  exact by_eights fun k => share (ctA m c) (uA m c) (eA m c) (xA m c) (wA m c) b k

end Cert.Kernel18Ideal.PleBwd
end
-- ==== Proof.Layer.PleBwdRef.lean ====
module

public import proofs.«01_k».proof.Proof.Gen.Reference18Ideal.Run
public import proofs.«01_k».proof.Proof.Gen.Reference18Ideal.Read
public import proofs.«01_k».proof.Proof.PleBwd.RefValue
public import proofs.«01_k».proof.Proof.Shared.Layer
public import Idealize.ShloMosaic.Lib.Pointwise

@[expose] public section

set_option maxRecDepth 16384

noncomputable section

namespace Cert.Reference18Ideal.PleBwd

open Idealize.ShloMosaic Idealize.ShloMosaic.TcCoe Idealize.ShloMosaic.Tactic
open Idealize.SL Idealize.SL.Sem
open Cert.PleBwd Cert.Shared
open Cert.Reference18Ideal.Read

variable (ct u : FVec Ideal S4096x1024 .f32) (e : FVec Ideal S4096x1024 .bf16) (x : FVec Ideal S4096x1024 .f32)
  (w : FVec Ideal S2x1024x1024 .bf16) (g : FVec Ideal S1024 .f32) (wo : FVec Ideal S2x1024x1024 .bf16)

/-- The first layer's weights are the second of the two in the other order. -/
theorem layer : val_main_v33 (F := Ideal) w = Cert.Reference4Ideal.Read.val_main_v33 (F := Ideal) (other w)
    ∧ val_main_v66 (F := Ideal) wo = Cert.Reference4Ideal.Read.val_main_v66 (F := Ideal) (other wo) := by
  constructor
  all_goals
    funext i
    obtain ⟨s, a, b, rfl⟩ : ∃ (s : Fin 1) (a b : Fin 1024), i = ix3 s a b := ⟨i 0, i 1, i 2, by ext k; fin_cases k <;> rfl⟩
    obtain rfl : s = 0 := Subsingleton.elim _ _
  · unfold val_main_v33 Cert.Reference4Ideal.Read.val_main_v33
    pointwise
    rfl
  · unfold val_main_v66 Cert.Reference4Ideal.Read.val_main_v66
    pointwise
    rfl

theorem dh_eq : val_main_v43 (F := Ideal) ct u e w = Cert.Reference4Ideal.Read.val_main_v43 (F := Ideal) ct u e (other w) := by
  unfold val_main_v43 val_main_v35 val_main_v34 Cert.Reference4Ideal.Read.val_main_v43 Cert.Reference4Ideal.Read.val_main_v35 Cert.Reference4Ideal.Read.val_main_v34
  rw [(layer w w).1]
  rfl

theorem cot_eq : val_main_v48 (F := Ideal) ct u e w g = Cert.Reference4Ideal.Read.val_main_v48 (F := Ideal) ct u e (other w) g := by
  simp only [val_main_v48, Cert.Reference4Ideal.Read.val_main_v48, dh_eq]
  rfl

theorem dg_eq : val_main_v49 (F := Ideal) ct u e x w = Cert.Reference4Ideal.Read.val_main_v49 (F := Ideal) ct u e x (other w) := by
  simp only [val_main_v49, val_main_v46, val_main_v45, val_main_v44, Cert.Reference4Ideal.Read.val_main_v49, Cert.Reference4Ideal.Read.val_main_v46,
    Cert.Reference4Ideal.Read.val_main_v45, Cert.Reference4Ideal.Read.val_main_v44, dh_eq]
  rfl

theorem half_eq : val_main_v60 (F := Ideal) ct u e x w g = Cert.Reference4Ideal.Read.val_main_v60 (F := Ideal) ct u e x (other w) g := by
  simp only [val_main_v60, val_main_v59, val_main_v58, val_main_v57, val_main_v56, val_main_v52, val_main_v51, val_main_v50,
    Cert.Reference4Ideal.Read.val_main_v60, Cert.Reference4Ideal.Read.val_main_v59, Cert.Reference4Ideal.Read.val_main_v58, Cert.Reference4Ideal.Read.val_main_v57,
    Cert.Reference4Ideal.Read.val_main_v56, Cert.Reference4Ideal.Read.val_main_v52, Cert.Reference4Ideal.Read.val_main_v51, Cert.Reference4Ideal.Read.val_main_v50, cot_eq]
  rfl

theorem dx_eq : val_main_v64 (F := Ideal) ct u e x w g = Cert.Reference4Ideal.Read.val_main_v64 (F := Ideal) ct u e x (other w) g := by
  simp only [val_main_v64, val_main_v63, val_main_v62, val_main_v61, val_main_v55, val_main_v54, val_main_v53,
    Cert.Reference4Ideal.Read.val_main_v64, Cert.Reference4Ideal.Read.val_main_v63, Cert.Reference4Ideal.Read.val_main_v62, Cert.Reference4Ideal.Read.val_main_v61,
    Cert.Reference4Ideal.Read.val_main_v55, Cert.Reference4Ideal.Read.val_main_v54, Cert.Reference4Ideal.Read.val_main_v53, cot_eq, half_eq]
  rfl

theorem dy_eq : val_main_v70 (F := Ideal) ct u e x w g wo = Cert.Reference4Ideal.Read.val_main_v70 (F := Ideal) ct u e x (other w) g (other wo) := by
  unfold val_main_v70 val_main_v68 val_main_v67 Cert.Reference4Ideal.Read.val_main_v70 Cert.Reference4Ideal.Read.val_main_v68 Cert.Reference4Ideal.Read.val_main_v67
  rw [dx_eq, (layer w wo).2]
  rfl

/-- The reference's own results are the six gradients, when what the norm's gradient multiplies are real numbers. -/
theorem run (m : (ℓ : Loc nD τ sig) → Buf (Elt Ideal) ℓ) (ρ : Dev nD → PrngReg)
    (hx : ∀ (c : Dev nD) a k, Real' (row (m ((c.tc : Thread nD τ).loc main_arg3)) a k))
    (hc : ∀ (c : Dev nD) a k, Real' (cot (m ((c.tc : Thread nD τ).loc main_arg0)) (m ((c.tc : Thread nD τ).loc main_arg1))
      (m ((c.tc : Thread nD τ).loc main_arg2)) (other (m ((c.tc : Thread nD τ).loc main_arg4))) (m ((c.tc : Thread nD τ).loc main_arg5)) a k)) :
    θ_run defs (onTc (τ := τ) (main (F := Ideal))) ⟨m, fun _ => 0, ρ⟩ fun r => ∀ c : Dev nD,
      r.2.mem ((c.tc : Thread nD τ).loc main_v71) = du (m ((c.tc : Thread nD τ).loc main_arg0)) (m ((c.tc : Thread nD τ).loc main_arg1))
          (m ((c.tc : Thread nD τ).loc main_arg2))
      ∧ r.2.mem ((c.tc : Thread nD τ).loc main_v72) = de (m ((c.tc : Thread nD τ).loc main_arg0)) (m ((c.tc : Thread nD τ).loc main_arg1))
      ∧ r.2.mem ((c.tc : Thread nD τ).loc main_v64) = dx (m ((c.tc : Thread nD τ).loc main_arg0)) (m ((c.tc : Thread nD τ).loc main_arg1))
          (m ((c.tc : Thread nD τ).loc main_arg2)) (m ((c.tc : Thread nD τ).loc main_arg3)) (other (m ((c.tc : Thread nD τ).loc main_arg4))) (m ((c.tc : Thread nD τ).loc main_arg5))
      ∧ r.2.mem ((c.tc : Thread nD τ).loc main_v73) = dy (m ((c.tc : Thread nD τ).loc main_arg0)) (m ((c.tc : Thread nD τ).loc main_arg1))
          (m ((c.tc : Thread nD τ).loc main_arg2)) (m ((c.tc : Thread nD τ).loc main_arg3)) (other (m ((c.tc : Thread nD τ).loc main_arg4))) (m ((c.tc : Thread nD τ).loc main_arg5))
          (other (m ((c.tc : Thread nD τ).loc main_arg6)))
      ∧ r.2.mem ((c.tc : Thread nD τ).loc main_v42) = db (m ((c.tc : Thread nD τ).loc main_arg0)) (m ((c.tc : Thread nD τ).loc main_arg1))
          (m ((c.tc : Thread nD τ).loc main_arg2))
      ∧ r.2.mem ((c.tc : Thread nD τ).loc main_v49) = dg (m ((c.tc : Thread nD τ).loc main_arg0)) (m ((c.tc : Thread nD τ).loc main_arg1))
          (m ((c.tc : Thread nD τ).loc main_arg2)) (m ((c.tc : Thread nD τ).loc main_arg3)) (other (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Value.run m ρ)
  · clear h; rw [val_main_v71_eq]; funext i
    obtain ⟨a, b, rfl⟩ : ∃ (a : Fin 4096) (b : Fin 1024), i = ix2 a b := ⟨i 0, i 1, by ext k; fin_cases k <;> rfl⟩
    unfold val_main_v71
    pointwise
    exact Cert.Reference4Ideal.PleBwd.du_at _ _ _ a b
  · clear h; rw [val_main_v72_eq]; funext i
    obtain ⟨a, b, rfl⟩ : ∃ (a : Fin 4096) (b : Fin 1024), i = ix2 a b := ⟨i 0, i 1, by ext k; fin_cases k <;> rfl⟩
    unfold val_main_v72
    pointwise
    exact Cert.Reference4Ideal.PleBwd.de_at _ _ a b
  · clear h; rw [val_main_v64_eq, dx_eq]; funext i
    obtain ⟨a, b, rfl⟩ : ∃ (a : Fin 4096) (b : Fin 1024), i = ix2 a b := ⟨i 0, i 1, by ext k; fin_cases k <;> rfl⟩
    exact Cert.Reference4Ideal.PleBwd.dx_at _ _ _ _ _ _ (hx c) (hc c) a b
  · clear h; rw [val_main_v73_eq]; funext i
    obtain ⟨a, b, rfl⟩ : ∃ (a : Fin 4096) (b : Fin 1024), i = ix2 a b := ⟨i 0, i 1, by ext k; fin_cases k <;> rfl⟩
    unfold val_main_v73
    rw [dy_eq]
    pointwise
    exact Cert.Reference4Ideal.PleBwd.dy_at _ _ _ _ _ _ _ (hx c) (hc c) a b
  · clear h; rw [val_main_v42_eq]; funext i
    obtain ⟨b, rfl⟩ : ∃ (b : Fin 1024), i = ix1 b := ⟨i 0, by ext k; fin_cases k <;> rfl⟩
    exact Cert.Reference4Ideal.PleBwd.db_at _ _ _ b
  · clear h; rw [val_main_v49_eq, dg_eq]; funext i
    obtain ⟨b, rfl⟩ : ∃ (b : Fin 1024), i = ix1 b := ⟨i 0, by ext k; fin_cases k <;> rfl⟩
    exact Cert.Reference4Ideal.PleBwd.dg_at _ _ _ _ _ b

end Cert.Reference18Ideal.PleBwd
end
-- ==== Proof.Layer.Embed.lean ====
module

public import proofs.«01_k».proof.Proof.Gen.Kernel19Ideal.Value
public import proofs.«01_k».proof.Proof.Gen.Reference19Ideal.Run
public import proofs.«01_k».proof.Proof.MmTn.Embed
public import proofs.«01_k».proof.Proof.Shared.Columns
public import proofs.«01_k».proof.Proof.Shared.Layer
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel19Ideal.MmTn

open Idealize.ShloMosaic Idealize.ShloMosaic.TcCoe Idealize.ShloMosaic.Tactic
open Idealize.SL Idealize.SL.Sem
open Idealize.ShloMosaic.Pipeline (Dat Cfg Window)
open Cert.Kernel19Ideal.Gen Cert.Shared
open Cert.Kernel7Ideal.MmTn (term grad)

variable (m : (ℓ : Loc nD τ sig) → Buf (Elt Ideal) ℓ)

theorem idx : ∀ t : Fin cfg0.N,
    win0_0.index t = ![0, t.val, 0] ∧ win0_1.index t = ![t.val, 0] ∧ win0_2.index t = ![0, 0] :=
  (by decide +kernel : ∀ t : Fin grid0.N, _)
theorem last : ∀ t : Fin cfg0.N, (cfg0.win 2).flush t = true → t.val = 3 :=
  (by decide +kernel : ∀ t : Fin grid0.N, _)

variable (c : Dev nD)

/-- The two arguments. -/
abbrev pA := m ((c : Thread nD τ).loc main_arg0)
abbrev eA := m ((c : Thread nD τ).loc main_arg1)

theorem rd0 (t : Fin cfg0.N) (k : Fin 1024) (a : Fin 256) :
    iblk m c 0 t (ix3 0 k a) = other (pA m c) (ix3 1 (⟨1024 * t.val + k.val, by have : t.val < 4 := t.isLt; omega⟩ : Fin 4096) a) := by
  have ht : t.val < 4 := t.isLt
  show _ = pA m c (ix3 0 (⟨1024 * t.val + k.val, by omega⟩ : Fin 4096) a)
  blk_ext [iblk, V, idx t]
theorem rd1 (t : Fin cfg0.N) (k b : Fin 1024) :
    iblk m c 1 t (ix2 k b) = eA m c (ix2 (⟨1024 * t.val + k.val, by have : t.val < 4 := t.isLt; omega⟩ : Fin 4096) b) := by
  have ht : t.val < 4 := t.isLt
  blk_ext [iblk, V, idx t]

/-- Tile `s`'s own product. -/
def tile (s : Fin 4) (a : Fin 256) (b : Fin 1024) : EReal :=
  ∑ k : Fin 1024, term (other (pA m c)) (eA m c) a b ⟨1024 * s.val + k.val, by omega⟩

theorem pay (t : Fin cfg0.N) (v : Vec Ideal S256x1024 .f32) (a : Fin 256) (b : Fin 1024) :
    k0_pay2 (iblk m c 0 t) v (iblk m c 1 t) (ix2 a b) = v (ix2 a b) + tile m c ⟨t.val, t.isLt⟩ a b := by
  refine (Cert.Kernel7Ideal.MmTn.pay_at _ _ _ a b).trans ?_
  simp only [rd0, rd1]
  rfl

/-- After point `n` the accumulator is the sum of the first `n + 1` tiles' products. -/
theorem acc (a : Fin 256) (b : Fin 1024) (n : ℕ) (hn : n < cfg0.N) :
    (outsAt0 m c n hn).2 (ix2 a b) = ∑ s : Fin (n + 1), tile m c ⟨s.val, lt_of_lt_of_le s.isLt hn⟩ a b := by
  refine running_sum (N := 4) (fun n hn => (outsAt0 m c n hn).2 (ix2 a b)) (fun s => tile m c s a b) (fun h0 => ?_) (fun n h => ?_) n hn
  · have e := outsAt0_A m c ⟨0, h0⟩ rfl (by show ¬ 0 % 4 = 3; omega)
    dsimp only at e ⊢
    rw [e]
    frame_out
    rw [pay, show (k0_pay1 (F := Ideal)) (ix2 a b) = 0 by unfold k0_pay1; pointwise, zero_add]
  · by_cases h3 : (n + 1) % 4 = 3
    · have e := outsAt0_C m c ⟨n + 1, h⟩ (by show ¬ (n + 1) % 4 = 0; omega) h3
      dsimp only at e ⊢
      rw [e]
      frame_out
      simp only [read_unread_whole]
      rw [pay]
      rfl
    · have e := outsAt0_B m c ⟨n + 1, h⟩ (by show ¬ (n + 1) % 4 = 0; omega) h3
      dsimp only at e ⊢
      rw [e]
      frame_out
      simp only [read_unread_whole]
      rw [pay]
      rfl

theorem final : (dats m 0 c).arrAt 2 cfg0.N = grad (other (pA m c)) (eA m c) := by
  refine (dats m 0 c).arrAt_eq_of_covers 2 _ (by decide +kernel) fun t hf y => ?_
  obtain ⟨a, b, rfl⟩ : ∃ (a : Fin 256) (b : Fin 1024), y = ix2 a b := ⟨y 0, y 1, by ext k; fin_cases k <;> rfl⟩
  have ht : t.val = 3 := last t hf
  rw [show ((cfg0.win 2).blk t).view.emb (ix2 a b) = ix2 a b by blk_ext [idx t]]
  blk_simp
  rw [after0_2]
  have e : (outsAt0 m c t.val t.isLt).1 (ix2 a b) = (outsAt0 m c t.val t.isLt).2 (ix2 a b) := by
    rw [outsAt0_C m c t (by omega) (by omega)]
    frame_out
  refine Eq.trans e ((acc m c a b t.val t.isLt).trans ?_)
  obtain ⟨n, hn⟩ := t
  obtain rfl : n = 3 := ht
  exact by_tiles 4 1024 rfl fun k : Fin 4096 => term (other (pA m c)) (eA m c) a b k

end Cert.Kernel19Ideal.MmTn

namespace Cert.Reference19Ideal.MmTn

open Idealize.ShloMosaic Idealize.ShloMosaic.TcCoe Idealize.ShloMosaic.Tactic
open Idealize.SL Idealize.SL.Sem
open Cert.Shared

/-- The reference's own result is the weight gradient. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
          = Cert.Kernel7Ideal.MmTn.grad (other (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run m ρ)
  funext i
  obtain ⟨a, b, rfl⟩ : ∃ (a : Fin 256) (b : Fin 1024), i = ix2 a b := ⟨i 0, i 1, by ext k; fin_cases k <;> rfl⟩
  pointwise
  exact Finset.sum_congr rfl fun x _ => mul_comm _ _

end Cert.Reference19Ideal.MmTn

end
-- ==== Proof.Layer.Inproj.lean ====
module

public import proofs.«01_k».proof.Proof.Gen.Kernel20Ideal.Value
public import proofs.«01_k».proof.Proof.Gen.Reference20Ideal.Run
public import proofs.«01_k».proof.Proof.Inproj.Value
public import proofs.«01_k».proof.Proof.Shared.Layer
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel20Ideal.Inproj

open Idealize.ShloMosaic Idealize.ShloMosaic.TcCoe Idealize.ShloMosaic.Tactic
open Idealize.SL Idealize.SL.Sem
open Idealize.ShloMosaic.Pipeline (Dat Cfg Window)
open Cert.Kernel20Ideal.Gen Cert.Shared
open Cert.Kernel8Ideal.Inproj (out3 out4 entry)

variable (m : (ℓ : Loc nD τ sig) → Buf (Elt Ideal) ℓ)

theorem idx : ∀ t : Fin cfg0.N,
    win0_0.index t = ![t.val, 0] ∧ win0_1.index t = ![0, 0] ∧ win0_2.index t = ![0, 0, 0]
      ∧ win0_3.index t = ![t.val, 0] ∧ win0_4.index t = ![0, t.val, 0] :=
  (by decide +kernel : ∀ t : Fin grid0.N, _)

variable (c : Dev nD)

/-- The three arguments. -/
abbrev xA := m ((c : Thread nD τ).loc main_arg0)
abbrev gA := m ((c : Thread nD τ).loc main_arg1)
abbrev wA := m ((c : Thread nD τ).loc main_arg2)

theorem gain : V m c main_v0 = shapeCast S1x1024 (gA m c) shapeCasts_S1024_S1x1024 := by
  simp only [V, hostOps0, List.flatten_cons, List.flatten_nil, List.append_nil, List.cons_append, List.nil_append]
  after_results
  rfl

/-- Row `a` of tile `t`. -/
abbrev at' (t : Fin cfg0.N) (a : Fin 512) : Fin 4096 := ⟨512 * t.val + a.val, by have : t.val < 8 := t.isLt; omega⟩

theorem rd0 (t : Fin cfg0.N) (a : Fin 512) (k : Fin 1024) : iblk m c 0 t (ix2 a k) = xA m c (ix2 (at' t a) k) := by
  refine Eq.trans ?_ (congrFun (V_main_arg0 m c) _)
  blk_ext [iblk, V, idx t]
theorem rd1 (t : Fin cfg0.N) (b : Fin 1024) : iblk m c 1 t (ix2 0 b) = gA m c (ix1 b) := by
  show V m c main_v0 (((cfg0.win 1).blk t).view.emb (ix2 0 b)) = _
  rw [gain, show ((cfg0.win 1).blk t).view.emb (ix2 0 b) = ix2 (0 : Fin 1) b by blk_ext [idx t]]
  pointwise
theorem rd2 (t : Fin cfg0.N) (k : Fin 1024) (b : Fin 4096) : iblk m c 2 t (ix3 0 k b) = other (wA m c) (ix3 1 k b) := by
  show _ = wA m c (ix3 0 k b)
  refine Eq.trans ?_ (congrFun (V_main_arg2 m c) _)
  blk_ext [iblk, V, idx t]

theorem tile (t : Fin cfg0.N) (a : Fin 512) (b : Fin 1024) :
    Cert.Kernel8Ideal.Gen.k0_pay3 (iblk m c 0 t) (iblk m c 1 t) (ix2 a b) = out3 (xA m c) (gA m c) (ix2 (at' t a) b) := by
  refine (Cert.Kernel8Ideal.Inproj.normed_at _ _ a b).trans ?_
  simp only [rd0, rd1]
  rfl

theorem final3 : (dats m 0 c).arrAt 3 cfg0.N = out3 (xA m c) (gA m c) := by
  refine (dats m 0 c).arrAt_eq_of_covers 3 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 3).blk t).view.emb (ix2 a b) = ix2 (at' t a) b by blk_ext [idx t]]
  blk_simp
  rw [after0_3]
  frame_out
  exact tile m c t a b

theorem final4 : (dats m 0 c).arrAt 4 cfg0.N = out4 (xA m c) (gA m c) (other (wA m c)) := by
  refine (dats m 0 c).arrAt_eq_of_covers 4 _ (by decide +kernel) fun t _ y => ?_
  obtain ⟨s, a, b, rfl⟩ : ∃ (s : Fin 8) (a b : Fin 512), y = ix3 s a b := ⟨y 0, y 1, y 2, by ext k; fin_cases k <;> rfl⟩
  have ht : t.val < 8 := t.isLt
  rw [show ((cfg0.win 4).blk t).view.emb (ix3 s a b) = ix3 s (at' t a) b by blk_ext [idx t]]
  blk_simp
  rw [after0_4]
  refine (Cert.Kernel8Ideal.Inproj.block _ _ _ s a b).trans ?_
  show _ = entry (xA m c) (gA m c) (other (wA m c)) s (at' t a) b
  unfold entry
  exact Finset.sum_congr rfl fun k _ => congrArg₂ (· * ·) (tile m c t a k) (rd2 m c t k _)

end Cert.Kernel20Ideal.Inproj

namespace Cert.Reference20Ideal.Inproj

open Idealize.ShloMosaic Idealize.ShloMosaic.TcCoe Idealize.ShloMosaic.Tactic
open Idealize.SL Idealize.SL.Sem
open Cert.Kernel8Ideal.Inproj (out3 out4 entry)

/-- The reference's own results are the same two arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = out3 (m ((c.tc : Thread nD τ).loc main_arg0)) (m ((c.tc : Thread nD τ).loc main_arg1))
      ∧ r.2.mem ((c.tc : Thread nD τ).loc main_v35) = out4 (m ((c.tc : Thread nD τ).loc main_arg0)) (m ((c.tc : Thread nD τ).loc main_arg1))
          (Cert.Shared.other (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2⟩) (Value.run m ρ)
  · clear h; funext i
    obtain ⟨a, b, rfl⟩ : ∃ (a : Fin 4096) (b : Fin 1024), i = ix2 a b := ⟨i 0, i 1, by ext k; fin_cases k <;> rfl⟩
    pointwise
    rfl
  · clear h; funext i
    obtain ⟨s, a, b, rfl⟩ : ∃ (s : Fin 8) (a : Fin 4096) (b : Fin 512), i = ix3 s a b := ⟨i 0, i 1, i 2, by ext k; fin_cases k <;> rfl⟩
    unfold Value.res_main_v35
    pointwise
    show _ = entry _ _ _ s a b
    fin_cases s
    · exact Finset.sum_congr rfl fun k _ => congrArg (fun j => out3 (m ((c.tc : Thread nD τ).loc main_arg0))
        (m ((c.tc : Thread nD τ).loc main_arg1)) (ix2 a k) * m ((c.tc : Thread nD τ).loc main_arg2) (ix3 0 k j))
        (Fin.ext (by show b.val = 512 * 0 + b.val; omega))
    all_goals rfl

end Cert.Reference20Ideal.Inproj

end
-- ==== Proof.Layer.Outproj.lean ====
module

public import proofs.«01_k».proof.Proof.Gen.Kernel21Ideal.Value
public import proofs.«01_k».proof.Proof.Gen.Reference21Ideal.Run
public import proofs.«01_k».proof.Proof.Outproj.Value
public import proofs.«01_k».proof.Proof.Shared.Layer
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel21Ideal.Outproj

open Idealize.ShloMosaic Idealize.ShloMosaic.TcCoe Idealize.ShloMosaic.Tactic
open Idealize.SL Idealize.SL.Sem
open Idealize.ShloMosaic.Pipeline (Dat Cfg Window)
open Cert.Kernel21Ideal.Gen Cert.Shared
open Cert.Kernel9Ideal.Outproj (out4 out5 stream)

variable (m : (ℓ : Loc nD τ sig) → Buf (Elt Ideal) ℓ)

theorem idx : ∀ t : Fin cfg0.N,
    win0_0.index t = ![t.val, 0] ∧ win0_1.index t = ![0, 0, 0] ∧ win0_2.index t = ![t.val, 0] ∧ win0_3.index t = ![0, 0]
      ∧ win0_4.index t = ![t.val, 0] ∧ win0_5.index t = ![t.val, 0] :=
  (by decide +kernel : ∀ t : Fin grid0.N, _)

variable (c : Dev nD)

/-- The four arguments. -/
abbrev yA := m ((c : Thread nD τ).loc main_arg0)
abbrev wA := m ((c : Thread nD τ).loc main_arg1)
abbrev xA := m ((c : Thread nD τ).loc main_arg2)
abbrev gA := m ((c : Thread nD τ).loc main_arg3)

theorem gain : V m c main_v0 = shapeCast S1x1024 (gA m c) shapeCasts_S1024_S1x1024 := by
  simp only [V, hostOps0, List.flatten_cons, List.flatten_nil, List.append_nil, List.cons_append, List.nil_append]
  after_results
  rfl

/-- Row `a` of tile `t`. -/
abbrev at' (t : Fin cfg0.N) (a : Fin 512) : Fin 4096 := ⟨512 * t.val + a.val, by have : t.val < 8 := t.isLt; omega⟩

theorem rd0 (t : Fin cfg0.N) (a : Fin 512) (k : Fin 1024) : iblk m c 0 t (ix2 a k) = yA m c (ix2 (at' t a) k) := by
  refine Eq.trans ?_ (congrFun (V_main_arg0 m c) _)
  blk_ext [iblk, V, idx t]
theorem rd1 (t : Fin cfg0.N) (k b : Fin 1024) : iblk m c 1 t (ix3 0 k b) = other (wA m c) (ix3 1 k b) := by
  show _ = wA m c (ix3 0 k b)
  refine Eq.trans ?_ (congrFun (V_main_arg1 m c) _)
  blk_ext [iblk, V, idx t]
theorem rd2 (t : Fin cfg0.N) (a : Fin 512) (k : Fin 1024) : iblk m c 2 t (ix2 a k) = xA m c (ix2 (at' t a) k) := by
  refine Eq.trans ?_ (congrFun (V_main_arg2 m c) _)
  blk_ext [iblk, V, idx t]
theorem rd3 (t : Fin cfg0.N) (b : Fin 1024) : iblk m c 3 t (ix2 0 b) = gA m c (ix1 b) := by
  show V m c main_v0 (((cfg0.win 3).blk t).view.emb (ix2 0 b)) = _
  rw [gain, show ((cfg0.win 3).blk t).view.emb (ix2 0 b) = ix2 (0 : Fin 1) b by blk_ext [idx t]]
  pointwise

theorem tile (t : Fin cfg0.N) (a : Fin 512) (b : Fin 1024) :
    Cert.Kernel9Ideal.Gen.k0_pay1 (iblk m c 2 t) (iblk m c 0 t) (iblk m c 1 t) (ix2 a b) = stream (yA m c) (other (wA m c)) (xA m c) (at' t a) b := by
  refine (Cert.Kernel9Ideal.Outproj.stream_at _ _ _ a b).trans ?_
  simp only [rd0, rd1, rd2]
  rfl

theorem final4 : (dats m 0 c).arrAt 4 cfg0.N = out4 (yA m c) (other (wA m c)) (xA m c) := by
  refine (dats m 0 c).arrAt_eq_of_covers 4 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 4).blk t).view.emb (ix2 a b) = ix2 (at' t a) b by blk_ext [idx t]]
  blk_simp
  rw [after0_4]
  frame_out
  exact tile m c t a b

theorem final5 : (dats m 0 c).arrAt 5 cfg0.N = out5 (yA m c) (other (wA m c)) (xA m c) (gA m c) := by
  refine (dats m 0 c).arrAt_eq_of_covers 5 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 5).blk t).view.emb (ix2 a b) = ix2 (at' t a) b by blk_ext [idx t]]
  blk_simp
  rw [after0_5]
  frame_out
  refine (Cert.Kernel9Ideal.Outproj.normed_at _ _ _ _ a b).trans ?_
  simp only [tile, rd3]
  rfl

end Cert.Kernel21Ideal.Outproj

namespace Cert.Reference21Ideal.Outproj

open Idealize.ShloMosaic Idealize.ShloMosaic.TcCoe Idealize.ShloMosaic.Tactic
open Idealize.SL Idealize.SL.Sem
open Cert.Shared
open Cert.Kernel9Ideal.Outproj (out4 out5)

/-- The reference's own results are the same two arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = out4 (m ((c.tc : Thread nD τ).loc main_arg0)) (other (m ((c.tc : Thread nD τ).loc main_arg1)))
          (m ((c.tc : Thread nD τ).loc main_arg2))
      ∧ r.2.mem ((c.tc : Thread nD τ).loc main_v19) = out5 (m ((c.tc : Thread nD τ).loc main_arg0)) (other (m ((c.tc : Thread nD τ).loc main_arg1)))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2⟩) (Value.run m ρ)
  all_goals
    clear h; funext i
    obtain ⟨a, b, rfl⟩ : ∃ (a : Fin 4096) (b : Fin 1024), i = ix2 a b := ⟨i 0, i 1, by ext k; fin_cases k <;> rfl⟩
    pointwise
  all_goals rfl

end Cert.Reference21Ideal.Outproj

end
-- ==== Proof.Layer.PleFwd.lean ====
module

public import proofs.«01_k».proof.Proof.Gen.Kernel22Ideal.Value
public import proofs.«01_k».proof.Proof.Gen.Reference22Ideal.Run
public import proofs.«01_k».proof.Proof.PleFwd.Value
public import proofs.«01_k».proof.Proof.Shared.Layer
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Adequacy
public import Idealize.ShloMosaic.Init

@[expose] public section

set_option maxRecDepth 16384

noncomputable section

namespace Cert.Kernel22Ideal.PleFwd

open Idealize.ShloMosaic Idealize.ShloMosaic.TcCoe Idealize.ShloMosaic.Tactic
open Idealize.SL Idealize.SL.Sem
open Idealize.ShloMosaic.Pipeline (Dat Cfg Window)
open Cert.Kernel22Ideal.Gen Cert.Shared
open Cert.Kernel10Ideal.PleFwd (gateAt embedAt out6 out7 out8)

variable (m : (ℓ : Loc nD τ sig) → Buf (Elt Ideal) ℓ)

theorem idx : ∀ t : Fin cfg0.N,
    win0_0.index t = ![t.val, 0] ∧ win0_1.index t = ![0, 0, 0] ∧ win0_2.index t = ![0, 0] ∧ win0_3.index t = ![0, t.val, 0]
      ∧ win0_4.index t = ![0, 0, 0] ∧ win0_5.index t = ![t.val, 0]
      ∧ win0_6.index t = ![t.val, 0] ∧ win0_7.index t = ![t.val, 0] ∧ win0_8.index t = ![t.val, 0] :=
  (by decide +kernel : ∀ t : Fin grid0.N, _)

variable (c : Dev nD)

/-- The six arguments. -/
abbrev hA := m ((c : Thread nD τ).loc main_arg0)
abbrev wA := m ((c : Thread nD τ).loc main_arg1)
abbrev bA := m ((c : Thread nD τ).loc main_arg2)
abbrev pA := m ((c : Thread nD τ).loc main_arg3)
abbrev eA := m ((c : Thread nD τ).loc main_arg4)
abbrev xA := m ((c : Thread nD τ).loc main_arg5)

theorem bias : V m c main_v0 = shapeCast S1x1024 (bA m c) shapeCasts_S1024_S1x1024 := by
  simp only [V, hostOps0, List.flatten_cons, List.flatten_nil, List.append_nil, List.cons_append, List.nil_append]
  after_results
  rfl

/-- Row `a` of tile `t`. -/
abbrev at' (t : Fin cfg0.N) (a : Fin 512) : Fin 4096 := ⟨512 * t.val + a.val, by have : t.val < 8 := t.isLt; omega⟩

theorem rd0 (t : Fin cfg0.N) (a : Fin 512) (k : Fin 1024) : iblk m c 0 t (ix2 a k) = hA m c (ix2 (at' t a) k) := by
  refine Eq.trans ?_ (congrFun (V_main_arg0 m c) _)
  blk_ext [iblk, V, idx t]
theorem rd1 (t : Fin cfg0.N) (k b : Fin 1024) : iblk m c 1 t (ix3 0 k b) = other (wA m c) (ix3 1 k b) := by
  show _ = wA m c (ix3 0 k b)
  refine Eq.trans ?_ (congrFun (V_main_arg1 m c) _)
  blk_ext [iblk, V, idx t]
theorem rd2 (t : Fin cfg0.N) (b : Fin 1024) : iblk m c 2 t (ix2 0 b) = bA m c (ix1 b) := by
  show V m c main_v0 (((cfg0.win 2).blk t).view.emb (ix2 0 b)) = _
  rw [bias, show ((cfg0.win 2).blk t).view.emb (ix2 0 b) = ix2 (0 : Fin 1) b by blk_ext [idx t]]
  pointwise
theorem rd3 (t : Fin cfg0.N) (a : Fin 512) (k : Fin 256) : iblk m c 3 t (ix3 0 a k) = other (pA m c) (ix3 1 (at' t a) k) := by
  show _ = pA m c (ix3 0 (at' t a) k)
  refine Eq.trans ?_ (congrFun (V_main_arg3 m c) _)
  blk_ext [iblk, V, idx t]
theorem rd4 (t : Fin cfg0.N) (k : Fin 256) (b : Fin 1024) : iblk m c 4 t (ix3 0 k b) = other (eA m c) (ix3 1 k b) := by
  show _ = eA m c (ix3 0 k b)
  refine Eq.trans ?_ (congrFun (V_main_arg4 m c) _)
  blk_ext [iblk, V, idx t]
theorem rd5 (t : Fin cfg0.N) (a : Fin 512) (b : Fin 1024) : iblk m c 5 t (ix2 a b) = xA m c (ix2 (at' t a) b) := by
  refine Eq.trans ?_ (congrFun (V_main_arg5 m c) _)
  blk_ext [iblk, V, idx t]

theorem gate_tile (t : Fin cfg0.N) (a : Fin 512) (b : Fin 1024) :
    k0_pay1 (iblk m c 0 t) (iblk m c 1 t) (iblk m c 2 t) (ix2 a b) = gateAt (hA m c) (other (wA m c)) (bA m c) (at' t a) b := by
  refine (Cert.Kernel10Ideal.PleFwd.gate_at _ _ _ a b).trans ?_
  simp only [rd0, rd1, rd2]
  rfl
theorem embed_tile (t : Fin cfg0.N) (a : Fin 512) (b : Fin 1024) :
    k0_pay2 (iblk m c 3 t) (iblk m c 4 t) (ix2 a b) = embedAt (other (pA m c)) (other (eA m c)) (at' t a) b := by
  refine (Cert.Kernel10Ideal.PleFwd.embed_at _ _ a b).trans ?_
  simp only [rd3, rd4]
  rfl

theorem final6 : (dats m 0 c).arrAt 6 cfg0.N = out6 (hA m c) (other (wA m c)) (bA m c) (other (pA m c)) (other (eA m c)) (xA m c) := by
  refine (dats m 0 c).arrAt_eq_of_covers 6 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 6).blk t).view.emb (ix2 a b) = ix2 (at' t a) b by blk_ext [idx t]]
  blk_simp
  rw [after0_6]
  frame_out
  unfold k0_pay3
  pointwise
  exact congrArg₂ (· + ·) (rd5 m c t a b) (congrArg₂ (· * ·) (gate_tile m c t a b) (embed_tile m c t a b))

theorem final7 : (dats m 0 c).arrAt 7 cfg0.N = out7 (hA m c) (other (wA m c)) (bA m c) := by
  refine (dats m 0 c).arrAt_eq_of_covers 7 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 7).blk t).view.emb (ix2 a b) = ix2 (at' t a) b by blk_ext [idx t]]
  blk_simp
  rw [after0_7]
  frame_out
  unfold k0_pay4
  pointwise
  exact gate_tile m c t a b

theorem final8 : (dats m 0 c).arrAt 8 cfg0.N = out8 (other (pA m c)) (other (eA m c)) := by
  refine (dats m 0 c).arrAt_eq_of_covers 8 _ (by decide +kernel) fun t _ y => ?_
  obtain ⟨a, b, rfl⟩ : ∃ (a : Fin 512) (b : Fin 1024), y = ix2 a b := ⟨y 0, y 1, by ext k; fin_cases k <;> rfl⟩
  have ht : t.val < 8 := t.isLt
  rw [show ((cfg0.win 8).blk t).view.emb (ix2 a b) = ix2 (at' t a) b by blk_ext [idx t]]
  blk_simp
  rw [after0_8]
  frame_out
  unfold k0_pay5
  pointwise
  exact embed_tile m c t a b

end Cert.Kernel22Ideal.PleFwd

namespace Cert.Reference22Ideal.PleFwd

open Idealize.ShloMosaic Idealize.ShloMosaic.TcCoe Idealize.ShloMosaic.Tactic
open Idealize.SL Idealize.SL.Sem
open Cert.Shared
open Cert.Kernel10Ideal.PleFwd (out6 out7 out8)

/-- The reference's own results are the same three arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = out6 (m ((c.tc : Thread nD τ).loc main_arg0)) (other (m ((c.tc : Thread nD τ).loc main_arg1))) (m ((c.tc : Thread nD τ).loc main_arg2))
          (other (m ((c.tc : Thread nD τ).loc main_arg3))) (other (m ((c.tc : Thread nD τ).loc main_arg4))) (m ((c.tc : Thread nD τ).loc main_arg5))
      ∧ r.2.mem ((c.tc : Thread nD τ).loc main_v22) = out7 (m ((c.tc : Thread nD τ).loc main_arg0)) (other (m ((c.tc : Thread nD τ).loc main_arg1))) (m ((c.tc : Thread nD τ).loc main_arg2))
      ∧ r.2.mem ((c.tc : Thread nD τ).loc main_v23) = out8 (other (m ((c.tc : Thread nD τ).loc main_arg3))) (other (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2⟩) (Value.run m ρ)
  all_goals
    clear h; funext i
    obtain ⟨a, b, rfl⟩ : ∃ (a : Fin 4096) (b : Fin 1024), i = ix2 a b := ⟨i 0, i 1, by ext k; fin_cases k <;> rfl⟩
    pointwise
  all_goals rfl

end Cert.Reference22Ideal.PleFwd

end
-- ==== Proof.Layer.Claims.lean ====
module

public import proofs.«01_k».proof.Defs
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Pre_finite2
public import proofs.«01_k».proof.Proof.Gen.Pre_finite4
public import proofs.«01_k».proof.Proof.InprojBwd.Entries
public import proofs.«01_k».proof.Proof.PleBwd.Entries
public import proofs.«01_k».proof.Proof.Layer.InprojBwd
public import proofs.«01_k».proof.Proof.Layer.InprojBwdRef
public import proofs.«01_k».proof.Proof.Layer.PleBwd
public import proofs.«01_k».proof.Proof.Layer.PleBwdRef
public import proofs.«01_k».proof.Proof.Layer.Embed
public import proofs.«01_k».proof.Proof.Layer.Inproj
public import proofs.«01_k».proof.Proof.Layer.Outproj
public import proofs.«01_k».proof.Proof.Layer.PleFwd
public import Idealize.ShloMosaic.Lib.Claim
public import Idealize.ShloMosaic.Adequacy
public import Idealize.ShloMosaic.Init

@[expose] public section

set_option maxRecDepth 16384

noncomputable section

namespace Cert.Proof.Calls

open Idealize.ShloMosaic Idealize.ShloMosaic.TcCoe Idealize.SL.Sem
open Cert.Shared

attribute [local instance] Cert.Kernel17.Gen.facts Cert.Kernel17Ideal.Gen.facts Cert.Reference17Ideal.Gen.facts
  Cert.Kernel18.Gen.facts Cert.Kernel18Ideal.Gen.facts Cert.Reference18Ideal.Gen.facts
  Cert.Kernel19.Gen.facts Cert.Kernel19Ideal.Gen.facts Cert.Reference19Ideal.Gen.facts
  Cert.Kernel20.Gen.facts Cert.Kernel20Ideal.Gen.facts Cert.Reference20Ideal.Gen.facts
  Cert.Kernel21.Gen.facts Cert.Kernel21Ideal.Gen.facts Cert.Reference21Ideal.Gen.facts
  Cert.Kernel22.Gen.facts Cert.Kernel22Ideal.Gen.facts Cert.Reference22Ideal.Gen.facts
  Cert.Pre_finite2.Gen.facts Cert.Pre_finite4.Gen.facts

/-! The gradient through the input projection and its norm, for the second layer. -/

theorem frame_kernel17 : Cert.quiescent_Kernel17 := fun m ρ _ => Cert.Kernel17.Gen.frame m ρ
theorem frame_ideal17 : Cert.quiescent_Kernel17Ideal := fun m ρ _ => Cert.Kernel17Ideal.Gen.frame m ρ
theorem frame_ideal17_pre : Cert.quiescent_Kernel17Ideal_pre_finite2 := fun m ρ _ => Cert.Kernel17Ideal.Gen.frame m ρ
theorem frame_ref17 : Cert.quiescent_Reference17Ideal := fun m ρ _ =>
  (θ_run Cert.Reference17Ideal.defs _ _).mono (fun _ h => ⟨fun c => (h c).2.2, sem_eq_zero_of_no_sems (by decide) _⟩) (Cert.Reference17Ideal.Value.run (F := Ideal) m ρ)
theorem frame_ref17_pre : Cert.quiescent_Reference17Ideal_pre_finite2 := fun m ρ _ => frame_ref17 m ρ trivial
theorem algebraic17 : Cert.algebraic_Kernel17Ideal_Reference17Ideal_pre_finite2 := by
  intro m g m' g' hpre hagree
  open Cert.Kernel17Ideal.InprojBwd in
  refine ⟨fun c => Cert.InprojBwd.dx (dpA m c) (wA m c) (xA m c) (gA m c) (dx1A m c), fun c => Cert.InprojBwd.dg (dpA m c) (wA m c) (xA m c), ?_, ?_⟩
  · run_from Cert.Kernel17Ideal.Gen.run_main m g
    · exact Cert.Kernel17Ideal.InprojBwd.final5 m c
    · exact Cert.Kernel17Ideal.InprojBwd.host6 m c
    · exact Cert.Kernel17Ideal.Gen.W_main_arg3 m _ c
  · refine (θ_run Cert.Reference17Ideal.defs _ _).mono (fun r h c => ⟨(h c).1.trans ?_, (h c).2.1.trans ?_, (h c).2.2⟩)
      (Cert.Reference17Ideal.InprojBwd.run m' g' (fun c => ?_) fun c => ?_)
    · obtain ⟨e0, e1, e2, e3, e4⟩ := hagree c
      rw [e2]
      exact (Cert.InprojBwd.reals_of (hpre c)).1
    · obtain ⟨e0, e1, e2, e3, e4⟩ := hagree c
      rw [e0, e1, e3]
      exact (Cert.InprojBwd.reals_of (hpre c)).2.2
    all_goals
      obtain ⟨e0, e1, e2, e3, e4⟩ := hagree c
      simp only [e0, e1, e2, e3, e4]

/-! The gradient through the gated embedding, for the first layer. -/

theorem frame_kernel18 : Cert.quiescent_Kernel18 := fun m ρ _ => Cert.Kernel18.Gen.frame m ρ
theorem frame_ideal18 : Cert.quiescent_Kernel18Ideal := fun m ρ _ => Cert.Kernel18Ideal.Gen.frame m ρ
theorem frame_ideal18_pre : Cert.quiescent_Kernel18Ideal_pre_finite4 := fun m ρ _ => Cert.Kernel18Ideal.Gen.frame m ρ
theorem frame_ref18 : Cert.quiescent_Reference18Ideal := fun m ρ _ =>
  (θ_run Cert.Reference18Ideal.defs _ _).mono (fun _ h => ⟨fun c => (h c).2.2.2.2.2.2, sem_eq_zero_of_no_sems (by decide) _⟩) (Cert.Reference18Ideal.Value.run (F := Ideal) m ρ)
theorem frame_ref18_pre : Cert.quiescent_Reference18Ideal_pre_finite4 := fun m ρ _ => frame_ref18 m ρ trivial
set_option maxHeartbeats 2000000 in
theorem algebraic18 : Cert.algebraic_Kernel18Ideal_Reference18Ideal_pre_finite4 := by
  intro m g m' g' hpre hagree
  open Cert.Kernel18Ideal.PleBwd in
  refine ⟨fun c => Cert.PleBwd.du (ctA m c) (uA m c) (eA m c), fun c => Cert.PleBwd.de (ctA m c) (uA m c),
    fun c => Cert.PleBwd.dx (ctA m c) (uA m c) (eA m c) (xA m c) (wA m c) (gA m c),
    fun c => Cert.PleBwd.dy (ctA m c) (uA m c) (eA m c) (xA m c) (wA m c) (gA m c) (woA m c),
    fun c => Cert.PleBwd.db (ctA m c) (uA m c) (eA m c), fun c => Cert.PleBwd.dg (ctA m c) (uA m c) (eA m c) (xA m c) (wA m c), ?_, ?_⟩
  · run_from Cert.Kernel18Ideal.Gen.run_main m g
    · exact Cert.Kernel18Ideal.PleBwd.final7 m c
    · exact Cert.Kernel18Ideal.PleBwd.final8 m c
    · exact Cert.Kernel18Ideal.PleBwd.final9 m c
    · exact Cert.Kernel18Ideal.PleBwd.final10 m c
    · exact Cert.Kernel18Ideal.PleBwd.host11 m c
    · exact Cert.Kernel18Ideal.PleBwd.host12 m c
    · exact Cert.Kernel18Ideal.Gen.W_main_arg1 m _ c
    · exact Cert.Kernel18Ideal.Gen.W_main_arg5 m _ c
  · refine (θ_run Cert.Reference18Ideal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩)
      (Cert.Reference18Ideal.PleBwd.run m' g' (fun c => ?_) fun c => ?_)
    · obtain ⟨e0, e1, e2, e3, e4, e5, e6⟩ := hagree c
      rw [e3]
      exact (Cert.PleBwd.reals_of (hpre c)).1
    · obtain ⟨e0, e1, e2, e3, e4, e5, e6⟩ := hagree c
      rw [e0, e1, e2, e4, e5]
      exact (Cert.PleBwd.reals_of (hpre c)).2.2
    all_goals
      obtain ⟨e0, e1, e2, e3, e4, e5, e6⟩ := hagree c
      simp only [e0, e1, e2, e3, e4, e5, e6]

/-! The gradient of the embedding's weights, for the first layer. -/

theorem frame_kernel19 : Cert.quiescent_Kernel19 := fun m ρ _ => Cert.Kernel19.Gen.frame m ρ
theorem frame_ideal19 : Cert.quiescent_Kernel19Ideal := fun m ρ _ => Cert.Kernel19Ideal.Gen.frame m ρ
theorem frame_ref19 : Cert.quiescent_Reference19Ideal := fun m ρ _ =>
  (θ_run Cert.Reference19Ideal.defs _ _).mono (fun _ h => ⟨fun c => (h c).2, sem_eq_zero_of_no_sems (by decide) _⟩) (Cert.Reference19Ideal.Value.run (F := Ideal) m ρ)
theorem algebraic19 : Cert.algebraic_Kernel19Ideal_Reference19Ideal := by
  intro m g m' g' _ hagree
  open Cert.Kernel19Ideal.MmTn in
  refine ⟨fun c => Cert.Kernel7Ideal.MmTn.grad (other (pA m c)) (eA m c),
    (θ_run Cert.Kernel19Ideal.defs _ _).mono (fun r h c => ⟨(h c).1.trans (final m c), (h c).2⟩) (Cert.Kernel19Ideal.Value.run_blocks m g),
    (θ_run Cert.Reference19Ideal.defs _ _).mono (fun r h c => ⟨(h c).1.trans ?_, (h c).2⟩) (Cert.Reference19Ideal.MmTn.run m' g')⟩
  all_goals
    obtain ⟨e0, e1⟩ := hagree c
    simp only [e0, e1]

/-! The norm and the input projection, for the first layer. -/

theorem frame_kernel20 : Cert.quiescent_Kernel20 := fun m ρ _ => Cert.Kernel20.Gen.frame m ρ
theorem frame_ideal20 : Cert.quiescent_Kernel20Ideal := fun m ρ _ => Cert.Kernel20Ideal.Gen.frame m ρ
theorem frame_ref20 : Cert.quiescent_Reference20Ideal := fun m ρ _ =>
  (θ_run Cert.Reference20Ideal.defs _ _).mono (fun _ h => ⟨fun c => (h c).2.2, sem_eq_zero_of_no_sems (by decide) _⟩) (Cert.Reference20Ideal.Value.run (F := Ideal) m ρ)
theorem algebraic20 : Cert.algebraic_Kernel20Ideal_Reference20Ideal := by
  intro m g m' g' _ hagree
  open Cert.Kernel20Ideal.Inproj in
  refine ⟨fun c => Cert.Kernel8Ideal.Inproj.out3 (xA m c) (gA m c), fun c => Cert.Kernel8Ideal.Inproj.out4 (xA m c) (gA m c) (other (wA m c)),
    (θ_run Cert.Kernel20Ideal.defs _ _).mono (fun r h c => ⟨(h c).1.trans (final3 m c), (h c).2.1.trans (final4 m c), (h c).2.2⟩) (Cert.Kernel20Ideal.Value.run_blocks m g),
    (θ_run Cert.Reference20Ideal.defs _ _).mono (fun r h c => ⟨(h c).1.trans ?_, (h c).2.1.trans ?_, (h c).2.2⟩) (Cert.Reference20Ideal.Inproj.run m' g')⟩
  all_goals
    obtain ⟨e0, e1, e2⟩ := hagree c
    simp only [e0, e1, e2]

/-! The output projection, the residual and the norm, for the first layer. -/

theorem frame_kernel21 : Cert.quiescent_Kernel21 := fun m ρ _ => Cert.Kernel21.Gen.frame m ρ
theorem frame_ideal21 : Cert.quiescent_Kernel21Ideal := fun m ρ _ => Cert.Kernel21Ideal.Gen.frame m ρ
theorem frame_ref21 : Cert.quiescent_Reference21Ideal := fun m ρ _ =>
  (θ_run Cert.Reference21Ideal.defs _ _).mono (fun _ h => ⟨fun c => (h c).2.2, sem_eq_zero_of_no_sems (by decide) _⟩) (Cert.Reference21Ideal.Value.run (F := Ideal) m ρ)
theorem algebraic21 : Cert.algebraic_Kernel21Ideal_Reference21Ideal := by
  intro m g m' g' _ hagree
  open Cert.Kernel21Ideal.Outproj in
  refine ⟨fun c => Cert.Kernel9Ideal.Outproj.out4 (yA m c) (other (wA m c)) (xA m c), fun c => Cert.Kernel9Ideal.Outproj.out5 (yA m c) (other (wA m c)) (xA m c) (gA m c),
    (θ_run Cert.Kernel21Ideal.defs _ _).mono (fun r h c => ⟨(h c).1.trans (final4 m c), (h c).2.1.trans (final5 m c), (h c).2.2⟩) (Cert.Kernel21Ideal.Value.run_blocks m g),
    (θ_run Cert.Reference21Ideal.defs _ _).mono (fun r h c => ⟨(h c).1.trans ?_, (h c).2.1.trans ?_, (h c).2.2⟩) (Cert.Reference21Ideal.Outproj.run m' g')⟩
  all_goals
    obtain ⟨e0, e1, e2, e3⟩ := hagree c
    simp only [e0, e1, e2, e3]

/-! The per-layer embedding gate, for the first layer. -/

theorem frame_kernel22 : Cert.quiescent_Kernel22 := fun m ρ _ => Cert.Kernel22.Gen.frame m ρ
theorem frame_ideal22 : Cert.quiescent_Kernel22Ideal := fun m ρ _ => Cert.Kernel22Ideal.Gen.frame m ρ
theorem frame_ref22 : Cert.quiescent_Reference22Ideal := fun m ρ _ =>
  (θ_run Cert.Reference22Ideal.defs _ _).mono (fun _ h => ⟨fun c => (h c).2.2.2, sem_eq_zero_of_no_sems (by decide) _⟩) (Cert.Reference22Ideal.Value.run (F := Ideal) m ρ)
theorem algebraic22 : Cert.algebraic_Kernel22Ideal_Reference22Ideal := by
  intro m g m' g' _ hagree
  open Cert.Kernel22Ideal.PleFwd in
  refine ⟨fun c => Cert.Kernel10Ideal.PleFwd.out6 (hA m c) (other (wA m c)) (bA m c) (other (pA m c)) (other (eA m c)) (xA m c),
    fun c => Cert.Kernel10Ideal.PleFwd.out7 (hA m c) (other (wA m c)) (bA m c), fun c => Cert.Kernel10Ideal.PleFwd.out8 (other (pA m c)) (other (eA m c)),
    (θ_run Cert.Kernel22Ideal.defs _ _).mono (fun r h c => ⟨(h c).1.trans (final6 m c), (h c).2.1.trans (final7 m c), (h c).2.2.1.trans (final8 m c), (h c).2.2.2⟩)
      (Cert.Kernel22Ideal.Value.run_blocks m g),
    (θ_run Cert.Reference22Ideal.defs _ _).mono (fun r h c => ⟨(h c).1.trans ?_, (h c).2.1.trans ?_, (h c).2.2.1.trans ?_, (h c).2.2.2⟩)
      (Cert.Reference22Ideal.PleFwd.run m' g')⟩
  all_goals
    obtain ⟨e0, e1, e2, e3, e4, e5⟩ := hagree c
    simp only [e0, e1, e2, e3, e4, e5]

end Cert.Proof.Calls

end
-- ==== Proof.lean ====
module

public import proofs.«01_k».proof.Defs
public import proofs.«01_k».proof.Proof.Conv.KFrame
public import proofs.«01_k».proof.Proof.Conv.Value
public import proofs.«01_k».proof.Proof.Conv.RefValue
public import proofs.«01_k».proof.Proof.Products
public import proofs.«01_k».proof.Proof.Forward
public import proofs.«01_k».proof.Proof.InprojBwd.Claims
public import proofs.«01_k».proof.Proof.PleBwd.Claims
public import proofs.«01_k».proof.Proof.Loss.Claims
public import proofs.«01_k».proof.Proof.AdamW.In
public import proofs.«01_k».proof.Proof.AdamW.Out
public import proofs.«01_k».proof.Proof.AdamW.Embed
public import proofs.«01_k».proof.Proof.AdamW.Small
public import proofs.«01_k».proof.Proof.Mix.Claims
public import proofs.«01_k».proof.Proof.Layer.Claims
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Proof.Conv

attribute [local instance] Cert.KernelIdeal.Gen.facts Cert.ReferenceIdeal.Gen.facts Cert.Pre_finite.Gen.facts

/-- Both programs' results are the model's gradients of the common arguments. -/
theorem algebraic : Cert.algebraic_KernelIdeal_ReferenceIdeal_pre_finite := by
  intro m g m' g' hpre hagree
  have E : ∀ c, Cert.KernelIdeal.Conv.EntriesOf m c := fun c => Cert.Conv.entries_of (hpre c)
  refine ⟨fun c => (fun i : Cert.KernelIdeal.S4x4096x512.Idx => (((Cert.KernelIdeal.Conv.modelOf m c).dp (i 0) (i 1) (i 2) : ℝ) : EReal)),
    fun c => (fun i : Cert.KernelIdeal.S3x512.Idx => ((∑ r : Fin 4096, (Cert.KernelIdeal.Conv.modelOf m c).ew (i 0) r (i 1) : ℝ) : EReal)),
    fun c => (fun i : Cert.KernelIdeal.S512.Idx => ((∑ r : Fin 4096, (Cert.KernelIdeal.Conv.modelOf m c).dc r (i 0) : ℝ) : EReal)),
    fun c => (fun i : Cert.KernelIdeal.S512.Idx => ((∑ r : Fin 4096, (Cert.KernelIdeal.Conv.modelOf m c).eg r (i 0) : ℝ) : EReal)), ?_, ?_⟩
  · run_from Cert.KernelIdeal.Conv.run m g
    · funext i
      obtain ⟨a, b, d, rfl⟩ : ∃ (a : Fin 4) (b : Fin 4096) (d : Fin 512), i = ix3 a b d := ⟨i 0, i 1, i 2, by ext k; fin_cases k <;> rfl⟩
      rw [Cert.KernelIdeal.Conv.tail8]
      exact Cert.KernelIdeal.Conv.host8 (E c) a b d
    · funext i
      obtain ⟨a, b, rfl⟩ : ∃ (a : Fin 3) (b : Fin 512), i = ix2 a b := ⟨i 0, i 1, by ext k; fin_cases k <;> rfl⟩
      rw [Cert.KernelIdeal.Conv.tail9]
      exact Cert.KernelIdeal.Conv.host9 (E c) a b
    · funext i
      obtain ⟨a, rfl⟩ : ∃ a : Fin 512, i = ix1 a := ⟨i 0, by ext k; fin_cases k; rfl⟩
      rw [Cert.KernelIdeal.Conv.tail10]
      exact Cert.KernelIdeal.Conv.host10 (E c) a
    · funext i
      obtain ⟨a, rfl⟩ : ∃ a : Fin 512, i = ix1 a := ⟨i 0, by ext k; fin_cases k; rfl⟩
      rw [Cert.KernelIdeal.Conv.tail11]
      exact Cert.KernelIdeal.Conv.host11 (E c) a
    · exact Cert.KernelIdeal.Gen.W_main_arg3 m _ c
    · exact Cert.KernelIdeal.Gen.W_main_arg4 m _ c
  · refine (θ_run Cert.ReferenceIdeal.defs _ _).mono (fun r h c => ?_) (Cert.ReferenceIdeal.Value.run (F := Ideal) m' g')
    obtain ⟨h0, h1, h2, h3, ha⟩ := h c
    obtain ⟨e0, e1, e2, e3, e4⟩ := hagree c
    have l0 : StableHlo.launchContents m' c (Proc.devRef .tc Cert.ReferenceIdeal.main_arg0) = _ := e0
    have l1 : StableHlo.launchContents m' c (Proc.devRef .tc Cert.ReferenceIdeal.main_arg1) = _ := e1
    have l2 : StableHlo.launchContents m' c (Proc.devRef .tc Cert.ReferenceIdeal.main_arg2) = _ := e2
    have l3 : StableHlo.launchContents m' c (Proc.devRef .tc Cert.ReferenceIdeal.main_arg3) = _ := e3
    have l4 : StableHlo.launchContents m' c (Proc.devRef .tc Cert.ReferenceIdeal.main_arg4) = _ := e4
    have E' := E c
    unfold Cert.KernelIdeal.Conv.EntriesOf at E'
    refine ⟨h0.trans ?_, h1.trans ?_, h2.trans ?_, h3.trans ?_, ha⟩
    · rw [Cert.ReferenceIdeal.Read.val_main_v137_eq]
      rw [l0, l1, l2, l3, l4]
      funext i
      obtain ⟨a, b, d, rfl⟩ : ∃ (a : Fin 4) (b : Fin 4096) (d : Fin 512), i = ix3 a b d := ⟨i 0, i 1, i 2, by ext k; fin_cases k <;> rfl⟩
      exact Cert.ReferenceIdeal.Conv.dp_at E' a b d
    · rw [Cert.ReferenceIdeal.Read.val_main_v119_eq]
      rw [l0, l1, l2, l3, l4]
      funext i
      obtain ⟨a, b, rfl⟩ : ∃ (a : Fin 3) (b : Fin 512), i = ix2 a b := ⟨i 0, i 1, by ext k; fin_cases k <;> rfl⟩
      exact Cert.ReferenceIdeal.Conv.filter_at E' a b
    · rw [Cert.ReferenceIdeal.Read.val_main_v110_eq]
      rw [l0, l1, l2, l3, l4]
      funext i
      obtain ⟨a, rfl⟩ : ∃ a : Fin 512, i = ix1 a := ⟨i 0, by ext k; fin_cases k; rfl⟩
      exact Cert.ReferenceIdeal.Conv.bias_at E' a
    · rw [Cert.ReferenceIdeal.Read.val_main_v69_eq]
      rw [l0, l1, l2, l3]
      funext i
      obtain ⟨a, rfl⟩ : ∃ a : Fin 512, i = ix1 a := ⟨i 0, by ext k; fin_cases k; rfl⟩
      exact Cert.ReferenceIdeal.Conv.gain_at E' a

theorem claim : Cert.Claim := ⟨
  Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts,
  Cert.Reference7Ideal.Gen.facts, Cert.Kernel8.Gen.facts, Cert.Kernel8Ideal.Gen.facts, Cert.Reference8Ideal.Gen.facts, Cert.Kernel9.Gen.facts,
  Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts,
  Cert.Reference12Ideal.Gen.facts, Cert.Kernel13.Gen.facts, Cert.Kernel13Ideal.Gen.facts, Cert.Reference13Ideal.Gen.facts, Cert.Kernel14.Gen.facts,
  Cert.Kernel14Ideal.Gen.facts, Cert.Reference14Ideal.Gen.facts, Cert.Kernel15.Gen.facts, Cert.Kernel15Ideal.Gen.facts,
  Cert.Reference15Ideal.Gen.facts, Cert.Kernel16.Gen.facts, Cert.Kernel16Ideal.Gen.facts, Cert.Reference16Ideal.Gen.facts, Cert.Kernel17.Gen.facts,
  Cert.Kernel17Ideal.Gen.facts, Cert.Reference17Ideal.Gen.facts, Cert.Kernel18.Gen.facts, Cert.Kernel18Ideal.Gen.facts,
  Cert.Reference18Ideal.Gen.facts, Cert.Kernel19.Gen.facts, Cert.Kernel19Ideal.Gen.facts, Cert.Reference19Ideal.Gen.facts, Cert.Kernel20.Gen.facts,
  Cert.Kernel20Ideal.Gen.facts, Cert.Reference20Ideal.Gen.facts, Cert.Kernel21.Gen.facts, Cert.Kernel21Ideal.Gen.facts,
  Cert.Reference21Ideal.Gen.facts, Cert.Kernel22.Gen.facts, Cert.Kernel22Ideal.Gen.facts, Cert.Reference22Ideal.Gen.facts, Cert.Pre_finite.Gen.facts,
  Cert.Pre_finite2.Gen.facts, Cert.Pre_finite4.Gen.facts, Cert.Pre_finite11.Gen.facts, Conv.frame_kernel, Conv.frame_ideal, Conv.frame_ideal_pre,
  Conv.frame_ref, Conv.frame_ref_pre, Calls.frame_kernel2, Calls.frame_ideal2, Calls.frame_ideal2_pre, Calls.frame_ref2, Calls.frame_ref2_pre,
  Calls.frame_kernel3, Calls.frame_ideal3, Calls.frame_ref3, Calls.frame_kernel4, Calls.frame_ideal4, Calls.frame_ideal4_pre, Calls.frame_ref4,
  Calls.frame_ref4_pre, Calls.frame_kernel5, Calls.frame_ideal5, Calls.frame_ref5, Calls.frame_kernel6, Calls.frame_ideal6, Calls.frame_ref6,
  Calls.frame_kernel7, Calls.frame_ideal7, Calls.frame_ref7, Calls.frame_kernel8, Calls.frame_ideal8, Calls.frame_ref8, Calls.frame_kernel9,
  Calls.frame_ideal9, Calls.frame_ref9, Calls.frame_kernel10, Calls.frame_ideal10, Calls.frame_ref10, Calls.frame_kernel11, Calls.frame_ideal11,
  Calls.frame_ideal11_pre, Calls.frame_ref11, Calls.frame_ref11_pre, Calls.frame_kernel12, Calls.frame_ideal12, Calls.frame_ref12,
  Calls.frame_kernel13, Calls.frame_ideal13, Calls.frame_ref13, Calls.frame_kernel14, Calls.frame_ideal14, Calls.frame_ref14, Calls.frame_kernel15,
  Calls.frame_ideal15, Calls.frame_ref15, Calls.frame_kernel16, Calls.frame_ideal16, Calls.frame_ref16, Calls.frame_kernel17, Calls.frame_ideal17,
  Calls.frame_ideal17_pre, Calls.frame_ref17, Calls.frame_ref17_pre, Calls.frame_kernel18, Calls.frame_ideal18, Calls.frame_ideal18_pre,
  Calls.frame_ref18, Calls.frame_ref18_pre, Calls.frame_kernel19, Calls.frame_ideal19, Calls.frame_ref19, Calls.frame_kernel20, Calls.frame_ideal20,
  Calls.frame_ref20, Calls.frame_kernel21, Calls.frame_ideal21, Calls.frame_ref21, Calls.frame_kernel22, Calls.frame_ideal22, Calls.frame_ref22,
  trivial, algebraic, trivial, Calls.algebraic2, trivial, Calls.algebraic3, trivial, Calls.algebraic4, trivial, Calls.algebraic5, trivial,
  Calls.algebraic6, trivial, Calls.algebraic7, trivial, Calls.algebraic8, trivial, Calls.algebraic9, trivial, Calls.algebraic10, trivial,
  Calls.algebraic11, trivial, Calls.algebraic12, trivial, Calls.algebraic13, trivial, Calls.algebraic14, trivial, Calls.algebraic15, trivial,
  Calls.algebraic16, trivial, Calls.algebraic17, trivial, Calls.algebraic18, trivial, Calls.algebraic19, trivial, Calls.algebraic20, trivial,
  Calls.algebraic21, trivial, Calls.algebraic22⟩

end Cert.Proof

end
